-- ==== Defs.lean ====
def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvIdeal_qkv_finite [hPre_qkv_finite : Cert.Pre_qkv_finite.Facts] (m : (ℓ : Loc Cert.QkvIdeal.nD Cert.QkvIdeal.τ Cert.QkvIdeal.sig) → Buf (Elt Ideal) ℓ) : Prop :=
  ∀ c : Dev Cert.QkvIdeal.nD,
    (Cert.Pre_qkv_finite.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4))).1 = (fun _ => 1#1)
    ∧ (Cert.Pre_qkv_finite.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4))).2.1 = (fun _ => 1#1)
    ∧ (Cert.Pre_qkv_finite.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4))).2.2 = (fun _ => 1#1)

def Pre_QkvReferenceIdeal (m : (ℓ : Loc Cert.QkvReferenceIdeal.nD Cert.QkvReferenceIdeal.τ Cert.QkvReferenceIdeal.sig) → Buf (Elt Ideal) ℓ) : Prop :=
  True

def Pre_QkvReferenceIdeal_qkv_finite [hPre_qkv_finite : Cert.Pre_qkv_finite.Facts] (m : (ℓ : Loc Cert.QkvReferenceIdeal.nD Cert.QkvReferenceIdeal.τ Cert.QkvReferenceIdeal.sig) → Buf (Elt Ideal) ℓ) : Prop :=
  ∀ c : Dev Cert.QkvReferenceIdeal.nD,
    (Cert.Pre_qkv_finite.fn (F := Ideal) (m ((c.tc : Thread Cert.QkvReferenceIdeal.nD Cert.QkvReferenceIdeal.τ).loc Cert.QkvReferenceIdeal.main_arg0)) (m ((c.tc : Thread Cert.QkvReferenceIdeal.nD Cert.QkvReferenceIdeal.τ).loc Cert.QkvReferenceIdeal.main_arg1)) (m ((c.tc : Thread Cert.QkvReferenceIdeal.nD Cert.QkvReferenceIdeal.τ).loc Cert.QkvReferenceIdeal.main_arg2)) (m ((c.tc : Thread Cert.QkvReferenceIdeal.nD Cert.QkvReferenceIdeal.τ).loc Cert.QkvReferenceIdeal.main_arg3)) (m ((c.tc : Thread Cert.QkvReferenceIdeal.nD Cert.QkvReferenceIdeal.τ).loc Cert.QkvReferenceIdeal.main_arg4))).1 = (fun _ => 1#1)
    ∧ (Cert.Pre_qkv_finite.fn (F := Ideal) (m ((c.tc : Thread Cert.QkvReferenceIdeal.nD Cert.QkvReferenceIdeal.τ).loc Cert.QkvReferenceIdeal.main_arg0)) (m ((c.tc : Thread Cert.QkvReferenceIdeal.nD Cert.QkvReferenceIdeal.τ).loc Cert.QkvReferenceIdeal.main_arg1)) (m ((c.tc : Thread Cert.QkvReferenceIdeal.nD Cert.QkvReferenceIdeal.τ).loc Cert.QkvReferenceIdeal.main_arg2)) (m ((c.tc : Thread Cert.QkvReferenceIdeal.nD Cert.QkvReferenceIdeal.τ).loc Cert.QkvReferenceIdeal.main_arg3)) (m ((c.tc : Thread Cert.QkvReferenceIdeal.nD Cert.QkvReferenceIdeal.τ).loc Cert.QkvReferenceIdeal.main_arg4))).2.1 = (fun _ => 1#1)
    ∧ (Cert.Pre_qkv_finite.fn (F := Ideal) (m ((c.tc : Thread Cert.QkvReferenceIdeal.nD Cert.QkvReferenceIdeal.τ).loc Cert.QkvReferenceIdeal.main_arg0)) (m ((c.tc : Thread Cert.QkvReferenceIdeal.nD Cert.QkvReferenceIdeal.τ).loc Cert.QkvReferenceIdeal.main_arg1)) (m ((c.tc : Thread Cert.QkvReferenceIdeal.nD Cert.QkvReferenceIdeal.τ).loc Cert.QkvReferenceIdeal.main_arg2)) (m ((c.tc : Thread Cert.QkvReferenceIdeal.nD Cert.QkvReferenceIdeal.τ).loc Cert.QkvReferenceIdeal.main_arg3)) (m ((c.tc : Thread Cert.QkvReferenceIdeal.nD Cert.QkvReferenceIdeal.τ).loc Cert.QkvReferenceIdeal.main_arg4))).2.2 = (fun _ => 1#1)

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutIdeal_attn_finite [hPre_attn_finite : Cert.Pre_attn_finite.Facts] (m : (ℓ : Loc Cert.OutIdeal.nD Cert.OutIdeal.τ Cert.OutIdeal.sig) → Buf (Elt Ideal) ℓ) : Prop :=
  ∀ c : Dev Cert.OutIdeal.nD,
    (Cert.Pre_attn_finite.fn (F := Ideal) (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)) (m ((c.tc : Thread Cert.OutIdeal.nD Cert.OutIdeal.τ).loc Cert.OutIdeal.main_arg3))) = (fun _ => 1#1)

def Pre_OutReferenceIdeal (m : (ℓ : Loc Cert.OutReferenceIdeal.nD Cert.OutReferenceIdeal.τ Cert.OutReferenceIdeal.sig) → Buf (Elt Ideal) ℓ) : Prop :=
  True

def Pre_OutReferenceIdeal_attn_finite [hPre_attn_finite : Cert.Pre_attn_finite.Facts] (m : (ℓ : Loc Cert.OutReferenceIdeal.nD Cert.OutReferenceIdeal.τ Cert.OutReferenceIdeal.sig) → Buf (Elt Ideal) ℓ) : Prop :=
  ∀ c : Dev Cert.OutReferenceIdeal.nD,
    (Cert.Pre_attn_finite.fn (F := Ideal) (m ((c.tc : Thread Cert.OutReferenceIdeal.nD Cert.OutReferenceIdeal.τ).loc Cert.OutReferenceIdeal.main_arg0)) (m ((c.tc : Thread Cert.OutReferenceIdeal.nD Cert.OutReferenceIdeal.τ).loc Cert.OutReferenceIdeal.main_arg1)) (m ((c.tc : Thread Cert.OutReferenceIdeal.nD Cert.OutReferenceIdeal.τ).loc Cert.OutReferenceIdeal.main_arg2)) (m ((c.tc : Thread Cert.OutReferenceIdeal.nD Cert.OutReferenceIdeal.τ).loc Cert.OutReferenceIdeal.main_arg3))) = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ r.2.sem = fun _ => 0)

def quiescent_QkvIdeal_pre_qkv_finite [hQkvIdeal : Cert.QkvIdeal.Facts] [hPre_qkv_finite : Cert.Pre_qkv_finite.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal_qkv_finite m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1)
      ∧ r.2.mem ((c.tc : Thread Cert.QkvReferenceIdeal.nD Cert.QkvReferenceIdeal.τ).loc Cert.QkvReferenceIdeal.main_arg2) = m ((c.tc : Thread Cert.QkvReferenceIdeal.nD Cert.QkvReferenceIdeal.τ).loc Cert.QkvReferenceIdeal.main_arg2)
      ∧ r.2.mem ((c.tc : Thread Cert.QkvReferenceIdeal.nD Cert.QkvReferenceIdeal.τ).loc Cert.QkvReferenceIdeal.main_arg3) = m ((c.tc : Thread Cert.QkvReferenceIdeal.nD Cert.QkvReferenceIdeal.τ).loc Cert.QkvReferenceIdeal.main_arg3)
      ∧ r.2.mem ((c.tc : Thread Cert.QkvReferenceIdeal.nD Cert.QkvReferenceIdeal.τ).loc Cert.QkvReferenceIdeal.main_arg4) = m ((c.tc : Thread Cert.QkvReferenceIdeal.nD Cert.QkvReferenceIdeal.τ).loc Cert.QkvReferenceIdeal.main_arg4))
      ∧ r.2.sem = fun _ => 0)

def quiescent_QkvReferenceIdeal_pre_qkv_finite [hQkvReferenceIdeal : Cert.QkvReferenceIdeal.Facts] [hPre_qkv_finite : Cert.Pre_qkv_finite.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal_qkv_finite m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1)
      ∧ r.2.mem ((c.tc : Thread Cert.QkvReferenceIdeal.nD Cert.QkvReferenceIdeal.τ).loc Cert.QkvReferenceIdeal.main_arg2) = m ((c.tc : Thread Cert.QkvReferenceIdeal.nD Cert.QkvReferenceIdeal.τ).loc Cert.QkvReferenceIdeal.main_arg2)
      ∧ r.2.mem ((c.tc : Thread Cert.QkvReferenceIdeal.nD Cert.QkvReferenceIdeal.τ).loc Cert.QkvReferenceIdeal.main_arg3) = m ((c.tc : Thread Cert.QkvReferenceIdeal.nD Cert.QkvReferenceIdeal.τ).loc Cert.QkvReferenceIdeal.main_arg3)
      ∧ r.2.mem ((c.tc : Thread Cert.QkvReferenceIdeal.nD Cert.QkvReferenceIdeal.τ).loc Cert.QkvReferenceIdeal.main_arg4) = m ((c.tc : Thread Cert.QkvReferenceIdeal.nD Cert.QkvReferenceIdeal.τ).loc Cert.QkvReferenceIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutIdeal_pre_attn_finite [hOutIdeal : Cert.OutIdeal.Facts] [hPre_attn_finite : Cert.Pre_attn_finite.Facts] : Prop :=
  ∀ (m : (ℓ : Loc Cert.OutIdeal.nD Cert.OutIdeal.τ Cert.OutIdeal.sig) → Buf (Elt Ideal) ℓ) (g : Dev Cert.OutIdeal.nD → PrngReg), Pre_OutIdeal_attn_finite m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3))
      ∧ r.2.sem = fun _ => 0)

def quiescent_OutReferenceIdeal_pre_attn_finite [hOutReferenceIdeal : Cert.OutReferenceIdeal.Facts] [hPre_attn_finite : Cert.Pre_attn_finite.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal_attn_finite m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def preserves_Qkv_QkvIdeal : Prop :=
  True

def algebraic_QkvIdeal_QkvReferenceIdeal_pre_qkv_finite [hQkvIdeal : Cert.QkvIdeal.Facts] [hQkvReferenceIdeal : Cert.QkvReferenceIdeal.Facts] [hPre_qkv_finite : Cert.Pre_qkv_finite.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvIdeal_qkv_finite m →
    (∀ c : Dev Cert.QkvIdeal.nD,
      m' ((c.tc : Thread Cert.QkvReferenceIdeal.nD Cert.QkvReferenceIdeal.τ).loc Cert.QkvReferenceIdeal.main_arg0) = m ((c.tc : Thread Cert.QkvIdeal.nD Cert.QkvIdeal.τ).loc Cert.QkvIdeal.main_arg0)
      ∧ m' ((c.tc : Thread Cert.QkvReferenceIdeal.nD Cert.QkvReferenceIdeal.τ).loc Cert.QkvReferenceIdeal.main_arg1) = m ((c.tc : Thread Cert.QkvIdeal.nD Cert.QkvIdeal.τ).loc Cert.QkvIdeal.main_arg1)
      ∧ m' ((c.tc : Thread Cert.QkvReferenceIdeal.nD Cert.QkvReferenceIdeal.τ).loc Cert.QkvReferenceIdeal.main_arg2) = m ((c.tc : Thread Cert.QkvIdeal.nD Cert.QkvIdeal.τ).loc Cert.QkvIdeal.main_arg2)
      ∧ m' ((c.tc : Thread Cert.QkvReferenceIdeal.nD Cert.QkvReferenceIdeal.τ).loc Cert.QkvReferenceIdeal.main_arg3) = m ((c.tc : Thread Cert.QkvIdeal.nD Cert.QkvIdeal.τ).loc Cert.QkvIdeal.main_arg3)
      ∧ m' ((c.tc : Thread Cert.QkvReferenceIdeal.nD Cert.QkvReferenceIdeal.τ).loc Cert.QkvReferenceIdeal.main_arg4) = m ((c.tc : Thread Cert.QkvIdeal.nD Cert.QkvIdeal.τ).loc Cert.QkvIdeal.main_arg4)) →
    ∃ (v0 : (c : Dev Cert.QkvIdeal.nD) → Buf (Elt Ideal) ((c.tc : Thread Cert.QkvIdeal.nD Cert.QkvIdeal.τ).loc Cert.QkvIdeal.main_v3_0)) (v1 : (c : Dev Cert.QkvIdeal.nD) → Buf (Elt Ideal) ((c.tc : Thread Cert.QkvIdeal.nD Cert.QkvIdeal.τ).loc Cert.QkvIdeal.main_v3_1)) (v2 : (c : Dev Cert.QkvIdeal.nD) → Buf (Elt Ideal) ((c.tc : Thread Cert.QkvIdeal.nD Cert.QkvIdeal.τ).loc Cert.QkvIdeal.main_v3_2)) (v3 : (c : Dev Cert.QkvIdeal.nD) → Buf (Elt Ideal) ((c.tc : Thread Cert.QkvIdeal.nD Cert.QkvIdeal.τ).loc Cert.QkvIdeal.main_v3_5)) (v4 : (c : Dev Cert.QkvIdeal.nD) → Buf (Elt Ideal) ((c.tc : Thread Cert.QkvIdeal.nD Cert.QkvIdeal.τ).loc Cert.QkvIdeal.main_v3_6)) (v5 : (c : Dev Cert.QkvIdeal.nD) → Buf (Elt Ideal) ((c.tc : Thread Cert.QkvIdeal.nD Cert.QkvIdeal.τ).loc Cert.QkvIdeal.main_v3_7)) (v6 : (c : Dev Cert.QkvIdeal.nD) → Buf (Elt Ideal) ((c.tc : Thread Cert.QkvIdeal.nD Cert.QkvIdeal.τ).loc Cert.QkvIdeal.main_v3_8)) (v7 : (c : Dev Cert.QkvIdeal.nD) → Buf (Elt Ideal) ((c.tc : Thread Cert.QkvIdeal.nD Cert.QkvIdeal.τ).loc Cert.QkvIdeal.main_v3_9)) (v8 : (c : Dev Cert.QkvIdeal.nD) → Buf (Elt Ideal) ((c.tc : Thread Cert.QkvIdeal.nD Cert.QkvIdeal.τ).loc Cert.QkvIdeal.main_v3_10)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v3_0) = v0 c
          ∧ r.2.mem ((c.tc : Thread Cert.QkvIdeal.nD Cert.QkvIdeal.τ).loc Cert.QkvIdeal.main_v3_1) = v1 c
          ∧ r.2.mem ((c.tc : Thread Cert.QkvIdeal.nD Cert.QkvIdeal.τ).loc Cert.QkvIdeal.main_v3_2) = v2 c
          ∧ r.2.mem ((c.tc : Thread Cert.QkvIdeal.nD Cert.QkvIdeal.τ).loc Cert.QkvIdeal.main_v3_5) = v3 c
          ∧ r.2.mem ((c.tc : Thread Cert.QkvIdeal.nD Cert.QkvIdeal.τ).loc Cert.QkvIdeal.main_v3_6) = v4 c
          ∧ r.2.mem ((c.tc : Thread Cert.QkvIdeal.nD Cert.QkvIdeal.τ).loc Cert.QkvIdeal.main_v3_7) = v5 c
          ∧ r.2.mem ((c.tc : Thread Cert.QkvIdeal.nD Cert.QkvIdeal.τ).loc Cert.QkvIdeal.main_v3_8) = v6 c
          ∧ r.2.mem ((c.tc : Thread Cert.QkvIdeal.nD Cert.QkvIdeal.τ).loc Cert.QkvIdeal.main_v3_9) = v7 c
          ∧ r.2.mem ((c.tc : Thread Cert.QkvIdeal.nD Cert.QkvIdeal.τ).loc Cert.QkvIdeal.main_v3_10) = v8 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v148) = v0 c
          ∧ r.2.mem ((c.tc : Thread Cert.QkvReferenceIdeal.nD Cert.QkvReferenceIdeal.τ).loc Cert.QkvReferenceIdeal.main_v19) = v1 c
          ∧ r.2.mem ((c.tc : Thread Cert.QkvReferenceIdeal.nD Cert.QkvReferenceIdeal.τ).loc Cert.QkvReferenceIdeal.main_v150) = v2 c
          ∧ r.2.mem ((c.tc : Thread Cert.QkvReferenceIdeal.nD Cert.QkvReferenceIdeal.τ).loc Cert.QkvReferenceIdeal.main_v151) = v3 c
          ∧ r.2.mem ((c.tc : Thread Cert.QkvReferenceIdeal.nD Cert.QkvReferenceIdeal.τ).loc Cert.QkvReferenceIdeal.main_v152) = v4 c
          ∧ r.2.mem ((c.tc : Thread Cert.QkvReferenceIdeal.nD Cert.QkvReferenceIdeal.τ).loc Cert.QkvReferenceIdeal.main_v153) = v5 c
          ∧ r.2.mem ((c.tc : Thread Cert.QkvReferenceIdeal.nD Cert.QkvReferenceIdeal.τ).loc Cert.QkvReferenceIdeal.main_v154) = v6 c
          ∧ r.2.mem ((c.tc : Thread Cert.QkvReferenceIdeal.nD Cert.QkvReferenceIdeal.τ).loc Cert.QkvReferenceIdeal.main_v155) = v7 c
          ∧ r.2.mem ((c.tc : Thread Cert.QkvReferenceIdeal.nD Cert.QkvReferenceIdeal.τ).loc Cert.QkvReferenceIdeal.main_v156) = v8 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1)
          ∧ r.2.mem ((c.tc : Thread Cert.QkvReferenceIdeal.nD Cert.QkvReferenceIdeal.τ).loc Cert.QkvReferenceIdeal.main_arg2) = m' ((c.tc : Thread Cert.QkvReferenceIdeal.nD Cert.QkvReferenceIdeal.τ).loc Cert.QkvReferenceIdeal.main_arg2)
          ∧ r.2.mem ((c.tc : Thread Cert.QkvReferenceIdeal.nD Cert.QkvReferenceIdeal.τ).loc Cert.QkvReferenceIdeal.main_arg3) = m' ((c.tc : Thread Cert.QkvReferenceIdeal.nD Cert.QkvReferenceIdeal.τ).loc Cert.QkvReferenceIdeal.main_arg3)
          ∧ r.2.mem ((c.tc : Thread Cert.QkvReferenceIdeal.nD Cert.QkvReferenceIdeal.τ).loc Cert.QkvReferenceIdeal.main_arg4) = m' ((c.tc : Thread Cert.QkvReferenceIdeal.nD Cert.QkvReferenceIdeal.τ).loc Cert.QkvReferenceIdeal.main_arg4))

def preserves_Out_OutIdeal : Prop :=
  True

def algebraic_OutIdeal_OutReferenceIdeal_pre_attn_finite [hOutIdeal : Cert.OutIdeal.Facts] [hOutReferenceIdeal : Cert.OutReferenceIdeal.Facts] [hPre_attn_finite : Cert.Pre_attn_finite.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal_attn_finite m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)
      ∧ m' ((c.tc : Thread Cert.OutReferenceIdeal.nD Cert.OutReferenceIdeal.τ).loc Cert.OutReferenceIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v1_0)) (v1 : (c : Dev Cert.OutIdeal.nD) → Buf (Elt Ideal) ((c.tc : Thread Cert.OutIdeal.nD Cert.OutIdeal.τ).loc Cert.OutIdeal.main_v1_1)) (v2 : (c : Dev Cert.OutIdeal.nD) → Buf (Elt Ideal) ((c.tc : Thread Cert.OutIdeal.nD Cert.OutIdeal.τ).loc Cert.OutIdeal.main_v1_2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1_0) = v0 c
          ∧ r.2.mem ((c.tc : Thread Cert.OutIdeal.nD Cert.OutIdeal.τ).loc Cert.OutIdeal.main_v1_1) = v1 c
          ∧ r.2.mem ((c.tc : Thread Cert.OutIdeal.nD Cert.OutIdeal.τ).loc Cert.OutIdeal.main_v1_2) = v2 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v108) = v0 c
          ∧ r.2.mem ((c.tc : Thread Cert.OutReferenceIdeal.nD Cert.OutReferenceIdeal.τ).loc Cert.OutReferenceIdeal.main_v110) = v1 c
          ∧ r.2.mem ((c.tc : Thread Cert.OutReferenceIdeal.nD Cert.OutReferenceIdeal.τ).loc Cert.OutReferenceIdeal.main_v111) = v2 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3))

def preserves_Attn_AttnIdeal : Prop :=
  True

def Claim : Prop :=
  ∃ (hQkv : Cert.Qkv.Facts) (hQkvIdeal : Cert.QkvIdeal.Facts) (hQkvReferenceIdeal : Cert.QkvReferenceIdeal.Facts) (hOut : Cert.Out.Facts) (hOutIdeal : Cert.OutIdeal.Facts) (hOutReferenceIdeal : Cert.OutReferenceIdeal.Facts) (hAttn : Cert.Attn.Facts) (hAttnIdeal : Cert.AttnIdeal.Facts) (hPre_qkv_finite : Cert.Pre_qkv_finite.Facts) (hPre_attn_finite : Cert.Pre_attn_finite.Facts),
    quiescent_Qkv (hQkv := hQkv)
    ∧ quiescent_QkvIdeal (hQkvIdeal := hQkvIdeal)
    ∧ quiescent_QkvIdeal_pre_qkv_finite (hQkvIdeal := hQkvIdeal) (hPre_qkv_finite := hPre_qkv_finite)
    ∧ quiescent_QkvReferenceIdeal (hQkvReferenceIdeal := hQkvReferenceIdeal)
    ∧ quiescent_QkvReferenceIdeal_pre_qkv_finite (hQkvReferenceIdeal := hQkvReferenceIdeal) (hPre_qkv_finite := hPre_qkv_finite)
    ∧ quiescent_Out (hOut := hOut)
    ∧ quiescent_OutIdeal (hOutIdeal := hOutIdeal)
    ∧ quiescent_OutIdeal_pre_attn_finite (hOutIdeal := hOutIdeal) (hPre_attn_finite := hPre_attn_finite)
    ∧ quiescent_OutReferenceIdeal (hOutReferenceIdeal := hOutReferenceIdeal)
    ∧ quiescent_OutReferenceIdeal_pre_attn_finite (hOutReferenceIdeal := hOutReferenceIdeal) (hPre_attn_finite := hPre_attn_finite)
    ∧ quiescent_Attn (hAttn := hAttn)
    ∧ quiescent_AttnIdeal (hAttnIdeal := hAttnIdeal)
    ∧ preserves_Qkv_QkvIdeal
    ∧ algebraic_QkvIdeal_QkvReferenceIdeal_pre_qkv_finite (hQkvIdeal := hQkvIdeal) (hQkvReferenceIdeal := hQkvReferenceIdeal) (hPre_qkv_finite := hPre_qkv_finite)
    ∧ preserves_Out_OutIdeal
    ∧ algebraic_OutIdeal_OutReferenceIdeal_pre_attn_finite (hOutIdeal := hOutIdeal) (hOutReferenceIdeal := hOutReferenceIdeal) (hPre_attn_finite := hPre_attn_finite)
    ∧ preserves_Attn_AttnIdeal
-- ==== Pre_attn_finite.lean ====
abbrev S4096x3584 : Shape := ⟨2, ![4096, 3584]⟩
abbrev S1792x3584 : Shape := ⟨2, ![1792, 3584]⟩
abbrev S3584 : Shape := ⟨1, ![3584]⟩
abbrev S_ : Shape := ⟨0, ![]⟩

class Facts : Prop where
  bcast_S_S4096x3584 : S_.BroadcastsInDim S4096x3584 (![] : Fin 0 → Fin S4096x3584.rank)

variable [Facts]

def fn {F : FTy → Type} [FloatOps F] (main_arg0 : FVec F S4096x3584 .f32) (main_arg1 : FVec F S4096x3584 .bf16) (main_arg2 : IVec S1792x3584 8) (main_arg3 : FVec F S3584 .f32) : IVec S4096x3584 1 :=
  let main_v0 : FVec F S4096x3584 .f32 := Host.absf main_arg0
  let main_cst : FVec F S_ .f32 := constant S_ .f32 0x7F800000#32
  let main_v1 : FVec F S4096x3584 .f32 := broadcastInDim S4096x3584 ![] bcast_S_S4096x3584 main_cst
  let main_v2 : IVec S4096x3584 1 := cmpf .olt main_v0 main_v1
  main_v2
-- ==== Pre_qkv_finite.lean ====
abbrev S2x2048x3584 : Shape := ⟨3, ![2, 2048, 3584]⟩
abbrev S1792x4608 : Shape := ⟨2, ![1792, 4608]⟩
abbrev S4608 : Shape := ⟨1, ![4608]⟩
abbrev S2x2048x64 : Shape := ⟨3, ![2, 2048, 64]⟩
abbrev S4096 : Shape := ⟨1, ![4096]⟩
abbrev S_ : Shape := ⟨0, ![]⟩

class Facts : Prop where
  slices_S4608_S4096_0 : S4608.Slices ![0] S4096
  bcast_S_S4096 : S_.BroadcastsInDim S4096 (![] : Fin 0 → Fin S4096.rank)
  bcast_S_S2x2048x64 : S_.BroadcastsInDim S2x2048x64 (![] : Fin 0 → Fin S2x2048x64.rank)

variable [Facts]

def fn {F : FTy → Type} [FloatOps F] (main_arg0 : FVec F S2x2048x3584 .bf16) (main_arg1 : IVec S1792x4608 8) (main_arg2 : FVec F S4608 .f32) (main_arg3 : FVec F S2x2048x64 .f32) (main_arg4 : FVec F S2x2048x64 .f32) : IVec S4096 1 × IVec S2x2048x64 1 × IVec S2x2048x64 1 :=
  let main_v0 : FVec F S4096 .f32 := (extractStridedSlice S4096 ![0] · slices_S4608_S4096_0) main_arg2
  let main_v1 : FVec F S4096 .f32 := Host.absf main_v0
  let main_cst : FVec F S_ .f32 := constant S_ .f32 0x7F800000#32
  let main_v2 : FVec F S4096 .f32 := broadcastInDim S4096 ![] bcast_S_S4096 main_cst
  let main_v3 : IVec S4096 1 := cmpf .olt main_v1 main_v2
  let main_v4 : FVec F S2x2048x64 .f32 := Host.absf main_arg3
  let main_cst_0 : FVec F S_ .f32 := constant S_ .f32 0x7F800000#32
  let main_v5 : FVec F S2x2048x64 .f32 := broadcastInDim S2x2048x64 ![] bcast_S_S2x2048x64 main_cst_0
  let main_v6 : IVec S2x2048x64 1 := cmpf .olt main_v4 main_v5
  let main_v7 : FVec F S2x2048x64 .f32 := Host.absf main_arg4
  let main_cst_1 : FVec F S_ .f32 := constant S_ .f32 0x7F800000#32
  let main_v8 : FVec F S2x2048x64 .f32 := broadcastInDim S2x2048x64 ![] bcast_S_S2x2048x64 main_cst_1
  let main_v9 : IVec S2x2048x64 1 := cmpf .olt main_v7 main_v8
  (main_v3, main_v6, main_v9)
-- ==== Qkv.lean ====
abbrev S2x2048x3584 : Shape := ⟨3, ![2, 2048, 3584]⟩
abbrev S1792x4608 : Shape := ⟨2, ![1792, 4608]⟩
abbrev S4608 : Shape := ⟨1, ![4608]⟩
abbrev S2x2048x64 : Shape := ⟨3, ![2, 2048, 64]⟩
abbrev S128x384 : Shape := ⟨2, ![128, 384]⟩
abbrev S2x64x2048 : Shape := ⟨3, ![2, 64, 2048]⟩
abbrev S36x128 : Shape := ⟨2, ![36, 128]⟩
abbrev S2x2048 : Shape := ⟨2, ![2, 2048]⟩
abbrev S2x28x128x2048 : Shape := ⟨4, ![2, 28, 128, 2048]⟩
abbrev S2x4x2048x256 : Shape := ⟨4, ![2, 4, 2048, 256]⟩
abbrev S2x4x128x2048 : Shape := ⟨4, ![2, 4, 128, 2048]⟩
abbrev S2x4x64x2048 : Shape := ⟨4, ![2, 4, 64, 2048]⟩
abbrev S2x4x2048 : Shape := ⟨3, ![2, 4, 2048]⟩
abbrev S2x4x2048x128 : Shape := ⟨4, ![2, 4, 2048, 128]⟩
abbrev S2x256x3584 : Shape := ⟨3, ![2, 256, 3584]⟩
abbrev S2x64x256 : Shape := ⟨3, ![2, 64, 256]⟩
abbrev S2x256 : Shape := ⟨2, ![2, 256]⟩
abbrev S2x28x128x256 : Shape := ⟨4, ![2, 28, 128, 256]⟩
abbrev S2x4x256x256 : Shape := ⟨4, ![2, 4, 256, 256]⟩
abbrev S2x4x128x256 : Shape := ⟨4, ![2, 4, 128, 256]⟩
abbrev S2x4x64x256 : Shape := ⟨4, ![2, 4, 64, 256]⟩
abbrev S2x4x256 : Shape := ⟨3, ![2, 4, 256]⟩
abbrev S2x4x256x128 : Shape := ⟨4, ![2, 4, 256, 128]⟩
abbrev S4608x3584 : Shape := ⟨2, ![4608, 3584]⟩
abbrev S4608x128 : Shape := ⟨2, ![4608, 128]⟩
abbrev S256x128 : Shape := ⟨2, ![256, 128]⟩
abbrev S1792x128 : Shape := ⟨2, ![1792, 128]⟩
abbrev S1792x1x128 : Shape := ⟨3, ![1792, 1, 128]⟩
abbrev S1792x2x128 : Shape := ⟨3, ![1792, 2, 128]⟩
abbrev S3584x128 : Shape := ⟨2, ![3584, 128]⟩
abbrev S128x3584 : Shape := ⟨2, ![128, 3584]⟩
abbrev S1x128 : Shape := ⟨2, ![1, 128]⟩
abbrev S128x128 : Shape := ⟨2, ![128, 128]⟩
abbrev S1x32x3584 : Shape := ⟨3, ![1, 32, 3584]⟩
abbrev S32x3584 : Shape := ⟨2, ![32, 3584]⟩
abbrev S32 : Shape := ⟨1, ![32]⟩
abbrev S32x1 : Shape := ⟨2, ![32, 1]⟩
abbrev S32x128 : Shape := ⟨2, ![32, 128]⟩
abbrev S128x256 : Shape := ⟨2, ![128, 256]⟩
abbrev S1x256 : Shape := ⟨2, ![1, 256]⟩
abbrev S512x3584 : Shape := ⟨2, ![512, 3584]⟩
abbrev S1x256x3584 : Shape := ⟨3, ![1, 256, 3584]⟩
abbrev S256x3584 : Shape := ⟨2, ![256, 3584]⟩
abbrev S512x256 : Shape := ⟨2, ![512, 256]⟩
abbrev S1x64x256 : Shape := ⟨3, ![1, 64, 256]⟩
abbrev S64x256 : Shape := ⟨2, ![64, 256]⟩
abbrev S384x256 : Shape := ⟨2, ![384, 256]⟩
abbrev S1x1x128x256 : Shape := ⟨4, ![1, 1, 128, 256]⟩
abbrev S256 : Shape := ⟨1, ![256]⟩
abbrev S64x2x256 : Shape := ⟨3, ![64, 2, 256]⟩
abbrev S64x1x256 : Shape := ⟨3, ![64, 1, 256]⟩
abbrev S1x1x64x256 : Shape := ⟨4, ![1, 1, 64, 256]⟩
abbrev S1x1x256 : Shape := ⟨3, ![1, 1, 256]⟩
abbrev S122x256 : Shape := ⟨2, ![122, 256]⟩
abbrev S256x256 : Shape := ⟨2, ![256, 256]⟩
abbrev S1x1x256x256 : Shape := ⟨4, ![1, 1, 256, 256]⟩
abbrev S1x1x256x128 : Shape := ⟨4, ![1, 1, 256, 128]⟩

abbrev nBuf : Space → Nat
  | .hbm => 23
  | .vmem => 41
  | .smem => 0
  | _ => 0

abbrev bufTy : (tb : Table) → Fin (tcTables nBuf tb) → BufTy
  | .hbm, ⟨0, _⟩ => ⟨S2x2048x3584, .bf16⟩
  | .hbm, ⟨1, _⟩ => ⟨S1792x4608, .i8⟩
  | .hbm, ⟨2, _⟩ => ⟨S4608, .f32⟩
  | .hbm, ⟨3, _⟩ => ⟨S2x2048x64, .f32⟩
  | .hbm, ⟨4, _⟩ => ⟨S2x2048x64, .f32⟩
  | .hbm, ⟨5, _⟩ => ⟨S128x384, .bf16⟩
  | .hbm, ⟨6, _⟩ => ⟨S2x64x2048, .f32⟩
  | .hbm, ⟨7, _⟩ => ⟨S2x64x2048, .f32⟩
  | .hbm, ⟨8, _⟩ => ⟨S36x128, .f32⟩
  | .hbm, ⟨9, _⟩ => ⟨S2x2048x3584, .i8⟩
  | .hbm, ⟨10, _⟩ => ⟨S2x2048, .f32⟩
  | .hbm, ⟨11, _⟩ => ⟨S2x28x128x2048, .bf16⟩
  | .hbm, ⟨12, _⟩ => ⟨S2x4x2048x256, .bf16⟩
  | .hbm, ⟨13, _⟩ => ⟨S2x4x128x2048, .bf16⟩
  | .hbm, ⟨14, _⟩ => ⟨S2x4x64x2048, .i8⟩
  | .hbm, ⟨15, _⟩ => ⟨S2x4x2048, .f32⟩
  | .hbm, ⟨16, _⟩ => ⟨S2x4x2048, .f32⟩
  | .hbm, ⟨17, _⟩ => ⟨S2x4x64x2048, .i8⟩
  | .hbm, ⟨18, _⟩ => ⟨S2x4x2048, .f32⟩
  | .hbm, ⟨19, _⟩ => ⟨S2x4x2048, .f32⟩
  | .hbm, ⟨20, _⟩ => ⟨S2x4x2048x128, .f32⟩
  | .hbm, ⟨21, _⟩ => ⟨S2x4x2048x128, .f32⟩
  | .hbm, ⟨22, _⟩ => ⟨S2x4x2048x128, .f32⟩
  | .local _ .vmem, ⟨0, _⟩ => ⟨S2x256x3584, .bf16⟩
  | .local _ .vmem, ⟨1, _⟩ => ⟨S2x256x3584, .bf16⟩
  | .local _ .vmem, ⟨2, _⟩ => ⟨S1792x4608, .i8⟩
  | .local _ .vmem, ⟨3, _⟩ => ⟨S36x128, .f32⟩
  | .local _ .vmem, ⟨4, _⟩ => ⟨S2x64x256, .f32⟩
  | .local _ .vmem, ⟨5, _⟩ => ⟨S2x64x256, .f32⟩
  | .local _ .vmem, ⟨6, _⟩ => ⟨S2x64x256, .f32⟩
  | .local _ .vmem, ⟨7, _⟩ => ⟨S2x64x256, .f32⟩
  | .local _ .vmem, ⟨8, _⟩ => ⟨S128x384, .bf16⟩
  | .local _ .vmem, ⟨9, _⟩ => ⟨S2x256x3584, .i8⟩
  | .local _ .vmem, ⟨10, _⟩ => ⟨S2x256x3584, .i8⟩
  | .local _ .vmem, ⟨11, _⟩ => ⟨S2x256, .f32⟩
  | .local _ .vmem, ⟨12, _⟩ => ⟨S2x256, .f32⟩
  | .local _ .vmem, ⟨13, _⟩ => ⟨S2x28x128x256, .bf16⟩
  | .local _ .vmem, ⟨14, _⟩ => ⟨S2x28x128x256, .bf16⟩
  | .local _ .vmem, ⟨15, _⟩ => ⟨S2x4x256x256, .bf16⟩
  | .local _ .vmem, ⟨16, _⟩ => ⟨S2x4x256x256, .bf16⟩
  | .local _ .vmem, ⟨17, _⟩ => ⟨S2x4x128x256, .bf16⟩
  | .local _ .vmem, ⟨18, _⟩ => ⟨S2x4x128x256, .bf16⟩
  | .local _ .vmem, ⟨19, _⟩ => ⟨S2x4x64x256, .i8⟩
  | .local _ .vmem, ⟨20, _⟩ => ⟨S2x4x64x256, .i8⟩
  | .local _ .vmem, ⟨21, _⟩ => ⟨S2x4x256, .f32⟩
  | .local _ .vmem, ⟨22, _⟩ => ⟨S2x4x256, .f32⟩
  | .local _ .vmem, ⟨23, _⟩ => ⟨S2x4x256, .f32⟩
  | .local _ .vmem, ⟨24, _⟩ => ⟨S2x4x256, .f32⟩
  | .local _ .vmem, ⟨25, _⟩ => ⟨S2x4x64x256, .i8⟩
  | .local _ .vmem, ⟨26, _⟩ => ⟨S2x4x64x256, .i8⟩
  | .local _ .vmem, ⟨27, _⟩ => ⟨S2x4x256, .f32⟩
  | .local _ .vmem, ⟨28, _⟩ => ⟨S2x4x256, .f32⟩
  | .local _ .vmem, ⟨29, _⟩ => ⟨S2x4x256, .f32⟩
  | .local _ .vmem, ⟨30, _⟩ => ⟨S2x4x256, .f32⟩
  | .local _ .vmem, ⟨31, _⟩ => ⟨S2x4x256x128, .f32⟩
  | .local _ .vmem, ⟨32, _⟩ => ⟨S2x4x256x128, .f32⟩
  | .local _ .vmem, ⟨33, _⟩ => ⟨S2x4x256x128, .f32⟩
  | .local _ .vmem, ⟨34, _⟩ => ⟨S2x4x256x128, .f32⟩
  | .local _ .vmem, ⟨35, _⟩ => ⟨S2x4x256x128, .f32⟩
  | .local _ .vmem, ⟨36, _⟩ => ⟨S2x4x256x128, .f32⟩
  | .local _ .vmem, ⟨37, _⟩ => ⟨S4608x3584, .i8⟩
  | .local _ .vmem, ⟨38, _⟩ => ⟨S4608x128, .f32⟩
  | .local _ .vmem, ⟨39, _⟩ => ⟨S2x256x3584, .bf16⟩
  | .local _ .vmem, ⟨40, _⟩ => ⟨S256x128, .f32⟩
  | _, _ => ⟨S2x2048x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_v3_5 : Ref sig .tc := ⟨.hbm, 14, rfl⟩
abbrev main_v3_6 : Ref sig .tc := ⟨.hbm, 15, rfl⟩
abbrev main_v3_7 : Ref sig .tc := ⟨.hbm, 16, rfl⟩
abbrev main_v3_8 : Ref sig .tc := ⟨.hbm, 17, rfl⟩
abbrev main_v3_9 : Ref sig .tc := ⟨.hbm, 18, rfl⟩
abbrev main_v3_10 : Ref sig .tc := ⟨.hbm, 19, rfl⟩
abbrev main_v3_11 : Ref sig .tc := ⟨.hbm, 20, rfl⟩
abbrev main_v3_12 : Ref sig .tc := ⟨.hbm, 21, rfl⟩
abbrev main_v3_13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg18_1 : Ref sig .tc := ⟨.vmem, 34, rfl⟩
abbrev cc0_stg19_0 : Ref sig .tc := ⟨.vmem, 35, rfl⟩
abbrev cc0_stg19_1 : Ref sig .tc := ⟨.vmem, 36, rfl⟩
abbrev cc0_scratch0 : Ref sig .tc := ⟨.vmem, 37, rfl⟩
abbrev cc0_scratch1 : Ref sig .tc := ⟨.vmem, 38, rfl⟩
abbrev cc0_scratch2 : Ref sig .tc := ⟨.vmem, 39, rfl⟩
abbrev cc0_scratch3 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem18_1 : DmaSem sig := 34
abbrev cc0_sem19_0 : DmaSem sig := 35
abbrev cc0_sem19_1 : DmaSem sig := 36

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_656 : BitVec 32 := 0#32
  let c36_i32 : BitVec 32 := 36#32
  let v1435 : BitVec 32 := Scalar.addi c0_i32_656 c36_i32
  let c1_i32_657 : BitVec 32 := 1#32
  ⟨c0_i32_656, v1435, c1_i32_657⟩
def k0_mult1 (k0_t1 : Fin k0_t1_loop.trips) : BitVec 32 :=
  let c0_i32_656 : BitVec 32 := 0#32
  let c1_i32_657 : BitVec 32 := 1#32
  let arg25 : BitVec 32 := Scf.iv c0_i32_656 c1_i32_657 k0_t1
  let c128_i32 : BitVec 32 := 128#32
  let v1436 : BitVec 32 := Scalar.muli arg25 c128_i32
  v1436
def k0_off1 (k0_t1 : Fin k0_t1_loop.trips) : Fin 2 → Nat :=
  let c0_659 : Index := 0#32
  let c0_i32_656 : BitVec 32 := 0#32
  let c1_i32_657 : BitVec 32 := 1#32
  let arg25 : BitVec 32 := Scf.iv c0_i32_656 c1_i32_657 k0_t1
  let c128_i32 : BitVec 32 := 128#32
  let v1436 : BitVec 32 := Scalar.muli arg25 c128_i32
  let v1437 : BitVec 32 := v1436
  let v1438 : Index := Scalar.indexCast v1437
  ![0, v1438.toNat]
def k0_off2 (k0_t1 : Fin k0_t1_loop.trips) : Fin 2 → Nat :=
  let c0_i32_656 : BitVec 32 := 0#32
  let c1_i32_657 : BitVec 32 := 1#32
  let arg25 : BitVec 32 := Scf.iv c0_i32_656 c1_i32_657 k0_t1
  let c128_i32 : BitVec 32 := 128#32
  let v1436 : BitVec 32 := Scalar.muli arg25 c128_i32
  let v1437 : BitVec 32 := v1436
  let v1456 : Index := Scalar.indexCast v1437
  let c0_662 : Index := 0#32
  ![v1456.toNat, 0]
def k0_off3 (k0_t1 : Fin k0_t1_loop.trips) : Fin 2 → Nat :=
  let c0_i32_656 : BitVec 32 := 0#32
  let c1_i32_657 : BitVec 32 := 1#32
  let arg25 : BitVec 32 := Scf.iv c0_i32_656 c1_i32_657 k0_t1
  let v1460 : Index := Scalar.indexCast arg25
  let c0_663 : Index := 0#32
  ![v1460.toNat, 0]
def k0_off4 (k0_t1 : Fin k0_t1_loop.trips) : Fin 2 → Nat :=
  let c0_i32_656 : BitVec 32 := 0#32
  let c1_i32_657 : BitVec 32 := 1#32
  let arg25 : BitVec 32 := Scf.iv c0_i32_656 c1_i32_657 k0_t1
  let c128_i32 : BitVec 32 := 128#32
  let v1436 : BitVec 32 := Scalar.muli arg25 c128_i32
  let v1437 : BitVec 32 := v1436
  let v1466 : Index := Scalar.indexCast v1437
  let c0_664 : Index := 0#32
  ![v1466.toNat, 0]
@[reducible] def k0_t2_loop : Scf.Loop 32 :=
  let c0_i32_1 : BitVec 32 := 0#32
  let c8_i32 : BitVec 32 := 8#32
  let v3 : BitVec 32 := Scalar.addi c0_i32_1 c8_i32
  let c1_i32 : BitVec 32 := 1#32
  ⟨c0_i32_1, v3, c1_i32⟩
def k0_mult2 (k0_t2 : Fin k0_t2_loop.trips) : BitVec 32 :=
  let c0_i32_1 : BitVec 32 := 0#32
  let c1_i32 : BitVec 32 := 1#32
  let arg25 : BitVec 32 := Scf.iv c0_i32_1 c1_i32 k0_t2
  let c32_i32 : BitVec 32 := 32#32
  let v1435 : BitVec 32 := Scalar.muli arg25 c32_i32
  v1435
def k0_off5 (k0_t2 : Fin k0_t2_loop.trips) : Fin 3 → Nat :=
  let c0_656 : Index := 0#32
  let c0_i32_1 : BitVec 32 := 0#32
  let c1_i32 : BitVec 32 := 1#32
  let arg25 : BitVec 32 := Scf.iv c0_i32_1 c1_i32 k0_t2
  let c32_i32 : BitVec 32 := 32#32
  let v1435 : BitVec 32 := Scalar.muli arg25 c32_i32
  let v1436 : BitVec 32 := v1435
  let v1437 : Index := Scalar.indexCast v1436
  let c0_657 : Index := 0#32
  ![0, v1437.toNat, 0]
def k0_off6 (k0_t2 : Fin k0_t2_loop.trips) : Fin 2 → Nat :=
  let c0_i32_1 : BitVec 32 := 0#32
  let c1_i32 : BitVec 32 := 1#32
  let arg25 : BitVec 32 := Scf.iv c0_i32_1 c1_i32 k0_t2
  let c32_i32 : BitVec 32 := 32#32
  let v1435 : BitVec 32 := Scalar.muli arg25 c32_i32
  let v1436 : BitVec 32 := v1435
  let v1481 : Index := Scalar.indexCast v1436
  let c0_672 : Index := 0#32
  ![v1481.toNat, 0]
@[reducible] def k0_t3_loop : Scf.Loop 32 :=
  let c0_i32_6 : BitVec 32 := 0#32
  let c8_i32_7 : BitVec 32 := 8#32
  let v8 : BitVec 32 := Scalar.addi c0_i32_6 c8_i32_7
  let c1_i32_8 : BitVec 32 := 1#32
  ⟨c0_i32_6, v8, c1_i32_8⟩
def k0_mult3 (k0_t3 : Fin k0_t3_loop.trips) : BitVec 32 :=
  let c0_i32_6 : BitVec 32 := 0#32
  let c1_i32_8 : BitVec 32 := 1#32
  let arg25 : BitVec 32 := Scf.iv c0_i32_6 c1_i32_8 k0_t3
  let c32_i32 : BitVec 32 := 32#32
  let v1435 : BitVec 32 := Scalar.muli arg25 c32_i32
  v1435
def k0_off7 (k0_t3 : Fin k0_t3_loop.trips) : Fin 3 → Nat :=
  let c1_656 : Index := 1#32
  let c0_i32_6 : BitVec 32 := 0#32
  let c1_i32_8 : BitVec 32 := 1#32
  let arg25 : BitVec 32 := Scf.iv c0_i32_6 c1_i32_8 k0_t3
  let c32_i32 : BitVec 32 := 32#32
  let v1435 : BitVec 32 := Scalar.muli arg25 c32_i32
  let v1436 : BitVec 32 := v1435
  let v1437 : Index := Scalar.indexCast v1436
  let c0_657 : Index := 0#32
  ![1, v1437.toNat, 0]
def k0_off8 (k0_t3 : Fin k0_t3_loop.trips) : Fin 2 → Nat :=
  let c0_i32_6 : BitVec 32 := 0#32
  let c1_i32_8 : BitVec 32 := 1#32
  let arg25 : BitVec 32 := Scf.iv c0_i32_6 c1_i32_8 k0_t3
  let c32_i32 : BitVec 32 := 32#32
  let v1435 : BitVec 32 := Scalar.muli arg25 c32_i32
  let v1436 : BitVec 32 := v1435
  let v1481 : Index := Scalar.indexCast v1436
  let c0_672 : Index := 0#32
  ![v1481.toNat, 0]
@[reducible] def k0_t4_loop : Scf.Loop 32 :=
  let c0_i32_13 : BitVec 32 := 0#32
  let c7_i32 : BitVec 32 := 7#32
  let v13 : BitVec 32 := Scalar.addi c0_i32_13 c7_i32
  let c1_i32_14 : BitVec 32 := 1#32
  ⟨c0_i32_13, v13, c1_i32_14⟩
def k0_mult4 (k0_t4 : Fin k0_t4_loop.trips) : BitVec 32 :=
  let c0_i32_13 : BitVec 32 := 0#32
  let c1_i32_14 : BitVec 32 := 1#32
  let arg25 : BitVec 32 := Scf.iv c0_i32_13 c1_i32_14 k0_t4
  let c512_i32 : BitVec 32 := 512#32
  let v1435 : BitVec 32 := Scalar.muli arg25 c512_i32
  v1435
def k0_off9 (k0_t4 : Fin k0_t4_loop.trips) : Fin 2 → Nat :=
  let c0_i32_13 : BitVec 32 := 0#32
  let c1_i32_14 : BitVec 32 := 1#32
  let arg25 : BitVec 32 := Scf.iv c0_i32_13 c1_i32_14 k0_t4
  let c512_i32 : BitVec 32 := 512#32
  let v1435 : BitVec 32 := Scalar.muli arg25 c512_i32
  let v1436 : BitVec 32 := v1435
  let v1437 : Index := Scalar.indexCast v1436
  let c0_656 : Index := 0#32
  ![v1437.toNat, 0]
def k0_mult5 (k0_t4 : Fin k0_t4_loop.trips) : BitVec 32 :=
  let c0_i32_13 : BitVec 32 := 0#32
  let c1_i32_14 : BitVec 32 := 1#32
  let arg25 : BitVec 32 := Scf.iv c0_i32_13 c1_i32_14 k0_t4
  let c4_i32_661 : BitVec 32 := 4#32
  let v1443 : BitVec 32 := Scalar.muli arg25 c4_i32_661
  let c0_i32_662 : BitVec 32 := 0#32
  let v1444 : BitVec 32 := Scalar.addi v1443 c0_i32_662
  let c128_i32 : BitVec 32 := 128#32
  let v1445 : BitVec 32 := Scalar.muli v1444 c128_i32
  v1445
def k0_off10 (k0_t4 : Fin k0_t4_loop.trips) (c0_i32_662 : BitVec 32) : Fin 2 → Nat :=
  let c0_i32_13 : BitVec 32 := 0#32
  let c1_i32_14 : BitVec 32 := 1#32
  let arg25 : BitVec 32 := Scf.iv c0_i32_13 c1_i32_14 k0_t4
  let c4_i32_661 : BitVec 32 := 4#32
  let v1443 : BitVec 32 := Scalar.muli arg25 c4_i32_661
  let v1444 : BitVec 32 := Scalar.addi v1443 c0_i32_662
  let c128_i32 : BitVec 32 := 128#32
  let v1445 : BitVec 32 := Scalar.muli v1444 c128_i32
  let v1446 : BitVec 32 := v1445
  let v1447 : Index := Scalar.indexCast v1446
  let c0_663 : Index := 0#32
  ![v1447.toNat, 0]
def k0_off11 (k0_t4 : Fin k0_t4_loop.trips) (c0_i32_677 : BitVec 32) : Fin 4 → Nat :=
  let c0_678 : Index := 0#32
  let c0_i32_13 : BitVec 32 := 0#32
  let c1_i32_14 : BitVec 32 := 1#32
  let arg25 : BitVec 32 := Scf.iv c0_i32_13 c1_i32_14 k0_t4
  let c4_i32_676 : BitVec 32 := 4#32
  let v1482 : BitVec 32 := Scalar.muli arg25 c4_i32_676
  let v1483 : BitVec 32 := Scalar.addi v1482 c0_i32_677
  let v1484 : Index := Scalar.indexCast v1483
  let c0_679 : Index := 0#32
  let c0_680 : Index := 0#32
  ![0, v1484.toNat, 0, 0]
def k0_mult6 (k0_t4 : Fin k0_t4_loop.trips) : BitVec 32 :=
  let c0_i32_13 : BitVec 32 := 0#32
  let c1_i32_14 : BitVec 32 := 1#32
  let arg25 : BitVec 32 := Scf.iv c0_i32_13 c1_i32_14 k0_t4
  let c4_i32_681 : BitVec 32 := 4#32
  let v1488 : BitVec 32 := Scalar.muli arg25 c4_i32_681
  let c1_i32_682 : BitVec 32 := 1#32
  let v1489 : BitVec 32 := Scalar.addi v1488 c1_i32_682
  let c128_i32_683 : BitVec 32 := 128#32
  let v1490 : BitVec 32 := Scalar.muli v1489 c128_i32_683
  v1490
def k0_mult7 (k0_t4 : Fin k0_t4_loop.trips) : BitVec 32 :=
  let c0_i32_13 : BitVec 32 := 0#32
  let c1_i32_14 : BitVec 32 := 1#32
  let arg25 : BitVec 32 := Scf.iv c0_i32_13 c1_i32_14 k0_t4
  let c4_i32_702 : BitVec 32 := 4#32
  let v1533 : BitVec 32 := Scalar.muli arg25 c4_i32_702
  let c2_i32 : BitVec 32 := 2#32
  let v1534 : BitVec 32 := Scalar.addi v1533 c2_i32
  let c128_i32_703 : BitVec 32 := 128#32
  let v1535 : BitVec 32 := Scalar.muli v1534 c128_i32_703
  v1535
def k0_mult8 (k0_t4 : Fin k0_t4_loop.trips) : BitVec 32 :=
  let c0_i32_13 : BitVec 32 := 0#32
  let c1_i32_14 : BitVec 32 := 1#32
  let arg25 : BitVec 32 := Scf.iv c0_i32_13 c1_i32_14 k0_t4
  let c4_i32_722 : BitVec 32 := 4#32
  let v1578 : BitVec 32 := Scalar.muli arg25 c4_i32_722
  let c3_i32 : BitVec 32 := 3#32
  let v1579 : BitVec 32 := Scalar.addi v1578 c3_i32
  let c128_i32_723 : BitVec 32 := 128#32
  let v1580 : BitVec 32 := Scalar.muli v1579 c128_i32_723
  v1580
def k0_mult9 : BitVec 32 :=
  let c3584_i32 : BitVec 32 := 3584#32
  c3584_i32
def k0_mult10 : BitVec 32 :=
  let c3584_i32_20 : BitVec 32 := 3584#32
  c3584_i32_20
def k0_mult11 : BitVec 32 :=
  let c3712_i32 : BitVec 32 := 3712#32
  c3712_i32
def k0_mult12 : BitVec 32 :=
  let c3840_i32 : BitVec 32 := 3840#32
  c3840_i32
def k0_mult13 : BitVec 32 :=
  let c3968_i32 : BitVec 32 := 3968#32
  c3968_i32
def k0_mult14 : BitVec 32 :=
  let c4096_i32 : BitVec 32 := 4096#32
  c4096_i32
def k0_mult15 : BitVec 32 :=
  let c4096_i32_191 : BitVec 32 := 4096#32
  c4096_i32_191
def k0_mult16 : BitVec 32 :=
  let c4224_i32 : BitVec 32 := 4224#32
  c4224_i32
def k0_mult17 : BitVec 32 :=
  let c4352_i32 : BitVec 32 := 4352#32
  c4352_i32
def k0_mult18 : BitVec 32 :=
  let c4480_i32 : BitVec 32 := 4480#32
  c4480_i32
@[reducible] def k0_t5_loop : Scf.Loop 32 :=
  let c0_i32_328 : BitVec 32 := 0#32
  let c7_i32_329 : BitVec 32 := 7#32
  let v724 : BitVec 32 := Scalar.addi c0_i32_328 c7_i32_329
  let c1_i32_330 : BitVec 32 := 1#32
  ⟨c0_i32_328, v724, c1_i32_330⟩
def k0_mult19 (k0_t5 : Fin k0_t5_loop.trips) : BitVec 32 :=
  let c0_i32_328 : BitVec 32 := 0#32
  let c1_i32_330 : BitVec 32 := 1#32
  let arg25 : BitVec 32 := Scf.iv c0_i32_328 c1_i32_330 k0_t5
  let c512_i32 : BitVec 32 := 512#32
  let v1435 : BitVec 32 := Scalar.muli arg25 c512_i32
  v1435
def k0_off12 (k0_t5 : Fin k0_t5_loop.trips) : Fin 2 → Nat :=
  let c0_i32_328 : BitVec 32 := 0#32
  let c1_i32_330 : BitVec 32 := 1#32
  let arg25 : BitVec 32 := Scf.iv c0_i32_328 c1_i32_330 k0_t5
  let c512_i32 : BitVec 32 := 512#32
  let v1435 : BitVec 32 := Scalar.muli arg25 c512_i32
  let v1436 : BitVec 32 := v1435
  let v1437 : Index := Scalar.indexCast v1436
  let c0_656 : Index := 0#32
  ![v1437.toNat, 0]
def k0_mult20 (k0_t5 : Fin k0_t5_loop.trips) : BitVec 32 :=
  let c0_i32_328 : BitVec 32 := 0#32
  let c1_i32_330 : BitVec 32 := 1#32
  let arg25 : BitVec 32 := Scf.iv c0_i32_328 c1_i32_330 k0_t5
  let c4_i32_661 : BitVec 32 := 4#32
  let v1443 : BitVec 32 := Scalar.muli arg25 c4_i32_661
  let c0_i32_662 : BitVec 32 := 0#32
  let v1444 : BitVec 32 := Scalar.addi v1443 c0_i32_662
  let c128_i32 : BitVec 32 := 128#32
  let v1445 : BitVec 32 := Scalar.muli v1444 c128_i32
  v1445
def k0_off13 (k0_t5 : Fin k0_t5_loop.trips) (c0_i32_662 : BitVec 32) : Fin 2 → Nat :=
  let c0_i32_328 : BitVec 32 := 0#32
  let c1_i32_330 : BitVec 32 := 1#32
  let arg25 : BitVec 32 := Scf.iv c0_i32_328 c1_i32_330 k0_t5
  let c4_i32_661 : BitVec 32 := 4#32
  let v1443 : BitVec 32 := Scalar.muli arg25 c4_i32_661
  let v1444 : BitVec 32 := Scalar.addi v1443 c0_i32_662
  let c128_i32 : BitVec 32 := 128#32
  let v1445 : BitVec 32 := Scalar.muli v1444 c128_i32
  let v1446 : BitVec 32 := v1445
  let v1447 : Index := Scalar.indexCast v1446
  let c0_663 : Index := 0#32
  ![v1447.toNat, 0]
def k0_off14 (k0_t5 : Fin k0_t5_loop.trips) (c0_i32_677 : BitVec 32) : Fin 4 → Nat :=
  let c1_678 : Index := 1#32
  let c0_i32_328 : BitVec 32 := 0#32
  let c1_i32_330 : BitVec 32 := 1#32
  let arg25 : BitVec 32 := Scf.iv c0_i32_328 c1_i32_330 k0_t5
  let c4_i32_676 : BitVec 32 := 4#32
  let v1482 : BitVec 32 := Scalar.muli arg25 c4_i32_676
  let v1483 : BitVec 32 := Scalar.addi v1482 c0_i32_677
  let v1484 : Index := Scalar.indexCast v1483
  let c0_679 : Index := 0#32
  let c0_680 : Index := 0#32
  ![1, v1484.toNat, 0, 0]
def k0_mult21 (k0_t5 : Fin k0_t5_loop.trips) : BitVec 32 :=
  let c0_i32_328 : BitVec 32 := 0#32
  let c1_i32_330 : BitVec 32 := 1#32
  let arg25 : BitVec 32 := Scf.iv c0_i32_328 c1_i32_330 k0_t5
  let c4_i32_681 : BitVec 32 := 4#32
  let v1488 : BitVec 32 := Scalar.muli arg25 c4_i32_681
  let c1_i32_682 : BitVec 32 := 1#32
  let v1489 : BitVec 32 := Scalar.addi v1488 c1_i32_682
  let c128_i32_683 : BitVec 32 := 128#32
  let v1490 : BitVec 32 := Scalar.muli v1489 c128_i32_683
  v1490
def k0_mult22 (k0_t5 : Fin k0_t5_loop.trips) : BitVec 32 :=
  let c0_i32_328 : BitVec 32 := 0#32
  let c1_i32_330 : BitVec 32 := 1#32
  let arg25 : BitVec 32 := Scf.iv c0_i32_328 c1_i32_330 k0_t5
  let c4_i32_702 : BitVec 32 := 4#32
  let v1533 : BitVec 32 := Scalar.muli arg25 c4_i32_702
  let c2_i32 : BitVec 32 := 2#32
  let v1534 : BitVec 32 := Scalar.addi v1533 c2_i32
  let c128_i32_703 : BitVec 32 := 128#32
  let v1535 : BitVec 32 := Scalar.muli v1534 c128_i32_703
  v1535
def k0_mult23 (k0_t5 : Fin k0_t5_loop.trips) : BitVec 32 :=
  let c0_i32_328 : BitVec 32 := 0#32
  let c1_i32_330 : BitVec 32 := 1#32
  let arg25 : BitVec 32 := Scf.iv c0_i32_328 c1_i32_330 k0_t5
  let c4_i32_722 : BitVec 32 := 4#32
  let v1578 : BitVec 32 := Scalar.muli arg25 c4_i32_722
  let c3_i32 : BitVec 32 := 3#32
  let v1579 : BitVec 32 := Scalar.addi v1578 c3_i32
  let c128_i32_723 : BitVec 32 := 128#32
  let v1580 : BitVec 32 := Scalar.muli v1579 c128_i32_723
  v1580
def k0_mult24 : BitVec 32 :=
  let c3584_i32_332 : BitVec 32 := 3584#32
  c3584_i32_332
def k0_mult25 : BitVec 32 :=
  let c3584_i32_338 : BitVec 32 := 3584#32
  c3584_i32_338
def k0_mult26 : BitVec 32 :=
  let c3712_i32_381 : BitVec 32 := 3712#32
  c3712_i32_381
def k0_mult27 : BitVec 32 :=
  let c3840_i32_424 : BitVec 32 := 3840#32
  c3840_i32_424
def k0_mult28 : BitVec 32 :=
  let c3968_i32_467 : BitVec 32 := 3968#32
  c3968_i32_467
def k0_mult29 : BitVec 32 :=
  let c4096_i32_510 : BitVec 32 := 4096#32
  c4096_i32_510
def k0_mult30 : BitVec 32 :=
  let c4096_i32_516 : BitVec 32 := 4096#32
  c4096_i32_516
def k0_mult31 : BitVec 32 :=
  let c4224_i32_551 : BitVec 32 := 4224#32
  c4224_i32_551
def k0_mult32 : BitVec 32 :=
  let c4352_i32_586 : BitVec 32 := 4352#32
  c4352_i32_586
def k0_mult33 : BitVec 32 :=
  let c4480_i32_621 : BitVec 32 := 4480#32
  c4480_i32_621
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_14 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_17 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_18 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_19 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

abbrev stage0_0 : Fin 2 → Memref sig .tc .vmem S2x256x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1792x4608 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S36x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2x256x3584 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x28x128x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x4x256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x4x128x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x4x64x256 .i8 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2x4x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2x4x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2x4x64x256 .i8 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2x4x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2x4x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S2x4x256x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S2x4x256x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S2x4x256x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== QkvReferenceIdeal.lean ====
abbrev S2x2048x3584 : Shape := ⟨3, ![2, 2048, 3584]⟩
abbrev S1792x4608 : Shape := ⟨2, ![1792, 4608]⟩
abbrev S4608 : Shape := ⟨1, ![4608]⟩
abbrev S2x2048x64 : Shape := ⟨3, ![2, 2048, 64]⟩
abbrev S_ : Shape := ⟨0, ![]⟩
abbrev S2x2048 : Shape := ⟨2, ![2, 2048]⟩
abbrev S2x2048x1 : Shape := ⟨3, ![2, 2048, 1]⟩
abbrev S4096x3584 : Shape := ⟨2, ![4096, 3584]⟩
abbrev S4096 : Shape := ⟨1, ![4096]⟩
abbrev S4096x1792 : Shape := ⟨2, ![4096, 1792]⟩
abbrev S4096x4608 : Shape := ⟨2, ![4096, 4608]⟩
abbrev S4096x1 : Shape := ⟨2, ![4096, 1]⟩
abbrev S1x4608 : Shape := ⟨2, ![1, 4608]⟩
abbrev S2x2048x4608 : Shape := ⟨3, ![2, 2048, 4608]⟩
abbrev S2x2048x4096 : Shape := ⟨3, ![2, 2048, 4096]⟩
abbrev S2x2048x32x128 : Shape := ⟨4, ![2, 2048, 32, 128]⟩
abbrev S2x2048x512 : Shape := ⟨3, ![2, 2048, 512]⟩
abbrev S2x2048x4x128 : Shape := ⟨4, ![2, 2048, 4, 128]⟩
abbrev S2x2048x1x64 : Shape := ⟨4, ![2, 2048, 1, 64]⟩
abbrev S2x2048x32x64 : Shape := ⟨4, ![2, 2048, 32, 64]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S2x2048x28x128 : Shape := ⟨4, ![2, 2048, 28, 128]⟩
abbrev S2x2048x4 : Shape := ⟨3, ![2, 2048, 4]⟩
abbrev S2x2048x4x1 : Shape := ⟨4, ![2, 2048, 4, 1]⟩
abbrev S2x2048x4x64 : Shape := ⟨4, ![2, 2048, 4, 64]⟩
abbrev S2x28x128x2048 : Shape := ⟨4, ![2, 28, 128, 2048]⟩
abbrev S2x4x64x2048 : Shape := ⟨4, ![2, 4, 64, 2048]⟩
abbrev S2x4x2048 : Shape := ⟨3, ![2, 4, 2048]⟩

abbrev nBuf : Space → Nat
  | .hbm => 221
  | .vmem => 0
  | .smem => 0
  | _ => 0

abbrev hbmTy0_0 (i : Nat) : BufTy := match i % 128 with
  | 0 => ⟨S2x2048x3584, .bf16⟩
  | 1 => ⟨S1792x4608, .i8⟩
  | 2 => ⟨S4608, .f32⟩
  | 3 => ⟨S2x2048x64, .f32⟩
  | 4 => ⟨S2x2048x64, .f32⟩
  | 5 => ⟨S2x2048x3584, .f32⟩
  | 6 => ⟨S2x2048x3584, .f32⟩
  | 7 => ⟨S_, .f32⟩
  | 8 => ⟨S2x2048, .f32⟩
  | 9 => ⟨S2x2048x1, .f32⟩
  | 10 => ⟨S_, .f32⟩
  | 11 => ⟨S2x2048x1, .f32⟩
  | 12 => ⟨S2x2048x1, .f32⟩
  | 13 => ⟨S_, .f32⟩
  | 14 => ⟨S2x2048x1, .f32⟩
  | 15 => ⟨S2x2048x1, .f32⟩
  | 16 => ⟨S2x2048x1, .f32⟩
  | 17 => ⟨S2x2048x3584, .f32⟩
  | 18 => ⟨S2x2048x3584, .f32⟩
  | 19 => ⟨S2x2048x3584, .f32⟩
  | 20 => ⟨S_, .f32⟩
  | 21 => ⟨S2x2048, .f32⟩
  | 22 => ⟨S_, .f32⟩
  | 23 => ⟨S2x2048, .f32⟩
  | 24 => ⟨S2x2048, .i1⟩
  | 25 => ⟨S_, .f32⟩
  | 26 => ⟨S2x2048, .f32⟩
  | 27 => ⟨S2x2048, .f32⟩
  | 28 => ⟨S_, .f32⟩
  | 29 => ⟨S2x2048, .f32⟩
  | 30 => ⟨S2x2048, .f32⟩
  | 31 => ⟨S_, .f32⟩
  | 32 => ⟨S_, .f32⟩
  | 33 => ⟨S2x2048, .f32⟩
  | 34 => ⟨S2x2048, .f32⟩
  | 35 => ⟨S2x2048x1, .f32⟩
  | 36 => ⟨S2x2048x3584, .f32⟩
  | 37 => ⟨S2x2048x3584, .f32⟩
  | 38 => ⟨S2x2048x3584, .f32⟩
  | 39 => ⟨S_, .i32⟩
  | 40 => ⟨S_, .i32⟩
  | 41 => ⟨S_, .f32⟩
  | 42 => ⟨S2x2048x3584, .f32⟩
  | 43 => ⟨S2x2048x3584, .f32⟩
  | 44 => ⟨S_, .f32⟩
  | 45 => ⟨S2x2048x3584, .f32⟩
  | 46 => ⟨S2x2048x3584, .f32⟩
  | 47 => ⟨S4096x3584, .f32⟩
  | 48 => ⟨S4096, .f32⟩
  | 49 => ⟨S4096x3584, .bf16⟩
  | 50 => ⟨S1792x4608, .i32⟩
  | 51 => ⟨S_, .i32⟩
  | 52 => ⟨S1792x4608, .i32⟩
  | 53 => ⟨S1792x4608, .i32⟩
  | 54 => ⟨S_, .i32⟩
  | 55 => ⟨S1792x4608, .i32⟩
  | 56 => ⟨S1792x4608, .i1⟩
  | 57 => ⟨S_, .i32⟩
  | 58 => ⟨S1792x4608, .i32⟩
  | 59 => ⟨S1792x4608, .i32⟩
  | 60 => ⟨S1792x4608, .i32⟩
  | 61 => ⟨S1792x4608, .bf16⟩
  | 62 => ⟨S_, .i32⟩
  | 63 => ⟨S1792x4608, .i32⟩
  | 64 => ⟨S1792x4608, .i32⟩
  | 65 => ⟨S_, .i32⟩
  | 66 => ⟨S1792x4608, .i32⟩
  | 67 => ⟨S1792x4608, .i1⟩
  | 68 => ⟨S_, .i32⟩
  | 69 => ⟨S1792x4608, .i32⟩
  | 70 => ⟨S1792x4608, .i32⟩
  | 71 => ⟨S1792x4608, .i32⟩
  | 72 => ⟨S1792x4608, .bf16⟩
  | 73 => ⟨S4096x1792, .bf16⟩
  | 74 => ⟨S4096x4608, .f32⟩
  | 75 => ⟨S4096x1792, .bf16⟩
  | 76 => ⟨S4096x4608, .f32⟩
  | 77 => ⟨S4096x4608, .f32⟩
  | 78 => ⟨S4096x1, .f32⟩
  | 79 => ⟨S4096x4608, .f32⟩
  | 80 => ⟨S4096x4608, .f32⟩
  | 81 => ⟨S1x4608, .f32⟩
  | 82 => ⟨S4096x4608, .f32⟩
  | 83 => ⟨S4096x4608, .f32⟩
  | 84 => ⟨S2x2048x4608, .f32⟩
  | 85 => ⟨S2x2048x4096, .f32⟩
  | 86 => ⟨S2x2048x32x128, .f32⟩
  | 87 => ⟨S2x2048x512, .f32⟩
  | 88 => ⟨S2x2048x4x128, .f32⟩
  | 89 => ⟨S2x2048x1x64, .f32⟩
  | 90 => ⟨S2x2048x1x64, .f32⟩
  | 91 => ⟨S2x2048x32x64, .f32⟩
  | 92 => ⟨S2x2048x32x64, .f32⟩
  | 93 => ⟨S2x2048x32x64, .f32⟩
  | 94 => ⟨S2x2048x32x64, .f32⟩
  | 95 => ⟨S2x2048x32x64, .f32⟩
  | 96 => ⟨S2x2048x32x64, .f32⟩
  | 97 => ⟨S2x2048x32x64, .f32⟩
  | 98 => ⟨S2x2048x32x64, .f32⟩
  | 99 => ⟨S2x2048x32x64, .f32⟩
  | 100 => ⟨S2x2048x32x64, .f32⟩
  | 101 => ⟨S2x2048x32x64, .f32⟩
  | 102 => ⟨S2x2048x32x64, .f32⟩
  | 103 => ⟨S2x2048x32x128, .f32⟩
  | 104 => ⟨S128, .i32⟩
  | 105 => ⟨S128x1, .i32⟩
  | 106 => ⟨S1x128, .i32⟩
  | 107 => ⟨S128x128, .i32⟩
  | 108 => ⟨S128x128, .i32⟩
  | 109 => ⟨S128x128, .i32⟩
  | 110 => ⟨S128x128, .i32⟩
  | 111 => ⟨S_, .i32⟩
  | 112 => ⟨S128x128, .i32⟩
  | 113 => ⟨S128x128, .i32⟩
  | 114 => ⟨S_, .i32⟩
  | 115 => ⟨S128x128, .i32⟩
  | 116 => ⟨S128x128, .i32⟩
  | 117 => ⟨S_, .i32⟩
  | 118 => ⟨S128x128, .i32⟩
  | 119 => ⟨S128x128, .i32⟩
  | 120 => ⟨S128x128, .f32⟩
  | 121 => ⟨S2x2048x32x128, .f32⟩
  | 122 => ⟨S_, .f32⟩
  | 123 => ⟨S2x2048x32x128, .f32⟩
  | 124 => ⟨S2x2048x32x128, .f32⟩
  | 125 => ⟨S2x2048x28x128, .f32⟩
  | 126 => ⟨S2x2048x4x128, .f32⟩
  | 127 => ⟨S_, .f32⟩
  | _ => ⟨S2x2048x3584, .bf16⟩

abbrev hbmTy0_1 (i : Nat) : BufTy := match i % 128 with
  | 0 => ⟨S2x2048x4, .f32⟩
  | 1 => ⟨S_, .f32⟩
  | 2 => ⟨S2x2048x4, .f32⟩
  | 3 => ⟨S2x2048x4, .f32⟩
  | 4 => ⟨S_, .f32⟩
  | 5 => ⟨S2x2048x4, .f32⟩
  | 6 => ⟨S_, .f32⟩
  | 7 => ⟨S2x2048x4, .f32⟩
  | 8 => ⟨S2x2048x4, .f32⟩
  | 9 => ⟨S2x2048x4, .i1⟩
  | 10 => ⟨S2x2048x4, .f32⟩
  | 11 => ⟨S_, .f32⟩
  | 12 => ⟨S2x2048x4, .f32⟩
  | 13 => ⟨S2x2048x4, .f32⟩
  | 14 => ⟨S_, .f32⟩
  | 15 => ⟨S_, .f32⟩
  | 16 => ⟨S2x2048x4, .f32⟩
  | 17 => ⟨S2x2048x4, .f32⟩
  | 18 => ⟨S2x2048x4x1, .f32⟩
  | 19 => ⟨S2x2048x4x128, .f32⟩
  | 20 => ⟨S2x2048x4x128, .f32⟩
  | 21 => ⟨S2x2048x4x1, .f32⟩
  | 22 => ⟨S2x2048x4x128, .f32⟩
  | 23 => ⟨S2x2048x4x128, .f32⟩
  | 24 => ⟨S2x2048x4x128, .f32⟩
  | 25 => ⟨S_, .i32⟩
  | 26 => ⟨S_, .i32⟩
  | 27 => ⟨S_, .f32⟩
  | 28 => ⟨S2x2048x4x128, .f32⟩
  | 29 => ⟨S2x2048x4x128, .f32⟩
  | 30 => ⟨S_, .f32⟩
  | 31 => ⟨S2x2048x4x128, .f32⟩
  | 32 => ⟨S2x2048x4x128, .f32⟩
  | 33 => ⟨S2x2048x4x128, .i32⟩
  | 34 => ⟨S2x2048x4x64, .i32⟩
  | 35 => ⟨S2x2048x4x64, .i32⟩
  | 36 => ⟨S_, .i32⟩
  | 37 => ⟨S2x2048x4x64, .i32⟩
  | 38 => ⟨S2x2048x4x64, .i32⟩
  | 39 => ⟨S2x2048x4x64, .i32⟩
  | 40 => ⟨S2x2048x4x64, .i8⟩
  | 41 => ⟨S_, .f32⟩
  | 42 => ⟨S2x2048x4, .f32⟩
  | 43 => ⟨S_, .f32⟩
  | 44 => ⟨S2x2048x4, .f32⟩
  | 45 => ⟨S2x2048x4, .f32⟩
  | 46 => ⟨S_, .f32⟩
  | 47 => ⟨S2x2048x4, .f32⟩
  | 48 => ⟨S_, .f32⟩
  | 49 => ⟨S2x2048x4, .f32⟩
  | 50 => ⟨S2x2048x4, .f32⟩
  | 51 => ⟨S2x2048x4, .i1⟩
  | 52 => ⟨S2x2048x4, .f32⟩
  | 53 => ⟨S_, .f32⟩
  | 54 => ⟨S2x2048x4, .f32⟩
  | 55 => ⟨S2x2048x4, .f32⟩
  | 56 => ⟨S_, .f32⟩
  | 57 => ⟨S_, .f32⟩
  | 58 => ⟨S2x2048x4, .f32⟩
  | 59 => ⟨S2x2048x4, .f32⟩
  | 60 => ⟨S2x2048x4x1, .f32⟩
  | 61 => ⟨S2x2048x4x128, .f32⟩
  | 62 => ⟨S2x2048x4x128, .f32⟩
  | 63 => ⟨S2x2048x4x1, .f32⟩
  | 64 => ⟨S2x2048x4x128, .f32⟩
  | 65 => ⟨S2x2048x4x128, .f32⟩
  | 66 => ⟨S2x2048x4x128, .f32⟩
  | 67 => ⟨S_, .i32⟩
  | 68 => ⟨S_, .i32⟩
  | 69 => ⟨S_, .f32⟩
  | 70 => ⟨S2x2048x4x128, .f32⟩
  | 71 => ⟨S2x2048x4x128, .f32⟩
  | 72 => ⟨S_, .f32⟩
  | 73 => ⟨S2x2048x4x128, .f32⟩
  | 74 => ⟨S2x2048x4x128, .f32⟩
  | 75 => ⟨S2x2048x4x128, .i32⟩
  | 76 => ⟨S2x2048x4x64, .i32⟩
  | 77 => ⟨S2x2048x4x64, .i32⟩
  | 78 => ⟨S_, .i32⟩
  | 79 => ⟨S2x2048x4x64, .i32⟩
  | 80 => ⟨S2x2048x4x64, .i32⟩
  | 81 => ⟨S2x2048x4x64, .i32⟩
  | 82 => ⟨S2x2048x4x64, .i8⟩
  | 83 => ⟨S2x2048x3584, .i32⟩
  | 84 => ⟨S2x2048x3584, .i8⟩
  | 85 => ⟨S2x2048x28x128, .bf16⟩
  | 86 => ⟨S2x28x128x2048, .bf16⟩
  | 87 => ⟨S2x4x64x2048, .i8⟩
  | 88 => ⟨S2x4x2048, .f32⟩
  | 89 => ⟨S2x4x2048, .f32⟩
  | 90 => ⟨S2x4x64x2048, .i8⟩
  | 91 => ⟨S2x4x2048, .f32⟩
  | 92 => ⟨S2x4x2048, .f32⟩
  | _ => ⟨S2x2048x3584, .bf16⟩

abbrev hbmTy (i : Nat) : BufTy := match i / 128 with
  | 0 => hbmTy0_0 i
  | 1 => hbmTy0_1 i
  | _ => ⟨S2x2048x3584, .bf16⟩

abbrev bufTy : (tb : Table) → Fin (tcTables nBuf tb) → BufTy
  | .hbm, ⟨i, _⟩ => hbmTy i
  | _, _ => ⟨S2x2048x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_call0_v0 : Ref sig .tc := ⟨.hbm, 32, rfl⟩
abbrev main_call0_v1 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c : Ref sig .tc := ⟨.hbm, 39, rfl⟩
abbrev main_c_7 : Ref sig .tc := ⟨.hbm, 40, rfl⟩
abbrev main_call2_v0 : Ref sig .tc := ⟨.hbm, 41, rfl⟩
abbrev main_call2_v1 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_c_8 : Ref sig .tc := ⟨.hbm, 51, rfl⟩
abbrev main_v29 : Ref sig .tc := ⟨.hbm, 52, rfl⟩
abbrev main_v30 : Ref sig .tc := ⟨.hbm, 53, rfl⟩
abbrev main_c_9 : Ref sig .tc := ⟨.hbm, 54, rfl⟩
abbrev main_v31 : Ref sig .tc := ⟨.hbm, 55, rfl⟩
abbrev main_v32 : Ref sig .tc := ⟨.hbm, 56, rfl⟩
abbrev main_c_10 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_c_11 : Ref sig .tc := ⟨.hbm, 62, rfl⟩
abbrev main_v37 : Ref sig .tc := ⟨.hbm, 63, rfl⟩
abbrev main_v38 : Ref sig .tc := ⟨.hbm, 64, rfl⟩
abbrev main_c_12 : Ref sig .tc := ⟨.hbm, 65, rfl⟩
abbrev main_v39 : Ref sig .tc := ⟨.hbm, 66, rfl⟩
abbrev main_v40 : Ref sig .tc := ⟨.hbm, 67, rfl⟩
abbrev main_c_13 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_c_14 : Ref sig .tc := ⟨.hbm, 111, rfl⟩
abbrev main_v83 : Ref sig .tc := ⟨.hbm, 112, rfl⟩
abbrev main_v84 : Ref sig .tc := ⟨.hbm, 113, rfl⟩
abbrev main_c_15 : Ref sig .tc := ⟨.hbm, 114, rfl⟩
abbrev main_v85 : Ref sig .tc := ⟨.hbm, 115, rfl⟩
abbrev main_v86 : Ref sig .tc := ⟨.hbm, 116, rfl⟩
abbrev main_c_16 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_cst_17 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_cst_18 : Ref sig .tc := ⟨.hbm, 127, rfl⟩
abbrev main_v95 : Ref sig .tc := ⟨.hbm, 128, rfl⟩
abbrev main_cst_19 : Ref sig .tc := ⟨.hbm, 129, rfl⟩
abbrev main_v96 : Ref sig .tc := ⟨.hbm, 130, rfl⟩
abbrev main_v97 : Ref sig .tc := ⟨.hbm, 131, rfl⟩
abbrev main_cst_20 : Ref sig .tc := ⟨.hbm, 132, rfl⟩
abbrev main_v98 : Ref sig .tc := ⟨.hbm, 133, rfl⟩
abbrev main_cst_21 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_cst_22 : Ref sig .tc := ⟨.hbm, 139, rfl⟩
abbrev main_v103 : Ref sig .tc := ⟨.hbm, 140, rfl⟩
abbrev main_v104 : Ref sig .tc := ⟨.hbm, 141, rfl⟩
abbrev main_cst_23 : Ref sig .tc := ⟨.hbm, 142, rfl⟩
abbrev main_call5_v0 : Ref sig .tc := ⟨.hbm, 143, rfl⟩
abbrev main_call5_v1 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_c_24 : Ref sig .tc := ⟨.hbm, 153, rfl⟩
abbrev main_c_25 : Ref sig .tc := ⟨.hbm, 154, rfl⟩
abbrev main_call7_v0 : Ref sig .tc := ⟨.hbm, 155, rfl⟩
abbrev main_call7_v1 : Ref sig .tc := ⟨.hbm, 156, rfl⟩
abbrev main_call7_v2 : Ref sig .tc := ⟨.hbm, 157, rfl⟩
abbrev main_call7_v3 : Ref sig .tc := ⟨.hbm, 158, rfl⟩
abbrev main_call7_v4 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_c_26 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_cst_27 : Ref sig .tc := ⟨.hbm, 169, rfl⟩
abbrev main_v121 : Ref sig .tc := ⟨.hbm, 170, rfl⟩
abbrev main_cst_28 : Ref sig .tc := ⟨.hbm, 171, rfl⟩
abbrev main_v122 : Ref sig .tc := ⟨.hbm, 172, rfl⟩
abbrev main_v123 : Ref sig .tc := ⟨.hbm, 173, rfl⟩
abbrev main_cst_29 : Ref sig .tc := ⟨.hbm, 174, rfl⟩
abbrev main_v124 : Ref sig .tc := ⟨.hbm, 175, rfl⟩
abbrev main_cst_30 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_cst_31 : Ref sig .tc := ⟨.hbm, 181, rfl⟩
abbrev main_v129 : Ref sig .tc := ⟨.hbm, 182, rfl⟩
abbrev main_v130 : Ref sig .tc := ⟨.hbm, 183, rfl⟩
abbrev main_cst_32 : Ref sig .tc := ⟨.hbm, 184, rfl⟩
abbrev main_call8_v0 : Ref sig .tc := ⟨.hbm, 185, rfl⟩
abbrev main_call8_v1 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_c_33 : Ref sig .tc := ⟨.hbm, 195, rfl⟩
abbrev main_c_34 : Ref sig .tc := ⟨.hbm, 196, rfl⟩
abbrev main_call10_v0 : Ref sig .tc := ⟨.hbm, 197, rfl⟩
abbrev main_call10_v1 : Ref sig .tc := ⟨.hbm, 198, rfl⟩
abbrev main_call10_v2 : Ref sig .tc := ⟨.hbm, 199, rfl⟩
abbrev main_call10_v3 : Ref sig .tc := ⟨.hbm, 200, rfl⟩
abbrev main_call10_v4 : Ref sig .tc := ⟨.hbm, 201, rfl⟩
abbrev main_v139 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_c_35 : Ref sig .tc := ⟨.hbm, 206, rfl⟩
abbrev main_v143 : Ref sig .tc := ⟨.hbm, 207, rfl⟩
abbrev main_v144 : Ref sig .tc := ⟨.hbm, 208, rfl⟩
abbrev main_v145 : Ref sig .tc := ⟨.hbm, 209, rfl⟩
abbrev main_v146 : Ref sig .tc := ⟨.hbm, 210, rfl⟩
abbrev main_v147 : Ref sig .tc := ⟨.hbm, 211, rfl⟩
abbrev main_v148 : Ref sig .tc := ⟨.hbm, 212, rfl⟩
abbrev main_v149 : Ref sig .tc := ⟨.hbm, 213, rfl⟩
abbrev main_v150 : Ref sig .tc := ⟨.hbm, 214, rfl⟩
abbrev main_v151 : Ref sig .tc := ⟨.hbm, 215, rfl⟩
abbrev main_v152 : Ref sig .tc := ⟨.hbm, 216, rfl⟩
abbrev main_v153 : Ref sig .tc := ⟨.hbm, 217, rfl⟩
abbrev main_v154 : Ref sig .tc := ⟨.hbm, 218, rfl⟩
abbrev main_v155 : Ref sig .tc := ⟨.hbm, 219, rfl⟩
abbrev main_v156 : Ref sig .tc := ⟨.hbm, 220, rfl⟩

abbrev nD : Nat := 1
abbrev τ : Topo := Topo.v7x

variable {F : FTy → Type} [FloatOps F]
-- ==== Out.lean ====
abbrev S4096x3584 : Shape := ⟨2, ![4096, 3584]⟩
abbrev S1792x3584 : Shape := ⟨2, ![1792, 3584]⟩
abbrev S3584 : Shape := ⟨1, ![3584]⟩
abbrev S1x3584 : Shape := ⟨2, ![1, 3584]⟩
abbrev S16x1x256 : Shape := ⟨3, ![16, 1, 256]⟩
abbrev S256x3584 : Shape := ⟨2, ![256, 3584]⟩
abbrev S1x1x256 : Shape := ⟨3, ![1, 1, 256]⟩
abbrev S3584x3584 : Shape := ⟨2, ![3584, 3584]⟩
abbrev S256x128 : Shape := ⟨2, ![256, 128]⟩
abbrev S256x1x3584 : Shape := ⟨3, ![256, 1, 3584]⟩
abbrev S256x2x3584 : Shape := ⟨3, ![256, 2, 3584]⟩
abbrev S512x3584 : Shape := ⟨2, ![512, 3584]⟩
abbrev S8x128 : Shape := ⟨2, ![8, 128]⟩
abbrev S32x128 : Shape := ⟨2, ![32, 128]⟩
abbrev S32 : Shape := ⟨1, ![32]⟩
abbrev S32x1 : Shape := ⟨2, ![32, 1]⟩
abbrev S32x3584 : Shape := ⟨2, ![32, 3584]⟩
abbrev S128x256 : Shape := ⟨2, ![128, 256]⟩
abbrev S1x256 : Shape := ⟨2, ![1, 256]⟩
abbrev S3584x512 : Shape := ⟨2, ![3584, 512]⟩
abbrev S256x512 : Shape := ⟨2, ![256, 512]⟩
abbrev S1x512 : Shape := ⟨2, ![1, 512]⟩

abbrev nBuf : Space → Nat
  | .hbm => 8
  | .vmem => 17
  | .smem => 0
  | _ => 0

abbrev bufTy : (tb : Table) → Fin (tcTables nBuf tb) → BufTy
  | .hbm, ⟨0, _⟩ => ⟨S4096x3584, .f32⟩
  | .hbm, ⟨1, _⟩ => ⟨S4096x3584, .bf16⟩
  | .hbm, ⟨2, _⟩ => ⟨S1792x3584, .i8⟩
  | .hbm, ⟨3, _⟩ => ⟨S3584, .f32⟩
  | .hbm, ⟨4, _⟩ => ⟨S1x3584, .f32⟩
  | .hbm, ⟨5, _⟩ => ⟨S4096x3584, .bf16⟩
  | .hbm, ⟨6, _⟩ => ⟨S4096x3584, .i8⟩
  | .hbm, ⟨7, _⟩ => ⟨S16x1x256, .f32⟩
  | .local _ .vmem, ⟨0, _⟩ => ⟨S256x3584, .f32⟩
  | .local _ .vmem, ⟨1, _⟩ => ⟨S256x3584, .f32⟩
  | .local _ .vmem, ⟨2, _⟩ => ⟨S256x3584, .bf16⟩
  | .local _ .vmem, ⟨3, _⟩ => ⟨S256x3584, .bf16⟩
  | .local _ .vmem, ⟨4, _⟩ => ⟨S1792x3584, .i8⟩
  | .local _ .vmem, ⟨5, _⟩ => ⟨S1x3584, .f32⟩
  | .local _ .vmem, ⟨6, _⟩ => ⟨S256x3584, .bf16⟩
  | .local _ .vmem, ⟨7, _⟩ => ⟨S256x3584, .bf16⟩
  | .local _ .vmem, ⟨8, _⟩ => ⟨S256x3584, .i8⟩
  | .local _ .vmem, ⟨9, _⟩ => ⟨S256x3584, .i8⟩
  | .local _ .vmem, ⟨10, _⟩ => ⟨S1x1x256, .f32⟩
  | .local _ .vmem, ⟨11, _⟩ => ⟨S1x1x256, .f32⟩
  | .local _ .vmem, ⟨12, _⟩ => ⟨S3584x3584, .bf16⟩
  | .local _ .vmem, ⟨13, _⟩ => ⟨S256x3584, .f32⟩
  | .local _ .vmem, ⟨14, _⟩ => ⟨S256x128, .f32⟩
  | .local _ .vmem, ⟨15, _⟩ => ⟨S256x3584, .bf16⟩
  | .local _ .vmem, ⟨16, _⟩ => ⟨S256x128, .f32⟩
  | _, _ => ⟨S4096x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_94 : BitVec 32 := 0#32
  let c7_i32 : BitVec 32 := 7#32
  let v116 : BitVec 32 := Scalar.addi c0_i32_94 c7_i32
  let c1_i32_95 : BitVec 32 := 1#32
  ⟨c0_i32_94, v116, c1_i32_95⟩
def k0_mult1 (k0_t1 : Fin k0_t1_loop.trips) : BitVec 32 :=
  let c0_i32_94 : BitVec 32 := 0#32
  let c1_i32_95 : BitVec 32 := 1#32
  let arg13 : BitVec 32 := Scf.iv c0_i32_94 c1_i32_95 k0_t1
  let c256_i32 : BitVec 32 := 256#32
  let v117 : BitVec 32 := Scalar.muli arg13 c256_i32
  v117
def k0_off1 (k0_t1 : Fin k0_t1_loop.trips) : Fin 2 → Nat :=
  let c0_i32_94 : BitVec 32 := 0#32
  let c1_i32_95 : BitVec 32 := 1#32
  let arg13 : BitVec 32 := Scf.iv c0_i32_94 c1_i32_95 k0_t1
  let c256_i32 : BitVec 32 := 256#32
  let v117 : BitVec 32 := Scalar.muli arg13 c256_i32
  let v118 : BitVec 32 := v117
  let v119 : Index := Scalar.indexCast v118
  let c0_97 : Index := 0#32
  ![v119.toNat, 0]
def k0_off2 (k0_t1 : Fin k0_t1_loop.trips) : Fin 2 → Nat :=
  let c2_i32 : BitVec 32 := 2#32
  let c0_i32_94 : BitVec 32 := 0#32
  let c1_i32_95 : BitVec 32 := 1#32
  let arg13 : BitVec 32 := Scf.iv c0_i32_94 c1_i32_95 k0_t1
  let c256_i32 : BitVec 32 := 256#32
  let v117 : BitVec 32 := Scalar.muli arg13 c256_i32
  let v118 : BitVec 32 := v117
  let v135 : BitVec 32 := Scalar.muli c2_i32 v118
  let v136 : Index := Scalar.indexCast v135
  let c0_100 : Index := 0#32
  ![v136.toNat, 0]
@[reducible] def k0_t2_loop : Scf.Loop 32 :=
  let c0_i32_1 : BitVec 32 := 0#32
  let c32_i32 : BitVec 32 := 32#32
  let v3 : BitVec 32 := Scalar.addi c0_i32_1 c32_i32
  let c1_i32 : BitVec 32 := 1#32
  ⟨c0_i32_1, v3, c1_i32⟩
def k0_mult2 (k0_t2 : Fin k0_t2_loop.trips) : BitVec 32 :=
  let c0_i32_1 : BitVec 32 := 0#32
  let c1_i32 : BitVec 32 := 1#32
  let arg13 : BitVec 32 := Scf.iv c0_i32_1 c1_i32 k0_t2
  let c8_i32_94 : BitVec 32 := 8#32
  let v116 : BitVec 32 := Scalar.muli arg13 c8_i32_94
  v116
def k0_off3 (k0_t2 : Fin k0_t2_loop.trips) : Fin 2 → Nat :=
  let c0_i32_1 : BitVec 32 := 0#32
  let c1_i32 : BitVec 32 := 1#32
  let arg13 : BitVec 32 := Scf.iv c0_i32_1 c1_i32 k0_t2
  let c8_i32_94 : BitVec 32 := 8#32
  let v116 : BitVec 32 := Scalar.muli arg13 c8_i32_94
  let v117 : BitVec 32 := v116
  let v118 : Index := Scalar.indexCast v117
  let c0_95 : Index := 0#32
  ![v118.toNat, 0]
def k0_off4 (k0_t2 : Fin k0_t2_loop.trips) : Fin 2 → Nat :=
  let c0_i32_1 : BitVec 32 := 0#32
  let c1_i32 : BitVec 32 := 1#32
  let arg13 : BitVec 32 := Scf.iv c0_i32_1 c1_i32 k0_t2
  let c8_i32_94 : BitVec 32 := 8#32
  let v116 : BitVec 32 := Scalar.muli arg13 c8_i32_94
  let v117 : BitVec 32 := v116
  let v120 : Index := Scalar.indexCast v117
  let c128 : Index := 128#32
  ![v120.toNat, 128]
def k0_off5 (k0_t2 : Fin k0_t2_loop.trips) : Fin 2 → Nat :=
  let c0_i32_1 : BitVec 32 := 0#32
  let c1_i32 : BitVec 32 := 1#32
  let arg13 : BitVec 32 := Scf.iv c0_i32_1 c1_i32 k0_t2
  let c8_i32_94 : BitVec 32 := 8#32
  let v116 : BitVec 32 := Scalar.muli arg13 c8_i32_94
  let v117 : BitVec 32 := v116
  let v122 : Index := Scalar.indexCast v117
  let c256 : Index := 256#32
  ![v122.toNat, 256]
def k0_off6 (k0_t2 : Fin k0_t2_loop.trips) : Fin 2 → Nat :=
  let c0_i32_1 : BitVec 32 := 0#32
  let c1_i32 : BitVec 32 := 1#32
  let arg13 : BitVec 32 := Scf.iv c0_i32_1 c1_i32 k0_t2
  let c8_i32_94 : BitVec 32 := 8#32
  let v116 : BitVec 32 := Scalar.muli arg13 c8_i32_94
  let v117 : BitVec 32 := v116
  let v124 : Index := Scalar.indexCast v117
  let c384 : Index := 384#32
  ![v124.toNat, 384]
def k0_off7 (k0_t2 : Fin k0_t2_loop.trips) : Fin 2 → Nat :=
  let c0_i32_1 : BitVec 32 := 0#32
  let c1_i32 : BitVec 32 := 1#32
  let arg13 : BitVec 32 := Scf.iv c0_i32_1 c1_i32 k0_t2
  let c8_i32_94 : BitVec 32 := 8#32
  let v116 : BitVec 32 := Scalar.muli arg13 c8_i32_94
  let v117 : BitVec 32 := v116
  let v126 : Index := Scalar.indexCast v117
  let c512_96 : Index := 512#32
  ![v126.toNat, 512]
def k0_off8 (k0_t2 : Fin k0_t2_loop.trips) : Fin 2 → Nat :=
  let c0_i32_1 : BitVec 32 := 0#32
  let c1_i32 : BitVec 32 := 1#32
  let arg13 : BitVec 32 := Scf.iv c0_i32_1 c1_i32 k0_t2
  let c8_i32_94 : BitVec 32 := 8#32
  let v116 : BitVec 32 := Scalar.muli arg13 c8_i32_94
  let v117 : BitVec 32 := v116
  let v128 : Index := Scalar.indexCast v117
  let c640 : Index := 640#32
  ![v128.toNat, 640]
def k0_off9 (k0_t2 : Fin k0_t2_loop.trips) : Fin 2 → Nat :=
  let c0_i32_1 : BitVec 32 := 0#32
  let c1_i32 : BitVec 32 := 1#32
  let arg13 : BitVec 32 := Scf.iv c0_i32_1 c1_i32 k0_t2
  let c8_i32_94 : BitVec 32 := 8#32
  let v116 : BitVec 32 := Scalar.muli arg13 c8_i32_94
  let v117 : BitVec 32 := v116
  let v130 : Index := Scalar.indexCast v117
  let c768 : Index := 768#32
  ![v130.toNat, 768]
def k0_off10 (k0_t2 : Fin k0_t2_loop.trips) : Fin 2 → Nat :=
  let c0_i32_1 : BitVec 32 := 0#32
  let c1_i32 : BitVec 32 := 1#32
  let arg13 : BitVec 32 := Scf.iv c0_i32_1 c1_i32 k0_t2
  let c8_i32_94 : BitVec 32 := 8#32
  let v116 : BitVec 32 := Scalar.muli arg13 c8_i32_94
  let v117 : BitVec 32 := v116
  let v132 : Index := Scalar.indexCast v117
  let c896 : Index := 896#32
  ![v132.toNat, 896]
def k0_off11 (k0_t2 : Fin k0_t2_loop.trips) : Fin 2 → Nat :=
  let c0_i32_1 : BitVec 32 := 0#32
  let c1_i32 : BitVec 32 := 1#32
  let arg13 : BitVec 32 := Scf.iv c0_i32_1 c1_i32 k0_t2
  let c8_i32_94 : BitVec 32 := 8#32
  let v116 : BitVec 32 := Scalar.muli arg13 c8_i32_94
  let v117 : BitVec 32 := v116
  let v134 : Index := Scalar.indexCast v117
  let c1024_97 : Index := 1024#32
  ![v134.toNat, 1024]
def k0_off12 (k0_t2 : Fin k0_t2_loop.trips) : Fin 2 → Nat :=
  let c0_i32_1 : BitVec 32 := 0#32
  let c1_i32 : BitVec 32 := 1#32
  let arg13 : BitVec 32 := Scf.iv c0_i32_1 c1_i32 k0_t2
  let c8_i32_94 : BitVec 32 := 8#32
  let v116 : BitVec 32 := Scalar.muli arg13 c8_i32_94
  let v117 : BitVec 32 := v116
  let v136 : Index := Scalar.indexCast v117
  let c1152 : Index := 1152#32
  ![v136.toNat, 1152]
def k0_off13 (k0_t2 : Fin k0_t2_loop.trips) : Fin 2 → Nat :=
  let c0_i32_1 : BitVec 32 := 0#32
  let c1_i32 : BitVec 32 := 1#32
  let arg13 : BitVec 32 := Scf.iv c0_i32_1 c1_i32 k0_t2
  let c8_i32_94 : BitVec 32 := 8#32
  let v116 : BitVec 32 := Scalar.muli arg13 c8_i32_94
  let v117 : BitVec 32 := v116
  let v138 : Index := Scalar.indexCast v117
  let c1280 : Index := 1280#32
  ![v138.toNat, 1280]
def k0_off14 (k0_t2 : Fin k0_t2_loop.trips) : Fin 2 → Nat :=
  let c0_i32_1 : BitVec 32 := 0#32
  let c1_i32 : BitVec 32 := 1#32
  let arg13 : BitVec 32 := Scf.iv c0_i32_1 c1_i32 k0_t2
  let c8_i32_94 : BitVec 32 := 8#32
  let v116 : BitVec 32 := Scalar.muli arg13 c8_i32_94
  let v117 : BitVec 32 := v116
  let v140 : Index := Scalar.indexCast v117
  let c1408 : Index := 1408#32
  ![v140.toNat, 1408]
def k0_off15 (k0_t2 : Fin k0_t2_loop.trips) : Fin 2 → Nat :=
  let c0_i32_1 : BitVec 32 := 0#32
  let c1_i32 : BitVec 32 := 1#32
  let arg13 : BitVec 32 := Scf.iv c0_i32_1 c1_i32 k0_t2
  let c8_i32_94 : BitVec 32 := 8#32
  let v116 : BitVec 32 := Scalar.muli arg13 c8_i32_94
  let v117 : BitVec 32 := v116
  let v142 : Index := Scalar.indexCast v117
  let c1536_98 : Index := 1536#32
  ![v142.toNat, 1536]
def k0_off16 (k0_t2 : Fin k0_t2_loop.trips) : Fin 2 → Nat :=
  let c0_i32_1 : BitVec 32 := 0#32
  let c1_i32 : BitVec 32 := 1#32
  let arg13 : BitVec 32 := Scf.iv c0_i32_1 c1_i32 k0_t2
  let c8_i32_94 : BitVec 32 := 8#32
  let v116 : BitVec 32 := Scalar.muli arg13 c8_i32_94
  let v117 : BitVec 32 := v116
  let v144 : Index := Scalar.indexCast v117
  let c1664 : Index := 1664#32
  ![v144.toNat, 1664]
def k0_off17 (k0_t2 : Fin k0_t2_loop.trips) : Fin 2 → Nat :=
  let c0_i32_1 : BitVec 32 := 0#32
  let c1_i32 : BitVec 32 := 1#32
  let arg13 : BitVec 32 := Scf.iv c0_i32_1 c1_i32 k0_t2
  let c8_i32_94 : BitVec 32 := 8#32
  let v116 : BitVec 32 := Scalar.muli arg13 c8_i32_94
  let v117 : BitVec 32 := v116
  let v146 : Index := Scalar.indexCast v117
  let c1792 : Index := 1792#32
  ![v146.toNat, 1792]
def k0_off18 (k0_t2 : Fin k0_t2_loop.trips) : Fin 2 → Nat :=
  let c0_i32_1 : BitVec 32 := 0#32
  let c1_i32 : BitVec 32 := 1#32
  let arg13 : BitVec 32 := Scf.iv c0_i32_1 c1_i32 k0_t2
  let c8_i32_94 : BitVec 32 := 8#32
  let v116 : BitVec 32 := Scalar.muli arg13 c8_i32_94
  let v117 : BitVec 32 := v116
  let v148 : Index := Scalar.indexCast v117
  let c1920 : Index := 1920#32
  ![v148.toNat, 1920]
def k0_off19 (k0_t2 : Fin k0_t2_loop.trips) : Fin 2 → Nat :=
  let c0_i32_1 : BitVec 32 := 0#32
  let c1_i32 : BitVec 32 := 1#32
  let arg13 : BitVec 32 := Scf.iv c0_i32_1 c1_i32 k0_t2
  let c8_i32_94 : BitVec 32 := 8#32
  let v116 : BitVec 32 := Scalar.muli arg13 c8_i32_94
  let v117 : BitVec 32 := v116
  let v150 : Index := Scalar.indexCast v117
  let c2048_99 : Index := 2048#32
  ![v150.toNat, 2048]
def k0_off20 (k0_t2 : Fin k0_t2_loop.trips) : Fin 2 → Nat :=
  let c0_i32_1 : BitVec 32 := 0#32
  let c1_i32 : BitVec 32 := 1#32
  let arg13 : BitVec 32 := Scf.iv c0_i32_1 c1_i32 k0_t2
  let c8_i32_94 : BitVec 32 := 8#32
  let v116 : BitVec 32 := Scalar.muli arg13 c8_i32_94
  let v117 : BitVec 32 := v116
  let v152 : Index := Scalar.indexCast v117
  let c2176 : Index := 2176#32
  ![v152.toNat, 2176]
def k0_off21 (k0_t2 : Fin k0_t2_loop.trips) : Fin 2 → Nat :=
  let c0_i32_1 : BitVec 32 := 0#32
  let c1_i32 : BitVec 32 := 1#32
  let arg13 : BitVec 32 := Scf.iv c0_i32_1 c1_i32 k0_t2
  let c8_i32_94 : BitVec 32 := 8#32
  let v116 : BitVec 32 := Scalar.muli arg13 c8_i32_94
  let v117 : BitVec 32 := v116
  let v154 : Index := Scalar.indexCast v117
  let c2304 : Index := 2304#32
  ![v154.toNat, 2304]
def k0_off22 (k0_t2 : Fin k0_t2_loop.trips) : Fin 2 → Nat :=
  let c0_i32_1 : BitVec 32 := 0#32
  let c1_i32 : BitVec 32 := 1#32
  let arg13 : BitVec 32 := Scf.iv c0_i32_1 c1_i32 k0_t2
  let c8_i32_94 : BitVec 32 := 8#32
  let v116 : BitVec 32 := Scalar.muli arg13 c8_i32_94
  let v117 : BitVec 32 := v116
  let v156 : Index := Scalar.indexCast v117
  let c2432 : Index := 2432#32
  ![v156.toNat, 2432]
def k0_off23 (k0_t2 : Fin k0_t2_loop.trips) : Fin 2 → Nat :=
  let c0_i32_1 : BitVec 32 := 0#32
  let c1_i32 : BitVec 32 := 1#32
  let arg13 : BitVec 32 := Scf.iv c0_i32_1 c1_i32 k0_t2
  let c8_i32_94 : BitVec 32 := 8#32
  let v116 : BitVec 32 := Scalar.muli arg13 c8_i32_94
  let v117 : BitVec 32 := v116
  let v158 : Index := Scalar.indexCast v117
  let c2560_100 : Index := 2560#32
  ![v158.toNat, 2560]
def k0_off24 (k0_t2 : Fin k0_t2_loop.trips) : Fin 2 → Nat :=
  let c0_i32_1 : BitVec 32 := 0#32
  let c1_i32 : BitVec 32 := 1#32
  let arg13 : BitVec 32 := Scf.iv c0_i32_1 c1_i32 k0_t2
  let c8_i32_94 : BitVec 32 := 8#32
  let v116 : BitVec 32 := Scalar.muli arg13 c8_i32_94
  let v117 : BitVec 32 := v116
  let v160 : Index := Scalar.indexCast v117
  let c2688 : Index := 2688#32
  ![v160.toNat, 2688]
def k0_off25 (k0_t2 : Fin k0_t2_loop.trips) : Fin 2 → Nat :=
  let c0_i32_1 : BitVec 32 := 0#32
  let c1_i32 : BitVec 32 := 1#32
  let arg13 : BitVec 32 := Scf.iv c0_i32_1 c1_i32 k0_t2
  let c8_i32_94 : BitVec 32 := 8#32
  let v116 : BitVec 32 := Scalar.muli arg13 c8_i32_94
  let v117 : BitVec 32 := v116
  let v162 : Index := Scalar.indexCast v117
  let c2816 : Index := 2816#32
  ![v162.toNat, 2816]
def k0_off26 (k0_t2 : Fin k0_t2_loop.trips) : Fin 2 → Nat :=
  let c0_i32_1 : BitVec 32 := 0#32
  let c1_i32 : BitVec 32 := 1#32
  let arg13 : BitVec 32 := Scf.iv c0_i32_1 c1_i32 k0_t2
  let c8_i32_94 : BitVec 32 := 8#32
  let v116 : BitVec 32 := Scalar.muli arg13 c8_i32_94
  let v117 : BitVec 32 := v116
  let v164 : Index := Scalar.indexCast v117
  let c2944 : Index := 2944#32
  ![v164.toNat, 2944]
def k0_off27 (k0_t2 : Fin k0_t2_loop.trips) : Fin 2 → Nat :=
  let c0_i32_1 : BitVec 32 := 0#32
  let c1_i32 : BitVec 32 := 1#32
  let arg13 : BitVec 32 := Scf.iv c0_i32_1 c1_i32 k0_t2
  let c8_i32_94 : BitVec 32 := 8#32
  let v116 : BitVec 32 := Scalar.muli arg13 c8_i32_94
  let v117 : BitVec 32 := v116
  let v166 : Index := Scalar.indexCast v117
  let c3072_101 : Index := 3072#32
  ![v166.toNat, 3072]
def k0_off28 (k0_t2 : Fin k0_t2_loop.trips) : Fin 2 → Nat :=
  let c0_i32_1 : BitVec 32 := 0#32
  let c1_i32 : BitVec 32 := 1#32
  let arg13 : BitVec 32 := Scf.iv c0_i32_1 c1_i32 k0_t2
  let c8_i32_94 : BitVec 32 := 8#32
  let v116 : BitVec 32 := Scalar.muli arg13 c8_i32_94
  let v117 : BitVec 32 := v116
  let v168 : Index := Scalar.indexCast v117
  let c3200 : Index := 3200#32
  ![v168.toNat, 3200]
def k0_off29 (k0_t2 : Fin k0_t2_loop.trips) : Fin 2 → Nat :=
  let c0_i32_1 : BitVec 32 := 0#32
  let c1_i32 : BitVec 32 := 1#32
  let arg13 : BitVec 32 := Scf.iv c0_i32_1 c1_i32 k0_t2
  let c8_i32_94 : BitVec 32 := 8#32
  let v116 : BitVec 32 := Scalar.muli arg13 c8_i32_94
  let v117 : BitVec 32 := v116
  let v170 : Index := Scalar.indexCast v117
  let c3328 : Index := 3328#32
  ![v170.toNat, 3328]
def k0_off30 (k0_t2 : Fin k0_t2_loop.trips) : Fin 2 → Nat :=
  let c0_i32_1 : BitVec 32 := 0#32
  let c1_i32 : BitVec 32 := 1#32
  let arg13 : BitVec 32 := Scf.iv c0_i32_1 c1_i32 k0_t2
  let c8_i32_94 : BitVec 32 := 8#32
  let v116 : BitVec 32 := Scalar.muli arg13 c8_i32_94
  let v117 : BitVec 32 := v116
  let v172 : Index := Scalar.indexCast v117
  let c3456 : Index := 3456#32
  ![v172.toNat, 3456]
def k0_off31 (k0_t2 : Fin k0_t2_loop.trips) : Fin 2 → Nat :=
  let c0_i32_1 : BitVec 32 := 0#32
  let c1_i32 : BitVec 32 := 1#32
  let arg13 : BitVec 32 := Scf.iv c0_i32_1 c1_i32 k0_t2
  let c8_i32_94 : BitVec 32 := 8#32
  let v116 : BitVec 32 := Scalar.muli arg13 c8_i32_94
  let v117 : BitVec 32 := v116
  let v639 : Index := Scalar.indexCast v117
  let c0_173 : Index := 0#32
  ![v639.toNat, 0]
@[reducible] def k0_t3_loop : Scf.Loop 32 :=
  let c0_i32_3 : BitVec 32 := 0#32
  let c8_i32 : BitVec 32 := 8#32
  let v4 : BitVec 32 := Scalar.addi c0_i32_3 c8_i32
  let c1_i32_4 : BitVec 32 := 1#32
  ⟨c0_i32_3, v4, c1_i32_4⟩
def k0_mult3 (k0_t3 : Fin k0_t3_loop.trips) : BitVec 32 :=
  let c0_i32_3 : BitVec 32 := 0#32
  let c1_i32_4 : BitVec 32 := 1#32
  let arg13 : BitVec 32 := Scf.iv c0_i32_3 c1_i32_4 k0_t3
  let c32_i32_94 : BitVec 32 := 32#32
  let v116 : BitVec 32 := Scalar.muli arg13 c32_i32_94
  v116
def k0_off32 (k0_t3 : Fin k0_t3_loop.trips) : Fin 2 → Nat :=
  let c0_i32_3 : BitVec 32 := 0#32
  let c1_i32_4 : BitVec 32 := 1#32
  let arg13 : BitVec 32 := Scf.iv c0_i32_3 c1_i32_4 k0_t3
  let c32_i32_94 : BitVec 32 := 32#32
  let v116 : BitVec 32 := Scalar.muli arg13 c32_i32_94
  let v117 : BitVec 32 := v116
  let v118 : Index := Scalar.indexCast v117
  let c0_95 : Index := 0#32
  ![v118.toNat, 0]
def k0_off33 (k0_t3 : Fin k0_t3_loop.trips) : Fin 2 → Nat :=
  let c0_i32_3 : BitVec 32 := 0#32
  let c1_i32_4 : BitVec 32 := 1#32
  let arg13 : BitVec 32 := Scf.iv c0_i32_3 c1_i32_4 k0_t3
  let c32_i32_94 : BitVec 32 := 32#32
  let v116 : BitVec 32 := Scalar.muli arg13 c32_i32_94
  let v117 : BitVec 32 := v116
  let v130 : Index := Scalar.indexCast v117
  let c0_101 : Index := 0#32
  ![v130.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x3584 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1792x3584 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x3584 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x3584 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutReferenceIdeal.lean ====
abbrev S4096x3584 : Shape := ⟨2, ![4096, 3584]⟩
abbrev S1792x3584 : Shape := ⟨2, ![1792, 3584]⟩
abbrev S3584 : Shape := ⟨1, ![3584]⟩
abbrev S28x28 : Shape := ⟨2, ![28, 28]⟩
abbrev S_ : Shape := ⟨0, ![]⟩
abbrev S4096x28x128 : Shape := ⟨3, ![4096, 28, 128]⟩
abbrev S4096x128x28 : Shape := ⟨3, ![4096, 128, 28]⟩
abbrev S4096 : Shape := ⟨1, ![4096]⟩
abbrev S4096x1 : Shape := ⟨2, ![4096, 1]⟩
abbrev S4096x1792 : Shape := ⟨2, ![4096, 1792]⟩
abbrev S1x3584 : Shape := ⟨2, ![1, 3584]⟩
abbrev S16x1x256 : Shape := ⟨3, ![16, 1, 256]⟩

abbrev nBuf : Space → Nat
  | .hbm => 166
  | .vmem => 0
  | .smem => 0
  | _ => 0

abbrev hbmTy0_0 (i : Nat) : BufTy := match i % 128 with
  | 0 => ⟨S4096x3584, .f32⟩
  | 1 => ⟨S4096x3584, .bf16⟩
  | 2 => ⟨S1792x3584, .i8⟩
  | 3 => ⟨S3584, .f32⟩
  | 4 => ⟨S28x28, .i32⟩
  | 5 => ⟨S28x28, .i32⟩
  | 6 => ⟨S_, .i32⟩
  | 7 => ⟨S28x28, .i32⟩
  | 8 => ⟨S28x28, .i32⟩
  | 9 => ⟨S_, .i32⟩
  | 10 => ⟨S28x28, .i32⟩
  | 11 => ⟨S28x28, .i32⟩
  | 12 => ⟨S28x28, .i32⟩
  | 13 => ⟨S_, .i32⟩
  | 14 => ⟨S28x28, .i32⟩
  | 15 => ⟨S28x28, .i32⟩
  | 16 => ⟨S_, .i32⟩
  | 17 => ⟨S28x28, .i32⟩
  | 18 => ⟨S28x28, .i32⟩
  | 19 => ⟨S_, .i32⟩
  | 20 => ⟨S28x28, .i32⟩
  | 21 => ⟨S28x28, .i1⟩
  | 22 => ⟨S_, .i32⟩
  | 23 => ⟨S28x28, .i32⟩
  | 24 => ⟨S28x28, .i1⟩
  | 25 => ⟨S28x28, .i1⟩
  | 26 => ⟨S_, .i32⟩
  | 27 => ⟨S28x28, .i32⟩
  | 28 => ⟨S28x28, .i1⟩
  | 29 => ⟨S28x28, .i1⟩
  | 30 => ⟨S_, .i32⟩
  | 31 => ⟨S28x28, .i32⟩
  | 32 => ⟨S28x28, .i1⟩
  | 33 => ⟨S28x28, .i1⟩
  | 34 => ⟨S_, .i32⟩
  | 35 => ⟨S28x28, .i32⟩
  | 36 => ⟨S28x28, .i1⟩
  | 37 => ⟨S28x28, .i1⟩
  | 38 => ⟨S_, .i32⟩
  | 39 => ⟨S28x28, .i32⟩
  | 40 => ⟨S28x28, .i1⟩
  | 41 => ⟨S28x28, .i1⟩
  | 42 => ⟨S28x28, .i1⟩
  | 43 => ⟨S_, .i32⟩
  | 44 => ⟨S28x28, .i32⟩
  | 45 => ⟨S28x28, .i1⟩
  | 46 => ⟨S_, .i32⟩
  | 47 => ⟨S28x28, .i32⟩
  | 48 => ⟨S28x28, .i1⟩
  | 49 => ⟨S28x28, .i1⟩
  | 50 => ⟨S28x28, .i1⟩
  | 51 => ⟨S_, .i32⟩
  | 52 => ⟨S_, .i32⟩
  | 53 => ⟨S28x28, .i32⟩
  | 54 => ⟨S28x28, .i32⟩
  | 55 => ⟨S28x28, .i32⟩
  | 56 => ⟨S_, .i32⟩
  | 57 => ⟨S28x28, .i32⟩
  | 58 => ⟨S28x28, .i32⟩
  | 59 => ⟨S28x28, .i32⟩
  | 60 => ⟨S_, .i32⟩
  | 61 => ⟨S28x28, .i32⟩
  | 62 => ⟨S28x28, .i32⟩
  | 63 => ⟨S_, .i32⟩
  | 64 => ⟨S28x28, .i32⟩
  | 65 => ⟨S28x28, .i32⟩
  | 66 => ⟨S_, .i32⟩
  | 67 => ⟨S28x28, .i32⟩
  | 68 => ⟨S28x28, .i32⟩
  | 69 => ⟨S28x28, .i32⟩
  | 70 => ⟨S28x28, .i32⟩
  | 71 => ⟨S28x28, .i1⟩
  | 72 => ⟨S28x28, .i32⟩
  | 73 => ⟨S_, .i32⟩
  | 74 => ⟨S28x28, .i32⟩
  | 75 => ⟨S28x28, .i32⟩
  | 76 => ⟨S_, .i32⟩
  | 77 => ⟨S28x28, .i32⟩
  | 78 => ⟨S28x28, .i1⟩
  | 79 => ⟨S_, .i32⟩
  | 80 => ⟨S_, .i32⟩
  | 81 => ⟨S28x28, .i32⟩
  | 82 => ⟨S28x28, .i32⟩
  | 83 => ⟨S28x28, .i32⟩
  | 84 => ⟨S_, .i32⟩
  | 85 => ⟨S28x28, .i32⟩
  | 86 => ⟨S28x28, .i32⟩
  | 87 => ⟨S28x28, .i32⟩
  | 88 => ⟨S28x28, .i32⟩
  | 89 => ⟨S28x28, .f32⟩
  | 90 => ⟨S4096x28x128, .f32⟩
  | 91 => ⟨S4096x128x28, .f32⟩
  | 92 => ⟨S4096x28x128, .f32⟩
  | 93 => ⟨S_, .f32⟩
  | 94 => ⟨S4096x28x128, .f32⟩
  | 95 => ⟨S4096x28x128, .f32⟩
  | 96 => ⟨S4096x3584, .f32⟩
  | 97 => ⟨S4096x3584, .f32⟩
  | 98 => ⟨S_, .f32⟩
  | 99 => ⟨S4096, .f32⟩
  | 100 => ⟨S_, .f32⟩
  | 101 => ⟨S4096, .f32⟩
  | 102 => ⟨S4096, .i1⟩
  | 103 => ⟨S_, .f32⟩
  | 104 => ⟨S4096, .f32⟩
  | 105 => ⟨S4096, .f32⟩
  | 106 => ⟨S_, .f32⟩
  | 107 => ⟨S4096, .f32⟩
  | 108 => ⟨S4096, .f32⟩
  | 109 => ⟨S_, .f32⟩
  | 110 => ⟨S_, .f32⟩
  | 111 => ⟨S4096, .f32⟩
  | 112 => ⟨S4096, .f32⟩
  | 113 => ⟨S4096x1, .f32⟩
  | 114 => ⟨S4096x3584, .f32⟩
  | 115 => ⟨S4096x3584, .f32⟩
  | 116 => ⟨S4096x3584, .f32⟩
  | 117 => ⟨S_, .i32⟩
  | 118 => ⟨S_, .i32⟩
  | 119 => ⟨S_, .f32⟩
  | 120 => ⟨S4096x3584, .f32⟩
  | 121 => ⟨S4096x3584, .f32⟩
  | 122 => ⟨S_, .f32⟩
  | 123 => ⟨S4096x3584, .f32⟩
  | 124 => ⟨S4096x3584, .f32⟩
  | 125 => ⟨S4096x3584, .bf16⟩
  | 126 => ⟨S1792x3584, .i32⟩
  | 127 => ⟨S_, .i32⟩
  | _ => ⟨S4096x3584, .f32⟩

abbrev hbmTy0_1 (i : Nat) : BufTy := match i % 128 with
  | 0 => ⟨S1792x3584, .i32⟩
  | 1 => ⟨S1792x3584, .i32⟩
  | 2 => ⟨S_, .i32⟩
  | 3 => ⟨S1792x3584, .i32⟩
  | 4 => ⟨S1792x3584, .i1⟩
  | 5 => ⟨S_, .i32⟩
  | 6 => ⟨S1792x3584, .i32⟩
  | 7 => ⟨S1792x3584, .i32⟩
  | 8 => ⟨S1792x3584, .i32⟩
  | 9 => ⟨S1792x3584, .bf16⟩
  | 10 => ⟨S_, .i32⟩
  | 11 => ⟨S1792x3584, .i32⟩
  | 12 => ⟨S1792x3584, .i32⟩
  | 13 => ⟨S_, .i32⟩
  | 14 => ⟨S1792x3584, .i32⟩
  | 15 => ⟨S1792x3584, .i1⟩
  | 16 => ⟨S_, .i32⟩
  | 17 => ⟨S1792x3584, .i32⟩
  | 18 => ⟨S1792x3584, .i32⟩
  | 19 => ⟨S1792x3584, .i32⟩
  | 20 => ⟨S1792x3584, .bf16⟩
  | 21 => ⟨S4096x1792, .bf16⟩
  | 22 => ⟨S4096x3584, .f32⟩
  | 23 => ⟨S4096x1792, .bf16⟩
  | 24 => ⟨S4096x3584, .f32⟩
  | 25 => ⟨S4096x3584, .f32⟩
  | 26 => ⟨S4096x1, .f32⟩
  | 27 => ⟨S4096x3584, .f32⟩
  | 28 => ⟨S4096x3584, .f32⟩
  | 29 => ⟨S1x3584, .f32⟩
  | 30 => ⟨S4096x3584, .f32⟩
  | 31 => ⟨S4096x3584, .f32⟩
  | 32 => ⟨S4096x3584, .f32⟩
  | 33 => ⟨S4096x3584, .f32⟩
  | 34 => ⟨S4096x3584, .bf16⟩
  | 35 => ⟨S4096x3584, .i32⟩
  | 36 => ⟨S4096x3584, .i8⟩
  | 37 => ⟨S16x1x256, .f32⟩
  | _ => ⟨S4096x3584, .f32⟩

abbrev hbmTy (i : Nat) : BufTy := match i / 128 with
  | 0 => hbmTy0_0 i
  | 1 => hbmTy0_1 i
  | _ => ⟨S4096x3584, .f32⟩

abbrev bufTy : (tb : Table) → Fin (tcTables nBuf tb) → BufTy
  | .hbm, ⟨i, _⟩ => hbmTy i
  | _, _ => ⟨S4096x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_c_3 : Ref sig .tc := ⟨.hbm, 19, rfl⟩
abbrev main_v11 : Ref sig .tc := ⟨.hbm, 20, rfl⟩
abbrev main_v12 : Ref sig .tc := ⟨.hbm, 21, rfl⟩
abbrev main_c_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_9 : Ref sig .tc := ⟨.hbm, 43, rfl⟩
abbrev main_v29 : Ref sig .tc := ⟨.hbm, 44, rfl⟩
abbrev main_v30 : Ref sig .tc := ⟨.hbm, 45, rfl⟩
abbrev main_c_10 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c_11 : Ref sig .tc := ⟨.hbm, 51, rfl⟩
abbrev main_c_12 : Ref sig .tc := ⟨.hbm, 52, rfl⟩
abbrev main_call0_v0 : Ref sig .tc := ⟨.hbm, 53, rfl⟩
abbrev main_call0_v1 : Ref sig .tc := ⟨.hbm, 54, rfl⟩
abbrev main_v35 : Ref sig .tc := ⟨.hbm, 55, rfl⟩
abbrev main_c_13 : Ref sig .tc := ⟨.hbm, 56, rfl⟩
abbrev main_call1_v0 : Ref sig .tc := ⟨.hbm, 57, rfl⟩
abbrev main_v36 : Ref sig .tc := ⟨.hbm, 58, rfl⟩
abbrev main_v37 : Ref sig .tc := ⟨.hbm, 59, rfl⟩
abbrev main_c_14 : Ref sig .tc := ⟨.hbm, 60, rfl⟩
abbrev main_v38 : Ref sig .tc := ⟨.hbm, 61, rfl⟩
abbrev main_v39 : Ref sig .tc := ⟨.hbm, 62, rfl⟩
abbrev main_c_15 : Ref sig .tc := ⟨.hbm, 63, rfl⟩
abbrev main_v40 : Ref sig .tc := ⟨.hbm, 64, rfl⟩
abbrev main_v41 : Ref sig .tc := ⟨.hbm, 65, rfl⟩
abbrev main_c_16 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_c_17 : Ref sig .tc := ⟨.hbm, 73, rfl⟩
abbrev main_v48 : Ref sig .tc := ⟨.hbm, 74, rfl⟩
abbrev main_v49 : Ref sig .tc := ⟨.hbm, 75, rfl⟩
abbrev main_c_18 : Ref sig .tc := ⟨.hbm, 76, rfl⟩
abbrev main_v50 : Ref sig .tc := ⟨.hbm, 77, rfl⟩
abbrev main_v51 : Ref sig .tc := ⟨.hbm, 78, rfl⟩
abbrev main_c_19 : Ref sig .tc := ⟨.hbm, 79, rfl⟩
abbrev main_c_20 : Ref sig .tc := ⟨.hbm, 80, rfl⟩
abbrev main_call2_v0 : Ref sig .tc := ⟨.hbm, 81, rfl⟩
abbrev main_call2_v1 : Ref sig .tc := ⟨.hbm, 82, rfl⟩
abbrev main_v52 : Ref sig .tc := ⟨.hbm, 83, rfl⟩
abbrev main_c_21 : Ref sig .tc := ⟨.hbm, 84, rfl⟩
abbrev main_call3_v0 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_cst : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_22 : Ref sig .tc := ⟨.hbm, 98, rfl⟩
abbrev main_v64 : Ref sig .tc := ⟨.hbm, 99, rfl⟩
abbrev main_cst_23 : Ref sig .tc := ⟨.hbm, 100, rfl⟩
abbrev main_v65 : Ref sig .tc := ⟨.hbm, 101, rfl⟩
abbrev main_v66 : Ref sig .tc := ⟨.hbm, 102, rfl⟩
abbrev main_cst_24 : Ref sig .tc := ⟨.hbm, 103, rfl⟩
abbrev main_v67 : Ref sig .tc := ⟨.hbm, 104, rfl⟩
abbrev main_v68 : Ref sig .tc := ⟨.hbm, 105, rfl⟩
abbrev main_cst_25 : Ref sig .tc := ⟨.hbm, 106, rfl⟩
abbrev main_v69 : Ref sig .tc := ⟨.hbm, 107, rfl⟩
abbrev main_v70 : Ref sig .tc := ⟨.hbm, 108, rfl⟩
abbrev main_cst_26 : Ref sig .tc := ⟨.hbm, 109, rfl⟩
abbrev main_call4_v0 : Ref sig .tc := ⟨.hbm, 110, rfl⟩
abbrev main_call4_v1 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_c_27 : Ref sig .tc := ⟨.hbm, 117, rfl⟩
abbrev main_c_28 : Ref sig .tc := ⟨.hbm, 118, rfl⟩
abbrev main_call6_v0 : Ref sig .tc := ⟨.hbm, 119, rfl⟩
abbrev main_call6_v1 : Ref sig .tc := ⟨.hbm, 120, rfl⟩
abbrev main_call6_v2 : Ref sig .tc := ⟨.hbm, 121, rfl⟩
abbrev main_call6_v3 : Ref sig .tc := ⟨.hbm, 122, rfl⟩
abbrev main_call6_v4 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_c_29 : Ref sig .tc := ⟨.hbm, 127, rfl⟩
abbrev main_v79 : Ref sig .tc := ⟨.hbm, 128, rfl⟩
abbrev main_v80 : Ref sig .tc := ⟨.hbm, 129, rfl⟩
abbrev main_c_30 : Ref sig .tc := ⟨.hbm, 130, rfl⟩
abbrev main_v81 : Ref sig .tc := ⟨.hbm, 131, rfl⟩
abbrev main_v82 : Ref sig .tc := ⟨.hbm, 132, rfl⟩
abbrev main_c_31 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_c_32 : Ref sig .tc := ⟨.hbm, 138, rfl⟩
abbrev main_v87 : Ref sig .tc := ⟨.hbm, 139, rfl⟩
abbrev main_v88 : Ref sig .tc := ⟨.hbm, 140, rfl⟩
abbrev main_c_33 : Ref sig .tc := ⟨.hbm, 141, rfl⟩
abbrev main_v89 : Ref sig .tc := ⟨.hbm, 142, rfl⟩
abbrev main_v90 : Ref sig .tc := ⟨.hbm, 143, rfl⟩
abbrev main_c_34 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩

abbrev nD : Nat := 1
abbrev τ : Topo := Topo.v7x

variable {F : FTy → Type} [FloatOps F]
-- ==== Attn.lean ====
abbrev S2x28x128x2048 : Shape := ⟨4, ![2, 28, 128, 2048]⟩
abbrev S2x4x2048x256 : Shape := ⟨4, ![2, 4, 2048, 256]⟩
abbrev S2x4x128x2048 : Shape := ⟨4, ![2, 4, 128, 2048]⟩
abbrev S2x4x2048x128 : Shape := ⟨4, ![2, 4, 2048, 128]⟩
abbrev S2x2048x3584 : Shape := ⟨3, ![2, 2048, 3584]⟩
abbrev S1x7x128x256 : Shape := ⟨4, ![1, 7, 128, 256]⟩
abbrev S1x1x2048x256 : Shape := ⟨4, ![1, 1, 2048, 256]⟩
abbrev S1x1x128x2048 : Shape := ⟨4, ![1, 1, 128, 2048]⟩
abbrev S1x1x2048x128 : Shape := ⟨4, ![1, 1, 2048, 128]⟩
abbrev S1x256x896 : Shape := ⟨3, ![1, 256, 896]⟩
abbrev S7x256x256 : Shape := ⟨3, ![7, 256, 256]⟩
abbrev S7x128x256 : Shape := ⟨3, ![7, 128, 256]⟩
abbrev S7x8x256 : Shape := ⟨3, ![7, 8, 256]⟩
abbrev S1x1x128x256 : Shape := ⟨4, ![1, 1, 128, 256]⟩
abbrev S128x256 : Shape := ⟨2, ![128, 256]⟩
abbrev S256 : Shape := ⟨1, ![256]⟩
abbrev S1x256 : Shape := ⟨2, ![1, 256]⟩
abbrev S1x128x256 : Shape := ⟨3, ![1, 128, 256]⟩
abbrev S10x256 : Shape := ⟨2, ![10, 256]⟩
abbrev S16x256 : Shape := ⟨2, ![16, 256]⟩
abbrev S1x16x256 : Shape := ⟨3, ![1, 16, 256]⟩
abbrev S112x256 : Shape := ⟨2, ![112, 256]⟩
abbrev S1x112x256 : Shape := ⟨3, ![1, 112, 256]⟩
abbrev S1x1x256x128 : Shape := ⟨4, ![1, 1, 256, 128]⟩
abbrev S256x128 : Shape := ⟨2, ![256, 128]⟩
abbrev S256x256 : Shape := ⟨2, ![256, 256]⟩
abbrev S1x1x256x256 : Shape := ⟨4, ![1, 1, 256, 256]⟩
abbrev S1x256x256 : Shape := ⟨3, ![1, 256, 256]⟩
abbrev S1x8x256 : Shape := ⟨3, ![1, 8, 256]⟩
abbrev S8x256 : Shape := ⟨2, ![8, 256]⟩
abbrev S32x8x256 : Shape := ⟨3, ![32, 8, 256]⟩
abbrev S7x256 : Shape := ⟨2, ![7, 256]⟩
abbrev S1x7x256 : Shape := ⟨3, ![1, 7, 256]⟩
abbrev S1 : Shape := ⟨1, ![1]⟩
abbrev S1x1x1 : Shape := ⟨3, ![1, 1, 1]⟩
abbrev S1x1x256 : Shape := ⟨3, ![1, 1, 256]⟩
abbrev S1x256x128 : Shape := ⟨3, ![1, 256, 128]⟩

abbrev nBuf : Space → Nat
  | .hbm => 7
  | .vmem => 19
  | .smem => 0
  | _ => 0

abbrev bufTy : (tb : Table) → Fin (tcTables nBuf tb) → BufTy
  | .hbm, ⟨0, _⟩ => ⟨S2x28x128x2048, .bf16⟩
  | .hbm, ⟨1, _⟩ => ⟨S2x4x2048x256, .bf16⟩
  | .hbm, ⟨2, _⟩ => ⟨S2x4x128x2048, .bf16⟩
  | .hbm, ⟨3, _⟩ => ⟨S2x4x2048x128, .f32⟩
  | .hbm, ⟨4, _⟩ => ⟨S2x4x2048x128, .f32⟩
  | .hbm, ⟨5, _⟩ => ⟨S2x4x2048x128, .f32⟩
  | .hbm, ⟨6, _⟩ => ⟨S2x2048x3584, .f32⟩
  | .local _ .vmem, ⟨0, _⟩ => ⟨S1x7x128x256, .bf16⟩
  | .local _ .vmem, ⟨1, _⟩ => ⟨S1x7x128x256, .bf16⟩
  | .local _ .vmem, ⟨2, _⟩ => ⟨S1x1x2048x256, .bf16⟩
  | .local _ .vmem, ⟨3, _⟩ => ⟨S1x1x2048x256, .bf16⟩
  | .local _ .vmem, ⟨4, _⟩ => ⟨S1x1x128x2048, .bf16⟩
  | .local _ .vmem, ⟨5, _⟩ => ⟨S1x1x128x2048, .bf16⟩
  | .local _ .vmem, ⟨6, _⟩ => ⟨S1x1x2048x128, .f32⟩
  | .local _ .vmem, ⟨7, _⟩ => ⟨S1x1x2048x128, .f32⟩
  | .local _ .vmem, ⟨8, _⟩ => ⟨S1x1x2048x128, .f32⟩
  | .local _ .vmem, ⟨9, _⟩ => ⟨S1x1x2048x128, .f32⟩
  | .local _ .vmem, ⟨10, _⟩ => ⟨S1x1x2048x128, .f32⟩
  | .local _ .vmem, ⟨11, _⟩ => ⟨S1x1x2048x128, .f32⟩
  | .local _ .vmem, ⟨12, _⟩ => ⟨S1x256x896, .f32⟩
  | .local _ .vmem, ⟨13, _⟩ => ⟨S1x256x896, .f32⟩
  | .local _ .vmem, ⟨14, _⟩ => ⟨S7x256x256, .bf16⟩
  | .local _ .vmem, ⟨15, _⟩ => ⟨S7x128x256, .f32⟩
  | .local _ .vmem, ⟨16, _⟩ => ⟨S7x8x256, .f32⟩
  | .local _ .vmem, ⟨17, _⟩ => ⟨S7x8x256, .f32⟩
  | .local _ .vmem, ⟨18, _⟩ => ⟨S7x8x256, .f32⟩
  | _, _ => ⟨S2x28x128x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 4, 8], ![false, false, false]⟩

@[reducible] def k0_t1_loop (i : grid0.Coords) : Scf.Loop 32 :=
  let c0_i32_114 : BitVec 32 := 0#32
  let arg2 : BitVec 32 := BitVec.ofNat 32 (i 2).val
  let v229 : BitVec 32 := Scalar.subi arg2 c0_i32_114
  let c1_i32 : BitVec 32 := 1#32
  let v231 : BitVec 32 := Scalar.divsi v229 c1_i32
  let v232 : BitVec 32 := Scalar.muli v231 c1_i32
  let v233 : BitVec 32 := Scalar.addi c0_i32_114 v232
  let c1_i32_115 : BitVec 32 := 1#32
  ⟨c0_i32_114, v233, c1_i32_115⟩
def k0_mult1 (i : grid0.Coords) (k0_t1 : Fin (k0_t1_loop i).trips) : BitVec 32 :=
  let c0_i32_114 : BitVec 32 := 0#32
  let c1_i32_115 : BitVec 32 := 1#32
  let arg15 : BitVec 32 := Scf.iv c0_i32_114 c1_i32_115 k0_t1
  let c256_i32_470 : BitVec 32 := 256#32
  let v723 : BitVec 32 := Scalar.muli arg15 c256_i32_470
  v723
def k0_off1 (i : grid0.Coords) (k0_t1 : Fin (k0_t1_loop i).trips) : Fin 4 → Nat :=
  let c0_471 : Index := 0#32
  let c0_472 : Index := 0#32
  let c0_473 : Index := 0#32
  let c0_i32_114 : BitVec 32 := 0#32
  let c1_i32_115 : BitVec 32 := 1#32
  let arg15 : BitVec 32 := Scf.iv c0_i32_114 c1_i32_115 k0_t1
  let c256_i32_470 : BitVec 32 := 256#32
  let v723 : BitVec 32 := Scalar.muli arg15 c256_i32_470
  let v724 : BitVec 32 := v723
  let v725 : Index := Scalar.indexCast v724
  ![0, 0, 0, v725.toNat]
def k0_mult2 (i : grid0.Coords) (k0_t1 : Fin (k0_t1_loop i).trips) : BitVec 32 :=
  let c0_i32_114 : BitVec 32 := 0#32
  let c1_i32_115 : BitVec 32 := 1#32
  let arg15 : BitVec 32 := Scf.iv c0_i32_114 c1_i32_115 k0_t1
  let c256_i32_474 : BitVec 32 := 256#32
  let v728 : BitVec 32 := Scalar.muli arg15 c256_i32_474
  v728
def k0_off2 (i : grid0.Coords) (k0_t1 : Fin (k0_t1_loop i).trips) : Fin 4 → Nat :=
  let c0_475 : Index := 0#32
  let c0_476 : Index := 0#32
  let c0_i32_114 : BitVec 32 := 0#32
  let c1_i32_115 : BitVec 32 := 1#32
  let arg15 : BitVec 32 := Scf.iv c0_i32_114 c1_i32_115 k0_t1
  let c256_i32_474 : BitVec 32 := 256#32
  let v728 : BitVec 32 := Scalar.muli arg15 c256_i32_474
  let v729 : BitVec 32 := v728
  let v730 : Index := Scalar.indexCast v729
  let c0_477 : Index := 0#32
  ![0, 0, v730.toNat, 0]
def k0_mult3 (i : grid0.Coords) (k0_t1 : Fin (k0_t1_loop i).trips) : BitVec 32 :=
  let c0_i32_114 : BitVec 32 := 0#32
  let c1_i32_115 : BitVec 32 := 1#32
  let arg15 : BitVec 32 := Scf.iv c0_i32_114 c1_i32_115 k0_t1
  let c256_i32_478 : BitVec 32 := 256#32
  let v734 : BitVec 32 := Scalar.muli arg15 c256_i32_478
  v734
def k0_mult4 (i : grid0.Coords) (k0_t1 : Fin (k0_t1_loop i).trips) : BitVec 32 :=
  let c0_i32_114 : BitVec 32 := 0#32
  let c1_i32_115 : BitVec 32 := 1#32
  let arg15 : BitVec 32 := Scf.iv c0_i32_114 c1_i32_115 k0_t1
  let c256_i32_482 : BitVec 32 := 256#32
  let v740 : BitVec 32 := Scalar.muli arg15 c256_i32_482
  v740
def k0_off3 (i : grid0.Coords) (k0_t1 : Fin (k0_t1_loop i).trips) : Fin 4 → Nat :=
  let c0_483 : Index := 0#32
  let c0_484 : Index := 0#32
  let c0_i32_114 : BitVec 32 := 0#32
  let c1_i32_115 : BitVec 32 := 1#32
  let arg15 : BitVec 32 := Scf.iv c0_i32_114 c1_i32_115 k0_t1
  let c256_i32_482 : BitVec 32 := 256#32
  let v740 : BitVec 32 := Scalar.muli arg15 c256_i32_482
  let v741 : BitVec 32 := v740
  let v742 : Index := Scalar.indexCast v741
  let c0_485 : Index := 0#32
  ![0, 0, v742.toNat, 0]
def k0_mult5 (i : grid0.Coords) (k0_t1 : Fin (k0_t1_loop i).trips) : BitVec 32 :=
  let c0_i32_114 : BitVec 32 := 0#32
  let c1_i32_115 : BitVec 32 := 1#32
  let arg15 : BitVec 32 := Scf.iv c0_i32_114 c1_i32_115 k0_t1
  let c256_i32_490 : BitVec 32 := 256#32
  let v748 : BitVec 32 := Scalar.muli arg15 c256_i32_490
  v748
def k0_mult6 (i : grid0.Coords) (k0_t1 : Fin (k0_t1_loop i).trips) : BitVec 32 :=
  let c0_i32_114 : BitVec 32 := 0#32
  let c1_i32_115 : BitVec 32 := 1#32
  let arg15 : BitVec 32 := Scf.iv c0_i32_114 c1_i32_115 k0_t1
  let c256_i32_515 : BitVec 32 := 256#32
  let v782 : BitVec 32 := Scalar.muli arg15 c256_i32_515
  v782
def k0_mult7 (i : grid0.Coords) (k0_t1 : Fin (k0_t1_loop i).trips) : BitVec 32 :=
  let c0_i32_114 : BitVec 32 := 0#32
  let c1_i32_115 : BitVec 32 := 1#32
  let arg15 : BitVec 32 := Scf.iv c0_i32_114 c1_i32_115 k0_t1
  let c256_i32_523 : BitVec 32 := 256#32
  let v790 : BitVec 32 := Scalar.muli arg15 c256_i32_523
  v790
def k0_mult8 (i : grid0.Coords) (k0_t1 : Fin (k0_t1_loop i).trips) : BitVec 32 :=
  let c0_i32_114 : BitVec 32 := 0#32
  let c1_i32_115 : BitVec 32 := 1#32
  let arg15 : BitVec 32 := Scf.iv c0_i32_114 c1_i32_115 k0_t1
  let c256_i32_548 : BitVec 32 := 256#32
  let v824 : BitVec 32 := Scalar.muli arg15 c256_i32_548
  v824
def k0_mult9 (i : grid0.Coords) (k0_t1 : Fin (k0_t1_loop i).trips) : BitVec 32 :=
  let c0_i32_114 : BitVec 32 := 0#32
  let c1_i32_115 : BitVec 32 := 1#32
  let arg15 : BitVec 32 := Scf.iv c0_i32_114 c1_i32_115 k0_t1
  let c256_i32_556 : BitVec 32 := 256#32
  let v832 : BitVec 32 := Scalar.muli arg15 c256_i32_556
  v832
def k0_mult10 (i : grid0.Coords) (k0_t1 : Fin (k0_t1_loop i).trips) : BitVec 32 :=
  let c0_i32_114 : BitVec 32 := 0#32
  let c1_i32_115 : BitVec 32 := 1#32
  let arg15 : BitVec 32 := Scf.iv c0_i32_114 c1_i32_115 k0_t1
  let c256_i32_581 : BitVec 32 := 256#32
  let v866 : BitVec 32 := Scalar.muli arg15 c256_i32_581
  v866
def k0_mult11 (i : grid0.Coords) (k0_t1 : Fin (k0_t1_loop i).trips) : BitVec 32 :=
  let c0_i32_114 : BitVec 32 := 0#32
  let c1_i32_115 : BitVec 32 := 1#32
  let arg15 : BitVec 32 := Scf.iv c0_i32_114 c1_i32_115 k0_t1
  let c256_i32_589 : BitVec 32 := 256#32
  let v874 : BitVec 32 := Scalar.muli arg15 c256_i32_589
  v874
def k0_mult12 (i : grid0.Coords) (k0_t1 : Fin (k0_t1_loop i).trips) : BitVec 32 :=
  let c0_i32_114 : BitVec 32 := 0#32
  let c1_i32_115 : BitVec 32 := 1#32
  let arg15 : BitVec 32 := Scf.iv c0_i32_114 c1_i32_115 k0_t1
  let c256_i32_614 : BitVec 32 := 256#32
  let v908 : BitVec 32 := Scalar.muli arg15 c256_i32_614
  v908
def k0_mult13 (i : grid0.Coords) (k0_t1 : Fin (k0_t1_loop i).trips) : BitVec 32 :=
  let c0_i32_114 : BitVec 32 := 0#32
  let c1_i32_115 : BitVec 32 := 1#32
  let arg15 : BitVec 32 := Scf.iv c0_i32_114 c1_i32_115 k0_t1
  let c256_i32_622 : BitVec 32 := 256#32
  let v916 : BitVec 32 := Scalar.muli arg15 c256_i32_622
  v916
def k0_mult14 (i : grid0.Coords) (k0_t1 : Fin (k0_t1_loop i).trips) : BitVec 32 :=
  let c0_i32_114 : BitVec 32 := 0#32
  let c1_i32_115 : BitVec 32 := 1#32
  let arg15 : BitVec 32 := Scf.iv c0_i32_114 c1_i32_115 k0_t1
  let c256_i32_647 : BitVec 32 := 256#32
  let v950 : BitVec 32 := Scalar.muli arg15 c256_i32_647
  v950
def k0_mult15 (i : grid0.Coords) (k0_t1 : Fin (k0_t1_loop i).trips) : BitVec 32 :=
  let c0_i32_114 : BitVec 32 := 0#32
  let c1_i32_115 : BitVec 32 := 1#32
  let arg15 : BitVec 32 := Scf.iv c0_i32_114 c1_i32_115 k0_t1
  let c256_i32_655 : BitVec 32 := 256#32
  let v958 : BitVec 32 := Scalar.muli arg15 c256_i32_655
  v958
def k0_mult16 (i : grid0.Coords) (k0_t1 : Fin (k0_t1_loop i).trips) : BitVec 32 :=
  let c0_i32_114 : BitVec 32 := 0#32
  let c1_i32_115 : BitVec 32 := 1#32
  let arg15 : BitVec 32 := Scf.iv c0_i32_114 c1_i32_115 k0_t1
  let c256_i32_680 : BitVec 32 := 256#32
  let v992 : BitVec 32 := Scalar.muli arg15 c256_i32_680
  v992
def k0_mult17 (i : grid0.Coords) (k0_t1 : Fin (k0_t1_loop i).trips) : BitVec 32 :=
  let c0_i32_114 : BitVec 32 := 0#32
  let c1_i32_115 : BitVec 32 := 1#32
  let arg15 : BitVec 32 := Scf.iv c0_i32_114 c1_i32_115 k0_t1
  let c256_i32_688 : BitVec 32 := 256#32
  let v1000 : BitVec 32 := Scalar.muli arg15 c256_i32_688
  v1000
@[reducible] def k0_t2_loop (i : grid0.Coords) : Scf.Loop 32 :=
  let c0_i32_114 : BitVec 32 := 0#32
  let arg2 : BitVec 32 := BitVec.ofNat 32 (i 2).val
  let v229 : BitVec 32 := Scalar.subi arg2 c0_i32_114
  let c1_i32 : BitVec 32 := 1#32
  let v231 : BitVec 32 := Scalar.divsi v229 c1_i32
  let v232 : BitVec 32 := Scalar.muli v231 c1_i32
  let v233 : BitVec 32 := Scalar.addi c0_i32_114 v232
  let v230 : BitVec 32 := Scalar.addi c0_i32_114 v229
  let c1_i32_116 : BitVec 32 := 1#32
  ⟨v233, v230, c1_i32_116⟩
def k0_mult18 (i : grid0.Coords) (k0_t2 : Fin (k0_t2_loop i).trips) : BitVec 32 :=
  let c0_i32_114 : BitVec 32 := 0#32
  let arg2 : BitVec 32 := BitVec.ofNat 32 (i 2).val
  let v229 : BitVec 32 := Scalar.subi arg2 c0_i32_114
  let c1_i32 : BitVec 32 := 1#32
  let v231 : BitVec 32 := Scalar.divsi v229 c1_i32
  let v232 : BitVec 32 := Scalar.muli v231 c1_i32
  let v233 : BitVec 32 := Scalar.addi c0_i32_114 v232
  let c1_i32_116 : BitVec 32 := 1#32
  let arg15 : BitVec 32 := Scf.iv v233 c1_i32_116 k0_t2
  let c256_i32_470 : BitVec 32 := 256#32
  let v723 : BitVec 32 := Scalar.muli arg15 c256_i32_470
  v723
def k0_off4 (i : grid0.Coords) (k0_t2 : Fin (k0_t2_loop i).trips) : Fin 4 → Nat :=
  let c0_471 : Index := 0#32
  let c0_472 : Index := 0#32
  let c0_473 : Index := 0#32
  let c0_i32_114 : BitVec 32 := 0#32
  let arg2 : BitVec 32 := BitVec.ofNat 32 (i 2).val
  let v229 : BitVec 32 := Scalar.subi arg2 c0_i32_114
  let c1_i32 : BitVec 32 := 1#32
  let v231 : BitVec 32 := Scalar.divsi v229 c1_i32
  let v232 : BitVec 32 := Scalar.muli v231 c1_i32
  let v233 : BitVec 32 := Scalar.addi c0_i32_114 v232
  let c1_i32_116 : BitVec 32 := 1#32
  let arg15 : BitVec 32 := Scf.iv v233 c1_i32_116 k0_t2
  let c256_i32_470 : BitVec 32 := 256#32
  let v723 : BitVec 32 := Scalar.muli arg15 c256_i32_470
  let v724 : BitVec 32 := v723
  let v725 : Index := Scalar.indexCast v724
  ![0, 0, 0, v725.toNat]
def k0_mult19 (i : grid0.Coords) (k0_t2 : Fin (k0_t2_loop i).trips) : BitVec 32 :=
  let c0_i32_114 : BitVec 32 := 0#32
  let arg2 : BitVec 32 := BitVec.ofNat 32 (i 2).val
  let v229 : BitVec 32 := Scalar.subi arg2 c0_i32_114
  let c1_i32 : BitVec 32 := 1#32
  let v231 : BitVec 32 := Scalar.divsi v229 c1_i32
  let v232 : BitVec 32 := Scalar.muli v231 c1_i32
  let v233 : BitVec 32 := Scalar.addi c0_i32_114 v232
  let c1_i32_116 : BitVec 32 := 1#32
  let arg15 : BitVec 32 := Scf.iv v233 c1_i32_116 k0_t2
  let c256_i32_474 : BitVec 32 := 256#32
  let v728 : BitVec 32 := Scalar.muli arg15 c256_i32_474
  v728
def k0_off5 (i : grid0.Coords) (k0_t2 : Fin (k0_t2_loop i).trips) : Fin 4 → Nat :=
  let c0_475 : Index := 0#32
  let c0_476 : Index := 0#32
  let c0_i32_114 : BitVec 32 := 0#32
  let arg2 : BitVec 32 := BitVec.ofNat 32 (i 2).val
  let v229 : BitVec 32 := Scalar.subi arg2 c0_i32_114
  let c1_i32 : BitVec 32 := 1#32
  let v231 : BitVec 32 := Scalar.divsi v229 c1_i32
  let v232 : BitVec 32 := Scalar.muli v231 c1_i32
  let v233 : BitVec 32 := Scalar.addi c0_i32_114 v232
  let c1_i32_116 : BitVec 32 := 1#32
  let arg15 : BitVec 32 := Scf.iv v233 c1_i32_116 k0_t2
  let c256_i32_474 : BitVec 32 := 256#32
  let v728 : BitVec 32 := Scalar.muli arg15 c256_i32_474
  let v729 : BitVec 32 := v728
  let v730 : Index := Scalar.indexCast v729
  let c0_477 : Index := 0#32
  ![0, 0, v730.toNat, 0]
def k0_mult20 (i : grid0.Coords) (k0_t2 : Fin (k0_t2_loop i).trips) : BitVec 32 :=
  let c0_i32_114 : BitVec 32 := 0#32
  let arg2 : BitVec 32 := BitVec.ofNat 32 (i 2).val
  let v229 : BitVec 32 := Scalar.subi arg2 c0_i32_114
  let c1_i32 : BitVec 32 := 1#32
  let v231 : BitVec 32 := Scalar.divsi v229 c1_i32
  let v232 : BitVec 32 := Scalar.muli v231 c1_i32
  let v233 : BitVec 32 := Scalar.addi c0_i32_114 v232
  let c1_i32_116 : BitVec 32 := 1#32
  let arg15 : BitVec 32 := Scf.iv v233 c1_i32_116 k0_t2
  let c256_i32_478 : BitVec 32 := 256#32
  let v734 : BitVec 32 := Scalar.muli arg15 c256_i32_478
  v734
def k0_mult21 (i : grid0.Coords) (k0_t2 : Fin (k0_t2_loop i).trips) : BitVec 32 :=
  let c0_i32_114 : BitVec 32 := 0#32
  let arg2 : BitVec 32 := BitVec.ofNat 32 (i 2).val
  let v229 : BitVec 32 := Scalar.subi arg2 c0_i32_114
  let c1_i32 : BitVec 32 := 1#32
  let v231 : BitVec 32 := Scalar.divsi v229 c1_i32
  let v232 : BitVec 32 := Scalar.muli v231 c1_i32
  let v233 : BitVec 32 := Scalar.addi c0_i32_114 v232
  let c1_i32_116 : BitVec 32 := 1#32
  let arg15 : BitVec 32 := Scf.iv v233 c1_i32_116 k0_t2
  let c256_i32_482 : BitVec 32 := 256#32
  let v740 : BitVec 32 := Scalar.muli arg15 c256_i32_482
  v740
def k0_off6 (i : grid0.Coords) (k0_t2 : Fin (k0_t2_loop i).trips) : Fin 4 → Nat :=
  let c0_483 : Index := 0#32
  let c0_484 : Index := 0#32
  let c0_i32_114 : BitVec 32 := 0#32
  let arg2 : BitVec 32 := BitVec.ofNat 32 (i 2).val
  let v229 : BitVec 32 := Scalar.subi arg2 c0_i32_114
  let c1_i32 : BitVec 32 := 1#32
  let v231 : BitVec 32 := Scalar.divsi v229 c1_i32
  let v232 : BitVec 32 := Scalar.muli v231 c1_i32
  let v233 : BitVec 32 := Scalar.addi c0_i32_114 v232
  let c1_i32_116 : BitVec 32 := 1#32
  let arg15 : BitVec 32 := Scf.iv v233 c1_i32_116 k0_t2
  let c256_i32_482 : BitVec 32 := 256#32
  let v740 : BitVec 32 := Scalar.muli arg15 c256_i32_482
  let v741 : BitVec 32 := v740
  let v742 : Index := Scalar.indexCast v741
  let c0_485 : Index := 0#32
  ![0, 0, v742.toNat, 0]
def k0_mult22 (i : grid0.Coords) (k0_t2 : Fin (k0_t2_loop i).trips) : BitVec 32 :=
  let c0_i32_114 : BitVec 32 := 0#32
  let arg2 : BitVec 32 := BitVec.ofNat 32 (i 2).val
  let v229 : BitVec 32 := Scalar.subi arg2 c0_i32_114
  let c1_i32 : BitVec 32 := 1#32
  let v231 : BitVec 32 := Scalar.divsi v229 c1_i32
  let v232 : BitVec 32 := Scalar.muli v231 c1_i32
  let v233 : BitVec 32 := Scalar.addi c0_i32_114 v232
  let c1_i32_116 : BitVec 32 := 1#32
  let arg15 : BitVec 32 := Scf.iv v233 c1_i32_116 k0_t2
  let c256_i32_490 : BitVec 32 := 256#32
  let v748 : BitVec 32 := Scalar.muli arg15 c256_i32_490
  v748
def k0_mult23 (i : grid0.Coords) (k0_t2 : Fin (k0_t2_loop i).trips) : BitVec 32 :=
  let c0_i32_114 : BitVec 32 := 0#32
  let arg2 : BitVec 32 := BitVec.ofNat 32 (i 2).val
  let v229 : BitVec 32 := Scalar.subi arg2 c0_i32_114
  let c1_i32 : BitVec 32 := 1#32
  let v231 : BitVec 32 := Scalar.divsi v229 c1_i32
  let v232 : BitVec 32 := Scalar.muli v231 c1_i32
  let v233 : BitVec 32 := Scalar.addi c0_i32_114 v232
  let c1_i32_116 : BitVec 32 := 1#32
  let arg15 : BitVec 32 := Scf.iv v233 c1_i32_116 k0_t2
  let c256_i32_515 : BitVec 32 := 256#32
  let v782 : BitVec 32 := Scalar.muli arg15 c256_i32_515
  v782
def k0_mult24 (i : grid0.Coords) (k0_t2 : Fin (k0_t2_loop i).trips) : BitVec 32 :=
  let c0_i32_114 : BitVec 32 := 0#32
  let arg2 : BitVec 32 := BitVec.ofNat 32 (i 2).val
  let v229 : BitVec 32 := Scalar.subi arg2 c0_i32_114
  let c1_i32 : BitVec 32 := 1#32
  let v231 : BitVec 32 := Scalar.divsi v229 c1_i32
  let v232 : BitVec 32 := Scalar.muli v231 c1_i32
  let v233 : BitVec 32 := Scalar.addi c0_i32_114 v232
  let c1_i32_116 : BitVec 32 := 1#32
  let arg15 : BitVec 32 := Scf.iv v233 c1_i32_116 k0_t2
  let c256_i32_523 : BitVec 32 := 256#32
  let v790 : BitVec 32 := Scalar.muli arg15 c256_i32_523
  v790
def k0_mult25 (i : grid0.Coords) (k0_t2 : Fin (k0_t2_loop i).trips) : BitVec 32 :=
  let c0_i32_114 : BitVec 32 := 0#32
  let arg2 : BitVec 32 := BitVec.ofNat 32 (i 2).val
  let v229 : BitVec 32 := Scalar.subi arg2 c0_i32_114
  let c1_i32 : BitVec 32 := 1#32
  let v231 : BitVec 32 := Scalar.divsi v229 c1_i32
  let v232 : BitVec 32 := Scalar.muli v231 c1_i32
  let v233 : BitVec 32 := Scalar.addi c0_i32_114 v232
  let c1_i32_116 : BitVec 32 := 1#32
  let arg15 : BitVec 32 := Scf.iv v233 c1_i32_116 k0_t2
  let c256_i32_548 : BitVec 32 := 256#32
  let v824 : BitVec 32 := Scalar.muli arg15 c256_i32_548
  v824
def k0_mult26 (i : grid0.Coords) (k0_t2 : Fin (k0_t2_loop i).trips) : BitVec 32 :=
  let c0_i32_114 : BitVec 32 := 0#32
  let arg2 : BitVec 32 := BitVec.ofNat 32 (i 2).val
  let v229 : BitVec 32 := Scalar.subi arg2 c0_i32_114
  let c1_i32 : BitVec 32 := 1#32
  let v231 : BitVec 32 := Scalar.divsi v229 c1_i32
  let v232 : BitVec 32 := Scalar.muli v231 c1_i32
  let v233 : BitVec 32 := Scalar.addi c0_i32_114 v232
  let c1_i32_116 : BitVec 32 := 1#32
  let arg15 : BitVec 32 := Scf.iv v233 c1_i32_116 k0_t2
  let c256_i32_556 : BitVec 32 := 256#32
  let v832 : BitVec 32 := Scalar.muli arg15 c256_i32_556
  v832
def k0_mult27 (i : grid0.Coords) (k0_t2 : Fin (k0_t2_loop i).trips) : BitVec 32 :=
  let c0_i32_114 : BitVec 32 := 0#32
  let arg2 : BitVec 32 := BitVec.ofNat 32 (i 2).val
  let v229 : BitVec 32 := Scalar.subi arg2 c0_i32_114
  let c1_i32 : BitVec 32 := 1#32
  let v231 : BitVec 32 := Scalar.divsi v229 c1_i32
  let v232 : BitVec 32 := Scalar.muli v231 c1_i32
  let v233 : BitVec 32 := Scalar.addi c0_i32_114 v232
  let c1_i32_116 : BitVec 32 := 1#32
  let arg15 : BitVec 32 := Scf.iv v233 c1_i32_116 k0_t2
  let c256_i32_581 : BitVec 32 := 256#32
  let v866 : BitVec 32 := Scalar.muli arg15 c256_i32_581
  v866
def k0_mult28 (i : grid0.Coords) (k0_t2 : Fin (k0_t2_loop i).trips) : BitVec 32 :=
  let c0_i32_114 : BitVec 32 := 0#32
  let arg2 : BitVec 32 := BitVec.ofNat 32 (i 2).val
  let v229 : BitVec 32 := Scalar.subi arg2 c0_i32_114
  let c1_i32 : BitVec 32 := 1#32
  let v231 : BitVec 32 := Scalar.divsi v229 c1_i32
  let v232 : BitVec 32 := Scalar.muli v231 c1_i32
  let v233 : BitVec 32 := Scalar.addi c0_i32_114 v232
  let c1_i32_116 : BitVec 32 := 1#32
  let arg15 : BitVec 32 := Scf.iv v233 c1_i32_116 k0_t2
  let c256_i32_589 : BitVec 32 := 256#32
  let v874 : BitVec 32 := Scalar.muli arg15 c256_i32_589
  v874
def k0_mult29 (i : grid0.Coords) (k0_t2 : Fin (k0_t2_loop i).trips) : BitVec 32 :=
  let c0_i32_114 : BitVec 32 := 0#32
  let arg2 : BitVec 32 := BitVec.ofNat 32 (i 2).val
  let v229 : BitVec 32 := Scalar.subi arg2 c0_i32_114
  let c1_i32 : BitVec 32 := 1#32
  let v231 : BitVec 32 := Scalar.divsi v229 c1_i32
  let v232 : BitVec 32 := Scalar.muli v231 c1_i32
  let v233 : BitVec 32 := Scalar.addi c0_i32_114 v232
  let c1_i32_116 : BitVec 32 := 1#32
  let arg15 : BitVec 32 := Scf.iv v233 c1_i32_116 k0_t2
  let c256_i32_614 : BitVec 32 := 256#32
  let v908 : BitVec 32 := Scalar.muli arg15 c256_i32_614
  v908
def k0_mult30 (i : grid0.Coords) (k0_t2 : Fin (k0_t2_loop i).trips) : BitVec 32 :=
  let c0_i32_114 : BitVec 32 := 0#32
  let arg2 : BitVec 32 := BitVec.ofNat 32 (i 2).val
  let v229 : BitVec 32 := Scalar.subi arg2 c0_i32_114
  let c1_i32 : BitVec 32 := 1#32
  let v231 : BitVec 32 := Scalar.divsi v229 c1_i32
  let v232 : BitVec 32 := Scalar.muli v231 c1_i32
  let v233 : BitVec 32 := Scalar.addi c0_i32_114 v232
  let c1_i32_116 : BitVec 32 := 1#32
  let arg15 : BitVec 32 := Scf.iv v233 c1_i32_116 k0_t2
  let c256_i32_622 : BitVec 32 := 256#32
  let v916 : BitVec 32 := Scalar.muli arg15 c256_i32_622
  v916
def k0_mult31 (i : grid0.Coords) (k0_t2 : Fin (k0_t2_loop i).trips) : BitVec 32 :=
  let c0_i32_114 : BitVec 32 := 0#32
  let arg2 : BitVec 32 := BitVec.ofNat 32 (i 2).val
  let v229 : BitVec 32 := Scalar.subi arg2 c0_i32_114
  let c1_i32 : BitVec 32 := 1#32
  let v231 : BitVec 32 := Scalar.divsi v229 c1_i32
  let v232 : BitVec 32 := Scalar.muli v231 c1_i32
  let v233 : BitVec 32 := Scalar.addi c0_i32_114 v232
  let c1_i32_116 : BitVec 32 := 1#32
  let arg15 : BitVec 32 := Scf.iv v233 c1_i32_116 k0_t2
  let c256_i32_647 : BitVec 32 := 256#32
  let v950 : BitVec 32 := Scalar.muli arg15 c256_i32_647
  v950
def k0_mult32 (i : grid0.Coords) (k0_t2 : Fin (k0_t2_loop i).trips) : BitVec 32 :=
  let c0_i32_114 : BitVec 32 := 0#32
  let arg2 : BitVec 32 := BitVec.ofNat 32 (i 2).val
  let v229 : BitVec 32 := Scalar.subi arg2 c0_i32_114
  let c1_i32 : BitVec 32 := 1#32
  let v231 : BitVec 32 := Scalar.divsi v229 c1_i32
  let v232 : BitVec 32 := Scalar.muli v231 c1_i32
  let v233 : BitVec 32 := Scalar.addi c0_i32_114 v232
  let c1_i32_116 : BitVec 32 := 1#32
  let arg15 : BitVec 32 := Scf.iv v233 c1_i32_116 k0_t2
  let c256_i32_655 : BitVec 32 := 256#32
  let v958 : BitVec 32 := Scalar.muli arg15 c256_i32_655
  v958
def k0_mult33 (i : grid0.Coords) (k0_t2 : Fin (k0_t2_loop i).trips) : BitVec 32 :=
  let c0_i32_114 : BitVec 32 := 0#32
  let arg2 : BitVec 32 := BitVec.ofNat 32 (i 2).val
  let v229 : BitVec 32 := Scalar.subi arg2 c0_i32_114
  let c1_i32 : BitVec 32 := 1#32
  let v231 : BitVec 32 := Scalar.divsi v229 c1_i32
  let v232 : BitVec 32 := Scalar.muli v231 c1_i32
  let v233 : BitVec 32 := Scalar.addi c0_i32_114 v232
  let c1_i32_116 : BitVec 32 := 1#32
  let arg15 : BitVec 32 := Scf.iv v233 c1_i32_116 k0_t2
  let c256_i32_680 : BitVec 32 := 256#32
  let v992 : BitVec 32 := Scalar.muli arg15 c256_i32_680
  v992
def k0_mult34 (i : grid0.Coords) (k0_t2 : Fin (k0_t2_loop i).trips) : BitVec 32 :=
  let c0_i32_114 : BitVec 32 := 0#32
  let arg2 : BitVec 32 := BitVec.ofNat 32 (i 2).val
  let v229 : BitVec 32 := Scalar.subi arg2 c0_i32_114
  let c1_i32 : BitVec 32 := 1#32
  let v231 : BitVec 32 := Scalar.divsi v229 c1_i32
  let v232 : BitVec 32 := Scalar.muli v231 c1_i32
  let v233 : BitVec 32 := Scalar.addi c0_i32_114 v232
  let c1_i32_116 : BitVec 32 := 1#32
  let arg15 : BitVec 32 := Scf.iv v233 c1_i32_116 k0_t2
  let c256_i32_688 : BitVec 32 := 256#32
  let v1000 : BitVec 32 := Scalar.muli arg15 c256_i32_688
  v1000
def k0_mult35 (i : grid0.Coords) : BitVec 32 :=
  let arg2 : BitVec 32 := BitVec.ofNat 32 (i 2).val
  let c256_i32 : BitVec 32 := 256#32
  let v234 : BitVec 32 := Scalar.muli arg2 c256_i32
  v234
def k0_off7 (i : grid0.Coords) : Fin 4 → Nat :=
  let c0_117 : Index := 0#32
  let c0_118 : Index := 0#32
  let c0_119 : Index := 0#32
  let arg2 : BitVec 32 := BitVec.ofNat 32 (i 2).val
  let c256_i32 : BitVec 32 := 256#32
  let v234 : BitVec 32 := Scalar.muli arg2 c256_i32
  let v235 : BitVec 32 := v234
  let v236 : Index := Scalar.indexCast v235
  ![0, 0, 0, v236.toNat]
def k0_mult36 (i : grid0.Coords) : BitVec 32 :=
  let arg2 : BitVec 32 := BitVec.ofNat 32 (i 2).val
  let c256_i32_120 : BitVec 32 := 256#32
  let v239 : BitVec 32 := Scalar.muli arg2 c256_i32_120
  v239
def k0_off8 (i : grid0.Coords) : Fin 4 → Nat :=
  let c0_121 : Index := 0#32
  let c0_122 : Index := 0#32
  let arg2 : BitVec 32 := BitVec.ofNat 32 (i 2).val
  let c256_i32_120 : BitVec 32 := 256#32
  let v239 : BitVec 32 := Scalar.muli arg2 c256_i32_120
  let v240 : BitVec 32 := v239
  let v241 : Index := Scalar.indexCast v240
  let c0_123 : Index := 0#32
  ![0, 0, v241.toNat, 0]
def k0_mult37 (i : grid0.Coords) : BitVec 32 :=
  let arg2 : BitVec 32 := BitVec.ofNat 32 (i 2).val
  let c256_i32_124 : BitVec 32 := 256#32
  let v245 : BitVec 32 := Scalar.muli arg2 c256_i32_124
  v245
def k0_mult38 (i : grid0.Coords) : BitVec 32 :=
  let arg2 : BitVec 32 := BitVec.ofNat 32 (i 2).val
  let c256_i32_128 : BitVec 32 := 256#32
  let v251 : BitVec 32 := Scalar.muli arg2 c256_i32_128
  v251
def k0_off9 (i : grid0.Coords) : Fin 4 → Nat :=
  let c0_129 : Index := 0#32
  let c0_130 : Index := 0#32
  let arg2 : BitVec 32 := BitVec.ofNat 32 (i 2).val
  let c256_i32_128 : BitVec 32 := 256#32
  let v251 : BitVec 32 := Scalar.muli arg2 c256_i32_128
  let v252 : BitVec 32 := v251
  let v253 : Index := Scalar.indexCast v252
  let c0_131 : Index := 0#32
  ![0, 0, v253.toNat, 0]
def k0_mult39 (i : grid0.Coords) : BitVec 32 :=
  let arg2 : BitVec 32 := BitVec.ofNat 32 (i 2).val
  let c256_i32_136 : BitVec 32 := 256#32
  let v259 : BitVec 32 := Scalar.muli arg2 c256_i32_136
  v259
def k0_mult40 (i : grid0.Coords) : BitVec 32 :=
  let arg2 : BitVec 32 := BitVec.ofNat 32 (i 2).val
  let c256_i32_162 : BitVec 32 := 256#32
  let v298 : BitVec 32 := Scalar.muli arg2 c256_i32_162
  v298
def k0_mult41 (i : grid0.Coords) : BitVec 32 :=
  let arg2 : BitVec 32 := BitVec.ofNat 32 (i 2).val
  let c256_i32_170 : BitVec 32 := 256#32
  let v306 : BitVec 32 := Scalar.muli arg2 c256_i32_170
  v306
def k0_mult42 (i : grid0.Coords) : BitVec 32 :=
  let arg2 : BitVec 32 := BitVec.ofNat 32 (i 2).val
  let c256_i32_196 : BitVec 32 := 256#32
  let v345 : BitVec 32 := Scalar.muli arg2 c256_i32_196
  v345
def k0_mult43 (i : grid0.Coords) : BitVec 32 :=
  let arg2 : BitVec 32 := BitVec.ofNat 32 (i 2).val
  let c256_i32_204 : BitVec 32 := 256#32
  let v353 : BitVec 32 := Scalar.muli arg2 c256_i32_204
  v353
def k0_mult44 (i : grid0.Coords) : BitVec 32 :=
  let arg2 : BitVec 32 := BitVec.ofNat 32 (i 2).val
  let c256_i32_230 : BitVec 32 := 256#32
  let v392 : BitVec 32 := Scalar.muli arg2 c256_i32_230
  v392
def k0_mult45 (i : grid0.Coords) : BitVec 32 :=
  let arg2 : BitVec 32 := BitVec.ofNat 32 (i 2).val
  let c256_i32_238 : BitVec 32 := 256#32
  let v400 : BitVec 32 := Scalar.muli arg2 c256_i32_238
  v400
def k0_mult46 (i : grid0.Coords) : BitVec 32 :=
  let arg2 : BitVec 32 := BitVec.ofNat 32 (i 2).val
  let c256_i32_264 : BitVec 32 := 256#32
  let v439 : BitVec 32 := Scalar.muli arg2 c256_i32_264
  v439
def k0_mult47 (i : grid0.Coords) : BitVec 32 :=
  let arg2 : BitVec 32 := BitVec.ofNat 32 (i 2).val
  let c256_i32_272 : BitVec 32 := 256#32
  let v447 : BitVec 32 := Scalar.muli arg2 c256_i32_272
  v447
def k0_mult48 (i : grid0.Coords) : BitVec 32 :=
  let arg2 : BitVec 32 := BitVec.ofNat 32 (i 2).val
  let c256_i32_298 : BitVec 32 := 256#32
  let v486 : BitVec 32 := Scalar.muli arg2 c256_i32_298
  v486
def k0_mult49 (i : grid0.Coords) : BitVec 32 :=
  let arg2 : BitVec 32 := BitVec.ofNat 32 (i 2).val
  let c256_i32_306 : BitVec 32 := 256#32
  let v494 : BitVec 32 := Scalar.muli arg2 c256_i32_306
  v494
def k0_mult50 (i : grid0.Coords) : BitVec 32 :=
  let arg2 : BitVec 32 := BitVec.ofNat 32 (i 2).val
  let c256_i32_332 : BitVec 32 := 256#32
  let v533 : BitVec 32 := Scalar.muli arg2 c256_i32_332
  v533
def k0_mult51 (i : grid0.Coords) : BitVec 32 :=
  let arg2 : BitVec 32 := BitVec.ofNat 32 (i 2).val
  let c256_i32_340 : BitVec 32 := 256#32
  let v541 : BitVec 32 := Scalar.muli arg2 c256_i32_340
  v541
@[reducible] def k0_t3_loop (i : grid0.Coords) : Scf.Loop 32 :=
  let c0_i32_475 : BitVec 32 := 0#32
  let arg2 : BitVec 32 := BitVec.ofNat 32 (i 2).val
  let v727 : BitVec 32 := Scalar.subi arg2 c0_i32_475
  let c1_i32_476 : BitVec 32 := 1#32
  let v729 : BitVec 32 := Scalar.divsi v727 c1_i32_476
  let v730 : BitVec 32 := Scalar.muli v729 c1_i32_476
  let v731 : BitVec 32 := Scalar.addi c0_i32_475 v730
  let c1_i32_477 : BitVec 32 := 1#32
  ⟨c0_i32_475, v731, c1_i32_477⟩
def k0_mult52 (i : grid0.Coords) (k0_t3 : Fin (k0_t3_loop i).trips) : BitVec 32 :=
  let c0_i32_475 : BitVec 32 := 0#32
  let c1_i32_477 : BitVec 32 := 1#32
  let arg15 : BitVec 32 := Scf.iv c0_i32_475 c1_i32_477 k0_t3
  let c256_i32_913 : BitVec 32 := 256#32
  let v1331 : BitVec 32 := Scalar.muli arg15 c256_i32_913
  v1331
def k0_off10 (i : grid0.Coords) (k0_t3 : Fin (k0_t3_loop i).trips) : Fin 4 → Nat :=
  let c0_914 : Index := 0#32
  let c0_915 : Index := 0#32
  let c0_i32_475 : BitVec 32 := 0#32
  let c1_i32_477 : BitVec 32 := 1#32
  let arg15 : BitVec 32 := Scf.iv c0_i32_475 c1_i32_477 k0_t3
  let c256_i32_913 : BitVec 32 := 256#32
  let v1331 : BitVec 32 := Scalar.muli arg15 c256_i32_913
  let v1332 : BitVec 32 := v1331
  let v1333 : Index := Scalar.indexCast v1332
  let c0_916 : Index := 0#32
  ![0, 0, v1333.toNat, 0]
def k0_mult53 (i : grid0.Coords) (k0_t3 : Fin (k0_t3_loop i).trips) : BitVec 32 :=
  let c0_i32_475 : BitVec 32 := 0#32
  let c1_i32_477 : BitVec 32 := 1#32
  let arg15 : BitVec 32 := Scf.iv c0_i32_475 c1_i32_477 k0_t3
  let c256_i32_921 : BitVec 32 := 256#32
  let v1339 : BitVec 32 := Scalar.muli arg15 c256_i32_921
  v1339
def k0_off11 (i : grid0.Coords) (k0_t3 : Fin (k0_t3_loop i).trips) : Fin 4 → Nat :=
  let c0_922 : Index := 0#32
  let c0_923 : Index := 0#32
  let c0_i32_475 : BitVec 32 := 0#32
  let c1_i32_477 : BitVec 32 := 1#32
  let arg15 : BitVec 32 := Scf.iv c0_i32_475 c1_i32_477 k0_t3
  let c256_i32_921 : BitVec 32 := 256#32
  let v1339 : BitVec 32 := Scalar.muli arg15 c256_i32_921
  let v1340 : BitVec 32 := v1339
  let v1341 : Index := Scalar.indexCast v1340
  let c0_924 : Index := 0#32
  ![0, 0, v1341.toNat, 0]
def k0_mult54 (i : grid0.Coords) (k0_t3 : Fin (k0_t3_loop i).trips) : BitVec 32 :=
  let c0_i32_475 : BitVec 32 := 0#32
  let c1_i32_477 : BitVec 32 := 1#32
  let arg15 : BitVec 32 := Scf.iv c0_i32_475 c1_i32_477 k0_t3
  let c256_i32_932 : BitVec 32 := 256#32
  let v1355 : BitVec 32 := Scalar.muli arg15 c256_i32_932
  v1355
def k0_mult55 (i : grid0.Coords) (k0_t3 : Fin (k0_t3_loop i).trips) : BitVec 32 :=
  let c0_i32_475 : BitVec 32 := 0#32
  let c1_i32_477 : BitVec 32 := 1#32
  let arg15 : BitVec 32 := Scf.iv c0_i32_475 c1_i32_477 k0_t3
  let c256_i32_940 : BitVec 32 := 256#32
  let v1363 : BitVec 32 := Scalar.muli arg15 c256_i32_940
  v1363
def k0_mult56 (i : grid0.Coords) (k0_t3 : Fin (k0_t3_loop i).trips) : BitVec 32 :=
  let c0_i32_475 : BitVec 32 := 0#32
  let c1_i32_477 : BitVec 32 := 1#32
  let arg15 : BitVec 32 := Scf.iv c0_i32_475 c1_i32_477 k0_t3
  let c256_i32_951 : BitVec 32 := 256#32
  let v1379 : BitVec 32 := Scalar.muli arg15 c256_i32_951
  v1379
def k0_mult57 (i : grid0.Coords) (k0_t3 : Fin (k0_t3_loop i).trips) : BitVec 32 :=
  let c0_i32_475 : BitVec 32 := 0#32
  let c1_i32_477 : BitVec 32 := 1#32
  let arg15 : BitVec 32 := Scf.iv c0_i32_475 c1_i32_477 k0_t3
  let c256_i32_959 : BitVec 32 := 256#32
  let v1387 : BitVec 32 := Scalar.muli arg15 c256_i32_959
  v1387
def k0_mult58 (i : grid0.Coords) (k0_t3 : Fin (k0_t3_loop i).trips) : BitVec 32 :=
  let c0_i32_475 : BitVec 32 := 0#32
  let c1_i32_477 : BitVec 32 := 1#32
  let arg15 : BitVec 32 := Scf.iv c0_i32_475 c1_i32_477 k0_t3
  let c256_i32_970 : BitVec 32 := 256#32
  let v1403 : BitVec 32 := Scalar.muli arg15 c256_i32_970
  v1403
def k0_mult59 (i : grid0.Coords) (k0_t3 : Fin (k0_t3_loop i).trips) : BitVec 32 :=
  let c0_i32_475 : BitVec 32 := 0#32
  let c1_i32_477 : BitVec 32 := 1#32
  let arg15 : BitVec 32 := Scf.iv c0_i32_475 c1_i32_477 k0_t3
  let c256_i32_978 : BitVec 32 := 256#32
  let v1411 : BitVec 32 := Scalar.muli arg15 c256_i32_978
  v1411
def k0_mult60 (i : grid0.Coords) (k0_t3 : Fin (k0_t3_loop i).trips) : BitVec 32 :=
  let c0_i32_475 : BitVec 32 := 0#32
  let c1_i32_477 : BitVec 32 := 1#32
  let arg15 : BitVec 32 := Scf.iv c0_i32_475 c1_i32_477 k0_t3
  let c256_i32_989 : BitVec 32 := 256#32
  let v1427 : BitVec 32 := Scalar.muli arg15 c256_i32_989
  v1427
def k0_mult61 (i : grid0.Coords) (k0_t3 : Fin (k0_t3_loop i).trips) : BitVec 32 :=
  let c0_i32_475 : BitVec 32 := 0#32
  let c1_i32_477 : BitVec 32 := 1#32
  let arg15 : BitVec 32 := Scf.iv c0_i32_475 c1_i32_477 k0_t3
  let c256_i32_997 : BitVec 32 := 256#32
  let v1435 : BitVec 32 := Scalar.muli arg15 c256_i32_997
  v1435
def k0_mult62 (i : grid0.Coords) (k0_t3 : Fin (k0_t3_loop i).trips) : BitVec 32 :=
  let c0_i32_475 : BitVec 32 := 0#32
  let c1_i32_477 : BitVec 32 := 1#32
  let arg15 : BitVec 32 := Scf.iv c0_i32_475 c1_i32_477 k0_t3
  let c256_i32_1008 : BitVec 32 := 256#32
  let v1451 : BitVec 32 := Scalar.muli arg15 c256_i32_1008
  v1451
def k0_mult63 (i : grid0.Coords) (k0_t3 : Fin (k0_t3_loop i).trips) : BitVec 32 :=
  let c0_i32_475 : BitVec 32 := 0#32
  let c1_i32_477 : BitVec 32 := 1#32
  let arg15 : BitVec 32 := Scf.iv c0_i32_475 c1_i32_477 k0_t3
  let c256_i32_1016 : BitVec 32 := 256#32
  let v1459 : BitVec 32 := Scalar.muli arg15 c256_i32_1016
  v1459
def k0_mult64 (i : grid0.Coords) (k0_t3 : Fin (k0_t3_loop i).trips) : BitVec 32 :=
  let c0_i32_475 : BitVec 32 := 0#32
  let c1_i32_477 : BitVec 32 := 1#32
  let arg15 : BitVec 32 := Scf.iv c0_i32_475 c1_i32_477 k0_t3
  let c256_i32_1027 : BitVec 32 := 256#32
  let v1475 : BitVec 32 := Scalar.muli arg15 c256_i32_1027
  v1475
def k0_mult65 (i : grid0.Coords) (k0_t3 : Fin (k0_t3_loop i).trips) : BitVec 32 :=
  let c0_i32_475 : BitVec 32 := 0#32
  let c1_i32_477 : BitVec 32 := 1#32
  let arg15 : BitVec 32 := Scf.iv c0_i32_475 c1_i32_477 k0_t3
  let c256_i32_1035 : BitVec 32 := 256#32
  let v1483 : BitVec 32 := Scalar.muli arg15 c256_i32_1035
  v1483
@[reducible] def k0_t4_loop (i : grid0.Coords) : Scf.Loop 32 :=
  let c0_i32_475 : BitVec 32 := 0#32
  let arg2 : BitVec 32 := BitVec.ofNat 32 (i 2).val
  let v727 : BitVec 32 := Scalar.subi arg2 c0_i32_475
  let c1_i32_476 : BitVec 32 := 1#32
  let v729 : BitVec 32 := Scalar.divsi v727 c1_i32_476
  let v730 : BitVec 32 := Scalar.muli v729 c1_i32_476
  let v731 : BitVec 32 := Scalar.addi c0_i32_475 v730
  let v728 : BitVec 32 := Scalar.addi c0_i32_475 v727
  let c1_i32_478 : BitVec 32 := 1#32
  ⟨v731, v728, c1_i32_478⟩
def k0_mult66 (i : grid0.Coords) (k0_t4 : Fin (k0_t4_loop i).trips) : BitVec 32 :=
  let c0_i32_475 : BitVec 32 := 0#32
  let arg2 : BitVec 32 := BitVec.ofNat 32 (i 2).val
  let v727 : BitVec 32 := Scalar.subi arg2 c0_i32_475
  let c1_i32_476 : BitVec 32 := 1#32
  let v729 : BitVec 32 := Scalar.divsi v727 c1_i32_476
  let v730 : BitVec 32 := Scalar.muli v729 c1_i32_476
  let v731 : BitVec 32 := Scalar.addi c0_i32_475 v730
  let c1_i32_478 : BitVec 32 := 1#32
  let arg15 : BitVec 32 := Scf.iv v731 c1_i32_478 k0_t4
  let c256_i32_913 : BitVec 32 := 256#32
  let v1331 : BitVec 32 := Scalar.muli arg15 c256_i32_913
  v1331
def k0_off12 (i : grid0.Coords) (k0_t4 : Fin (k0_t4_loop i).trips) : Fin 4 → Nat :=
  let c0_914 : Index := 0#32
  let c0_915 : Index := 0#32
  let c0_i32_475 : BitVec 32 := 0#32
  let arg2 : BitVec 32 := BitVec.ofNat 32 (i 2).val
  let v727 : BitVec 32 := Scalar.subi arg2 c0_i32_475
  let c1_i32_476 : BitVec 32 := 1#32
  let v729 : BitVec 32 := Scalar.divsi v727 c1_i32_476
  let v730 : BitVec 32 := Scalar.muli v729 c1_i32_476
  let v731 : BitVec 32 := Scalar.addi c0_i32_475 v730
  let c1_i32_478 : BitVec 32 := 1#32
  let arg15 : BitVec 32 := Scf.iv v731 c1_i32_478 k0_t4
  let c256_i32_913 : BitVec 32 := 256#32
  let v1331 : BitVec 32 := Scalar.muli arg15 c256_i32_913
  let v1332 : BitVec 32 := v1331
  let v1333 : Index := Scalar.indexCast v1332
  let c0_916 : Index := 0#32
  ![0, 0, v1333.toNat, 0]
def k0_mult67 (i : grid0.Coords) (k0_t4 : Fin (k0_t4_loop i).trips) : BitVec 32 :=
  let c0_i32_475 : BitVec 32 := 0#32
  let arg2 : BitVec 32 := BitVec.ofNat 32 (i 2).val
  let v727 : BitVec 32 := Scalar.subi arg2 c0_i32_475
  let c1_i32_476 : BitVec 32 := 1#32
  let v729 : BitVec 32 := Scalar.divsi v727 c1_i32_476
  let v730 : BitVec 32 := Scalar.muli v729 c1_i32_476
  let v731 : BitVec 32 := Scalar.addi c0_i32_475 v730
  let c1_i32_478 : BitVec 32 := 1#32
  let arg15 : BitVec 32 := Scf.iv v731 c1_i32_478 k0_t4
  let c256_i32_921 : BitVec 32 := 256#32
  let v1339 : BitVec 32 := Scalar.muli arg15 c256_i32_921
  v1339
def k0_off13 (i : grid0.Coords) (k0_t4 : Fin (k0_t4_loop i).trips) : Fin 4 → Nat :=
  let c0_922 : Index := 0#32
  let c0_923 : Index := 0#32
  let c0_i32_475 : BitVec 32 := 0#32
  let arg2 : BitVec 32 := BitVec.ofNat 32 (i 2).val
  let v727 : BitVec 32 := Scalar.subi arg2 c0_i32_475
  let c1_i32_476 : BitVec 32 := 1#32
  let v729 : BitVec 32 := Scalar.divsi v727 c1_i32_476
  let v730 : BitVec 32 := Scalar.muli v729 c1_i32_476
  let v731 : BitVec 32 := Scalar.addi c0_i32_475 v730
  let c1_i32_478 : BitVec 32 := 1#32
  let arg15 : BitVec 32 := Scf.iv v731 c1_i32_478 k0_t4
  let c256_i32_921 : BitVec 32 := 256#32
  let v1339 : BitVec 32 := Scalar.muli arg15 c256_i32_921
  let v1340 : BitVec 32 := v1339
  let v1341 : Index := Scalar.indexCast v1340
  let c0_924 : Index := 0#32
  ![0, 0, v1341.toNat, 0]
def k0_mult68 (i : grid0.Coords) (k0_t4 : Fin (k0_t4_loop i).trips) : BitVec 32 :=
  let c0_i32_475 : BitVec 32 := 0#32
  let arg2 : BitVec 32 := BitVec.ofNat 32 (i 2).val
  let v727 : BitVec 32 := Scalar.subi arg2 c0_i32_475
  let c1_i32_476 : BitVec 32 := 1#32
  let v729 : BitVec 32 := Scalar.divsi v727 c1_i32_476
  let v730 : BitVec 32 := Scalar.muli v729 c1_i32_476
  let v731 : BitVec 32 := Scalar.addi c0_i32_475 v730
  let c1_i32_478 : BitVec 32 := 1#32
  let arg15 : BitVec 32 := Scf.iv v731 c1_i32_478 k0_t4
  let c256_i32_932 : BitVec 32 := 256#32
  let v1355 : BitVec 32 := Scalar.muli arg15 c256_i32_932
  v1355
def k0_mult69 (i : grid0.Coords) (k0_t4 : Fin (k0_t4_loop i).trips) : BitVec 32 :=
  let c0_i32_475 : BitVec 32 := 0#32
  let arg2 : BitVec 32 := BitVec.ofNat 32 (i 2).val
  let v727 : BitVec 32 := Scalar.subi arg2 c0_i32_475
  let c1_i32_476 : BitVec 32 := 1#32
  let v729 : BitVec 32 := Scalar.divsi v727 c1_i32_476
  let v730 : BitVec 32 := Scalar.muli v729 c1_i32_476
  let v731 : BitVec 32 := Scalar.addi c0_i32_475 v730
  let c1_i32_478 : BitVec 32 := 1#32
  let arg15 : BitVec 32 := Scf.iv v731 c1_i32_478 k0_t4
  let c256_i32_940 : BitVec 32 := 256#32
  let v1363 : BitVec 32 := Scalar.muli arg15 c256_i32_940
  v1363
def k0_mult70 (i : grid0.Coords) (k0_t4 : Fin (k0_t4_loop i).trips) : BitVec 32 :=
  let c0_i32_475 : BitVec 32 := 0#32
  let arg2 : BitVec 32 := BitVec.ofNat 32 (i 2).val
  let v727 : BitVec 32 := Scalar.subi arg2 c0_i32_475
  let c1_i32_476 : BitVec 32 := 1#32
  let v729 : BitVec 32 := Scalar.divsi v727 c1_i32_476
  let v730 : BitVec 32 := Scalar.muli v729 c1_i32_476
  let v731 : BitVec 32 := Scalar.addi c0_i32_475 v730
  let c1_i32_478 : BitVec 32 := 1#32
  let arg15 : BitVec 32 := Scf.iv v731 c1_i32_478 k0_t4
  let c256_i32_951 : BitVec 32 := 256#32
  let v1379 : BitVec 32 := Scalar.muli arg15 c256_i32_951
  v1379
def k0_mult71 (i : grid0.Coords) (k0_t4 : Fin (k0_t4_loop i).trips) : BitVec 32 :=
  let c0_i32_475 : BitVec 32 := 0#32
  let arg2 : BitVec 32 := BitVec.ofNat 32 (i 2).val
  let v727 : BitVec 32 := Scalar.subi arg2 c0_i32_475
  let c1_i32_476 : BitVec 32 := 1#32
  let v729 : BitVec 32 := Scalar.divsi v727 c1_i32_476
  let v730 : BitVec 32 := Scalar.muli v729 c1_i32_476
  let v731 : BitVec 32 := Scalar.addi c0_i32_475 v730
  let c1_i32_478 : BitVec 32 := 1#32
  let arg15 : BitVec 32 := Scf.iv v731 c1_i32_478 k0_t4
  let c256_i32_959 : BitVec 32 := 256#32
  let v1387 : BitVec 32 := Scalar.muli arg15 c256_i32_959
  v1387
def k0_mult72 (i : grid0.Coords) (k0_t4 : Fin (k0_t4_loop i).trips) : BitVec 32 :=
  let c0_i32_475 : BitVec 32 := 0#32
  let arg2 : BitVec 32 := BitVec.ofNat 32 (i 2).val
  let v727 : BitVec 32 := Scalar.subi arg2 c0_i32_475
  let c1_i32_476 : BitVec 32 := 1#32
  let v729 : BitVec 32 := Scalar.divsi v727 c1_i32_476
  let v730 : BitVec 32 := Scalar.muli v729 c1_i32_476
  let v731 : BitVec 32 := Scalar.addi c0_i32_475 v730
  let c1_i32_478 : BitVec 32 := 1#32
  let arg15 : BitVec 32 := Scf.iv v731 c1_i32_478 k0_t4
  let c256_i32_970 : BitVec 32 := 256#32
  let v1403 : BitVec 32 := Scalar.muli arg15 c256_i32_970
  v1403
def k0_mult73 (i : grid0.Coords) (k0_t4 : Fin (k0_t4_loop i).trips) : BitVec 32 :=
  let c0_i32_475 : BitVec 32 := 0#32
  let arg2 : BitVec 32 := BitVec.ofNat 32 (i 2).val
  let v727 : BitVec 32 := Scalar.subi arg2 c0_i32_475
  let c1_i32_476 : BitVec 32 := 1#32
  let v729 : BitVec 32 := Scalar.divsi v727 c1_i32_476
  let v730 : BitVec 32 := Scalar.muli v729 c1_i32_476
  let v731 : BitVec 32 := Scalar.addi c0_i32_475 v730
  let c1_i32_478 : BitVec 32 := 1#32
  let arg15 : BitVec 32 := Scf.iv v731 c1_i32_478 k0_t4
  let c256_i32_978 : BitVec 32 := 256#32
  let v1411 : BitVec 32 := Scalar.muli arg15 c256_i32_978
  v1411
def k0_mult74 (i : grid0.Coords) (k0_t4 : Fin (k0_t4_loop i).trips) : BitVec 32 :=
  let c0_i32_475 : BitVec 32 := 0#32
  let arg2 : BitVec 32 := BitVec.ofNat 32 (i 2).val
  let v727 : BitVec 32 := Scalar.subi arg2 c0_i32_475
  let c1_i32_476 : BitVec 32 := 1#32
  let v729 : BitVec 32 := Scalar.divsi v727 c1_i32_476
  let v730 : BitVec 32 := Scalar.muli v729 c1_i32_476
  let v731 : BitVec 32 := Scalar.addi c0_i32_475 v730
  let c1_i32_478 : BitVec 32 := 1#32
  let arg15 : BitVec 32 := Scf.iv v731 c1_i32_478 k0_t4
  let c256_i32_989 : BitVec 32 := 256#32
  let v1427 : BitVec 32 := Scalar.muli arg15 c256_i32_989
  v1427
def k0_mult75 (i : grid0.Coords) (k0_t4 : Fin (k0_t4_loop i).trips) : BitVec 32 :=
  let c0_i32_475 : BitVec 32 := 0#32
  let arg2 : BitVec 32 := BitVec.ofNat 32 (i 2).val
  let v727 : BitVec 32 := Scalar.subi arg2 c0_i32_475
  let c1_i32_476 : BitVec 32 := 1#32
  let v729 : BitVec 32 := Scalar.divsi v727 c1_i32_476
  let v730 : BitVec 32 := Scalar.muli v729 c1_i32_476
  let v731 : BitVec 32 := Scalar.addi c0_i32_475 v730
  let c1_i32_478 : BitVec 32 := 1#32
  let arg15 : BitVec 32 := Scf.iv v731 c1_i32_478 k0_t4
  let c256_i32_997 : BitVec 32 := 256#32
  let v1435 : BitVec 32 := Scalar.muli arg15 c256_i32_997
  v1435
def k0_mult76 (i : grid0.Coords) (k0_t4 : Fin (k0_t4_loop i).trips) : BitVec 32 :=
  let c0_i32_475 : BitVec 32 := 0#32
  let arg2 : BitVec 32 := BitVec.ofNat 32 (i 2).val
  let v727 : BitVec 32 := Scalar.subi arg2 c0_i32_475
  let c1_i32_476 : BitVec 32 := 1#32
  let v729 : BitVec 32 := Scalar.divsi v727 c1_i32_476
  let v730 : BitVec 32 := Scalar.muli v729 c1_i32_476
  let v731 : BitVec 32 := Scalar.addi c0_i32_475 v730
  let c1_i32_478 : BitVec 32 := 1#32
  let arg15 : BitVec 32 := Scf.iv v731 c1_i32_478 k0_t4
  let c256_i32_1008 : BitVec 32 := 256#32
  let v1451 : BitVec 32 := Scalar.muli arg15 c256_i32_1008
  v1451
def k0_mult77 (i : grid0.Coords) (k0_t4 : Fin (k0_t4_loop i).trips) : BitVec 32 :=
  let c0_i32_475 : BitVec 32 := 0#32
  let arg2 : BitVec 32 := BitVec.ofNat 32 (i 2).val
  let v727 : BitVec 32 := Scalar.subi arg2 c0_i32_475
  let c1_i32_476 : BitVec 32 := 1#32
  let v729 : BitVec 32 := Scalar.divsi v727 c1_i32_476
  let v730 : BitVec 32 := Scalar.muli v729 c1_i32_476
  let v731 : BitVec 32 := Scalar.addi c0_i32_475 v730
  let c1_i32_478 : BitVec 32 := 1#32
  let arg15 : BitVec 32 := Scf.iv v731 c1_i32_478 k0_t4
  let c256_i32_1016 : BitVec 32 := 256#32
  let v1459 : BitVec 32 := Scalar.muli arg15 c256_i32_1016
  v1459
def k0_mult78 (i : grid0.Coords) (k0_t4 : Fin (k0_t4_loop i).trips) : BitVec 32 :=
  let c0_i32_475 : BitVec 32 := 0#32
  let arg2 : BitVec 32 := BitVec.ofNat 32 (i 2).val
  let v727 : BitVec 32 := Scalar.subi arg2 c0_i32_475
  let c1_i32_476 : BitVec 32 := 1#32
  let v729 : BitVec 32 := Scalar.divsi v727 c1_i32_476
  let v730 : BitVec 32 := Scalar.muli v729 c1_i32_476
  let v731 : BitVec 32 := Scalar.addi c0_i32_475 v730
  let c1_i32_478 : BitVec 32 := 1#32
  let arg15 : BitVec 32 := Scf.iv v731 c1_i32_478 k0_t4
  let c256_i32_1027 : BitVec 32 := 256#32
  let v1475 : BitVec 32 := Scalar.muli arg15 c256_i32_1027
  v1475
def k0_mult79 (i : grid0.Coords) (k0_t4 : Fin (k0_t4_loop i).trips) : BitVec 32 :=
  let c0_i32_475 : BitVec 32 := 0#32
  let arg2 : BitVec 32 := BitVec.ofNat 32 (i 2).val
  let v727 : BitVec 32 := Scalar.subi arg2 c0_i32_475
  let c1_i32_476 : BitVec 32 := 1#32
  let v729 : BitVec 32 := Scalar.divsi v727 c1_i32_476
  let v730 : BitVec 32 := Scalar.muli v729 c1_i32_476
  let v731 : BitVec 32 := Scalar.addi c0_i32_475 v730
  let c1_i32_478 : BitVec 32 := 1#32
  let arg15 : BitVec 32 := Scf.iv v731 c1_i32_478 k0_t4
  let c256_i32_1035 : BitVec 32 := 256#32
  let v1483 : BitVec 32 := Scalar.muli arg15 c256_i32_1035
  v1483
def k0_mult80 (i : grid0.Coords) : BitVec 32 :=
  let arg2 : BitVec 32 := BitVec.ofNat 32 (i 2).val
  let c256_i32_479 : BitVec 32 := 256#32
  let v732 : BitVec 32 := Scalar.muli arg2 c256_i32_479
  v732
def k0_off14 (i : grid0.Coords) : Fin 4 → Nat :=
  let c0_480 : Index := 0#32
  let c0_481 : Index := 0#32
  let arg2 : BitVec 32 := BitVec.ofNat 32 (i 2).val
  let c256_i32_479 : BitVec 32 := 256#32
  let v732 : BitVec 32 := Scalar.muli arg2 c256_i32_479
  let v733 : BitVec 32 := v732
  let v734 : Index := Scalar.indexCast v733
  let c0_482 : Index := 0#32
  ![0, 0, v734.toNat, 0]
def k0_mult81 (i : grid0.Coords) : BitVec 32 :=
  let arg2 : BitVec 32 := BitVec.ofNat 32 (i 2).val
  let c256_i32_487 : BitVec 32 := 256#32
  let v740 : BitVec 32 := Scalar.muli arg2 c256_i32_487
  v740
def k0_off15 (i : grid0.Coords) : Fin 4 → Nat :=
  let c0_488 : Index := 0#32
  let c0_489 : Index := 0#32
  let arg2 : BitVec 32 := BitVec.ofNat 32 (i 2).val
  let c256_i32_487 : BitVec 32 := 256#32
  let v740 : BitVec 32 := Scalar.muli arg2 c256_i32_487
  let v741 : BitVec 32 := v740
  let v742 : Index := Scalar.indexCast v741
  let c0_490 : Index := 0#32
  ![0, 0, v742.toNat, 0]
def k0_mult82 (i : grid0.Coords) : BitVec 32 :=
  let arg2 : BitVec 32 := BitVec.ofNat 32 (i 2).val
  let c256_i32_499 : BitVec 32 := 256#32
  let v761 : BitVec 32 := Scalar.muli arg2 c256_i32_499
  v761
def k0_mult83 (i : grid0.Coords) : BitVec 32 :=
  let arg2 : BitVec 32 := BitVec.ofNat 32 (i 2).val
  let c256_i32_507 : BitVec 32 := 256#32
  let v769 : BitVec 32 := Scalar.muli arg2 c256_i32_507
  v769
def k0_mult84 (i : grid0.Coords) : BitVec 32 :=
  let arg2 : BitVec 32 := BitVec.ofNat 32 (i 2).val
  let c256_i32_519 : BitVec 32 := 256#32
  let v790 : BitVec 32 := Scalar.muli arg2 c256_i32_519
  v790
def k0_mult85 (i : grid0.Coords) : BitVec 32 :=
  let arg2 : BitVec 32 := BitVec.ofNat 32 (i 2).val
  let c256_i32_527 : BitVec 32 := 256#32
  let v798 : BitVec 32 := Scalar.muli arg2 c256_i32_527
  v798
def k0_mult86 (i : grid0.Coords) : BitVec 32 :=
  let arg2 : BitVec 32 := BitVec.ofNat 32 (i 2).val
  let c256_i32_539 : BitVec 32 := 256#32
  let v819 : BitVec 32 := Scalar.muli arg2 c256_i32_539
  v819
def k0_mult87 (i : grid0.Coords) : BitVec 32 :=
  let arg2 : BitVec 32 := BitVec.ofNat 32 (i 2).val
  let c256_i32_547 : BitVec 32 := 256#32
  let v827 : BitVec 32 := Scalar.muli arg2 c256_i32_547
  v827
def k0_mult88 (i : grid0.Coords) : BitVec 32 :=
  let arg2 : BitVec 32 := BitVec.ofNat 32 (i 2).val
  let c256_i32_559 : BitVec 32 := 256#32
  let v848 : BitVec 32 := Scalar.muli arg2 c256_i32_559
  v848
def k0_mult89 (i : grid0.Coords) : BitVec 32 :=
  let arg2 : BitVec 32 := BitVec.ofNat 32 (i 2).val
  let c256_i32_567 : BitVec 32 := 256#32
  let v856 : BitVec 32 := Scalar.muli arg2 c256_i32_567
  v856
def k0_mult90 (i : grid0.Coords) : BitVec 32 :=
  let arg2 : BitVec 32 := BitVec.ofNat 32 (i 2).val
  let c256_i32_579 : BitVec 32 := 256#32
  let v877 : BitVec 32 := Scalar.muli arg2 c256_i32_579
  v877
def k0_mult91 (i : grid0.Coords) : BitVec 32 :=
  let arg2 : BitVec 32 := BitVec.ofNat 32 (i 2).val
  let c256_i32_587 : BitVec 32 := 256#32
  let v885 : BitVec 32 := Scalar.muli arg2 c256_i32_587
  v885
def k0_mult92 (i : grid0.Coords) : BitVec 32 :=
  let arg2 : BitVec 32 := BitVec.ofNat 32 (i 2).val
  let c256_i32_599 : BitVec 32 := 256#32
  let v906 : BitVec 32 := Scalar.muli arg2 c256_i32_599
  v906
def k0_mult93 (i : grid0.Coords) : BitVec 32 :=
  let arg2 : BitVec 32 := BitVec.ofNat 32 (i 2).val
  let c256_i32_607 : BitVec 32 := 256#32
  let v914 : BitVec 32 := Scalar.muli arg2 c256_i32_607
  v914
@[reducible] def k0_t5_loop (i : grid0.Coords) : Scf.Loop 32 :=
  let c0_i32_638 : BitVec 32 := 0#32
  let arg2 : BitVec 32 := BitVec.ofNat 32 (i 2).val
  let v952 : BitVec 32 := Scalar.subi arg2 c0_i32_638
  let c1_i32_639 : BitVec 32 := 1#32
  let v954 : BitVec 32 := Scalar.divsi v952 c1_i32_639
  let v955 : BitVec 32 := Scalar.muli v954 c1_i32_639
  let v956 : BitVec 32 := Scalar.addi c0_i32_638 v955
  let c1_i32_640 : BitVec 32 := 1#32
  ⟨c0_i32_638, v956, c1_i32_640⟩
def k0_mult94 (i : grid0.Coords) (k0_t5 : Fin (k0_t5_loop i).trips) : BitVec 32 :=
  let c0_i32_638 : BitVec 32 := 0#32
  let c1_i32_640 : BitVec 32 := 1#32
  let arg15 : BitVec 32 := Scf.iv c0_i32_638 c1_i32_640 k0_t5
  let c256_i32_913 : BitVec 32 := 256#32
  let v1331 : BitVec 32 := Scalar.muli arg15 c256_i32_913
  v1331
def k0_off16 (i : grid0.Coords) (k0_t5 : Fin (k0_t5_loop i).trips) : Fin 4 → Nat :=
  let c0_914 : Index := 0#32
  let c0_915 : Index := 0#32
  let c0_916 : Index := 0#32
  let c0_i32_638 : BitVec 32 := 0#32
  let c1_i32_640 : BitVec 32 := 1#32
  let arg15 : BitVec 32 := Scf.iv c0_i32_638 c1_i32_640 k0_t5
  let c256_i32_913 : BitVec 32 := 256#32
  let v1331 : BitVec 32 := Scalar.muli arg15 c256_i32_913
  let v1332 : BitVec 32 := v1331
  let v1333 : Index := Scalar.indexCast v1332
  ![0, 0, 0, v1333.toNat]
def k0_mult95 (i : grid0.Coords) (k0_t5 : Fin (k0_t5_loop i).trips) : BitVec 32 :=
  let c0_i32_638 : BitVec 32 := 0#32
  let c1_i32_640 : BitVec 32 := 1#32
  let arg15 : BitVec 32 := Scf.iv c0_i32_638 c1_i32_640 k0_t5
  let c256_i32_917 : BitVec 32 := 256#32
  let v1336 : BitVec 32 := Scalar.muli arg15 c256_i32_917
  v1336
def k0_off17 (i : grid0.Coords) (k0_t5 : Fin (k0_t5_loop i).trips) : Fin 4 → Nat :=
  let c0_918 : Index := 0#32
  let c0_919 : Index := 0#32
  let c0_i32_638 : BitVec 32 := 0#32
  let c1_i32_640 : BitVec 32 := 1#32
  let arg15 : BitVec 32 := Scf.iv c0_i32_638 c1_i32_640 k0_t5
  let c256_i32_917 : BitVec 32 := 256#32
  let v1336 : BitVec 32 := Scalar.muli arg15 c256_i32_917
  let v1337 : BitVec 32 := v1336
  let v1338 : Index := Scalar.indexCast v1337
  let c0_920 : Index := 0#32
  ![0, 0, v1338.toNat, 0]
def k0_mult96 (i : grid0.Coords) (k0_t5 : Fin (k0_t5_loop i).trips) : BitVec 32 :=
  let c0_i32_638 : BitVec 32 := 0#32
  let c1_i32_640 : BitVec 32 := 1#32
  let arg15 : BitVec 32 := Scf.iv c0_i32_638 c1_i32_640 k0_t5
  let c256_i32_921 : BitVec 32 := 256#32
  let v1342 : BitVec 32 := Scalar.muli arg15 c256_i32_921
  v1342
def k0_mult97 (i : grid0.Coords) (k0_t5 : Fin (k0_t5_loop i).trips) : BitVec 32 :=
  let c0_i32_638 : BitVec 32 := 0#32
  let c1_i32_640 : BitVec 32 := 1#32
  let arg15 : BitVec 32 := Scf.iv c0_i32_638 c1_i32_640 k0_t5
  let c256_i32_925 : BitVec 32 := 256#32
  let v1348 : BitVec 32 := Scalar.muli arg15 c256_i32_925
  v1348
def k0_off18 (i : grid0.Coords) (k0_t5 : Fin (k0_t5_loop i).trips) : Fin 4 → Nat :=
  let c0_926 : Index := 0#32
  let c0_927 : Index := 0#32
  let c0_i32_638 : BitVec 32 := 0#32
  let c1_i32_640 : BitVec 32 := 1#32
  let arg15 : BitVec 32 := Scf.iv c0_i32_638 c1_i32_640 k0_t5
  let c256_i32_925 : BitVec 32 := 256#32
  let v1348 : BitVec 32 := Scalar.muli arg15 c256_i32_925
  let v1349 : BitVec 32 := v1348
  let v1350 : Index := Scalar.indexCast v1349
  let c0_928 : Index := 0#32
  ![0, 0, v1350.toNat, 0]
def k0_mult98 (i : grid0.Coords) (k0_t5 : Fin (k0_t5_loop i).trips) : BitVec 32 :=
  let c0_i32_638 : BitVec 32 := 0#32
  let c1_i32_640 : BitVec 32 := 1#32
  let arg15 : BitVec 32 := Scf.iv c0_i32_638 c1_i32_640 k0_t5
  let c256_i32_933 : BitVec 32 := 256#32
  let v1356 : BitVec 32 := Scalar.muli arg15 c256_i32_933
  v1356
def k0_mult99 (i : grid0.Coords) (k0_t5 : Fin (k0_t5_loop i).trips) : BitVec 32 :=
  let c0_i32_638 : BitVec 32 := 0#32
  let c1_i32_640 : BitVec 32 := 1#32
  let arg15 : BitVec 32 := Scf.iv c0_i32_638 c1_i32_640 k0_t5
  let c256_i32_961 : BitVec 32 := 256#32
  let v1394 : BitVec 32 := Scalar.muli arg15 c256_i32_961
  v1394
def k0_mult100 (i : grid0.Coords) (k0_t5 : Fin (k0_t5_loop i).trips) : BitVec 32 :=
  let c0_i32_638 : BitVec 32 := 0#32
  let c1_i32_640 : BitVec 32 := 1#32
  let arg15 : BitVec 32 := Scf.iv c0_i32_638 c1_i32_640 k0_t5
  let c256_i32_969 : BitVec 32 := 256#32
  let v1402 : BitVec 32 := Scalar.muli arg15 c256_i32_969
  v1402
def k0_mult101 (i : grid0.Coords) (k0_t5 : Fin (k0_t5_loop i).trips) : BitVec 32 :=
  let c0_i32_638 : BitVec 32 := 0#32
  let c1_i32_640 : BitVec 32 := 1#32
  let arg15 : BitVec 32 := Scf.iv c0_i32_638 c1_i32_640 k0_t5
  let c256_i32_997 : BitVec 32 := 256#32
  let v1440 : BitVec 32 := Scalar.muli arg15 c256_i32_997
  v1440
def k0_mult102 (i : grid0.Coords) (k0_t5 : Fin (k0_t5_loop i).trips) : BitVec 32 :=
  let c0_i32_638 : BitVec 32 := 0#32
  let c1_i32_640 : BitVec 32 := 1#32
  let arg15 : BitVec 32 := Scf.iv c0_i32_638 c1_i32_640 k0_t5
  let c256_i32_1005 : BitVec 32 := 256#32
  let v1448 : BitVec 32 := Scalar.muli arg15 c256_i32_1005
  v1448
def k0_mult103 (i : grid0.Coords) (k0_t5 : Fin (k0_t5_loop i).trips) : BitVec 32 :=
  let c0_i32_638 : BitVec 32 := 0#32
  let c1_i32_640 : BitVec 32 := 1#32
  let arg15 : BitVec 32 := Scf.iv c0_i32_638 c1_i32_640 k0_t5
  let c256_i32_1033 : BitVec 32 := 256#32
  let v1486 : BitVec 32 := Scalar.muli arg15 c256_i32_1033
  v1486
def k0_mult104 (i : grid0.Coords) (k0_t5 : Fin (k0_t5_loop i).trips) : BitVec 32 :=
  let c0_i32_638 : BitVec 32 := 0#32
  let c1_i32_640 : BitVec 32 := 1#32
  let arg15 : BitVec 32 := Scf.iv c0_i32_638 c1_i32_640 k0_t5
  let c256_i32_1041 : BitVec 32 := 256#32
  let v1494 : BitVec 32 := Scalar.muli arg15 c256_i32_1041
  v1494
def k0_mult105 (i : grid0.Coords) (k0_t5 : Fin (k0_t5_loop i).trips) : BitVec 32 :=
  let c0_i32_638 : BitVec 32 := 0#32
  let c1_i32_640 : BitVec 32 := 1#32
  let arg15 : BitVec 32 := Scf.iv c0_i32_638 c1_i32_640 k0_t5
  let c256_i32_1069 : BitVec 32 := 256#32
  let v1532 : BitVec 32 := Scalar.muli arg15 c256_i32_1069
  v1532
def k0_mult106 (i : grid0.Coords) (k0_t5 : Fin (k0_t5_loop i).trips) : BitVec 32 :=
  let c0_i32_638 : BitVec 32 := 0#32
  let c1_i32_640 : BitVec 32 := 1#32
  let arg15 : BitVec 32 := Scf.iv c0_i32_638 c1_i32_640 k0_t5
  let c256_i32_1077 : BitVec 32 := 256#32
  let v1540 : BitVec 32 := Scalar.muli arg15 c256_i32_1077
  v1540
def k0_mult107 (i : grid0.Coords) (k0_t5 : Fin (k0_t5_loop i).trips) : BitVec 32 :=
  let c0_i32_638 : BitVec 32 := 0#32
  let c1_i32_640 : BitVec 32 := 1#32
  let arg15 : BitVec 32 := Scf.iv c0_i32_638 c1_i32_640 k0_t5
  let c256_i32_1105 : BitVec 32 := 256#32
  let v1578 : BitVec 32 := Scalar.muli arg15 c256_i32_1105
  v1578
def k0_mult108 (i : grid0.Coords) (k0_t5 : Fin (k0_t5_loop i).trips) : BitVec 32 :=
  let c0_i32_638 : BitVec 32 := 0#32
  let c1_i32_640 : BitVec 32 := 1#32
  let arg15 : BitVec 32 := Scf.iv c0_i32_638 c1_i32_640 k0_t5
  let c256_i32_1113 : BitVec 32 := 256#32
  let v1586 : BitVec 32 := Scalar.muli arg15 c256_i32_1113
  v1586
def k0_mult109 (i : grid0.Coords) (k0_t5 : Fin (k0_t5_loop i).trips) : BitVec 32 :=
  let c0_i32_638 : BitVec 32 := 0#32
  let c1_i32_640 : BitVec 32 := 1#32
  let arg15 : BitVec 32 := Scf.iv c0_i32_638 c1_i32_640 k0_t5
  let c256_i32_1141 : BitVec 32 := 256#32
  let v1624 : BitVec 32 := Scalar.muli arg15 c256_i32_1141
  v1624
def k0_mult110 (i : grid0.Coords) (k0_t5 : Fin (k0_t5_loop i).trips) : BitVec 32 :=
  let c0_i32_638 : BitVec 32 := 0#32
  let c1_i32_640 : BitVec 32 := 1#32
  let arg15 : BitVec 32 := Scf.iv c0_i32_638 c1_i32_640 k0_t5
  let c256_i32_1149 : BitVec 32 := 256#32
  let v1632 : BitVec 32 := Scalar.muli arg15 c256_i32_1149
  v1632
@[reducible] def k0_t6_loop (i : grid0.Coords) : Scf.Loop 32 :=
  let c0_i32_638 : BitVec 32 := 0#32
  let arg2 : BitVec 32 := BitVec.ofNat 32 (i 2).val
  let v952 : BitVec 32 := Scalar.subi arg2 c0_i32_638
  let c1_i32_639 : BitVec 32 := 1#32
  let v954 : BitVec 32 := Scalar.divsi v952 c1_i32_639
  let v955 : BitVec 32 := Scalar.muli v954 c1_i32_639
  let v956 : BitVec 32 := Scalar.addi c0_i32_638 v955
  let v953 : BitVec 32 := Scalar.addi c0_i32_638 v952
  let c1_i32_641 : BitVec 32 := 1#32
  ⟨v956, v953, c1_i32_641⟩
def k0_mult111 (i : grid0.Coords) (k0_t6 : Fin (k0_t6_loop i).trips) : BitVec 32 :=
  let c0_i32_638 : BitVec 32 := 0#32
  let arg2 : BitVec 32 := BitVec.ofNat 32 (i 2).val
  let v952 : BitVec 32 := Scalar.subi arg2 c0_i32_638
  let c1_i32_639 : BitVec 32 := 1#32
  let v954 : BitVec 32 := Scalar.divsi v952 c1_i32_639
  let v955 : BitVec 32 := Scalar.muli v954 c1_i32_639
  let v956 : BitVec 32 := Scalar.addi c0_i32_638 v955
  let c1_i32_641 : BitVec 32 := 1#32
  let arg15 : BitVec 32 := Scf.iv v956 c1_i32_641 k0_t6
  let c256_i32_913 : BitVec 32 := 256#32
  let v1331 : BitVec 32 := Scalar.muli arg15 c256_i32_913
  v1331
def k0_off19 (i : grid0.Coords) (k0_t6 : Fin (k0_t6_loop i).trips) : Fin 4 → Nat :=
  let c0_914 : Index := 0#32
  let c0_915 : Index := 0#32
  let c0_916 : Index := 0#32
  let c0_i32_638 : BitVec 32 := 0#32
  let arg2 : BitVec 32 := BitVec.ofNat 32 (i 2).val
  let v952 : BitVec 32 := Scalar.subi arg2 c0_i32_638
  let c1_i32_639 : BitVec 32 := 1#32
  let v954 : BitVec 32 := Scalar.divsi v952 c1_i32_639
  let v955 : BitVec 32 := Scalar.muli v954 c1_i32_639
  let v956 : BitVec 32 := Scalar.addi c0_i32_638 v955
  let c1_i32_641 : BitVec 32 := 1#32
  let arg15 : BitVec 32 := Scf.iv v956 c1_i32_641 k0_t6
  let c256_i32_913 : BitVec 32 := 256#32
  let v1331 : BitVec 32 := Scalar.muli arg15 c256_i32_913
  let v1332 : BitVec 32 := v1331
  let v1333 : Index := Scalar.indexCast v1332
  ![0, 0, 0, v1333.toNat]
def k0_mult112 (i : grid0.Coords) (k0_t6 : Fin (k0_t6_loop i).trips) : BitVec 32 :=
  let c0_i32_638 : BitVec 32 := 0#32
  let arg2 : BitVec 32 := BitVec.ofNat 32 (i 2).val
  let v952 : BitVec 32 := Scalar.subi arg2 c0_i32_638
  let c1_i32_639 : BitVec 32 := 1#32
  let v954 : BitVec 32 := Scalar.divsi v952 c1_i32_639
  let v955 : BitVec 32 := Scalar.muli v954 c1_i32_639
  let v956 : BitVec 32 := Scalar.addi c0_i32_638 v955
  let c1_i32_641 : BitVec 32 := 1#32
  let arg15 : BitVec 32 := Scf.iv v956 c1_i32_641 k0_t6
  let c256_i32_917 : BitVec 32 := 256#32
  let v1336 : BitVec 32 := Scalar.muli arg15 c256_i32_917
  v1336
def k0_off20 (i : grid0.Coords) (k0_t6 : Fin (k0_t6_loop i).trips) : Fin 4 → Nat :=
  let c0_918 : Index := 0#32
  let c0_919 : Index := 0#32
  let c0_i32_638 : BitVec 32 := 0#32
  let arg2 : BitVec 32 := BitVec.ofNat 32 (i 2).val
  let v952 : BitVec 32 := Scalar.subi arg2 c0_i32_638
  let c1_i32_639 : BitVec 32 := 1#32
  let v954 : BitVec 32 := Scalar.divsi v952 c1_i32_639
  let v955 : BitVec 32 := Scalar.muli v954 c1_i32_639
  let v956 : BitVec 32 := Scalar.addi c0_i32_638 v955
  let c1_i32_641 : BitVec 32 := 1#32
  let arg15 : BitVec 32 := Scf.iv v956 c1_i32_641 k0_t6
  let c256_i32_917 : BitVec 32 := 256#32
  let v1336 : BitVec 32 := Scalar.muli arg15 c256_i32_917
  let v1337 : BitVec 32 := v1336
  let v1338 : Index := Scalar.indexCast v1337
  let c0_920 : Index := 0#32
  ![0, 0, v1338.toNat, 0]
def k0_mult113 (i : grid0.Coords) (k0_t6 : Fin (k0_t6_loop i).trips) : BitVec 32 :=
  let c0_i32_638 : BitVec 32 := 0#32
  let arg2 : BitVec 32 := BitVec.ofNat 32 (i 2).val
  let v952 : BitVec 32 := Scalar.subi arg2 c0_i32_638
  let c1_i32_639 : BitVec 32 := 1#32
  let v954 : BitVec 32 := Scalar.divsi v952 c1_i32_639
  let v955 : BitVec 32 := Scalar.muli v954 c1_i32_639
  let v956 : BitVec 32 := Scalar.addi c0_i32_638 v955
  let c1_i32_641 : BitVec 32 := 1#32
  let arg15 : BitVec 32 := Scf.iv v956 c1_i32_641 k0_t6
  let c256_i32_921 : BitVec 32 := 256#32
  let v1342 : BitVec 32 := Scalar.muli arg15 c256_i32_921
  v1342
def k0_mult114 (i : grid0.Coords) (k0_t6 : Fin (k0_t6_loop i).trips) : BitVec 32 :=
  let c0_i32_638 : BitVec 32 := 0#32
  let arg2 : BitVec 32 := BitVec.ofNat 32 (i 2).val
  let v952 : BitVec 32 := Scalar.subi arg2 c0_i32_638
  let c1_i32_639 : BitVec 32 := 1#32
  let v954 : BitVec 32 := Scalar.divsi v952 c1_i32_639
  let v955 : BitVec 32 := Scalar.muli v954 c1_i32_639
  let v956 : BitVec 32 := Scalar.addi c0_i32_638 v955
  let c1_i32_641 : BitVec 32 := 1#32
  let arg15 : BitVec 32 := Scf.iv v956 c1_i32_641 k0_t6
  let c256_i32_925 : BitVec 32 := 256#32
  let v1348 : BitVec 32 := Scalar.muli arg15 c256_i32_925
  v1348
def k0_off21 (i : grid0.Coords) (k0_t6 : Fin (k0_t6_loop i).trips) : Fin 4 → Nat :=
  let c0_926 : Index := 0#32
  let c0_927 : Index := 0#32
  let c0_i32_638 : BitVec 32 := 0#32
  let arg2 : BitVec 32 := BitVec.ofNat 32 (i 2).val
  let v952 : BitVec 32 := Scalar.subi arg2 c0_i32_638
  let c1_i32_639 : BitVec 32 := 1#32
  let v954 : BitVec 32 := Scalar.divsi v952 c1_i32_639
  let v955 : BitVec 32 := Scalar.muli v954 c1_i32_639
  let v956 : BitVec 32 := Scalar.addi c0_i32_638 v955
  let c1_i32_641 : BitVec 32 := 1#32
  let arg15 : BitVec 32 := Scf.iv v956 c1_i32_641 k0_t6
  let c256_i32_925 : BitVec 32 := 256#32
  let v1348 : BitVec 32 := Scalar.muli arg15 c256_i32_925
  let v1349 : BitVec 32 := v1348
  let v1350 : Index := Scalar.indexCast v1349
  let c0_928 : Index := 0#32
  ![0, 0, v1350.toNat, 0]
def k0_mult115 (i : grid0.Coords) (k0_t6 : Fin (k0_t6_loop i).trips) : BitVec 32 :=
  let c0_i32_638 : BitVec 32 := 0#32
  let arg2 : BitVec 32 := BitVec.ofNat 32 (i 2).val
  let v952 : BitVec 32 := Scalar.subi arg2 c0_i32_638
  let c1_i32_639 : BitVec 32 := 1#32
  let v954 : BitVec 32 := Scalar.divsi v952 c1_i32_639
  let v955 : BitVec 32 := Scalar.muli v954 c1_i32_639
  let v956 : BitVec 32 := Scalar.addi c0_i32_638 v955
  let c1_i32_641 : BitVec 32 := 1#32
  let arg15 : BitVec 32 := Scf.iv v956 c1_i32_641 k0_t6
  let c256_i32_933 : BitVec 32 := 256#32
  let v1356 : BitVec 32 := Scalar.muli arg15 c256_i32_933
  v1356
def k0_mult116 (i : grid0.Coords) (k0_t6 : Fin (k0_t6_loop i).trips) : BitVec 32 :=
  let c0_i32_638 : BitVec 32 := 0#32
  let arg2 : BitVec 32 := BitVec.ofNat 32 (i 2).val
  let v952 : BitVec 32 := Scalar.subi arg2 c0_i32_638
  let c1_i32_639 : BitVec 32 := 1#32
  let v954 : BitVec 32 := Scalar.divsi v952 c1_i32_639
  let v955 : BitVec 32 := Scalar.muli v954 c1_i32_639
  let v956 : BitVec 32 := Scalar.addi c0_i32_638 v955
  let c1_i32_641 : BitVec 32 := 1#32
  let arg15 : BitVec 32 := Scf.iv v956 c1_i32_641 k0_t6
  let c256_i32_961 : BitVec 32 := 256#32
  let v1394 : BitVec 32 := Scalar.muli arg15 c256_i32_961
  v1394
def k0_mult117 (i : grid0.Coords) (k0_t6 : Fin (k0_t6_loop i).trips) : BitVec 32 :=
  let c0_i32_638 : BitVec 32 := 0#32
  let arg2 : BitVec 32 := BitVec.ofNat 32 (i 2).val
  let v952 : BitVec 32 := Scalar.subi arg2 c0_i32_638
  let c1_i32_639 : BitVec 32 := 1#32
  let v954 : BitVec 32 := Scalar.divsi v952 c1_i32_639
  let v955 : BitVec 32 := Scalar.muli v954 c1_i32_639
  let v956 : BitVec 32 := Scalar.addi c0_i32_638 v955
  let c1_i32_641 : BitVec 32 := 1#32
  let arg15 : BitVec 32 := Scf.iv v956 c1_i32_641 k0_t6
  let c256_i32_969 : BitVec 32 := 256#32
  let v1402 : BitVec 32 := Scalar.muli arg15 c256_i32_969
  v1402
def k0_mult118 (i : grid0.Coords) (k0_t6 : Fin (k0_t6_loop i).trips) : BitVec 32 :=
  let c0_i32_638 : BitVec 32 := 0#32
  let arg2 : BitVec 32 := BitVec.ofNat 32 (i 2).val
  let v952 : BitVec 32 := Scalar.subi arg2 c0_i32_638
  let c1_i32_639 : BitVec 32 := 1#32
  let v954 : BitVec 32 := Scalar.divsi v952 c1_i32_639
  let v955 : BitVec 32 := Scalar.muli v954 c1_i32_639
  let v956 : BitVec 32 := Scalar.addi c0_i32_638 v955
  let c1_i32_641 : BitVec 32 := 1#32
  let arg15 : BitVec 32 := Scf.iv v956 c1_i32_641 k0_t6
  let c256_i32_997 : BitVec 32 := 256#32
  let v1440 : BitVec 32 := Scalar.muli arg15 c256_i32_997
  v1440
def k0_mult119 (i : grid0.Coords) (k0_t6 : Fin (k0_t6_loop i).trips) : BitVec 32 :=
  let c0_i32_638 : BitVec 32 := 0#32
  let arg2 : BitVec 32 := BitVec.ofNat 32 (i 2).val
  let v952 : BitVec 32 := Scalar.subi arg2 c0_i32_638
  let c1_i32_639 : BitVec 32 := 1#32
  let v954 : BitVec 32 := Scalar.divsi v952 c1_i32_639
  let v955 : BitVec 32 := Scalar.muli v954 c1_i32_639
  let v956 : BitVec 32 := Scalar.addi c0_i32_638 v955
  let c1_i32_641 : BitVec 32 := 1#32
  let arg15 : BitVec 32 := Scf.iv v956 c1_i32_641 k0_t6
  let c256_i32_1005 : BitVec 32 := 256#32
  let v1448 : BitVec 32 := Scalar.muli arg15 c256_i32_1005
  v1448
def k0_mult120 (i : grid0.Coords) (k0_t6 : Fin (k0_t6_loop i).trips) : BitVec 32 :=
  let c0_i32_638 : BitVec 32 := 0#32
  let arg2 : BitVec 32 := BitVec.ofNat 32 (i 2).val
  let v952 : BitVec 32 := Scalar.subi arg2 c0_i32_638
  let c1_i32_639 : BitVec 32 := 1#32
  let v954 : BitVec 32 := Scalar.divsi v952 c1_i32_639
  let v955 : BitVec 32 := Scalar.muli v954 c1_i32_639
  let v956 : BitVec 32 := Scalar.addi c0_i32_638 v955
  let c1_i32_641 : BitVec 32 := 1#32
  let arg15 : BitVec 32 := Scf.iv v956 c1_i32_641 k0_t6
  let c256_i32_1033 : BitVec 32 := 256#32
  let v1486 : BitVec 32 := Scalar.muli arg15 c256_i32_1033
  v1486
def k0_mult121 (i : grid0.Coords) (k0_t6 : Fin (k0_t6_loop i).trips) : BitVec 32 :=
  let c0_i32_638 : BitVec 32 := 0#32
  let arg2 : BitVec 32 := BitVec.ofNat 32 (i 2).val
  let v952 : BitVec 32 := Scalar.subi arg2 c0_i32_638
  let c1_i32_639 : BitVec 32 := 1#32
  let v954 : BitVec 32 := Scalar.divsi v952 c1_i32_639
  let v955 : BitVec 32 := Scalar.muli v954 c1_i32_639
  let v956 : BitVec 32 := Scalar.addi c0_i32_638 v955
  let c1_i32_641 : BitVec 32 := 1#32
  let arg15 : BitVec 32 := Scf.iv v956 c1_i32_641 k0_t6
  let c256_i32_1041 : BitVec 32 := 256#32
  let v1494 : BitVec 32 := Scalar.muli arg15 c256_i32_1041
  v1494
def k0_mult122 (i : grid0.Coords) (k0_t6 : Fin (k0_t6_loop i).trips) : BitVec 32 :=
  let c0_i32_638 : BitVec 32 := 0#32
  let arg2 : BitVec 32 := BitVec.ofNat 32 (i 2).val
  let v952 : BitVec 32 := Scalar.subi arg2 c0_i32_638
  let c1_i32_639 : BitVec 32 := 1#32
  let v954 : BitVec 32 := Scalar.divsi v952 c1_i32_639
  let v955 : BitVec 32 := Scalar.muli v954 c1_i32_639
  let v956 : BitVec 32 := Scalar.addi c0_i32_638 v955
  let c1_i32_641 : BitVec 32 := 1#32
  let arg15 : BitVec 32 := Scf.iv v956 c1_i32_641 k0_t6
  let c256_i32_1069 : BitVec 32 := 256#32
  let v1532 : BitVec 32 := Scalar.muli arg15 c256_i32_1069
  v1532
def k0_mult123 (i : grid0.Coords) (k0_t6 : Fin (k0_t6_loop i).trips) : BitVec 32 :=
  let c0_i32_638 : BitVec 32 := 0#32
  let arg2 : BitVec 32 := BitVec.ofNat 32 (i 2).val
  let v952 : BitVec 32 := Scalar.subi arg2 c0_i32_638
  let c1_i32_639 : BitVec 32 := 1#32
  let v954 : BitVec 32 := Scalar.divsi v952 c1_i32_639
  let v955 : BitVec 32 := Scalar.muli v954 c1_i32_639
  let v956 : BitVec 32 := Scalar.addi c0_i32_638 v955
  let c1_i32_641 : BitVec 32 := 1#32
  let arg15 : BitVec 32 := Scf.iv v956 c1_i32_641 k0_t6
  let c256_i32_1077 : BitVec 32 := 256#32
  let v1540 : BitVec 32 := Scalar.muli arg15 c256_i32_1077
  v1540
def k0_mult124 (i : grid0.Coords) (k0_t6 : Fin (k0_t6_loop i).trips) : BitVec 32 :=
  let c0_i32_638 : BitVec 32 := 0#32
  let arg2 : BitVec 32 := BitVec.ofNat 32 (i 2).val
  let v952 : BitVec 32 := Scalar.subi arg2 c0_i32_638
  let c1_i32_639 : BitVec 32 := 1#32
  let v954 : BitVec 32 := Scalar.divsi v952 c1_i32_639
  let v955 : BitVec 32 := Scalar.muli v954 c1_i32_639
  let v956 : BitVec 32 := Scalar.addi c0_i32_638 v955
  let c1_i32_641 : BitVec 32 := 1#32
  let arg15 : BitVec 32 := Scf.iv v956 c1_i32_641 k0_t6
  let c256_i32_1105 : BitVec 32 := 256#32
  let v1578 : BitVec 32 := Scalar.muli arg15 c256_i32_1105
  v1578
def k0_mult125 (i : grid0.Coords) (k0_t6 : Fin (k0_t6_loop i).trips) : BitVec 32 :=
  let c0_i32_638 : BitVec 32 := 0#32
  let arg2 : BitVec 32 := BitVec.ofNat 32 (i 2).val
  let v952 : BitVec 32 := Scalar.subi arg2 c0_i32_638
  let c1_i32_639 : BitVec 32 := 1#32
  let v954 : BitVec 32 := Scalar.divsi v952 c1_i32_639
  let v955 : BitVec 32 := Scalar.muli v954 c1_i32_639
  let v956 : BitVec 32 := Scalar.addi c0_i32_638 v955
  let c1_i32_641 : BitVec 32 := 1#32
  let arg15 : BitVec 32 := Scf.iv v956 c1_i32_641 k0_t6
  let c256_i32_1113 : BitVec 32 := 256#32
  let v1586 : BitVec 32 := Scalar.muli arg15 c256_i32_1113
  v1586
def k0_mult126 (i : grid0.Coords) (k0_t6 : Fin (k0_t6_loop i).trips) : BitVec 32 :=
  let c0_i32_638 : BitVec 32 := 0#32
  let arg2 : BitVec 32 := BitVec.ofNat 32 (i 2).val
  let v952 : BitVec 32 := Scalar.subi arg2 c0_i32_638
  let c1_i32_639 : BitVec 32 := 1#32
  let v954 : BitVec 32 := Scalar.divsi v952 c1_i32_639
  let v955 : BitVec 32 := Scalar.muli v954 c1_i32_639
  let v956 : BitVec 32 := Scalar.addi c0_i32_638 v955
  let c1_i32_641 : BitVec 32 := 1#32
  let arg15 : BitVec 32 := Scf.iv v956 c1_i32_641 k0_t6
  let c256_i32_1141 : BitVec 32 := 256#32
  let v1624 : BitVec 32 := Scalar.muli arg15 c256_i32_1141
  v1624
def k0_mult127 (i : grid0.Coords) (k0_t6 : Fin (k0_t6_loop i).trips) : BitVec 32 :=
  let c0_i32_638 : BitVec 32 := 0#32
  let arg2 : BitVec 32 := BitVec.ofNat 32 (i 2).val
  let v952 : BitVec 32 := Scalar.subi arg2 c0_i32_638
  let c1_i32_639 : BitVec 32 := 1#32
  let v954 : BitVec 32 := Scalar.divsi v952 c1_i32_639
  let v955 : BitVec 32 := Scalar.muli v954 c1_i32_639
  let v956 : BitVec 32 := Scalar.addi c0_i32_638 v955
  let c1_i32_641 : BitVec 32 := 1#32
  let arg15 : BitVec 32 := Scf.iv v956 c1_i32_641 k0_t6
  let c256_i32_1149 : BitVec 32 := 256#32
  let v1632 : BitVec 32 := Scalar.muli arg15 c256_i32_1149
  v1632
def k0_mult128 (i : grid0.Coords) : BitVec 32 :=
  let arg2 : BitVec 32 := BitVec.ofNat 32 (i 2).val
  let c256_i32_642 : BitVec 32 := 256#32
  let v957 : BitVec 32 := Scalar.muli arg2 c256_i32_642
  v957
def k0_off22 (i : grid0.Coords) : Fin 4 → Nat :=
  let c0_643 : Index := 0#32
  let c0_644 : Index := 0#32
  let c0_645 : Index := 0#32
  let arg2 : BitVec 32 := BitVec.ofNat 32 (i 2).val
  let c256_i32_642 : BitVec 32 := 256#32
  let v957 : BitVec 32 := Scalar.muli arg2 c256_i32_642
  let v958 : BitVec 32 := v957
  let v959 : Index := Scalar.indexCast v958
  ![0, 0, 0, v959.toNat]
def k0_mult129 (i : grid0.Coords) : BitVec 32 :=
  let arg2 : BitVec 32 := BitVec.ofNat 32 (i 2).val
  let c256_i32_646 : BitVec 32 := 256#32
  let v962 : BitVec 32 := Scalar.muli arg2 c256_i32_646
  v962
def k0_mult130 (i : grid0.Coords) : BitVec 32 :=
  let arg2 : BitVec 32 := BitVec.ofNat 32 (i 2).val
  let c256_i32_650 : BitVec 32 := 256#32
  let v968 : BitVec 32 := Scalar.muli arg2 c256_i32_650
  v968
def k0_mult131 (i : grid0.Coords) : BitVec 32 :=
  let arg2 : BitVec 32 := BitVec.ofNat 32 (i 2).val
  let c256_i32_654 : BitVec 32 := 256#32
  let v974 : BitVec 32 := Scalar.muli arg2 c256_i32_654
  v974
def k0_mult132 (i : grid0.Coords) : BitVec 32 :=
  let arg2 : BitVec 32 := BitVec.ofNat 32 (i 2).val
  let c256_i32_662 : BitVec 32 := 256#32
  let v982 : BitVec 32 := Scalar.muli arg2 c256_i32_662
  v982
def k0_mult133 (i : grid0.Coords) : BitVec 32 :=
  let arg2 : BitVec 32 := BitVec.ofNat 32 (i 2).val
  let c256_i32_691 : BitVec 32 := 256#32
  let v1025 : BitVec 32 := Scalar.muli arg2 c256_i32_691
  v1025
def k0_mult134 (i : grid0.Coords) : BitVec 32 :=
  let arg2 : BitVec 32 := BitVec.ofNat 32 (i 2).val
  let c256_i32_699 : BitVec 32 := 256#32
  let v1033 : BitVec 32 := Scalar.muli arg2 c256_i32_699
  v1033
def k0_mult135 (i : grid0.Coords) : BitVec 32 :=
  let arg2 : BitVec 32 := BitVec.ofNat 32 (i 2).val
  let c256_i32_728 : BitVec 32 := 256#32
  let v1076 : BitVec 32 := Scalar.muli arg2 c256_i32_728
  v1076
def k0_mult136 (i : grid0.Coords) : BitVec 32 :=
  let arg2 : BitVec 32 := BitVec.ofNat 32 (i 2).val
  let c256_i32_736 : BitVec 32 := 256#32
  let v1084 : BitVec 32 := Scalar.muli arg2 c256_i32_736
  v1084
def k0_mult137 (i : grid0.Coords) : BitVec 32 :=
  let arg2 : BitVec 32 := BitVec.ofNat 32 (i 2).val
  let c256_i32_765 : BitVec 32 := 256#32
  let v1127 : BitVec 32 := Scalar.muli arg2 c256_i32_765
  v1127
def k0_mult138 (i : grid0.Coords) : BitVec 32 :=
  let arg2 : BitVec 32 := BitVec.ofNat 32 (i 2).val
  let c256_i32_773 : BitVec 32 := 256#32
  let v1135 : BitVec 32 := Scalar.muli arg2 c256_i32_773
  v1135
def k0_mult139 (i : grid0.Coords) : BitVec 32 :=
  let arg2 : BitVec 32 := BitVec.ofNat 32 (i 2).val
  let c256_i32_802 : BitVec 32 := 256#32
  let v1178 : BitVec 32 := Scalar.muli arg2 c256_i32_802
  v1178
def k0_mult140 (i : grid0.Coords) : BitVec 32 :=
  let arg2 : BitVec 32 := BitVec.ofNat 32 (i 2).val
  let c256_i32_810 : BitVec 32 := 256#32
  let v1186 : BitVec 32 := Scalar.muli arg2 c256_i32_810
  v1186
def k0_mult141 (i : grid0.Coords) : BitVec 32 :=
  let arg2 : BitVec 32 := BitVec.ofNat 32 (i 2).val
  let c256_i32_839 : BitVec 32 := 256#32
  let v1229 : BitVec 32 := Scalar.muli arg2 c256_i32_839
  v1229
def k0_mult142 (i : grid0.Coords) : BitVec 32 :=
  let arg2 : BitVec 32 := BitVec.ofNat 32 (i 2).val
  let c256_i32_847 : BitVec 32 := 256#32
  let v1237 : BitVec 32 := Scalar.muli arg2 c256_i32_847
  v1237
def k0_mult143 (i : grid0.Coords) : BitVec 32 :=
  let arg2 : BitVec 32 := BitVec.ofNat 32 (i 2).val
  let c256_i32_876 : BitVec 32 := 256#32
  let v1280 : BitVec 32 := Scalar.muli arg2 c256_i32_876
  v1280
def k0_mult144 (i : grid0.Coords) : BitVec 32 :=
  let arg2 : BitVec 32 := BitVec.ofNat 32 (i 2).val
  let c256_i32_884 : BitVec 32 := 256#32
  let v1288 : BitVec 32 := Scalar.muli arg2 c256_i32_884
  v1288
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x7x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x256x896 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Proof.Out.Paley.lean ====
module

public import Idealize.ShloMosaic.PureOps.Ideal.Laws
public import Idealize.ShloMosaic.PureOps.Ideal

/-!
# The 28-point transform as the kernel computes it

`paley v` is the kernel's chain of additions for one lane: sums and differences of the two members of each pair of heads,
then on each of the two halves a 14-point conference transform written as sums of neighbouring pairs. Nothing here is about
memory; the functions are on `Fin 28 → EReal`.
-/

@[expose] public section
set_option maxRecDepth 16384
noncomputable section
namespace Cert.OutIdeal.Hand
open Idealize.ShloMosaic

/-- The float constant `28 ^ (-1/2)` the kernel multiplies by. -/
def c28 : EReal := Ideal.ofBits FTy.f32 1044481167#32
/-- The float constant `2 * 28 ^ (-1/2)`. -/
def c28x2 : EReal := Ideal.ofBits FTy.f32 1052869775#32

/-- The even member of pair `j`. -/
def evenOf (v : Fin 28 → EReal) (j : Fin 14) : EReal := v ⟨2 * j.val, by omega⟩
/-- The odd member of pair `j`. -/
def oddOf (v : Fin 28 → EReal) (j : Fin 14) : EReal := v ⟨2 * j.val + 1, by omega⟩
/-- Sum of the two members of pair `j`. -/
def sumOf (v : Fin 28 → EReal) (j : Fin 14) : EReal := evenOf v j + oddOf v j
/-- Difference of the two members of pair `j`. -/
def diffOf (v : Fin 28 → EReal) (j : Fin 14) : EReal := evenOf v j - oddOf v j

/-- Sum of entries 1 to 13, from the left. -/
def total (t : Fin 14 → EReal) : EReal :=
  t 1 + t 2 + t 3 + t 4 + t 5 + t 6 + t 7 + t 8 + t 9 + t 10 + t 11 + t 12 + t 13

/-- Entry `k` of the part after the first, indices modulo 13. -/
def tl (t : Fin 14 → EReal) (k : Fin 13) : EReal := t k.succ
/-- The sum of the entries at `k` and `k + 2`. -/
def pairOf (t : Fin 14 → EReal) (k : Fin 13) : EReal := tl t k + tl t (k + 2)
/-- The sum of the entries at the six positions `k + q`, `q` a nonzero square modulo 13. -/
def posOf (t : Fin 14 → EReal) (k : Fin 13) : EReal :=
  (pairOf t (k + 1) + pairOf t (k + 10)) + (tl t (k + 4) + tl t (k + 9))

/-- The transform of one lane over the 28 heads, with the kernel's order of additions. -/
def paley (v : Fin 28 → EReal) (g : Fin 28) : EReal :=
  match g with
  | ⟨0, _⟩ => (total (sumOf v) + diffOf v 0) * c28
  | ⟨1, _⟩ => (total (diffOf v) - sumOf v 0) * c28
  | ⟨n + 2, h⟩ =>
    if n % 2 = 0 then
      (posOf (sumOf v) ⟨n / 2, by omega⟩ + evenOf v ⟨n / 2 + 1, by omega⟩) * c28x2 + (sumOf v 0 - total (sumOf v)) * c28
    else
      (posOf (diffOf v) ⟨n / 2, by omega⟩ + (0 - oddOf v ⟨n / 2 + 1, by omega⟩)) * c28x2
        + (diffOf v 0 - total (diffOf v)) * c28

/-- The absolute value as the maximum of a number and its opposite. -/
def absE (a : EReal) : EReal := max a (-a)

/-- The largest absolute value of the 28 transformed entries, from the left. -/
def top28 (v : Fin 28 → EReal) : EReal :=
  max (max (max (max (max (max (max (max (max (max (max (max (max (max (max (max (max (max (max (max (max (max (max (max (max (max (max (absE (paley v 0)) (absE (paley v 1))) (absE (paley v 2))) (absE (paley v 3))) (absE (paley v 4))) (absE (paley v 5))) (absE (paley v 6))) (absE (paley v 7))) (absE (paley v 8))) (absE (paley v 9))) (absE (paley v 10))) (absE (paley v 11))) (absE (paley v 12))) (absE (paley v 13))) (absE (paley v 14))) (absE (paley v 15))) (absE (paley v 16))) (absE (paley v 17))) (absE (paley v 18))) (absE (paley v 19))) (absE (paley v 20))) (absE (paley v 21))) (absE (paley v 22))) (absE (paley v 23))) (absE (paley v 24))) (absE (paley v 25))) (absE (paley v 26))) (absE (paley v 27))

end Cert.OutIdeal.Hand
end
-- ==== Proof.Out.Words.lean ====
module

public import proofs.«01_k».proof.Proof.Gen.OutIdeal.Frame
public import proofs.«01_k».proof.Proof.Gen.OutIdeal.Loops
public import proofs.«01_k».proof.Proof.Out.Paley
public import Idealize.ShloMosaic.Lib.Pointwise
public import Idealize.ShloMosaic.Lib.ValueIdx

/-!
# The words one trip of the transform loop stores

Trip `k` reads eight rows of the block, head by head, and stores 28 transformed words and their largest absolute value. Each
word is read here at one element: it is `paley` (or `top28`) of that element's 28 heads.
-/

@[expose] public section
set_option maxRecDepth 16384
noncomputable section
namespace Cert.OutIdeal.Hand
open Cert.OutIdeal Cert.OutIdeal.Gen
open Idealize.ShloMosaic Idealize.ShloMosaic.TcCoe Idealize.ShloMosaic.Tactic
open Idealize.ShloMosaic.Pointwise

/-- Row `R`, lane `d` of the block: its value in each of the 28 heads. -/
def lane (x : Vec Ideal S256x3584 .f32) (R : Fin 256) (d : Fin 128) (h : Fin 28) : EReal :=
  x (ix2 R ⟨128 * h.val + d.val, by omega⟩)

/-- A load of eight rows and one head of the block, at an element. -/
theorem leaf (arg1 : Memref sig .tc .vmem S256x3584 .f32) (X : BufTy.Contents (Elt Ideal) arg1.view.ty) {off : Fin 2 → Nat}
    (inb) (k : Fin 32) (h : Fin 28) (hoff : off = ![8 * k.val, 128 * h.val]) (r : Fin 8) (d : Fin 128) :
    View.readAt (Elt Ideal) arg1.view (Rect.unit (s := S256x3584) off ![8, 128] inb).toLoadRect X (ix2 r d)
      = lane (arg1.view.read (Elt Ideal) X) ⟨8 * k.val + r.val, by omega⟩ d h := by
  subst hoff
  refine congrArg (arg1.view.read (Elt Ideal) X) (funext fun a => Fin.ext ?_)
  fin_cases a
  · show 8 * k.val + 1 * r.val = 8 * k.val + r.val
    omega
  · show 128 * h.val + 1 * d.val = 128 * h.val + d.val
    omega

/-- The trip number as a number below 32. -/
def trip2 (k : Fin k0_t2_loop.trips) : Fin 32 := ⟨k.val, Nat.lt_of_lt_of_le k.isLt k0_t2_abs.2.1⟩

/-- The load of head `h` in trip `k`. -/
theorem leaf0 (arg1 : Memref sig .tc .vmem S256x3584 .f32) (X : BufTy.Contents (Elt Ideal) arg1.view.ty) (k : Fin k0_t2_loop.trips) (inb) (r : Fin 8) (d : Fin 128) :
    View.readAt (Elt Ideal) arg1.view (Rect.unit (s := S256x3584) (k0_off3 k) ![8, 128] inb).toLoadRect X (ix2 r d)
      = lane (arg1.view.read (Elt Ideal) X) ⟨8 * (trip2 k).val + r.val, by omega⟩ d 0 :=
  leaf arg1 X inb (trip2 k) 0 (k0_off3_eq k) r d
theorem leaf1 (arg1 : Memref sig .tc .vmem S256x3584 .f32) (X : BufTy.Contents (Elt Ideal) arg1.view.ty) (k : Fin k0_t2_loop.trips) (inb) (r : Fin 8) (d : Fin 128) :
    View.readAt (Elt Ideal) arg1.view (Rect.unit (s := S256x3584) (k0_off4 k) ![8, 128] inb).toLoadRect X (ix2 r d)
      = lane (arg1.view.read (Elt Ideal) X) ⟨8 * (trip2 k).val + r.val, by omega⟩ d 1 :=
  leaf arg1 X inb (trip2 k) 1 (k0_off4_eq k) r d
theorem leaf2 (arg1 : Memref sig .tc .vmem S256x3584 .f32) (X : BufTy.Contents (Elt Ideal) arg1.view.ty) (k : Fin k0_t2_loop.trips) (inb) (r : Fin 8) (d : Fin 128) :
    View.readAt (Elt Ideal) arg1.view (Rect.unit (s := S256x3584) (k0_off5 k) ![8, 128] inb).toLoadRect X (ix2 r d)
      = lane (arg1.view.read (Elt Ideal) X) ⟨8 * (trip2 k).val + r.val, by omega⟩ d 2 :=
  leaf arg1 X inb (trip2 k) 2 (k0_off5_eq k) r d
theorem leaf3 (arg1 : Memref sig .tc .vmem S256x3584 .f32) (X : BufTy.Contents (Elt Ideal) arg1.view.ty) (k : Fin k0_t2_loop.trips) (inb) (r : Fin 8) (d : Fin 128) :
    View.readAt (Elt Ideal) arg1.view (Rect.unit (s := S256x3584) (k0_off6 k) ![8, 128] inb).toLoadRect X (ix2 r d)
      = lane (arg1.view.read (Elt Ideal) X) ⟨8 * (trip2 k).val + r.val, by omega⟩ d 3 :=
  leaf arg1 X inb (trip2 k) 3 (k0_off6_eq k) r d
theorem leaf4 (arg1 : Memref sig .tc .vmem S256x3584 .f32) (X : BufTy.Contents (Elt Ideal) arg1.view.ty) (k : Fin k0_t2_loop.trips) (inb) (r : Fin 8) (d : Fin 128) :
    View.readAt (Elt Ideal) arg1.view (Rect.unit (s := S256x3584) (k0_off7 k) ![8, 128] inb).toLoadRect X (ix2 r d)
      = lane (arg1.view.read (Elt Ideal) X) ⟨8 * (trip2 k).val + r.val, by omega⟩ d 4 :=
  leaf arg1 X inb (trip2 k) 4 (k0_off7_eq k) r d
theorem leaf5 (arg1 : Memref sig .tc .vmem S256x3584 .f32) (X : BufTy.Contents (Elt Ideal) arg1.view.ty) (k : Fin k0_t2_loop.trips) (inb) (r : Fin 8) (d : Fin 128) :
    View.readAt (Elt Ideal) arg1.view (Rect.unit (s := S256x3584) (k0_off8 k) ![8, 128] inb).toLoadRect X (ix2 r d)
      = lane (arg1.view.read (Elt Ideal) X) ⟨8 * (trip2 k).val + r.val, by omega⟩ d 5 :=
  leaf arg1 X inb (trip2 k) 5 (k0_off8_eq k) r d
theorem leaf6 (arg1 : Memref sig .tc .vmem S256x3584 .f32) (X : BufTy.Contents (Elt Ideal) arg1.view.ty) (k : Fin k0_t2_loop.trips) (inb) (r : Fin 8) (d : Fin 128) :
    View.readAt (Elt Ideal) arg1.view (Rect.unit (s := S256x3584) (k0_off9 k) ![8, 128] inb).toLoadRect X (ix2 r d)
      = lane (arg1.view.read (Elt Ideal) X) ⟨8 * (trip2 k).val + r.val, by omega⟩ d 6 :=
  leaf arg1 X inb (trip2 k) 6 (k0_off9_eq k) r d
theorem leaf7 (arg1 : Memref sig .tc .vmem S256x3584 .f32) (X : BufTy.Contents (Elt Ideal) arg1.view.ty) (k : Fin k0_t2_loop.trips) (inb) (r : Fin 8) (d : Fin 128) :
    View.readAt (Elt Ideal) arg1.view (Rect.unit (s := S256x3584) (k0_off10 k) ![8, 128] inb).toLoadRect X (ix2 r d)
      = lane (arg1.view.read (Elt Ideal) X) ⟨8 * (trip2 k).val + r.val, by omega⟩ d 7 :=
  leaf arg1 X inb (trip2 k) 7 (k0_off10_eq k) r d
theorem leaf8 (arg1 : Memref sig .tc .vmem S256x3584 .f32) (X : BufTy.Contents (Elt Ideal) arg1.view.ty) (k : Fin k0_t2_loop.trips) (inb) (r : Fin 8) (d : Fin 128) :
    View.readAt (Elt Ideal) arg1.view (Rect.unit (s := S256x3584) (k0_off11 k) ![8, 128] inb).toLoadRect X (ix2 r d)
      = lane (arg1.view.read (Elt Ideal) X) ⟨8 * (trip2 k).val + r.val, by omega⟩ d 8 :=
  leaf arg1 X inb (trip2 k) 8 (k0_off11_eq k) r d
theorem leaf9 (arg1 : Memref sig .tc .vmem S256x3584 .f32) (X : BufTy.Contents (Elt Ideal) arg1.view.ty) (k : Fin k0_t2_loop.trips) (inb) (r : Fin 8) (d : Fin 128) :
    View.readAt (Elt Ideal) arg1.view (Rect.unit (s := S256x3584) (k0_off12 k) ![8, 128] inb).toLoadRect X (ix2 r d)
      = lane (arg1.view.read (Elt Ideal) X) ⟨8 * (trip2 k).val + r.val, by omega⟩ d 9 :=
  leaf arg1 X inb (trip2 k) 9 (k0_off12_eq k) r d
theorem leaf10 (arg1 : Memref sig .tc .vmem S256x3584 .f32) (X : BufTy.Contents (Elt Ideal) arg1.view.ty) (k : Fin k0_t2_loop.trips) (inb) (r : Fin 8) (d : Fin 128) :
    View.readAt (Elt Ideal) arg1.view (Rect.unit (s := S256x3584) (k0_off13 k) ![8, 128] inb).toLoadRect X (ix2 r d)
      = lane (arg1.view.read (Elt Ideal) X) ⟨8 * (trip2 k).val + r.val, by omega⟩ d 10 :=
  leaf arg1 X inb (trip2 k) 10 (k0_off13_eq k) r d
theorem leaf11 (arg1 : Memref sig .tc .vmem S256x3584 .f32) (X : BufTy.Contents (Elt Ideal) arg1.view.ty) (k : Fin k0_t2_loop.trips) (inb) (r : Fin 8) (d : Fin 128) :
    View.readAt (Elt Ideal) arg1.view (Rect.unit (s := S256x3584) (k0_off14 k) ![8, 128] inb).toLoadRect X (ix2 r d)
      = lane (arg1.view.read (Elt Ideal) X) ⟨8 * (trip2 k).val + r.val, by omega⟩ d 11 :=
  leaf arg1 X inb (trip2 k) 11 (k0_off14_eq k) r d
theorem leaf12 (arg1 : Memref sig .tc .vmem S256x3584 .f32) (X : BufTy.Contents (Elt Ideal) arg1.view.ty) (k : Fin k0_t2_loop.trips) (inb) (r : Fin 8) (d : Fin 128) :
    View.readAt (Elt Ideal) arg1.view (Rect.unit (s := S256x3584) (k0_off15 k) ![8, 128] inb).toLoadRect X (ix2 r d)
      = lane (arg1.view.read (Elt Ideal) X) ⟨8 * (trip2 k).val + r.val, by omega⟩ d 12 :=
  leaf arg1 X inb (trip2 k) 12 (k0_off15_eq k) r d
theorem leaf13 (arg1 : Memref sig .tc .vmem S256x3584 .f32) (X : BufTy.Contents (Elt Ideal) arg1.view.ty) (k : Fin k0_t2_loop.trips) (inb) (r : Fin 8) (d : Fin 128) :
    View.readAt (Elt Ideal) arg1.view (Rect.unit (s := S256x3584) (k0_off16 k) ![8, 128] inb).toLoadRect X (ix2 r d)
      = lane (arg1.view.read (Elt Ideal) X) ⟨8 * (trip2 k).val + r.val, by omega⟩ d 13 :=
  leaf arg1 X inb (trip2 k) 13 (k0_off16_eq k) r d
theorem leaf14 (arg1 : Memref sig .tc .vmem S256x3584 .f32) (X : BufTy.Contents (Elt Ideal) arg1.view.ty) (k : Fin k0_t2_loop.trips) (inb) (r : Fin 8) (d : Fin 128) :
    View.readAt (Elt Ideal) arg1.view (Rect.unit (s := S256x3584) (k0_off17 k) ![8, 128] inb).toLoadRect X (ix2 r d)
      = lane (arg1.view.read (Elt Ideal) X) ⟨8 * (trip2 k).val + r.val, by omega⟩ d 14 :=
  leaf arg1 X inb (trip2 k) 14 (k0_off17_eq k) r d
theorem leaf15 (arg1 : Memref sig .tc .vmem S256x3584 .f32) (X : BufTy.Contents (Elt Ideal) arg1.view.ty) (k : Fin k0_t2_loop.trips) (inb) (r : Fin 8) (d : Fin 128) :
    View.readAt (Elt Ideal) arg1.view (Rect.unit (s := S256x3584) (k0_off18 k) ![8, 128] inb).toLoadRect X (ix2 r d)
      = lane (arg1.view.read (Elt Ideal) X) ⟨8 * (trip2 k).val + r.val, by omega⟩ d 15 :=
  leaf arg1 X inb (trip2 k) 15 (k0_off18_eq k) r d
theorem leaf16 (arg1 : Memref sig .tc .vmem S256x3584 .f32) (X : BufTy.Contents (Elt Ideal) arg1.view.ty) (k : Fin k0_t2_loop.trips) (inb) (r : Fin 8) (d : Fin 128) :
    View.readAt (Elt Ideal) arg1.view (Rect.unit (s := S256x3584) (k0_off19 k) ![8, 128] inb).toLoadRect X (ix2 r d)
      = lane (arg1.view.read (Elt Ideal) X) ⟨8 * (trip2 k).val + r.val, by omega⟩ d 16 :=
  leaf arg1 X inb (trip2 k) 16 (k0_off19_eq k) r d
theorem leaf17 (arg1 : Memref sig .tc .vmem S256x3584 .f32) (X : BufTy.Contents (Elt Ideal) arg1.view.ty) (k : Fin k0_t2_loop.trips) (inb) (r : Fin 8) (d : Fin 128) :
    View.readAt (Elt Ideal) arg1.view (Rect.unit (s := S256x3584) (k0_off20 k) ![8, 128] inb).toLoadRect X (ix2 r d)
      = lane (arg1.view.read (Elt Ideal) X) ⟨8 * (trip2 k).val + r.val, by omega⟩ d 17 :=
  leaf arg1 X inb (trip2 k) 17 (k0_off20_eq k) r d
theorem leaf18 (arg1 : Memref sig .tc .vmem S256x3584 .f32) (X : BufTy.Contents (Elt Ideal) arg1.view.ty) (k : Fin k0_t2_loop.trips) (inb) (r : Fin 8) (d : Fin 128) :
    View.readAt (Elt Ideal) arg1.view (Rect.unit (s := S256x3584) (k0_off21 k) ![8, 128] inb).toLoadRect X (ix2 r d)
      = lane (arg1.view.read (Elt Ideal) X) ⟨8 * (trip2 k).val + r.val, by omega⟩ d 18 :=
  leaf arg1 X inb (trip2 k) 18 (k0_off21_eq k) r d
theorem leaf19 (arg1 : Memref sig .tc .vmem S256x3584 .f32) (X : BufTy.Contents (Elt Ideal) arg1.view.ty) (k : Fin k0_t2_loop.trips) (inb) (r : Fin 8) (d : Fin 128) :
    View.readAt (Elt Ideal) arg1.view (Rect.unit (s := S256x3584) (k0_off22 k) ![8, 128] inb).toLoadRect X (ix2 r d)
      = lane (arg1.view.read (Elt Ideal) X) ⟨8 * (trip2 k).val + r.val, by omega⟩ d 19 :=
  leaf arg1 X inb (trip2 k) 19 (k0_off22_eq k) r d
theorem leaf20 (arg1 : Memref sig .tc .vmem S256x3584 .f32) (X : BufTy.Contents (Elt Ideal) arg1.view.ty) (k : Fin k0_t2_loop.trips) (inb) (r : Fin 8) (d : Fin 128) :
    View.readAt (Elt Ideal) arg1.view (Rect.unit (s := S256x3584) (k0_off23 k) ![8, 128] inb).toLoadRect X (ix2 r d)
      = lane (arg1.view.read (Elt Ideal) X) ⟨8 * (trip2 k).val + r.val, by omega⟩ d 20 :=
  leaf arg1 X inb (trip2 k) 20 (k0_off23_eq k) r d
theorem leaf21 (arg1 : Memref sig .tc .vmem S256x3584 .f32) (X : BufTy.Contents (Elt Ideal) arg1.view.ty) (k : Fin k0_t2_loop.trips) (inb) (r : Fin 8) (d : Fin 128) :
    View.readAt (Elt Ideal) arg1.view (Rect.unit (s := S256x3584) (k0_off24 k) ![8, 128] inb).toLoadRect X (ix2 r d)
      = lane (arg1.view.read (Elt Ideal) X) ⟨8 * (trip2 k).val + r.val, by omega⟩ d 21 :=
  leaf arg1 X inb (trip2 k) 21 (k0_off24_eq k) r d
theorem leaf22 (arg1 : Memref sig .tc .vmem S256x3584 .f32) (X : BufTy.Contents (Elt Ideal) arg1.view.ty) (k : Fin k0_t2_loop.trips) (inb) (r : Fin 8) (d : Fin 128) :
    View.readAt (Elt Ideal) arg1.view (Rect.unit (s := S256x3584) (k0_off25 k) ![8, 128] inb).toLoadRect X (ix2 r d)
      = lane (arg1.view.read (Elt Ideal) X) ⟨8 * (trip2 k).val + r.val, by omega⟩ d 22 :=
  leaf arg1 X inb (trip2 k) 22 (k0_off25_eq k) r d
theorem leaf23 (arg1 : Memref sig .tc .vmem S256x3584 .f32) (X : BufTy.Contents (Elt Ideal) arg1.view.ty) (k : Fin k0_t2_loop.trips) (inb) (r : Fin 8) (d : Fin 128) :
    View.readAt (Elt Ideal) arg1.view (Rect.unit (s := S256x3584) (k0_off26 k) ![8, 128] inb).toLoadRect X (ix2 r d)
      = lane (arg1.view.read (Elt Ideal) X) ⟨8 * (trip2 k).val + r.val, by omega⟩ d 23 :=
  leaf arg1 X inb (trip2 k) 23 (k0_off26_eq k) r d
theorem leaf24 (arg1 : Memref sig .tc .vmem S256x3584 .f32) (X : BufTy.Contents (Elt Ideal) arg1.view.ty) (k : Fin k0_t2_loop.trips) (inb) (r : Fin 8) (d : Fin 128) :
    View.readAt (Elt Ideal) arg1.view (Rect.unit (s := S256x3584) (k0_off27 k) ![8, 128] inb).toLoadRect X (ix2 r d)
      = lane (arg1.view.read (Elt Ideal) X) ⟨8 * (trip2 k).val + r.val, by omega⟩ d 24 :=
  leaf arg1 X inb (trip2 k) 24 (k0_off27_eq k) r d
theorem leaf25 (arg1 : Memref sig .tc .vmem S256x3584 .f32) (X : BufTy.Contents (Elt Ideal) arg1.view.ty) (k : Fin k0_t2_loop.trips) (inb) (r : Fin 8) (d : Fin 128) :
    View.readAt (Elt Ideal) arg1.view (Rect.unit (s := S256x3584) (k0_off28 k) ![8, 128] inb).toLoadRect X (ix2 r d)
      = lane (arg1.view.read (Elt Ideal) X) ⟨8 * (trip2 k).val + r.val, by omega⟩ d 25 :=
  leaf arg1 X inb (trip2 k) 25 (k0_off28_eq k) r d
theorem leaf26 (arg1 : Memref sig .tc .vmem S256x3584 .f32) (X : BufTy.Contents (Elt Ideal) arg1.view.ty) (k : Fin k0_t2_loop.trips) (inb) (r : Fin 8) (d : Fin 128) :
    View.readAt (Elt Ideal) arg1.view (Rect.unit (s := S256x3584) (k0_off29 k) ![8, 128] inb).toLoadRect X (ix2 r d)
      = lane (arg1.view.read (Elt Ideal) X) ⟨8 * (trip2 k).val + r.val, by omega⟩ d 26 :=
  leaf arg1 X inb (trip2 k) 26 (k0_off29_eq k) r d
theorem leaf27 (arg1 : Memref sig .tc .vmem S256x3584 .f32) (X : BufTy.Contents (Elt Ideal) arg1.view.ty) (k : Fin k0_t2_loop.trips) (inb) (r : Fin 8) (d : Fin 128) :
    View.readAt (Elt Ideal) arg1.view (Rect.unit (s := S256x3584) (k0_off30 k) ![8, 128] inb).toLoadRect X (ix2 r d)
      = lane (arg1.view.read (Elt Ideal) X) ⟨8 * (trip2 k).val + r.val, by omega⟩ d 27 :=
  leaf arg1 X inb (trip2 k) 27 (k0_off30_eq k) r d

/-- What trip `k` stores for head 27. -/
theorem word27 (arg1 : Memref sig .tc .vmem S256x3584 .f32) (X : BufTy.Contents (Elt Ideal) arg1.view.ty) (k : Fin k0_t2_loop.trips) (r : Fin 8) (d : Fin 128) :
    (k0_pay188 (trip_k0_t2.sl.r_163 arg1 X k) : Vec Ideal S8x128 .f32) (ix2 r d) = paley (lane (arg1.view.read (Elt Ideal) X) ⟨8 * (trip2 k).val + r.val, by omega⟩ d) 27 := by
  sl_unfold_run_names
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay188, k0_pay189]
  simp only [leaf0, leaf1, leaf2, leaf3, leaf4, leaf5, leaf6, leaf7, leaf8, leaf9, leaf10, leaf11, leaf12, leaf13, leaf14, leaf15, leaf16, leaf17, leaf18, leaf19, leaf20, leaf21, leaf22, leaf23, leaf24, leaf25, leaf26, leaf27]
  rfl

/-- What trip `k` stores for head 26. -/
theorem word26 (arg1 : Memref sig .tc .vmem S256x3584 .f32) (X : BufTy.Contents (Elt Ideal) arg1.view.ty) (k : Fin k0_t2_loop.trips) (r : Fin 8) (d : Fin 128) :
    (k0_pay186 (trip_k0_t2.sl.r_162 arg1 X k) : Vec Ideal S8x128 .f32) (ix2 r d) = paley (lane (arg1.view.read (Elt Ideal) X) ⟨8 * (trip2 k).val + r.val, by omega⟩ d) 26 := by
  sl_unfold_run_names
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay188, k0_pay189]
  simp only [leaf0, leaf1, leaf2, leaf3, leaf4, leaf5, leaf6, leaf7, leaf8, leaf9, leaf10, leaf11, leaf12, leaf13, leaf14, leaf15, leaf16, leaf17, leaf18, leaf19, leaf20, leaf21, leaf22, leaf23, leaf24, leaf25, leaf26, leaf27]
  rfl

/-- What trip `k` stores for head 25. -/
theorem word25 (arg1 : Memref sig .tc .vmem S256x3584 .f32) (X : BufTy.Contents (Elt Ideal) arg1.view.ty) (k : Fin k0_t2_loop.trips) (r : Fin 8) (d : Fin 128) :
    (k0_pay185 (trip_k0_t2.sl.r_161 arg1 X k) : Vec Ideal S8x128 .f32) (ix2 r d) = paley (lane (arg1.view.read (Elt Ideal) X) ⟨8 * (trip2 k).val + r.val, by omega⟩ d) 25 := by
  sl_unfold_run_names
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay188, k0_pay189]
  simp only [leaf0, leaf1, leaf2, leaf3, leaf4, leaf5, leaf6, leaf7, leaf8, leaf9, leaf10, leaf11, leaf12, leaf13, leaf14, leaf15, leaf16, leaf17, leaf18, leaf19, leaf20, leaf21, leaf22, leaf23, leaf24, leaf25, leaf26, leaf27]
  rfl

/-- What trip `k` stores for head 24. -/
theorem word24 (arg1 : Memref sig .tc .vmem S256x3584 .f32) (X : BufTy.Contents (Elt Ideal) arg1.view.ty) (k : Fin k0_t2_loop.trips) (r : Fin 8) (d : Fin 128) :
    (k0_pay184 (trip_k0_t2.sl.r_159 arg1 X k) : Vec Ideal S8x128 .f32) (ix2 r d) = paley (lane (arg1.view.read (Elt Ideal) X) ⟨8 * (trip2 k).val + r.val, by omega⟩ d) 24 := by
  sl_unfold_run_names
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay188, k0_pay189]
  simp only [leaf0, leaf1, leaf2, leaf3, leaf4, leaf5, leaf6, leaf7, leaf8, leaf9, leaf10, leaf11, leaf12, leaf13, leaf14, leaf15, leaf16, leaf17, leaf18, leaf19, leaf20, leaf21, leaf22, leaf23, leaf24, leaf25, leaf26, leaf27]
  rfl

/-- What trip `k` stores for head 23. -/
theorem word23 (arg1 : Memref sig .tc .vmem S256x3584 .f32) (X : BufTy.Contents (Elt Ideal) arg1.view.ty) (k : Fin k0_t2_loop.trips) (r : Fin 8) (d : Fin 128) :
    (k0_pay183 (trip_k0_t2.sl.r_158 arg1 X k) : Vec Ideal S8x128 .f32) (ix2 r d) = paley (lane (arg1.view.read (Elt Ideal) X) ⟨8 * (trip2 k).val + r.val, by omega⟩ d) 23 := by
  sl_unfold_run_names
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay188, k0_pay189]
  simp only [leaf0, leaf1, leaf2, leaf3, leaf4, leaf5, leaf6, leaf7, leaf8, leaf9, leaf10, leaf11, leaf12, leaf13, leaf14, leaf15, leaf16, leaf17, leaf18, leaf19, leaf20, leaf21, leaf22, leaf23, leaf24, leaf25, leaf26, leaf27]
  rfl

/-- What trip `k` stores for head 22. -/
theorem word22 (arg1 : Memref sig .tc .vmem S256x3584 .f32) (X : BufTy.Contents (Elt Ideal) arg1.view.ty) (k : Fin k0_t2_loop.trips) (r : Fin 8) (d : Fin 128) :
    (k0_pay182 (trip_k0_t2.sl.r_157 arg1 X k) : Vec Ideal S8x128 .f32) (ix2 r d) = paley (lane (arg1.view.read (Elt Ideal) X) ⟨8 * (trip2 k).val + r.val, by omega⟩ d) 22 := by
  sl_unfold_run_names
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay188, k0_pay189]
  simp only [leaf0, leaf1, leaf2, leaf3, leaf4, leaf5, leaf6, leaf7, leaf8, leaf9, leaf10, leaf11, leaf12, leaf13, leaf14, leaf15, leaf16, leaf17, leaf18, leaf19, leaf20, leaf21, leaf22, leaf23, leaf24, leaf25, leaf26, leaf27]
  rfl

/-- What trip `k` stores for head 21. -/
theorem word21 (arg1 : Memref sig .tc .vmem S256x3584 .f32) (X : BufTy.Contents (Elt Ideal) arg1.view.ty) (k : Fin k0_t2_loop.trips) (r : Fin 8) (d : Fin 128) :
    (k0_pay181 (trip_k0_t2.sl.r_156 arg1 X k) : Vec Ideal S8x128 .f32) (ix2 r d) = paley (lane (arg1.view.read (Elt Ideal) X) ⟨8 * (trip2 k).val + r.val, by omega⟩ d) 21 := by
  sl_unfold_run_names
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay188, k0_pay189]
  simp only [leaf0, leaf1, leaf2, leaf3, leaf4, leaf5, leaf6, leaf7, leaf8, leaf9, leaf10, leaf11, leaf12, leaf13, leaf14, leaf15, leaf16, leaf17, leaf18, leaf19, leaf20, leaf21, leaf22, leaf23, leaf24, leaf25, leaf26, leaf27]
  rfl

/-- What trip `k` stores for head 20. -/
theorem word20 (arg1 : Memref sig .tc .vmem S256x3584 .f32) (X : BufTy.Contents (Elt Ideal) arg1.view.ty) (k : Fin k0_t2_loop.trips) (r : Fin 8) (d : Fin 128) :
    (k0_pay180 (trip_k0_t2.sl.r_155 arg1 X k) : Vec Ideal S8x128 .f32) (ix2 r d) = paley (lane (arg1.view.read (Elt Ideal) X) ⟨8 * (trip2 k).val + r.val, by omega⟩ d) 20 := by
  sl_unfold_run_names
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay188, k0_pay189]
  simp only [leaf0, leaf1, leaf2, leaf3, leaf4, leaf5, leaf6, leaf7, leaf8, leaf9, leaf10, leaf11, leaf12, leaf13, leaf14, leaf15, leaf16, leaf17, leaf18, leaf19, leaf20, leaf21, leaf22, leaf23, leaf24, leaf25, leaf26, leaf27]
  rfl

/-- What trip `k` stores for head 19. -/
theorem word19 (arg1 : Memref sig .tc .vmem S256x3584 .f32) (X : BufTy.Contents (Elt Ideal) arg1.view.ty) (k : Fin k0_t2_loop.trips) (r : Fin 8) (d : Fin 128) :
    (k0_pay179 (trip_k0_t2.sl.r_154 arg1 X k) : Vec Ideal S8x128 .f32) (ix2 r d) = paley (lane (arg1.view.read (Elt Ideal) X) ⟨8 * (trip2 k).val + r.val, by omega⟩ d) 19 := by
  sl_unfold_run_names
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay188, k0_pay189]
  simp only [leaf0, leaf1, leaf2, leaf3, leaf4, leaf5, leaf6, leaf7, leaf8, leaf9, leaf10, leaf11, leaf12, leaf13, leaf14, leaf15, leaf16, leaf17, leaf18, leaf19, leaf20, leaf21, leaf22, leaf23, leaf24, leaf25, leaf26, leaf27]
  rfl

/-- What trip `k` stores for head 18. -/
theorem word18 (arg1 : Memref sig .tc .vmem S256x3584 .f32) (X : BufTy.Contents (Elt Ideal) arg1.view.ty) (k : Fin k0_t2_loop.trips) (r : Fin 8) (d : Fin 128) :
    (trip_k0_t2.sl.v602 arg1 X k : Vec Ideal S8x128 .f32) (ix2 r d) = paley (lane (arg1.view.read (Elt Ideal) X) ⟨8 * (trip2 k).val + r.val, by omega⟩ d) 18 := by
  sl_unfold_run_names
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay188, k0_pay189]
  simp only [leaf0, leaf1, leaf2, leaf3, leaf4, leaf5, leaf6, leaf7, leaf8, leaf9, leaf10, leaf11, leaf12, leaf13, leaf14, leaf15, leaf16, leaf17, leaf18, leaf19, leaf20, leaf21, leaf22, leaf23, leaf24, leaf25, leaf26, leaf27]
  rfl

/-- What trip `k` stores for head 17. -/
theorem word17 (arg1 : Memref sig .tc .vmem S256x3584 .f32) (X : BufTy.Contents (Elt Ideal) arg1.view.ty) (k : Fin k0_t2_loop.trips) (r : Fin 8) (d : Fin 128) :
    (trip_k0_t2.sl.v598 arg1 X k : Vec Ideal S8x128 .f32) (ix2 r d) = paley (lane (arg1.view.read (Elt Ideal) X) ⟨8 * (trip2 k).val + r.val, by omega⟩ d) 17 := by
  sl_unfold_run_names
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay188, k0_pay189]
  simp only [leaf0, leaf1, leaf2, leaf3, leaf4, leaf5, leaf6, leaf7, leaf8, leaf9, leaf10, leaf11, leaf12, leaf13, leaf14, leaf15, leaf16, leaf17, leaf18, leaf19, leaf20, leaf21, leaf22, leaf23, leaf24, leaf25, leaf26, leaf27]
  rfl

/-- What trip `k` stores for head 16. -/
theorem word16 (arg1 : Memref sig .tc .vmem S256x3584 .f32) (X : BufTy.Contents (Elt Ideal) arg1.view.ty) (k : Fin k0_t2_loop.trips) (r : Fin 8) (d : Fin 128) :
    (trip_k0_t2.sl.v594 arg1 X k : Vec Ideal S8x128 .f32) (ix2 r d) = paley (lane (arg1.view.read (Elt Ideal) X) ⟨8 * (trip2 k).val + r.val, by omega⟩ d) 16 := by
  sl_unfold_run_names
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay188, k0_pay189]
  simp only [leaf0, leaf1, leaf2, leaf3, leaf4, leaf5, leaf6, leaf7, leaf8, leaf9, leaf10, leaf11, leaf12, leaf13, leaf14, leaf15, leaf16, leaf17, leaf18, leaf19, leaf20, leaf21, leaf22, leaf23, leaf24, leaf25, leaf26, leaf27]
  rfl

/-- What trip `k` stores for head 15. -/
theorem word15 (arg1 : Memref sig .tc .vmem S256x3584 .f32) (X : BufTy.Contents (Elt Ideal) arg1.view.ty) (k : Fin k0_t2_loop.trips) (r : Fin 8) (d : Fin 128) :
    (trip_k0_t2.sl.v590 arg1 X k : Vec Ideal S8x128 .f32) (ix2 r d) = paley (lane (arg1.view.read (Elt Ideal) X) ⟨8 * (trip2 k).val + r.val, by omega⟩ d) 15 := by
  sl_unfold_run_names
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay188, k0_pay189]
  simp only [leaf0, leaf1, leaf2, leaf3, leaf4, leaf5, leaf6, leaf7, leaf8, leaf9, leaf10, leaf11, leaf12, leaf13, leaf14, leaf15, leaf16, leaf17, leaf18, leaf19, leaf20, leaf21, leaf22, leaf23, leaf24, leaf25, leaf26, leaf27]
  rfl

/-- What trip `k` stores for head 14. -/
theorem word14 (arg1 : Memref sig .tc .vmem S256x3584 .f32) (X : BufTy.Contents (Elt Ideal) arg1.view.ty) (k : Fin k0_t2_loop.trips) (r : Fin 8) (d : Fin 128) :
    (trip_k0_t2.sl.v586 arg1 X k : Vec Ideal S8x128 .f32) (ix2 r d) = paley (lane (arg1.view.read (Elt Ideal) X) ⟨8 * (trip2 k).val + r.val, by omega⟩ d) 14 := by
  sl_unfold_run_names
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay188, k0_pay189]
  simp only [leaf0, leaf1, leaf2, leaf3, leaf4, leaf5, leaf6, leaf7, leaf8, leaf9, leaf10, leaf11, leaf12, leaf13, leaf14, leaf15, leaf16, leaf17, leaf18, leaf19, leaf20, leaf21, leaf22, leaf23, leaf24, leaf25, leaf26, leaf27]
  rfl

/-- What trip `k` stores for head 13. -/
theorem word13 (arg1 : Memref sig .tc .vmem S256x3584 .f32) (X : BufTy.Contents (Elt Ideal) arg1.view.ty) (k : Fin k0_t2_loop.trips) (r : Fin 8) (d : Fin 128) :
    (trip_k0_t2.sl.v582 arg1 X k : Vec Ideal S8x128 .f32) (ix2 r d) = paley (lane (arg1.view.read (Elt Ideal) X) ⟨8 * (trip2 k).val + r.val, by omega⟩ d) 13 := by
  sl_unfold_run_names
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay188, k0_pay189]
  simp only [leaf0, leaf1, leaf2, leaf3, leaf4, leaf5, leaf6, leaf7, leaf8, leaf9, leaf10, leaf11, leaf12, leaf13, leaf14, leaf15, leaf16, leaf17, leaf18, leaf19, leaf20, leaf21, leaf22, leaf23, leaf24, leaf25, leaf26, leaf27]
  rfl

/-- What trip `k` stores for head 12. -/
theorem word12 (arg1 : Memref sig .tc .vmem S256x3584 .f32) (X : BufTy.Contents (Elt Ideal) arg1.view.ty) (k : Fin k0_t2_loop.trips) (r : Fin 8) (d : Fin 128) :
    (trip_k0_t2.sl.v578 arg1 X k : Vec Ideal S8x128 .f32) (ix2 r d) = paley (lane (arg1.view.read (Elt Ideal) X) ⟨8 * (trip2 k).val + r.val, by omega⟩ d) 12 := by
  sl_unfold_run_names
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay188, k0_pay189]
  simp only [leaf0, leaf1, leaf2, leaf3, leaf4, leaf5, leaf6, leaf7, leaf8, leaf9, leaf10, leaf11, leaf12, leaf13, leaf14, leaf15, leaf16, leaf17, leaf18, leaf19, leaf20, leaf21, leaf22, leaf23, leaf24, leaf25, leaf26, leaf27]
  rfl

/-- What trip `k` stores for head 11. -/
theorem word11 (arg1 : Memref sig .tc .vmem S256x3584 .f32) (X : BufTy.Contents (Elt Ideal) arg1.view.ty) (k : Fin k0_t2_loop.trips) (r : Fin 8) (d : Fin 128) :
    (trip_k0_t2.sl.v574 arg1 X k : Vec Ideal S8x128 .f32) (ix2 r d) = paley (lane (arg1.view.read (Elt Ideal) X) ⟨8 * (trip2 k).val + r.val, by omega⟩ d) 11 := by
  sl_unfold_run_names
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay188, k0_pay189]
  simp only [leaf0, leaf1, leaf2, leaf3, leaf4, leaf5, leaf6, leaf7, leaf8, leaf9, leaf10, leaf11, leaf12, leaf13, leaf14, leaf15, leaf16, leaf17, leaf18, leaf19, leaf20, leaf21, leaf22, leaf23, leaf24, leaf25, leaf26, leaf27]
  rfl

/-- What trip `k` stores for head 10. -/
theorem word10 (arg1 : Memref sig .tc .vmem S256x3584 .f32) (X : BufTy.Contents (Elt Ideal) arg1.view.ty) (k : Fin k0_t2_loop.trips) (r : Fin 8) (d : Fin 128) :
    (trip_k0_t2.sl.v570 arg1 X k : Vec Ideal S8x128 .f32) (ix2 r d) = paley (lane (arg1.view.read (Elt Ideal) X) ⟨8 * (trip2 k).val + r.val, by omega⟩ d) 10 := by
  sl_unfold_run_names
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay188, k0_pay189]
  simp only [leaf0, leaf1, leaf2, leaf3, leaf4, leaf5, leaf6, leaf7, leaf8, leaf9, leaf10, leaf11, leaf12, leaf13, leaf14, leaf15, leaf16, leaf17, leaf18, leaf19, leaf20, leaf21, leaf22, leaf23, leaf24, leaf25, leaf26, leaf27]
  rfl

/-- What trip `k` stores for head 9. -/
theorem word9 (arg1 : Memref sig .tc .vmem S256x3584 .f32) (X : BufTy.Contents (Elt Ideal) arg1.view.ty) (k : Fin k0_t2_loop.trips) (r : Fin 8) (d : Fin 128) :
    (trip_k0_t2.sl.v566 arg1 X k : Vec Ideal S8x128 .f32) (ix2 r d) = paley (lane (arg1.view.read (Elt Ideal) X) ⟨8 * (trip2 k).val + r.val, by omega⟩ d) 9 := by
  sl_unfold_run_names
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay188, k0_pay189]
  simp only [leaf0, leaf1, leaf2, leaf3, leaf4, leaf5, leaf6, leaf7, leaf8, leaf9, leaf10, leaf11, leaf12, leaf13, leaf14, leaf15, leaf16, leaf17, leaf18, leaf19, leaf20, leaf21, leaf22, leaf23, leaf24, leaf25, leaf26, leaf27]
  rfl

/-- What trip `k` stores for head 8. -/
theorem word8 (arg1 : Memref sig .tc .vmem S256x3584 .f32) (X : BufTy.Contents (Elt Ideal) arg1.view.ty) (k : Fin k0_t2_loop.trips) (r : Fin 8) (d : Fin 128) :
    (k0_pay168 (trip_k0_t2.sl.r_142 arg1 X k) : Vec Ideal S8x128 .f32) (ix2 r d) = paley (lane (arg1.view.read (Elt Ideal) X) ⟨8 * (trip2 k).val + r.val, by omega⟩ d) 8 := by
  sl_unfold_run_names
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay188, k0_pay189]
  simp only [leaf0, leaf1, leaf2, leaf3, leaf4, leaf5, leaf6, leaf7, leaf8, leaf9, leaf10, leaf11, leaf12, leaf13, leaf14, leaf15, leaf16, leaf17, leaf18, leaf19, leaf20, leaf21, leaf22, leaf23, leaf24, leaf25, leaf26, leaf27]
  rfl

/-- What trip `k` stores for head 7. -/
theorem word7 (arg1 : Memref sig .tc .vmem S256x3584 .f32) (X : BufTy.Contents (Elt Ideal) arg1.view.ty) (k : Fin k0_t2_loop.trips) (r : Fin 8) (d : Fin 128) :
    (k0_pay167 (trip_k0_t2.sl.r_141 arg1 X k) : Vec Ideal S8x128 .f32) (ix2 r d) = paley (lane (arg1.view.read (Elt Ideal) X) ⟨8 * (trip2 k).val + r.val, by omega⟩ d) 7 := by
  sl_unfold_run_names
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay188, k0_pay189]
  simp only [leaf0, leaf1, leaf2, leaf3, leaf4, leaf5, leaf6, leaf7, leaf8, leaf9, leaf10, leaf11, leaf12, leaf13, leaf14, leaf15, leaf16, leaf17, leaf18, leaf19, leaf20, leaf21, leaf22, leaf23, leaf24, leaf25, leaf26, leaf27]
  rfl

/-- What trip `k` stores for head 6. -/
theorem word6 (arg1 : Memref sig .tc .vmem S256x3584 .f32) (X : BufTy.Contents (Elt Ideal) arg1.view.ty) (k : Fin k0_t2_loop.trips) (r : Fin 8) (d : Fin 128) :
    (k0_pay166 (trip_k0_t2.sl.r_140 arg1 X k) : Vec Ideal S8x128 .f32) (ix2 r d) = paley (lane (arg1.view.read (Elt Ideal) X) ⟨8 * (trip2 k).val + r.val, by omega⟩ d) 6 := by
  sl_unfold_run_names
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay188, k0_pay189]
  simp only [leaf0, leaf1, leaf2, leaf3, leaf4, leaf5, leaf6, leaf7, leaf8, leaf9, leaf10, leaf11, leaf12, leaf13, leaf14, leaf15, leaf16, leaf17, leaf18, leaf19, leaf20, leaf21, leaf22, leaf23, leaf24, leaf25, leaf26, leaf27]
  rfl

/-- What trip `k` stores for head 5. -/
theorem word5 (arg1 : Memref sig .tc .vmem S256x3584 .f32) (X : BufTy.Contents (Elt Ideal) arg1.view.ty) (k : Fin k0_t2_loop.trips) (r : Fin 8) (d : Fin 128) :
    (k0_pay165 (trip_k0_t2.sl.r_139 arg1 X k) : Vec Ideal S8x128 .f32) (ix2 r d) = paley (lane (arg1.view.read (Elt Ideal) X) ⟨8 * (trip2 k).val + r.val, by omega⟩ d) 5 := by
  sl_unfold_run_names
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay188, k0_pay189]
  simp only [leaf0, leaf1, leaf2, leaf3, leaf4, leaf5, leaf6, leaf7, leaf8, leaf9, leaf10, leaf11, leaf12, leaf13, leaf14, leaf15, leaf16, leaf17, leaf18, leaf19, leaf20, leaf21, leaf22, leaf23, leaf24, leaf25, leaf26, leaf27]
  rfl

/-- What trip `k` stores for head 4. -/
theorem word4 (arg1 : Memref sig .tc .vmem S256x3584 .f32) (X : BufTy.Contents (Elt Ideal) arg1.view.ty) (k : Fin k0_t2_loop.trips) (r : Fin 8) (d : Fin 128) :
    (k0_pay164 (trip_k0_t2.sl.r_138 arg1 X k) : Vec Ideal S8x128 .f32) (ix2 r d) = paley (lane (arg1.view.read (Elt Ideal) X) ⟨8 * (trip2 k).val + r.val, by omega⟩ d) 4 := by
  sl_unfold_run_names
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay188, k0_pay189]
  simp only [leaf0, leaf1, leaf2, leaf3, leaf4, leaf5, leaf6, leaf7, leaf8, leaf9, leaf10, leaf11, leaf12, leaf13, leaf14, leaf15, leaf16, leaf17, leaf18, leaf19, leaf20, leaf21, leaf22, leaf23, leaf24, leaf25, leaf26, leaf27]
  rfl

/-- What trip `k` stores for head 3. -/
theorem word3 (arg1 : Memref sig .tc .vmem S256x3584 .f32) (X : BufTy.Contents (Elt Ideal) arg1.view.ty) (k : Fin k0_t2_loop.trips) (r : Fin 8) (d : Fin 128) :
    (k0_pay163 (trip_k0_t2.sl.r_137 arg1 X k) : Vec Ideal S8x128 .f32) (ix2 r d) = paley (lane (arg1.view.read (Elt Ideal) X) ⟨8 * (trip2 k).val + r.val, by omega⟩ d) 3 := by
  sl_unfold_run_names
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay188, k0_pay189]
  simp only [leaf0, leaf1, leaf2, leaf3, leaf4, leaf5, leaf6, leaf7, leaf8, leaf9, leaf10, leaf11, leaf12, leaf13, leaf14, leaf15, leaf16, leaf17, leaf18, leaf19, leaf20, leaf21, leaf22, leaf23, leaf24, leaf25, leaf26, leaf27]
  rfl

/-- What trip `k` stores for head 2. -/
theorem word2 (arg1 : Memref sig .tc .vmem S256x3584 .f32) (X : BufTy.Contents (Elt Ideal) arg1.view.ty) (k : Fin k0_t2_loop.trips) (r : Fin 8) (d : Fin 128) :
    (k0_pay162 (trip_k0_t2.sl.r_136 arg1 X k) : Vec Ideal S8x128 .f32) (ix2 r d) = paley (lane (arg1.view.read (Elt Ideal) X) ⟨8 * (trip2 k).val + r.val, by omega⟩ d) 2 := by
  sl_unfold_run_names
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay188, k0_pay189]
  simp only [leaf0, leaf1, leaf2, leaf3, leaf4, leaf5, leaf6, leaf7, leaf8, leaf9, leaf10, leaf11, leaf12, leaf13, leaf14, leaf15, leaf16, leaf17, leaf18, leaf19, leaf20, leaf21, leaf22, leaf23, leaf24, leaf25, leaf26, leaf27]
  rfl

/-- What trip `k` stores for head 1. -/
theorem word1 (arg1 : Memref sig .tc .vmem S256x3584 .f32) (X : BufTy.Contents (Elt Ideal) arg1.view.ty) (k : Fin k0_t2_loop.trips) (r : Fin 8) (d : Fin 128) :
    (k0_pay161 (trip_k0_t2.sl.r_135 arg1 X k) : Vec Ideal S8x128 .f32) (ix2 r d) = paley (lane (arg1.view.read (Elt Ideal) X) ⟨8 * (trip2 k).val + r.val, by omega⟩ d) 1 := by
  sl_unfold_run_names
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay188, k0_pay189]
  simp only [leaf0, leaf1, leaf2, leaf3, leaf4, leaf5, leaf6, leaf7, leaf8, leaf9, leaf10, leaf11, leaf12, leaf13, leaf14, leaf15, leaf16, leaf17, leaf18, leaf19, leaf20, leaf21, leaf22, leaf23, leaf24, leaf25, leaf26, leaf27]
  rfl

/-- What trip `k` stores for head 0. -/
theorem word0 (arg1 : Memref sig .tc .vmem S256x3584 .f32) (X : BufTy.Contents (Elt Ideal) arg1.view.ty) (k : Fin k0_t2_loop.trips) (r : Fin 8) (d : Fin 128) :
    (k0_pay160 (trip_k0_t2.sl.r_134 arg1 X k) : Vec Ideal S8x128 .f32) (ix2 r d) = paley (lane (arg1.view.read (Elt Ideal) X) ⟨8 * (trip2 k).val + r.val, by omega⟩ d) 0 := by
  sl_unfold_run_names
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay188, k0_pay189]
  simp only [leaf0, leaf1, leaf2, leaf3, leaf4, leaf5, leaf6, leaf7, leaf8, leaf9, leaf10, leaf11, leaf12, leaf13, leaf14, leaf15, leaf16, leaf17, leaf18, leaf19, leaf20, leaf21, leaf22, leaf23, leaf24, leaf25, leaf26, leaf27]
  rfl

/-- What trip `k` stores as the largest absolute value over the heads. -/
theorem wordTop (arg1 : Memref sig .tc .vmem S256x3584 .f32) (X : BufTy.Contents (Elt Ideal) arg1.view.ty) (k : Fin k0_t2_loop.trips) (r : Fin 8) (d : Fin 128) :
    k0_pay189 (trip_k0_t2.sl.r_169 arg1 X k) (ix2 r d) = top28 (lane (arg1.view.read (Elt Ideal) X) ⟨8 * (trip2 k).val + r.val, by omega⟩ d) := by
  sl_unfold_run_names
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay188, k0_pay189]
  simp only [leaf0, leaf1, leaf2, leaf3, leaf4, leaf5, leaf6, leaf7, leaf8, leaf9, leaf10, leaf11, leaf12, leaf13, leaf14, leaf15, leaf16, leaf17, leaf18, leaf19, leaf20, leaf21, leaf22, leaf23, leaf24, leaf25, leaf26, leaf27]
  rfl

end Cert.OutIdeal.Hand
end
-- ==== Proof.Out.Steps.lean ====
module

public import Idealize.ShloMosaic.Lib.Pointwise
public import Idealize.ShloMosaic.Lib.Writes
public import Idealize.ShloMosaic.Lib.Pipeline.Kit

/-!
# Reading a buffer after a counted loop's stores

A loop's stores are a list of pieces that grows by one trip's pieces per trip. If every piece agrees with one function `G` of the
buffer's index, and the pieces of all trips reach every index, then the buffer reads as `G` after the loop.
-/

@[expose] public section
set_option maxRecDepth 16384
noncomputable section
namespace Cert.OutIdeal.Hand
open Idealize.ShloMosaic Idealize.ShloMosaic.Pointwise

theorem mem_steps {α : Type*} {n : Nat} (L : Fin n → List α) (P : Nat → List α) (h0 : P 0 = [])
    (hs : ∀ k : Fin n, P (k.val + 1) = L k ++ P k.val) (m : Nat) (hm : m ≤ n) (p : α) :
    p ∈ P m ↔ ∃ k : Fin n, k.val < m ∧ p ∈ L k := by
  induction m with
  | zero => simp [h0]
  | succ m ih =>
    rw [hs ⟨m, hm⟩, List.mem_append, ih (by omega)]
    constructor
    · rintro (h | ⟨k, hk, h⟩)
      · exact ⟨⟨m, hm⟩, by simp, h⟩
      · exact ⟨k, by omega, h⟩
    · rintro ⟨k, hk, h⟩
      rcases Nat.lt_or_ge k.val m with h' | h'
      · exact Or.inr ⟨k, h', h⟩
      · have : k = ⟨m, hm⟩ := Fin.ext (by simp; omega)
        subst this
        exact Or.inl h

/-- A buffer after a loop whose pieces all agree with `G` and cover the buffer. -/
theorem read_steps {sig : RefSig} {κ : Kind} {sp : Space} {s : Shape} {e : EltTy} {Val : EltTy → Type} (v : View sig κ sp s e) (f : v.ty.Contents Val)
    (G : s.Idx → Val e) {n : Nat} (L : Fin n → List (View.Piece Val s e)) (P : Nat → List (View.Piece Val s e)) (h0 : P 0 = [])
    (hs : ∀ k : Fin n, P (k.val + 1) = L k ++ P k.val)
    (hG : ∀ k, ∀ p ∈ L k, ∀ x : p.1.shape.Idx, p.2 x = G (p.1.emb x))
    (hc : ∀ y : s.Idx, ∃ k, ∃ p ∈ L k, y ∈ p.1.set) : v.read Val (v.writes Val f (P n)) = G := by
  funext y
  refine View.read_writes_apply_of_pieces v (f := f) G (P n) (fun p hp => ?_) y ?_
  · obtain ⟨k, -, h⟩ := (mem_steps L P h0 hs n le_rfl p).mp hp
    exact hG k p h
  · obtain ⟨k, p, hp, hy⟩ := hc y
    exact ⟨p, (mem_steps L P h0 hs n le_rfl p).mpr ⟨k, k.isLt, hp⟩, hy⟩

end Cert.OutIdeal.Hand
end
-- ==== Proof.Out.Loops.lean ====
module

public import proofs.«01_k».proof.Proof.Out.Words
public import proofs.«01_k».proof.Proof.Out.Steps

/-!
# The kernel's three counted loops, read

The first loop unpacks the weights, the second stores the transform of each eight rows and the lane maxima, the third
quantizes 32 rows at a time. Each buffer a loop fills reads, after the loop, as one function of what the loop read.
-/

@[expose] public section
set_option maxRecDepth 16384
noncomputable section
namespace Cert.OutIdeal.Hand
open Cert.OutIdeal Cert.OutIdeal.Gen
open Idealize.ShloMosaic Idealize.ShloMosaic.TcCoe Idealize.ShloMosaic.Tactic
open Idealize.ShloMosaic.Pointwise

variable (𝒱 : Variants) (c : Dev nD) (bd : Option 𝒱.V) (i : grid0.Coords) (arg1 : Memref sig .tc .vmem S256x3584 .f32) (harg1 : arg1.IsWhole) (arg2 : Memref sig .tc .vmem S256x3584 .bf16) (harg2 : arg2.IsWhole) (arg3 : Memref sig .tc .vmem S1792x3584 .i8) (harg3 : arg3.IsWhole) (arg4 : Memref sig .tc .vmem S1x3584 .f32) (harg4 : arg4.IsWhole) (arg5 : Memref sig .tc .vmem S256x3584 .bf16) (harg5 : arg5.IsWhole) (arg6 : Memref sig .tc .vmem S256x3584 .i8) (harg6 : arg6.IsWhole) (arg7 : Memref sig .tc .vmem S1x1x256 .f32) (harg7 : arg7.IsWhole) (arg8 : Memref sig .tc .vmem S3584x3584 .bf16) (harg8 : arg8.IsWhole) (arg9 : Memref sig .tc .vmem S256x3584 .f32) (harg9 : arg9.IsWhole) (arg10 : Memref sig .tc .vmem S256x128 .f32) (harg10 : arg10.IsWhole) (arg11 : Memref sig .tc .vmem S256x3584 .bf16) (harg11 : arg11.IsWhole) (arg12 : Memref sig .tc .vmem S256x128 .f32) (harg12 : arg12.IsWhole)

/-- The transform of the block: at row `R` and column `128 h + d` the kernel's transform of lane `d`, head `h`. -/
def O2 (x : Vec Ideal S256x3584 .f32) : Vec Ideal S256x3584 .f32 := fun y =>
  paley (lane x (y 0) ⟨(y 1).val % 128, Nat.mod_lt _ (by decide)⟩) ⟨(y 1).val / 128, Nat.div_lt_of_lt_mul (y 1).isLt⟩

/-- The largest absolute value over the heads, per row and lane. -/
def AM (x : Vec Ideal S256x3584 .f32) : Vec Ideal S256x128 .f32 := fun y => top28 (lane x (y 0) (y 1))

theorem piece9 (x : Vec Ideal S256x3584 .f32) (k : Fin 32) (h : Fin 28) {off : Fin 2 → Nat} (hoff : off = ![8 * k.val, 128 * h.val]) (inb)
    (w : Vec Ideal S8x128 .f32) (hw : ∀ r d, w (ix2 r d) = paley (lane x ⟨8 * k.val + r.val, by omega⟩ d) h)
    (y : (Rect.unit (s := S256x3584) off ![8, 128] inb).shape.Idx) : w y = O2 x ((Rect.unit (s := S256x3584) off ![8, 128] inb).emb y) := by
  subst hoff
  obtain ⟨r, d, rfl⟩ : ∃ (r : Fin 8) (d : Fin 128), y = ix2 r d := ⟨y 0, y 1, eq_ix2 y⟩
  rw [hw]
  have e0 : ((Rect.unit (s := S256x3584) ![8 * k.val, 128 * h.val] ![8, 128] inb).emb (ix2 r d) 0 : Fin 256) = (⟨8 * k.val + r.val, by omega⟩ : Fin 256) :=
    Fin.ext (show 8 * k.val + 1 * r.val = 8 * k.val + r.val by omega)
  have e1 : ((Rect.unit (s := S256x3584) ![8 * k.val, 128 * h.val] ![8, 128] inb).emb (ix2 r d) 1 : Fin 3584).val = 128 * h.val + d.val :=
    show 128 * h.val + 1 * d.val = 128 * h.val + d.val by omega
  unfold O2
  rw [e0]
  congr 1
  · congr 1
    exact Fin.ext (by simp only [e1]; omega)
  · exact Fin.ext (by simp only [e1]; omega)

set_option maxHeartbeats 1000000 in
/-- Every piece the transform loop stores agrees with `O2`. -/
theorem t2_pieces9 (X : BufTy.Contents (Elt Ideal) arg1.view.ty) (k : Fin k0_t2_loop.trips) :
    ∀ p ∈ (tripL_k0_t2 (F := Ideal) 𝒱 c bd i arg1 harg1 arg2 harg2 arg3 harg3 arg4 harg4 arg5 harg5 arg6 harg6 arg7 harg7 arg8 harg8 arg9 harg9 arg10 harg10 arg11 harg11 arg12 harg12 X k).1, ∀ y : p.1.shape.Idx, p.2 y = O2 (arg1.view.read (Elt Ideal) X) (p.1.emb y) := by
  unfold tripL_k0_t2 trip_k0_t2
  dsimp only
  simp only [List.forall_mem_cons]
  refine ⟨piece9 _ (trip2 k) 27 (k0_off30_eq k) _ _ (word27 arg1 X k),
    piece9 _ (trip2 k) 26 (k0_off29_eq k) _ _ (word26 arg1 X k),
    piece9 _ (trip2 k) 25 (k0_off28_eq k) _ _ (word25 arg1 X k),
    piece9 _ (trip2 k) 24 (k0_off27_eq k) _ _ (word24 arg1 X k),
    piece9 _ (trip2 k) 23 (k0_off26_eq k) _ _ (word23 arg1 X k),
    piece9 _ (trip2 k) 22 (k0_off25_eq k) _ _ (word22 arg1 X k),
    piece9 _ (trip2 k) 21 (k0_off24_eq k) _ _ (word21 arg1 X k),
    piece9 _ (trip2 k) 20 (k0_off23_eq k) _ _ (word20 arg1 X k),
    piece9 _ (trip2 k) 19 (k0_off22_eq k) _ _ (word19 arg1 X k),
    piece9 _ (trip2 k) 18 (k0_off21_eq k) _ _ (word18 arg1 X k),
    piece9 _ (trip2 k) 17 (k0_off20_eq k) _ _ (word17 arg1 X k),
    piece9 _ (trip2 k) 16 (k0_off19_eq k) _ _ (word16 arg1 X k),
    piece9 _ (trip2 k) 15 (k0_off18_eq k) _ _ (word15 arg1 X k),
    piece9 _ (trip2 k) 14 (k0_off17_eq k) _ _ (word14 arg1 X k),
    piece9 _ (trip2 k) 13 (k0_off16_eq k) _ _ (word13 arg1 X k),
    piece9 _ (trip2 k) 12 (k0_off15_eq k) _ _ (word12 arg1 X k),
    piece9 _ (trip2 k) 11 (k0_off14_eq k) _ _ (word11 arg1 X k),
    piece9 _ (trip2 k) 10 (k0_off13_eq k) _ _ (word10 arg1 X k),
    piece9 _ (trip2 k) 9 (k0_off12_eq k) _ _ (word9 arg1 X k),
    piece9 _ (trip2 k) 8 (k0_off11_eq k) _ _ (word8 arg1 X k),
    piece9 _ (trip2 k) 7 (k0_off10_eq k) _ _ (word7 arg1 X k),
    piece9 _ (trip2 k) 6 (k0_off9_eq k) _ _ (word6 arg1 X k),
    piece9 _ (trip2 k) 5 (k0_off8_eq k) _ _ (word5 arg1 X k),
    piece9 _ (trip2 k) 4 (k0_off7_eq k) _ _ (word4 arg1 X k),
    piece9 _ (trip2 k) 3 (k0_off6_eq k) _ _ (word3 arg1 X k),
    piece9 _ (trip2 k) 2 (k0_off5_eq k) _ _ (word2 arg1 X k),
    piece9 _ (trip2 k) 1 (k0_off4_eq k) _ _ (word1 arg1 X k),
    piece9 _ (trip2 k) 0 (k0_off3_eq k) _ _ (word0 arg1 X k),
    fun _ h => absurd h List.not_mem_nil⟩

theorem mem_row (k : Fin 32) (h : Fin 28) {off : Fin 2 → Nat} (hoff : off = ![8 * k.val, 128 * h.val]) (inb) (y : S256x3584.Idx)
    (h0 : (y 0).val / 8 = k.val) (h1 : (y 1).val / 128 = h.val) : y ∈ (Rect.unit (s := S256x3584) off ![8, 128] inb).set := by
  subst hoff
  rw [Rect.mem_set_unit]
  intro a
  fin_cases a
  · show 8 * k.val ≤ (y 0).val ∧ (y 0).val < 8 * k.val + 8
    omega
  · show 128 * h.val ≤ (y 1).val ∧ (y 1).val < 128 * h.val + 128
    omega

set_option maxHeartbeats 1000000 in
theorem t2_cover9 (X : BufTy.Contents (Elt Ideal) arg1.view.ty) (y : S256x3584.Idx) :
    ∃ k, ∃ p ∈ (tripL_k0_t2 (F := Ideal) 𝒱 c bd i arg1 harg1 arg2 harg2 arg3 harg3 arg4 harg4 arg5 harg5 arg6 harg6 arg7 harg7 arg8 harg8 arg9 harg9 arg10 harg10 arg11 harg11 arg12 harg12 X k).1, y ∈ p.1.set := by
  have h0 : (y 0).val < 256 := (y 0).isLt
  have h1 : (y 1).val < 3584 := (y 1).isLt
  have htr : k0_t2_loop.trips = 32 := by decide
  obtain ⟨kk, hkk⟩ : ∃ kk : Fin k0_t2_loop.trips, (y 0).val / 8 = kk.val := ⟨⟨(y 0).val / 8, by omega⟩, rfl⟩
  refine ⟨kk, ?_⟩
  unfold tripL_k0_t2 trip_k0_t2
  dsimp only
  simp only [List.exists_mem_cons_iff]
  have hh : (y 1).val / 128 < 28 := by omega
  generalize hq : (y 1).val / 128 = q at hh
  interval_cases q
  · refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; exact Or.inl (mem_row (trip2 kk) 0 (k0_off3_eq kk) _ y hkk hq)
  · refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; exact Or.inl (mem_row (trip2 kk) 1 (k0_off4_eq kk) _ y hkk hq)
  · refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; exact Or.inl (mem_row (trip2 kk) 2 (k0_off5_eq kk) _ y hkk hq)
  · refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; exact Or.inl (mem_row (trip2 kk) 3 (k0_off6_eq kk) _ y hkk hq)
  · refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; exact Or.inl (mem_row (trip2 kk) 4 (k0_off7_eq kk) _ y hkk hq)
  · refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; exact Or.inl (mem_row (trip2 kk) 5 (k0_off8_eq kk) _ y hkk hq)
  · refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; exact Or.inl (mem_row (trip2 kk) 6 (k0_off9_eq kk) _ y hkk hq)
  · refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; exact Or.inl (mem_row (trip2 kk) 7 (k0_off10_eq kk) _ y hkk hq)
  · refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; exact Or.inl (mem_row (trip2 kk) 8 (k0_off11_eq kk) _ y hkk hq)
  · refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; exact Or.inl (mem_row (trip2 kk) 9 (k0_off12_eq kk) _ y hkk hq)
  · refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; exact Or.inl (mem_row (trip2 kk) 10 (k0_off13_eq kk) _ y hkk hq)
  · refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; exact Or.inl (mem_row (trip2 kk) 11 (k0_off14_eq kk) _ y hkk hq)
  · refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; exact Or.inl (mem_row (trip2 kk) 12 (k0_off15_eq kk) _ y hkk hq)
  · refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; exact Or.inl (mem_row (trip2 kk) 13 (k0_off16_eq kk) _ y hkk hq)
  · refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; exact Or.inl (mem_row (trip2 kk) 14 (k0_off17_eq kk) _ y hkk hq)
  · refine Or.inr ?_; refine Or.inr ?_; refine Or.inr ?_; refine Or.inr ?_; refine Or.inr ?_; refine Or.inr ?_; refine Or.inr ?_; refine Or.inr ?_; refine Or.inr ?_; refine Or.inr ?_; refine Or.inr ?_; refine Or.inr ?_; exact Or.inl (mem_row (trip2 kk) 15 (k0_off18_eq kk) _ y hkk hq)
  · refine Or.inr ?_; refine Or.inr ?_; refine Or.inr ?_; refine Or.inr ?_; refine Or.inr ?_; refine Or.inr ?_; refine Or.inr ?_; refine Or.inr ?_; refine Or.inr ?_; refine Or.inr ?_; refine Or.inr ?_; exact Or.inl (mem_row (trip2 kk) 16 (k0_off19_eq kk) _ y hkk hq)
  · refine Or.inr ?_; refine Or.inr ?_; refine Or.inr ?_; refine Or.inr ?_; refine Or.inr ?_; refine Or.inr ?_; refine Or.inr ?_; refine Or.inr ?_; refine Or.inr ?_; refine Or.inr ?_; exact Or.inl (mem_row (trip2 kk) 17 (k0_off20_eq kk) _ y hkk hq)
  · refine Or.inr ?_; refine Or.inr ?_; refine Or.inr ?_; refine Or.inr ?_; refine Or.inr ?_; refine Or.inr ?_; refine Or.inr ?_; refine Or.inr ?_; refine Or.inr ?_; exact Or.inl (mem_row (trip2 kk) 18 (k0_off21_eq kk) _ y hkk hq)
  · refine Or.inr ?_; refine Or.inr ?_; refine Or.inr ?_; refine Or.inr ?_; refine Or.inr ?_; refine Or.inr ?_; refine Or.inr ?_; refine Or.inr ?_; exact Or.inl (mem_row (trip2 kk) 19 (k0_off22_eq kk) _ y hkk hq)
  · refine Or.inr ?_; refine Or.inr ?_; refine Or.inr ?_; refine Or.inr ?_; refine Or.inr ?_; refine Or.inr ?_; refine Or.inr ?_; exact Or.inl (mem_row (trip2 kk) 20 (k0_off23_eq kk) _ y hkk hq)
  · refine Or.inr ?_; refine Or.inr ?_; refine Or.inr ?_; refine Or.inr ?_; refine Or.inr ?_; refine Or.inr ?_; exact Or.inl (mem_row (trip2 kk) 21 (k0_off24_eq kk) _ y hkk hq)
  · refine Or.inr ?_; refine Or.inr ?_; refine Or.inr ?_; refine Or.inr ?_; refine Or.inr ?_; exact Or.inl (mem_row (trip2 kk) 22 (k0_off25_eq kk) _ y hkk hq)
  · refine Or.inr ?_; refine Or.inr ?_; refine Or.inr ?_; refine Or.inr ?_; exact Or.inl (mem_row (trip2 kk) 23 (k0_off26_eq kk) _ y hkk hq)
  · refine Or.inr ?_; refine Or.inr ?_; refine Or.inr ?_; exact Or.inl (mem_row (trip2 kk) 24 (k0_off27_eq kk) _ y hkk hq)
  · refine Or.inr ?_; refine Or.inr ?_; exact Or.inl (mem_row (trip2 kk) 25 (k0_off28_eq kk) _ y hkk hq)
  · refine Or.inr ?_; exact Or.inl (mem_row (trip2 kk) 26 (k0_off29_eq kk) _ y hkk hq)
  · exact Or.inl (mem_row (trip2 kk) 27 (k0_off30_eq kk) _ y hkk hq)

theorem t2_read9 (X : BufTy.Contents (Elt Ideal) arg1.view.ty) (G : BufTy.Contents (Elt Ideal) arg9.view.ty) :
    arg9.view.read (Elt Ideal) (arg9.view.writes (Elt Ideal) G (pb_k0_t2 (F := Ideal) 𝒱 c bd i arg1 harg1 arg2 harg2 arg3 harg3 arg4 harg4 arg5 harg5 arg6 harg6 arg7 harg7 arg8 harg8 arg9 harg9 arg10 harg10 arg11 harg11 arg12 harg12 X k0_t2_loop.trips).1)
      = O2 (arg1.view.read (Elt Ideal) X) :=
  read_steps arg9.view G _ (fun k => (tripL_k0_t2 (F := Ideal) 𝒱 c bd i arg1 harg1 arg2 harg2 arg3 harg3 arg4 harg4 arg5 harg5 arg6 harg6 arg7 harg7 arg8 harg8 arg9 harg9 arg10 harg10 arg11 harg11 arg12 harg12 X k).1) (fun n => (pb_k0_t2 (F := Ideal) 𝒱 c bd i arg1 harg1 arg2 harg2 arg3 harg3 arg4 harg4 arg5 harg5 arg6 harg6 arg7 harg7 arg8 harg8 arg9 harg9 arg10 harg10 arg11 harg11 arg12 harg12 X n).1) rfl
    (fun k => by rw [pb_k0_t2_succ]) (t2_pieces9 𝒱 c bd i arg1 harg1 arg2 harg2 arg3 harg3 arg4 harg4 arg5 harg5 arg6 harg6 arg7 harg7 arg8 harg8 arg9 harg9 arg10 harg10 arg11 harg11 arg12 harg12 X) (t2_cover9 𝒱 c bd i arg1 harg1 arg2 harg2 arg3 harg3 arg4 harg4 arg5 harg5 arg6 harg6 arg7 harg7 arg8 harg8 arg9 harg9 arg10 harg10 arg11 harg11 arg12 harg12 X)

set_option maxHeartbeats 1000000 in
theorem t2_pieces10 (X : BufTy.Contents (Elt Ideal) arg1.view.ty) (k : Fin k0_t2_loop.trips) :
    ∀ p ∈ (tripL_k0_t2 (F := Ideal) 𝒱 c bd i arg1 harg1 arg2 harg2 arg3 harg3 arg4 harg4 arg5 harg5 arg6 harg6 arg7 harg7 arg8 harg8 arg9 harg9 arg10 harg10 arg11 harg11 arg12 harg12 X k).2, ∀ y : p.1.shape.Idx, p.2 y = AM (arg1.view.read (Elt Ideal) X) (p.1.emb y) := by
  unfold tripL_k0_t2 trip_k0_t2
  dsimp only
  simp only [List.forall_mem_cons]
  refine ⟨fun y => ?_, fun _ h => absurd h List.not_mem_nil⟩
  obtain ⟨r, d, rfl⟩ : ∃ (r : Fin 8) (d : Fin 128), y = ix2 r d := ⟨y 0, y 1, eq_ix2 y⟩
  rw [wordTop]
  have e0 : ((Rect.unit (s := S256x128) (k0_off31 k) S8x128.size (k0_off31_inb k)).emb (ix2 r d) 0 : Fin 256) = (⟨8 * (trip2 k).val + r.val, by omega⟩ : Fin 256) :=
    Fin.ext (show k0_off31 k 0 + 1 * r.val = 8 * (trip2 k).val + r.val by rw [k0_off31_eq]; show 8 * k.val + 1 * r.val = 8 * k.val + r.val; omega)
  have e1 : ((Rect.unit (s := S256x128) (k0_off31 k) S8x128.size (k0_off31_inb k)).emb (ix2 r d) 1 : Fin 128) = d :=
    Fin.ext (show k0_off31 k 1 + 1 * d.val = d.val by rw [k0_off31_eq]; show 0 + 1 * d.val = d.val; omega)
  unfold AM
  rw [e0, e1]

theorem t2_cover10 (X : BufTy.Contents (Elt Ideal) arg1.view.ty) (y : S256x128.Idx) :
    ∃ k, ∃ p ∈ (tripL_k0_t2 (F := Ideal) 𝒱 c bd i arg1 harg1 arg2 harg2 arg3 harg3 arg4 harg4 arg5 harg5 arg6 harg6 arg7 harg7 arg8 harg8 arg9 harg9 arg10 harg10 arg11 harg11 arg12 harg12 X k).2, y ∈ p.1.set := by
  have h0 : (y 0).val < 256 := (y 0).isLt
  have h1 : (y 1).val < 128 := (y 1).isLt
  refine ⟨⟨(y 0).val / 8, by have : k0_t2_loop.trips = 32 := by decide
                             omega⟩, ?_⟩
  unfold tripL_k0_t2 trip_k0_t2
  dsimp only
  refine ⟨_, List.mem_cons_self, ?_⟩
  rw [Rect.mem_set_unit, k0_off31_eq]
  intro a
  fin_cases a
  · show 8 * ((y 0).val / 8) ≤ (y 0).val ∧ (y 0).val < 8 * ((y 0).val / 8) + 8
    omega
  · show 0 ≤ (y 1).val ∧ (y 1).val < 0 + 128
    omega

theorem t2_read10 (X : BufTy.Contents (Elt Ideal) arg1.view.ty) (G : BufTy.Contents (Elt Ideal) arg10.view.ty) :
    arg10.view.read (Elt Ideal) (arg10.view.writes (Elt Ideal) G (pb_k0_t2 (F := Ideal) 𝒱 c bd i arg1 harg1 arg2 harg2 arg3 harg3 arg4 harg4 arg5 harg5 arg6 harg6 arg7 harg7 arg8 harg8 arg9 harg9 arg10 harg10 arg11 harg11 arg12 harg12 X k0_t2_loop.trips).2)
      = AM (arg1.view.read (Elt Ideal) X) :=
  read_steps arg10.view G _ (fun k => (tripL_k0_t2 (F := Ideal) 𝒱 c bd i arg1 harg1 arg2 harg2 arg3 harg3 arg4 harg4 arg5 harg5 arg6 harg6 arg7 harg7 arg8 harg8 arg9 harg9 arg10 harg10 arg11 harg11 arg12 harg12 X k).2) (fun n => (pb_k0_t2 (F := Ideal) 𝒱 c bd i arg1 harg1 arg2 harg2 arg3 harg3 arg4 harg4 arg5 harg5 arg6 harg6 arg7 harg7 arg8 harg8 arg9 harg9 arg10 harg10 arg11 harg11 arg12 harg12 X n).2) rfl
    (fun k => by rw [pb_k0_t2_succ]) (t2_pieces10 𝒱 c bd i arg1 harg1 arg2 harg2 arg3 harg3 arg4 harg4 arg5 harg5 arg6 harg6 arg7 harg7 arg8 harg8 arg9 harg9 arg10 harg10 arg11 harg11 arg12 harg12 X) (t2_cover10 𝒱 c bd i arg1 harg1 arg2 harg2 arg3 harg3 arg4 harg4 arg5 harg5 arg6 harg6 arg7 harg7 arg8 harg8 arg9 harg9 arg10 harg10 arg11 harg11 arg12 harg12 X)

end Cert.OutIdeal.Hand
end
-- ==== Proof.Out.Loops2.lean ====
module

public import proofs.«01_k».proof.Proof.Out.Loops

/-!
# The unpacking loop and the quantizing loop, read

The first loop turns each byte of the packed weights into two rows of signed four-bit numbers; the third divides each
transformed row by its scale, rounds, clips, and stores the codes twice (as integers and as floats) and the scale.
-/

@[expose] public section
set_option maxRecDepth 16384
noncomputable section
namespace Cert.OutIdeal.Hand
open Cert.OutIdeal Cert.OutIdeal.Gen
open Idealize.ShloMosaic Idealize.ShloMosaic.TcCoe Idealize.ShloMosaic.Tactic
open Idealize.ShloMosaic.Pointwise

variable (𝒱 : Variants) (c : Dev nD) (bd : Option 𝒱.V) (i : grid0.Coords) (arg1 : Memref sig .tc .vmem S256x3584 .f32) (harg1 : arg1.IsWhole) (arg2 : Memref sig .tc .vmem S256x3584 .bf16) (harg2 : arg2.IsWhole) (arg3 : Memref sig .tc .vmem S1792x3584 .i8) (harg3 : arg3.IsWhole) (arg4 : Memref sig .tc .vmem S1x3584 .f32) (harg4 : arg4.IsWhole) (arg5 : Memref sig .tc .vmem S256x3584 .bf16) (harg5 : arg5.IsWhole) (arg6 : Memref sig .tc .vmem S256x3584 .i8) (harg6 : arg6.IsWhole) (arg7 : Memref sig .tc .vmem S1x1x256 .f32) (harg7 : arg7.IsWhole) (arg8 : Memref sig .tc .vmem S3584x3584 .bf16) (harg8 : arg8.IsWhole) (arg9 : Memref sig .tc .vmem S256x3584 .f32) (harg9 : arg9.IsWhole) (arg10 : Memref sig .tc .vmem S256x128 .f32) (harg10 : arg10.IsWhole) (arg11 : Memref sig .tc .vmem S256x3584 .bf16) (harg11 : arg11.IsWhole) (arg12 : Memref sig .tc .vmem S256x128 .f32) (harg12 : arg12.IsWhole)

/-- Row `R`, column `j` of the unpacked weights: the low half-byte on even rows, the high half-byte on odd rows, signed. -/
def nib (w : BitVec 8) (par : Nat) : EReal :=
  (FloatOps.sitofp (F := Ideal) FTy.bf16
    (if par < 1 then IntOp.shrsi ArithUnit.vector (IntOp.shli ArithUnit.vector (BitVec.setWidth 32 w) 28#32) 28#32
     else IntOp.shrsi ArithUnit.vector (IntOp.shli ArithUnit.vector (BitVec.setWidth 32 w) 24#32) 28#32) : EReal)

/-- The unpacked weights. -/
def WB (x : Vec Ideal S1792x3584 .i8) : Vec Ideal S3584x3584 .bf16 := fun y =>
  nib (x (ix2 ⟨(y 0).val / 2, Nat.div_lt_of_lt_mul (y 0).isLt⟩ (y 1))) ((y 0).val % 2)

/-- The trip number as a number below 7. -/
def trip1 (k : Fin k0_t1_loop.trips) : Fin 7 := ⟨k.val, Nat.lt_of_lt_of_le k.isLt k0_t1_abs.2.1⟩
/-- The trip number as a number below 8. -/
def trip3 (k : Fin k0_t3_loop.trips) : Fin 8 := ⟨k.val, Nat.lt_of_lt_of_le k.isLt k0_t3_abs.2.1⟩

/-- A load of full rows at an element. -/
theorem leafRows {n rows w : Nat} {e : EltTy} (m : Memref sig .tc .vmem ⟨2, ![n, w]⟩ e) (X : BufTy.Contents (Elt Ideal) m.view.ty) {off : Fin 2 → Nat}
    (inb) (a : Nat) (hoff : off = ![a, 0]) (r : Fin rows) (d : Fin w) (h : a + r.val < n) :
    View.readAt (Elt Ideal) m.view (Rect.unit (s := ⟨2, ![n, w]⟩) off ![rows, w] inb).toLoadRect X (ix2 r d)
      = m.view.read (Elt Ideal) X (ix2 ⟨a + r.val, h⟩ d) := by
  subst hoff
  refine congrArg (m.view.read (Elt Ideal) X) (funext fun i => Fin.ext ?_)
  fin_cases i
  · show a + 1 * r.val = a + r.val
    omega
  · show 0 + 1 * d.val = d.val
    omega

/-- Where a stored element of full rows lands. -/
theorem embRows {n rows w : Nat} {off : Fin 2 → Nat} (inb) (a : Nat) (hoff : off = ![a, 0]) (r : Fin rows) (d : Fin w) (h : a + r.val < n) :
    (Rect.unit (s := ⟨2, ![n, w]⟩) off ![rows, w] inb).emb (ix2 r d) = ix2 ⟨a + r.val, h⟩ d := by
  subst hoff
  refine funext fun i => Fin.ext ?_
  fin_cases i
  · show a + 1 * r.val = a + r.val
    omega
  · show 0 + 1 * d.val = d.val
    omega

theorem memRows {n rows w : Nat} {off : Fin 2 → Nat} (inb) (a : Nat) (hoff : off = ![a, 0]) (y : (⟨2, ![n, w]⟩ : Shape).Idx)
    (h0 : a ≤ (y 0).val) (h1 : (y 0).val < a + rows) :
    y ∈ (Rect.unit (s := ⟨2, ![n, w]⟩) off ![rows, w] inb).set := by
  subst hoff
  rw [Rect.mem_set_unit]
  have h2 : (y 1).val < w := (y 1).isLt
  intro i
  fin_cases i
  · exact ⟨h0, h1⟩
  · show 0 ≤ (y 1).val ∧ (y 1).val < 0 + w
    omega

/-- The unpacked word of 512 rows at an element. -/
theorem pay187_apply (v : Vec Ideal S256x3584 .i8) (r : Fin 512) (d : Fin 3584) :
    k0_pay187 v (ix2 r d) = nib (v (ix2 ⟨r.val / 2, by omega⟩ d)) (r.val % 2) := by
  pointwise [k0_pay187]
  unfold nib
  split <;> rfl

theorem t1_read (h : k0_cond1 i = 1#1) (X : BufTy.Contents (Elt Ideal) arg3.view.ty) (G : BufTy.Contents (Elt Ideal) arg8.view.ty) :
    arg8.view.read (Elt Ideal) (arg8.view.writes (Elt Ideal) G (pb_k0_t1 (F := Ideal) 𝒱 c bd i arg1 harg1 arg2 harg2 arg3 harg3 arg4 harg4 arg5 harg5 arg6 harg6 arg7 harg7 arg8 harg8 arg9 harg9 arg10 harg10 arg11 harg11 arg12 harg12 h X k0_t1_loop.trips))
      = WB (arg3.view.read (Elt Ideal) X) := by
  refine read_steps arg8.view G _ (fun k => tripL_k0_t1 (F := Ideal) 𝒱 c bd i arg1 harg1 arg2 harg2 arg3 harg3 arg4 harg4 arg5 harg5 arg6 harg6 arg7 harg7 arg8 harg8 arg9 harg9 arg10 harg10 arg11 harg11 arg12 harg12 h X k) (fun n => pb_k0_t1 (F := Ideal) 𝒱 c bd i arg1 harg1 arg2 harg2 arg3 harg3 arg4 harg4 arg5 harg5 arg6 harg6 arg7 harg7 arg8 harg8 arg9 harg9 arg10 harg10 arg11 harg11 arg12 harg12 h X n) rfl
    (fun k => by rw [pb_k0_t1_succ]) (fun k => ?_) (fun y => ?_)
  · unfold tripL_k0_t1 trip_k0_t1
    dsimp only
    simp only [List.forall_mem_cons]
    refine ⟨fun y => ?_, fun _ h => absurd h List.not_mem_nil⟩
    have hk : k.val < 7 := (trip1 k).isLt
    obtain ⟨r, d, rfl⟩ : ∃ (r : Fin 512) (d : Fin 3584), y = ix2 r d := ⟨y 0, y 1, eq_ix2 y⟩
    rw [pay187_apply, leafRows (n := 1792) (rows := 256) (w := 3584) arg3 X _ (256 * k.val) (k0_off1_eq k) _ _ (by show 256 * k.val + r.val / 2 < 1792; omega),
      embRows (n := 3584) (rows := 512) (w := 3584) _ (512 * k.val) (k0_off2_eq k) r d (by omega)]
    unfold WB
    refine congrArg₂ nib (congrArg _ ?_) ?_
    · refine congrArg₂ ix2 (Fin.ext ?_) rfl
      show 256 * k.val + r.val / 2 = (512 * k.val + r.val) / 2
      omega
    · show r.val % 2 = (512 * k.val + r.val) % 2
      omega
  · have h0 : (y 0).val < 3584 := (y 0).isLt
    have htr : k0_t1_loop.trips = 7 := by decide
    obtain ⟨kk, hkk⟩ : ∃ kk : Fin k0_t1_loop.trips, (y 0).val / 512 = kk.val := ⟨⟨(y 0).val / 512, by omega⟩, rfl⟩
    refine ⟨kk, ?_⟩
    unfold tripL_k0_t1 trip_k0_t1
    dsimp only
    refine ⟨_, List.mem_cons_self, ?_⟩
    exact memRows (n := 3584) (rows := 512) (w := 3584) (k0_off2_inb i kk h) (512 * kk.val) (k0_off2_eq kk) y (by omega) (by omega)

/-- The scale of a row from its largest absolute value. -/
def scaleOf (a : EReal) : EReal :=
  if a = 0 then 1 else Ideal.div (a * Ideal.ofBits FTy.f32 1063679181#32) (Ideal.ofBits FTy.f32 1088421888#32)

/-- A row's maximum over its 128 lanes. -/
def rowMax (am : Vec Ideal S256x128 .f32) (R : Fin 256) : EReal :=
  Finset.fold max (Ideal.ofBits FTy.f32 4286578688#32) (fun x => am (ix2 R x)) Finset.univ

/-- An entry divided by its row's scale, rounded to an integer and clipped to `-7 … 7`. -/
def codeOf (o s : EReal) : EReal :=
  min (Ideal.ofBits FTy.f32 1088421888#32) (max (Ideal.ofBits FTy.f32 3235905536#32) (Ideal.liftRound Ideal.roundHalfEven (Ideal.div o s)))

/-- The row scales, the same in every lane. -/
def SC (am : Vec Ideal S256x128 .f32) : Vec Ideal S256x128 .f32 := fun y => scaleOf (rowMax am (y 0))
/-- The codes as floats. -/
def OB (o2 : Vec Ideal S256x3584 .f32) (am : Vec Ideal S256x128 .f32) : Vec Ideal S256x3584 .bf16 := fun y =>
  codeOf (o2 y) (scaleOf (rowMax am (y 0)))
/-- The codes as eight-bit integers. -/
def OC (o2 : Vec Ideal S256x3584 .f32) (am : Vec Ideal S256x128 .f32) : Vec Ideal S256x3584 .i8 := fun y =>
  FloatOps.fptosi (F := Ideal) 8 (φ := FTy.f32) (codeOf (o2 y) (scaleOf (rowMax am (y 0))))

theorem pay190_apply (v : Vec Ideal S32x128 .f32) (r : Fin 32) (d : Fin 1) :
    k0_pay190 v (ix2 r d) = scaleOf (Finset.fold max (Ideal.ofBits FTy.f32 4286578688#32) (fun x => v (ix2 r x)) Finset.univ) := by
  pointwise [k0_pay190]
  rfl
theorem pay192_apply (v : Vec Ideal S32x128 .f32) (w : Vec Ideal S32x3584 .f32) (r : Fin 32) (d : Fin 3584) :
    k0_pay192 v w (ix2 r d) = FloatOps.fptosi (F := Ideal) 8 (φ := FTy.f32) (codeOf (w (ix2 r d)) (k0_pay190 v (ix2 r 0))) := by
  pointwise [k0_pay192, k0_pay191]
  rfl
theorem pay193_apply (v : Vec Ideal S32x128 .f32) (w : Vec Ideal S32x3584 .f32) (r : Fin 32) (d : Fin 3584) :
    k0_pay193 v w (ix2 r d) = codeOf (w (ix2 r d)) (k0_pay190 v (ix2 r 0)) := by
  pointwise [k0_pay193, k0_pay191]
  rfl
theorem pay194_apply (v : Vec Ideal S32x128 .f32) (r : Fin 32) (d : Fin 128) :
    k0_pay194 v (ix2 r d) = k0_pay190 v (ix2 r 0) := by
  pointwise [k0_pay194]

theorem scale_leaf (Y : BufTy.Contents (Elt Ideal) arg10.view.ty) (k : Fin k0_t3_loop.trips) (inb) (r : Fin 32) (h : 32 * k.val + r.val < 256) :
    k0_pay190 (F := Ideal) (View.readAt (Elt Ideal) arg10.view (Rect.unit (s := S256x128) (k0_off32 k) ![32, 128] inb).toLoadRect Y) (ix2 r 0)
      = scaleOf (rowMax (arg10.view.read (Elt Ideal) Y) ⟨32 * k.val + r.val, h⟩) := by
  rw [pay190_apply]
  unfold rowMax
  refine congrArg (fun f => scaleOf (Finset.fold max (Ideal.ofBits FTy.f32 4286578688#32) f Finset.univ)) (funext fun x => ?_)
  exact leafRows (n := 256) (rows := 32) (w := 128) arg10 Y _ (32 * k.val) (k0_off32_eq k) r x h

theorem t3_read6 (X : BufTy.Contents (Elt Ideal) arg9.view.ty) (Y : BufTy.Contents (Elt Ideal) arg10.view.ty) (G : BufTy.Contents (Elt Ideal) arg6.view.ty) :
    arg6.view.read (Elt Ideal) (arg6.view.writes (Elt Ideal) G (pb_k0_t3 (F := Ideal) 𝒱 c bd i arg1 harg1 arg2 harg2 arg3 harg3 arg4 harg4 arg5 harg5 arg6 harg6 arg7 harg7 arg8 harg8 arg9 harg9 arg10 harg10 arg11 harg11 arg12 harg12 X Y k0_t3_loop.trips).1)
      = OC (arg9.view.read (Elt Ideal) X) (arg10.view.read (Elt Ideal) Y) := by
  refine read_steps arg6.view G _ (fun k => (tripL_k0_t3 (F := Ideal) 𝒱 c bd i arg1 harg1 arg2 harg2 arg3 harg3 arg4 harg4 arg5 harg5 arg6 harg6 arg7 harg7 arg8 harg8 arg9 harg9 arg10 harg10 arg11 harg11 arg12 harg12 X Y k).1) (fun n => (pb_k0_t3 (F := Ideal) 𝒱 c bd i arg1 harg1 arg2 harg2 arg3 harg3 arg4 harg4 arg5 harg5 arg6 harg6 arg7 harg7 arg8 harg8 arg9 harg9 arg10 harg10 arg11 harg11 arg12 harg12 X Y n).1) rfl
    (fun k => by rw [pb_k0_t3_succ]) (fun k => ?_) (fun y => ?_)
  · unfold tripL_k0_t3 trip_k0_t3
    dsimp only
    simp only [List.forall_mem_cons]
    refine ⟨fun y => ?_, fun _ h => absurd h List.not_mem_nil⟩
    have hk : k.val < 8 := (trip3 k).isLt
    obtain ⟨r, d, rfl⟩ : ∃ (r : Fin 32) (d : Fin 3584), y = ix2 r d := ⟨y 0, y 1, eq_ix2 y⟩
    rw [pay192_apply, leafRows (n := 256) (rows := 32) (w := 3584) arg9 X _ (32 * k.val) (k0_off33_eq k) r d (by omega),
      embRows (n := 256) (rows := 32) (w := 3584) _ (32 * k.val) (k0_off33_eq k) r d (by omega), scale_leaf arg10 Y k _ r (by omega)]
    rfl
  · have h0 : (y 0).val < 256 := (y 0).isLt
    have htr : k0_t3_loop.trips = 8 := by decide
    obtain ⟨kk, hkk⟩ : ∃ kk : Fin k0_t3_loop.trips, (y 0).val / 32 = kk.val := ⟨⟨(y 0).val / 32, by omega⟩, rfl⟩
    refine ⟨kk, ?_⟩
    unfold tripL_k0_t3 trip_k0_t3
    dsimp only
    refine ⟨_, List.mem_cons_self, ?_⟩
    exact memRows (n := 256) (rows := 32) (w := 3584) (k0_off33_inb kk) (32 * kk.val) (k0_off33_eq kk) y (by omega) (by omega)

theorem t3_read11 (X : BufTy.Contents (Elt Ideal) arg9.view.ty) (Y : BufTy.Contents (Elt Ideal) arg10.view.ty) (G : BufTy.Contents (Elt Ideal) arg11.view.ty) :
    arg11.view.read (Elt Ideal) (arg11.view.writes (Elt Ideal) G (pb_k0_t3 (F := Ideal) 𝒱 c bd i arg1 harg1 arg2 harg2 arg3 harg3 arg4 harg4 arg5 harg5 arg6 harg6 arg7 harg7 arg8 harg8 arg9 harg9 arg10 harg10 arg11 harg11 arg12 harg12 X Y k0_t3_loop.trips).2.1)
      = OB (arg9.view.read (Elt Ideal) X) (arg10.view.read (Elt Ideal) Y) := by
  refine read_steps arg11.view G _ (fun k => (tripL_k0_t3 (F := Ideal) 𝒱 c bd i arg1 harg1 arg2 harg2 arg3 harg3 arg4 harg4 arg5 harg5 arg6 harg6 arg7 harg7 arg8 harg8 arg9 harg9 arg10 harg10 arg11 harg11 arg12 harg12 X Y k).2.1) (fun n => (pb_k0_t3 (F := Ideal) 𝒱 c bd i arg1 harg1 arg2 harg2 arg3 harg3 arg4 harg4 arg5 harg5 arg6 harg6 arg7 harg7 arg8 harg8 arg9 harg9 arg10 harg10 arg11 harg11 arg12 harg12 X Y n).2.1) rfl
    (fun k => by rw [pb_k0_t3_succ]) (fun k => ?_) (fun y => ?_)
  · unfold tripL_k0_t3 trip_k0_t3
    dsimp only
    simp only [List.forall_mem_cons]
    refine ⟨fun y => ?_, fun _ h => absurd h List.not_mem_nil⟩
    have hk : k.val < 8 := (trip3 k).isLt
    obtain ⟨r, d, rfl⟩ : ∃ (r : Fin 32) (d : Fin 3584), y = ix2 r d := ⟨y 0, y 1, eq_ix2 y⟩
    rw [pay193_apply, leafRows (n := 256) (rows := 32) (w := 3584) arg9 X _ (32 * k.val) (k0_off33_eq k) r d (by omega),
      embRows (n := 256) (rows := 32) (w := 3584) _ (32 * k.val) (k0_off33_eq k) r d (by omega), scale_leaf arg10 Y k _ r (by omega)]
    rfl
  · have h0 : (y 0).val < 256 := (y 0).isLt
    have htr : k0_t3_loop.trips = 8 := by decide
    obtain ⟨kk, hkk⟩ : ∃ kk : Fin k0_t3_loop.trips, (y 0).val / 32 = kk.val := ⟨⟨(y 0).val / 32, by omega⟩, rfl⟩
    refine ⟨kk, ?_⟩
    unfold tripL_k0_t3 trip_k0_t3
    dsimp only
    refine ⟨_, List.mem_cons_self, ?_⟩
    exact memRows (n := 256) (rows := 32) (w := 3584) (k0_off33_inb kk) (32 * kk.val) (k0_off33_eq kk) y (by omega) (by omega)

theorem t3_read12 (X : BufTy.Contents (Elt Ideal) arg9.view.ty) (Y : BufTy.Contents (Elt Ideal) arg10.view.ty) (G : BufTy.Contents (Elt Ideal) arg12.view.ty) :
    arg12.view.read (Elt Ideal) (arg12.view.writes (Elt Ideal) G (pb_k0_t3 (F := Ideal) 𝒱 c bd i arg1 harg1 arg2 harg2 arg3 harg3 arg4 harg4 arg5 harg5 arg6 harg6 arg7 harg7 arg8 harg8 arg9 harg9 arg10 harg10 arg11 harg11 arg12 harg12 X Y k0_t3_loop.trips).2.2)
      = SC (arg10.view.read (Elt Ideal) Y) := by
  refine read_steps arg12.view G _ (fun k => (tripL_k0_t3 (F := Ideal) 𝒱 c bd i arg1 harg1 arg2 harg2 arg3 harg3 arg4 harg4 arg5 harg5 arg6 harg6 arg7 harg7 arg8 harg8 arg9 harg9 arg10 harg10 arg11 harg11 arg12 harg12 X Y k).2.2) (fun n => (pb_k0_t3 (F := Ideal) 𝒱 c bd i arg1 harg1 arg2 harg2 arg3 harg3 arg4 harg4 arg5 harg5 arg6 harg6 arg7 harg7 arg8 harg8 arg9 harg9 arg10 harg10 arg11 harg11 arg12 harg12 X Y n).2.2) rfl
    (fun k => by rw [pb_k0_t3_succ]) (fun k => ?_) (fun y => ?_)
  · unfold tripL_k0_t3 trip_k0_t3
    dsimp only
    simp only [List.forall_mem_cons]
    refine ⟨fun y => ?_, fun _ h => absurd h List.not_mem_nil⟩
    have hk : k.val < 8 := (trip3 k).isLt
    obtain ⟨r, d, rfl⟩ : ∃ (r : Fin 32) (d : Fin 128), y = ix2 r d := ⟨y 0, y 1, eq_ix2 y⟩
    rw [pay194_apply, embRows (n := 256) (rows := 32) (w := 128) _ (32 * k.val) (k0_off32_eq k) r d (by omega), scale_leaf arg10 Y k _ r (by omega)]
    rfl
  · have h0 : (y 0).val < 256 := (y 0).isLt
    have htr : k0_t3_loop.trips = 8 := by decide
    obtain ⟨kk, hkk⟩ : ∃ kk : Fin k0_t3_loop.trips, (y 0).val / 32 = kk.val := ⟨⟨(y 0).val / 32, by omega⟩, rfl⟩
    refine ⟨kk, ?_⟩
    unfold tripL_k0_t3 trip_k0_t3
    dsimp only
    refine ⟨_, List.mem_cons_self, ?_⟩
    exact memRows (n := 256) (rows := 32) (w := 128) (k0_off32_inb kk) (32 * kk.val) (k0_off32_eq kk) y (by omega) (by omega)

end Cert.OutIdeal.Hand
end
-- ==== Proof.Qkv.Row.lean ====
module

public import proofs.«01_k».proof.Proof.Gen.QkvIdeal
public import proofs.«01_k».proof.Proof.Out.Loops2

/-!
# One token of the projection

What the projection kernel computes for one token, as functions of that token's row alone: the normalized row, its scale
and codes, the products with the signed four-bit weights, the rotated and transformed heads, and the four-bit codes of a
key or value head.
-/

@[expose] public section
noncomputable section
namespace Cert.QkvIdeal.Hand
open Cert.QkvIdeal
open Idealize.ShloMosaic Idealize.ShloMosaic.Pointwise
open Cert.OutIdeal.Hand (nib scaleOf codeOf absE)

/-- The row divided by its root mean square. -/
def xnorm (x : Fin 3584 → EReal) (k : Fin 3584) : EReal :=
  Ideal.div (x k) (Ideal.sqrt (Ideal.div (∑ i, x i * x i) (Ideal.ofBits .f32 0x45600000#32) + Ideal.ofBits .f32 0x3727C5AC#32))

/-- The row's scale. -/
def xscale (x : Fin 3584 → EReal) : EReal :=
  scaleOf (Finset.fold max (Ideal.ofBits FTy.f32 4286578688#32) (fun k => absE (xnorm x k)) Finset.univ)

/-- The row's codes. -/
def xcode (x : Fin 3584 → EReal) (k : Fin 3584) : EReal := codeOf (xnorm x k) (xscale x)

/-- The unpacked weights as eight-bit integers, one output channel per row. -/
def WT (w : Vec Ideal S1792x4608 .i8) : Vec Ideal S4608x3584 .i8 := fun y =>
  FloatOps.fptosi (F := Ideal) 8 (φ := FTy.bf16) (nib (w (ix2 ⟨(y 1).val / 2, Nat.div_lt_of_lt_mul (y 1).isLt⟩ (y 0))) ((y 1).val % 2))

/-- An output channel's scale. -/
def scaleAt (s : Vec Ideal S36x128 .f32) (o : Fin 4608) : EReal := s (ix2 (⟨o.val / 128, by omega⟩ : Fin 36) (⟨o.val % 128, by omega⟩ : Fin 128))

/-- The channel scales, the same in every lane. -/
def WSR (s : Vec Ideal S36x128 .f32) : Vec Ideal S4608x128 .f32 := fun y => scaleAt s (y 0)

/-- One output channel before scaling. -/
def prj (x : Fin 3584 → EReal) (W : Vec Ideal S4608x3584 .i8) (o : Fin 4608) : EReal :=
  ∑ k : Fin 3584, (FloatOps.sitofp (F := Ideal) FTy.bf16 (W (ix2 o k)) : EReal) * xcode x k

/-- The 128 channels of head `hd`. -/
def headAt (x : Fin 3584 → EReal) (W : Vec Ideal S4608x3584 .i8) (s : Fin 4608 → EReal) (hd : Fin 36) (d : Fin 128) : EReal :=
  prj x W ⟨128 * hd.val + d.val, by omega⟩ * xscale x * s ⟨128 * hd.val + d.val, by omega⟩

/-- A head rotated by the token's position. -/
def rot (v : Fin 128 → EReal) (c s : Fin 64 → EReal) (d : Fin 128) : EReal :=
  if h : d.val < 64 then v d * c ⟨d.val, h⟩ - v ⟨64 + d.val, by omega⟩ * s ⟨d.val, h⟩
  else v ⟨64 + (d.val - 64), by omega⟩ * c ⟨d.val - 64, by omega⟩ + v ⟨d.val - 64, by omega⟩ * s ⟨d.val - 64, by omega⟩

/-- A value in three parts: itself, and the two remainders. -/
def three (r : Fin 128 → EReal) (j : Fin 384) : EReal :=
  if h : j.val < 128 then r ⟨j.val, h⟩
  else if h' : j.val - 128 < 128 then r ⟨j.val - 128, by omega⟩ - r ⟨j.val - 128, by omega⟩
  else (r ⟨j.val - 128 - 128, by omega⟩ - r ⟨j.val - 128 - 128, by omega⟩) - (r ⟨j.val - 128 - 128, by omega⟩ - r ⟨j.val - 128 - 128, by omega⟩)

/-- A head multiplied by the table `h` and by a constant. -/
def had (h : Vec Ideal S128x384 .bf16) (r : Fin 128 → EReal) (e : Fin 128) : EReal :=
  (∑ j : Fin 384, h (ix2 e j) * three r j) * Ideal.ofBits .f32 0x3DB504F3#32

/-- A rotated and transformed head. -/
def turned (x : Fin 3584 → EReal) (W : Vec Ideal S4608x3584 .i8) (s : Fin 4608 → EReal) (c sn : Fin 64 → EReal)
    (h : Vec Ideal S128x384 .bf16) (hd : Fin 36) : Fin 128 → EReal := had h (rot (headAt x W s hd) c sn)

/-- The lower end of a head's range. -/
def kvLo (v : Fin 128 → EReal) : EReal :=
  Ideal.ofBits .f32 0x3F733333#32 * Finset.fold min (Ideal.ofBits FTy.f32 0x7F800000#32) v Finset.univ
/-- The upper end. -/
def kvHi (v : Fin 128 → EReal) : EReal :=
  Ideal.ofBits .f32 0x3F733333#32 * Finset.fold max (Ideal.ofBits FTy.f32 0xFF800000#32) v Finset.univ
/-- The step. -/
def kvScale (v : Fin 128 → EReal) : EReal :=
  if kvHi v = kvLo v then 1 else Ideal.div (kvHi v - kvLo v) (Ideal.ofBits .f32 0x41700000#32)
/-- The code of one entry. -/
def kvCode (v : Fin 128 → EReal) (e : Fin 128) : EReal :=
  min (Ideal.ofBits .f32 0x41700000#32) (max 0 (Ideal.liftRound Ideal.roundHalfEven (Ideal.div (v e - kvLo v) (kvScale v))))
/-- Two neighbouring codes in a byte. -/
def kvByte (v : Fin 128 → EReal) (r : Fin 64) : BitVec 8 :=
  BitVec.setWidth 8 (IntOp.ori (Ideal.fptosi 32 (kvCode v ⟨r.val * 2, by omega⟩))
    (IntOp.shli ArithUnit.vector (Ideal.fptosi 32 (kvCode v ⟨r.val * 2 + 1, by omega⟩)) 4#32))

/-- The row of token `t` of batch `b` in a block of inputs. -/
def rowAt (x : Vec Ideal S2x256x3584 .bf16) (b : Fin 2) (t : Fin 256) (k : Fin 3584) : EReal := x (ix3 b t k)
/-- The column of token `t` of batch `b` in a block of angles. -/
def angAt (a : Vec Ideal S2x64x256 .f32) (b : Fin 2) (t : Fin 256) (d : Fin 64) : EReal := a (ix3 b d t)

/-- The block's codes as floats and as integers, and its scales. -/
def XB (x : Vec Ideal S2x256x3584 .bf16) : Vec Ideal S2x256x3584 .bf16 := fun y => xcode (rowAt x (y 0) (y 1)) (y 2)
def XC (x : Vec Ideal S2x256x3584 .bf16) : Vec Ideal S2x256x3584 .i8 := fun y =>
  FloatOps.fptosi (F := Ideal) 8 (φ := FTy.f32) (xcode (rowAt x (y 0) (y 1)) (y 2))
def XS (x : Vec Ideal S2x256x3584 .bf16) : Vec Ideal S2x256 .f32 := fun y => xscale (rowAt x (y 0) (y 1))

/-- Head `hd` of a token of a block, transformed; and untouched. -/
def keyAt (x : Vec Ideal S2x256x3584 .bf16) (w : Vec Ideal S1792x4608 .i8) (s : Vec Ideal S36x128 .f32) (c sn : Vec Ideal S2x64x256 .f32)
    (h : Vec Ideal S128x384 .bf16) (hd : Fin 36) (b : Fin 2) (t : Fin 256) : Fin 128 → EReal :=
  turned (rowAt x b t) (WT w) (scaleAt s) (angAt c b t) (angAt sn b t) h hd
def valAt (x : Vec Ideal S2x256x3584 .bf16) (w : Vec Ideal S1792x4608 .i8) (s : Vec Ideal S36x128 .f32)
    (hd : Fin 36) (b : Fin 2) (t : Fin 256) : Fin 128 → EReal := headAt (rowAt x b t) (WT w) (scaleAt s) hd

/-- The block's transformed queries. -/
def QB (x : Vec Ideal S2x256x3584 .bf16) (w : Vec Ideal S1792x4608 .i8) (s : Vec Ideal S36x128 .f32) (c sn : Vec Ideal S2x64x256 .f32)
    (h : Vec Ideal S128x384 .bf16) : Vec Ideal S2x28x128x256 .bf16 := fun y =>
  keyAt x w s c sn h ⟨(y 1).val, lt_trans (y 1).isLt (by decide)⟩ (y 0) (y 3) (y 2)

/-- Key head `j` is head `28 + j`, value head `j` is head `32 + j`. -/
def keyHead (j : Fin 4) : Fin 36 := ⟨28 + j.val, by omega⟩
def valHead (j : Fin 4) : Fin 36 := ⟨32 + j.val, by omega⟩

/-- The block's key heads and value heads. -/
abbrev KEYS (x : Vec Ideal S2x256x3584 .bf16) (w : Vec Ideal S1792x4608 .i8) (s : Vec Ideal S36x128 .f32) (c sn : Vec Ideal S2x64x256 .f32)
    (h : Vec Ideal S128x384 .bf16) (j : Fin 4) (b : Fin 2) (t : Fin 256) : Fin 128 → EReal := keyAt x w s c sn h (keyHead j) b t
abbrev VALS (x : Vec Ideal S2x256x3584 .bf16) (w : Vec Ideal S1792x4608 .i8) (s : Vec Ideal S36x128 .f32)
    (j : Fin 4) (b : Fin 2) (t : Fin 256) : Fin 128 → EReal := valAt x w s (valHead j) b t

/-- The bytes, steps and lower ends of heads given token by token. -/
def BYTES (v : Fin 4 → Fin 2 → Fin 256 → Fin 128 → EReal) : Vec Ideal S2x4x64x256 .i8 := fun y => kvByte (v (y 1) (y 0) (y 3)) (y 2)
def STEPS (v : Fin 4 → Fin 2 → Fin 256 → Fin 128 → EReal) : Vec Ideal S2x4x256 .f32 := fun y => kvScale (v (y 1) (y 0) (y 2))
def LOWS (v : Fin 4 → Fin 2 → Fin 256 → Fin 128 → EReal) : Vec Ideal S2x4x256 .f32 := fun y => kvLo (v (y 1) (y 0) (y 2))

end Cert.QkvIdeal.Hand
end
-- ==== Proof.Out.Hidden.lean ====
module

public import proofs.«01_k».proof.Proof.Out.Loops2
public import Idealize.ShloMosaic.Lib.VecWindow
public import Idealize.ShloMosaic.Lib.Pipeline.FrameBody
public import Idealize.ShloMosaic.Lib.Tactic

/-!
# What one point leaves in its blocks
-/

@[expose] public section
set_option maxRecDepth 16384
noncomputable section
namespace Cert.OutIdeal.Hand
open Cert.OutIdeal Cert.OutIdeal.Gen
open Idealize.ShloMosaic Idealize.ShloMosaic.TcCoe Idealize.ShloMosaic.Tactic
open Idealize.ShloMosaic.Pointwise

/-- The block of the result: the residual plus the product of the codes and the unpacked weights, scaled by row and by column. -/
def HID (x0 : Vec Ideal S256x3584 .f32) (x1 : Vec Ideal S256x3584 .bf16) (x2 : Vec Ideal S1792x3584 .i8) (x3 : Vec Ideal S1x3584 .f32) :
    Vec Ideal S256x3584 .bf16 := fun y =>
  (x1 y + (∑ k : Fin 3584, OB (O2 x0) (AM x0) (ix2 (y 0) k) * WB x2 (ix2 k (y 1))) * scaleOf (rowMax (AM x0) (y 0)) * x3 (ix2 0 (y 1)) : EReal)

/-- The block of row scales. -/
def OS (x0 : Vec Ideal S256x3584 .f32) : Vec Ideal S1x1x256 .f32 := fun y => scaleOf (rowMax (AM x0) (y 2))

/-- A load of some columns at an element. -/
theorem leafCols {n w c : Nat} {e : EltTy} (m : Memref sig .tc .vmem ⟨2, ![n, w]⟩ e) (X : BufTy.Contents (Elt Ideal) m.view.ty) (b : Nat)
    (inb) (r : Fin n) (d : Fin c) (h : b + d.val < w) :
    View.readAt (Elt Ideal) m.view (Rect.unit (s := ⟨2, ![n, w]⟩) ![0, b] ![n, c] inb).toLoadRect X (ix2 r d)
      = m.view.read (Elt Ideal) X (ix2 r ⟨b + d.val, h⟩) := by
  refine congrArg (m.view.read (Elt Ideal) X) (funext fun i => Fin.ext ?_)
  fin_cases i
  · show 0 + 1 * r.val = r.val
    omega
  · show b + 1 * d.val = b + d.val
    omega

/-- One block of 512 columns of the result, as stored, at an element. -/
theorem pay196_apply (ob : Vec Ideal S256x3584 .bf16) (w : Vec Ideal S3584x512 .bf16) (am : Vec Ideal S256x128 .f32) (s : Vec Ideal S1x512 .f32)
    (x : Vec Ideal S256x512 .bf16) (r : Fin 256) (d : Fin 512) :
    k0_pay196 ob w (SC am) s x (ix2 r d)
      = (x (ix2 r d) + (∑ k : Fin 3584, ob (ix2 r k) * w (ix2 k d)) * scaleOf (rowMax am r) * s (ix2 0 d) : EReal) := by
  pointwise [k0_pay196]
  simp only [SC, ix2_0, dite_eq_ite, ite_self]

/-- One stored block of 512 columns agrees with `HID`. -/
theorem hid_piece (x0 : Vec Ideal S256x3584 .f32) (x1 : Vec Ideal S256x3584 .bf16) (x2 : Vec Ideal S1792x3584 .i8) (x3 : Vec Ideal S1x3584 .f32)
    (n : Fin 7) {b : Nat} (hb : b = 512 * n.val) (inb8) (inb4) (inb2) (inb5)
    (m8 : Memref sig .tc .vmem S3584x3584 .bf16) (X8 : BufTy.Contents (Elt Ideal) m8.view.ty) (h8 : m8.view.read (Elt Ideal) X8 = WB x2)
    (m4 : Memref sig .tc .vmem S1x3584 .f32) (X4 : BufTy.Contents (Elt Ideal) m4.view.ty) (h4 : m4.view.read (Elt Ideal) X4 = x3)
    (m2 : Memref sig .tc .vmem S256x3584 .bf16) (X2 : BufTy.Contents (Elt Ideal) m2.view.ty) (h2 : m2.view.read (Elt Ideal) X2 = x1)
    (y : (Rect.unit (s := S256x3584) ![0, b] ![256, 512] inb5).shape.Idx) :
    k0_pay196 (OB (O2 x0) (AM x0)) (View.readAt (Elt Ideal) m8.view (Rect.unit (s := S3584x3584) ![0, b] ![3584, 512] inb8).toLoadRect X8) (SC (AM x0))
      (View.readAt (Elt Ideal) m4.view (Rect.unit (s := S1x3584) ![0, b] ![1, 512] inb4).toLoadRect X4)
      (View.readAt (Elt Ideal) m2.view (Rect.unit (s := S256x3584) ![0, b] ![256, 512] inb2).toLoadRect X2) y
    = HID x0 x1 x2 x3 ((Rect.unit (s := S256x3584) ![0, b] ![256, 512] inb5).emb y) := by
  obtain ⟨r, d, rfl⟩ : ∃ (r : Fin 256) (d : Fin 512), y = ix2 r d := ⟨y 0, y 1, eq_ix2 y⟩
  have hn := n.isLt
  have hd : b + d.val < 3584 := by omega
  have he : (Rect.unit (s := S256x3584) ![0, b] ![256, 512] inb5).emb (ix2 r d) = ix2 r (⟨b + d.val, hd⟩ : Fin 3584) := by
    refine funext fun i => Fin.ext ?_
    fin_cases i
    · show 0 + 1 * r.val = r.val
      omega
    · show b + 1 * d.val = b + d.val
      omega
  rw [he, pay196_apply, leafCols (n := 1) (w := 3584) (c := 512) m4 X4 b inb4 0 d hd, leafCols (n := 256) (w := 3584) (c := 512) m2 X2 b inb2 r d hd, h4, h2]
  simp only [leafCols (n := 3584) (w := 3584) (c := 512) m8 X8 b inb8 _ d hd, h8]
  rfl

theorem mem_cols {b : Nat} (inb) (y : S256x3584.Idx) (h0 : b ≤ (y 1).val) (h1 : (y 1).val < b + 512) :
    y ∈ (Rect.unit (s := S256x3584) ![0, b] ![256, 512] inb).set := by
  rw [Rect.mem_set_unit]
  have h2 : (y 0).val < 256 := (y 0).isLt
  intro i
  fin_cases i
  · show 0 ≤ (y 0).val ∧ (y 0).val < 0 + 256
    omega
  · exact ⟨h0, h1⟩

/-- The seven stored blocks of columns make up `HID`. -/
theorem hid_read (x0 : Vec Ideal S256x3584 .f32) (x1 : Vec Ideal S256x3584 .bf16) (x2 : Vec Ideal S1792x3584 .i8) (x3 : Vec Ideal S1x3584 .f32)
    (m8 : Memref sig .tc .vmem S3584x3584 .bf16) (X8 : BufTy.Contents (Elt Ideal) m8.view.ty) (h8 : m8.view.read (Elt Ideal) X8 = WB x2)
    (m4 : Memref sig .tc .vmem S1x3584 .f32) (X4 : BufTy.Contents (Elt Ideal) m4.view.ty) (h4 : m4.view.read (Elt Ideal) X4 = x3)
    (m2 : Memref sig .tc .vmem S256x3584 .bf16) (X2 : BufTy.Contents (Elt Ideal) m2.view.ty) (h2 : m2.view.read (Elt Ideal) X2 = x1)
    (m5 : Memref sig .tc .vmem S256x3584 .bf16) (X5 : BufTy.Contents (Elt Ideal) m5.view.ty)
    (ob : Vec Ideal S256x3584 .bf16) (hob : ob = OB (O2 x0) (AM x0)) (sc : Vec Ideal S256x128 .f32) (hsc : sc = SC (AM x0)) :
    m5.view.read (Elt Ideal) (m5.view.writes (Elt Ideal) X5 [
      ⟨Rect.unit (s := S256x3584) ![0, 3072] S256x512.size inb_S256x3584_S256x512_0_3072, k0_pay2 ob
        (View.readAt (Elt Ideal) m8.view (Rect.unit (s := S3584x3584) ![0, 3072] S3584x512.size inb_S3584x3584_S3584x512_0_3072).toLoadRect X8) sc
        (View.readAt (Elt Ideal) m4.view (Rect.unit (s := S1x3584) ![0, 3072] S1x512.size inb_S1x3584_S1x512_0_3072).toLoadRect X4)
        (View.readAt (Elt Ideal) m2.view (Rect.unit (s := S256x3584) ![0, 3072] S256x512.size inb_S256x3584_S256x512_0_3072).toLoadRect X2)⟩,
      ⟨Rect.unit (s := S256x3584) ![0, 2560] S256x512.size inb_S256x3584_S256x512_0_2560, k0_pay1 ob
        (View.readAt (Elt Ideal) m8.view (Rect.unit (s := S3584x3584) ![0, 2560] S3584x512.size inb_S3584x3584_S3584x512_0_2560).toLoadRect X8) sc
        (View.readAt (Elt Ideal) m4.view (Rect.unit (s := S1x3584) ![0, 2560] S1x512.size inb_S1x3584_S1x512_0_2560).toLoadRect X4)
        (View.readAt (Elt Ideal) m2.view (Rect.unit (s := S256x3584) ![0, 2560] S256x512.size inb_S256x3584_S256x512_0_2560).toLoadRect X2)⟩,
      ⟨Rect.unit (s := S256x3584) ![0, 2048] S256x512.size inb_S256x3584_S256x512_0_2048, k0_pay200 ob
        (View.readAt (Elt Ideal) m8.view (Rect.unit (s := S3584x3584) ![0, 2048] S3584x512.size inb_S3584x3584_S3584x512_0_2048).toLoadRect X8) sc
        (View.readAt (Elt Ideal) m4.view (Rect.unit (s := S1x3584) ![0, 2048] S1x512.size inb_S1x3584_S1x512_0_2048).toLoadRect X4)
        (View.readAt (Elt Ideal) m2.view (Rect.unit (s := S256x3584) ![0, 2048] S256x512.size inb_S256x3584_S256x512_0_2048).toLoadRect X2)⟩,
      ⟨Rect.unit (s := S256x3584) ![0, 1536] S256x512.size inb_S256x3584_S256x512_0_1536, k0_pay199 ob
        (View.readAt (Elt Ideal) m8.view (Rect.unit (s := S3584x3584) ![0, 1536] S3584x512.size inb_S3584x3584_S3584x512_0_1536).toLoadRect X8) sc
        (View.readAt (Elt Ideal) m4.view (Rect.unit (s := S1x3584) ![0, 1536] S1x512.size inb_S1x3584_S1x512_0_1536).toLoadRect X4)
        (View.readAt (Elt Ideal) m2.view (Rect.unit (s := S256x3584) ![0, 1536] S256x512.size inb_S256x3584_S256x512_0_1536).toLoadRect X2)⟩,
      ⟨Rect.unit (s := S256x3584) ![0, 1024] S256x512.size inb_S256x3584_S256x512_0_1024, k0_pay198 ob
        (View.readAt (Elt Ideal) m8.view (Rect.unit (s := S3584x3584) ![0, 1024] S3584x512.size inb_S3584x3584_S3584x512_0_1024).toLoadRect X8) sc
        (View.readAt (Elt Ideal) m4.view (Rect.unit (s := S1x3584) ![0, 1024] S1x512.size inb_S1x3584_S1x512_0_1024).toLoadRect X4)
        (View.readAt (Elt Ideal) m2.view (Rect.unit (s := S256x3584) ![0, 1024] S256x512.size inb_S256x3584_S256x512_0_1024).toLoadRect X2)⟩,
      ⟨Rect.unit (s := S256x3584) ![0, 512] S256x512.size inb_S256x3584_S256x512_0_512, k0_pay197 ob
        (View.readAt (Elt Ideal) m8.view (Rect.unit (s := S3584x3584) ![0, 512] S3584x512.size inb_S3584x3584_S3584x512_0_512).toLoadRect X8) sc
        (View.readAt (Elt Ideal) m4.view (Rect.unit (s := S1x3584) ![0, 512] S1x512.size inb_S1x3584_S1x512_0_512).toLoadRect X4)
        (View.readAt (Elt Ideal) m2.view (Rect.unit (s := S256x3584) ![0, 512] S256x512.size inb_S256x3584_S256x512_0_512).toLoadRect X2)⟩,
      ⟨Rect.unit (s := S256x3584) ![0, 0] S256x512.size inb_S256x3584_S256x512_0_0, k0_pay196 ob
        (View.readAt (Elt Ideal) m8.view (Rect.unit (s := S3584x3584) ![0, 0] S3584x512.size inb_S3584x3584_S3584x512_0_0).toLoadRect X8) sc
        (View.readAt (Elt Ideal) m4.view (Rect.unit (s := S1x3584) ![0, 0] S1x512.size inb_S1x3584_S1x512_0_0).toLoadRect X4)
        (View.readAt (Elt Ideal) m2.view (Rect.unit (s := S256x3584) ![0, 0] S256x512.size inb_S256x3584_S256x512_0_0).toLoadRect X2)⟩]) = HID x0 x1 x2 x3 := by
  subst hob hsc
  funext y
  refine View.read_writes_apply_of_pieces _ _ (HID x0 x1 x2 x3) _ ?_ y ?_
  · simp only [List.forall_mem_cons]
    exact ⟨hid_piece x0 x1 x2 x3 6 (b := 3072) rfl inb_S3584x3584_S3584x512_0_3072 inb_S1x3584_S1x512_0_3072 inb_S256x3584_S256x512_0_3072 inb_S256x3584_S256x512_0_3072 m8 X8 h8 m4 X4 h4 m2 X2 h2,
      hid_piece x0 x1 x2 x3 5 (b := 2560) rfl inb_S3584x3584_S3584x512_0_2560 inb_S1x3584_S1x512_0_2560 inb_S256x3584_S256x512_0_2560 inb_S256x3584_S256x512_0_2560 m8 X8 h8 m4 X4 h4 m2 X2 h2,
      hid_piece x0 x1 x2 x3 4 (b := 2048) rfl inb_S3584x3584_S3584x512_0_2048 inb_S1x3584_S1x512_0_2048 inb_S256x3584_S256x512_0_2048 inb_S256x3584_S256x512_0_2048 m8 X8 h8 m4 X4 h4 m2 X2 h2,
      hid_piece x0 x1 x2 x3 3 (b := 1536) rfl inb_S3584x3584_S3584x512_0_1536 inb_S1x3584_S1x512_0_1536 inb_S256x3584_S256x512_0_1536 inb_S256x3584_S256x512_0_1536 m8 X8 h8 m4 X4 h4 m2 X2 h2,
      hid_piece x0 x1 x2 x3 2 (b := 1024) rfl inb_S3584x3584_S3584x512_0_1024 inb_S1x3584_S1x512_0_1024 inb_S256x3584_S256x512_0_1024 inb_S256x3584_S256x512_0_1024 m8 X8 h8 m4 X4 h4 m2 X2 h2,
      hid_piece x0 x1 x2 x3 1 (b := 512) rfl inb_S3584x3584_S3584x512_0_512 inb_S1x3584_S1x512_0_512 inb_S256x3584_S256x512_0_512 inb_S256x3584_S256x512_0_512 m8 X8 h8 m4 X4 h4 m2 X2 h2,
      hid_piece x0 x1 x2 x3 0 (b := 0) rfl inb_S3584x3584_S3584x512_0_0 inb_S1x3584_S1x512_0_0 inb_S256x3584_S256x512_0_0 inb_S256x3584_S256x512_0_0 m8 X8 h8 m4 X4 h4 m2 X2 h2,
      fun _ h => absurd h List.not_mem_nil⟩
  · have h1 : (y 1).val < 3584 := (y 1).isLt
    simp only [List.exists_mem_cons_iff]
    have hh : (y 1).val / 512 < 7 := by omega
    generalize hq : (y 1).val / 512 = q at hh
    interval_cases q
    · refine Or.inr ?_; refine Or.inr ?_; refine Or.inr ?_; refine Or.inr ?_; refine Or.inr ?_; refine Or.inr ?_; exact Or.inl (mem_cols inb_S256x3584_S256x512_0_0 y (by omega) (by omega))
    · refine Or.inr ?_; refine Or.inr ?_; refine Or.inr ?_; refine Or.inr ?_; refine Or.inr ?_; exact Or.inl (mem_cols inb_S256x3584_S256x512_0_512 y (by omega) (by omega))
    · refine Or.inr ?_; refine Or.inr ?_; refine Or.inr ?_; refine Or.inr ?_; exact Or.inl (mem_cols inb_S256x3584_S256x512_0_1024 y (by omega) (by omega))
    · refine Or.inr ?_; refine Or.inr ?_; refine Or.inr ?_; exact Or.inl (mem_cols inb_S256x3584_S256x512_0_1536 y (by omega) (by omega))
    · refine Or.inr ?_; refine Or.inr ?_; exact Or.inl (mem_cols inb_S256x3584_S256x512_0_2048 y (by omega) (by omega))
    · refine Or.inr ?_; exact Or.inl (mem_cols inb_S256x3584_S256x512_0_2560 y (by omega) (by omega))
    · exact Or.inl (mem_cols inb_S256x3584_S256x512_0_3072 y (by omega) (by omega))

/-- The stored row of scales. -/
theorem pay195_apply (v : Vec Ideal S256x128 .f32) (a b : Fin 1) (d : Fin 256) : k0_pay195 v (ix3 a b d) = v (ix2 d 0) := by
  pointwise [k0_pay195]

theorem os_read (x0 : Vec Ideal S256x3584 .f32) (m7 : Memref sig .tc .vmem S1x1x256 .f32) (X7 : BufTy.Contents (Elt Ideal) m7.view.ty)
    (sc : Vec Ideal S256x128 .f32) (hsc : sc = SC (AM x0)) :
    m7.view.read (Elt Ideal) (m7.view.writes (Elt Ideal) X7 [⟨Rect.unit (s := S1x1x256) ![0, 0, 0] S1x1x256.size inb_S1x1x256_S1x1x256_0_0_0, k0_pay195 sc⟩]) = OS x0 := by
  subst hsc
  rw [View.read_writes_full]
  funext y
  obtain ⟨a, b, d, rfl⟩ : ∃ (a b : Fin 1) (d : Fin 256), y = ix3 a b d := ⟨y 0, y 1, y 2, eq_ix3 y⟩
  rw [pay195_apply]
  rfl

end Cert.OutIdeal.Hand
end
-- ==== Proof.Out.RunA.lean ====
module

public import proofs.«01_k».proof.Proof.Out.Hidden

/-!
# The body at the first point
-/

@[expose] public section
set_option maxRecDepth 16384
noncomputable section
namespace Cert.OutIdeal.Hand
open Cert.OutIdeal Cert.OutIdeal.Gen
open Idealize.ShloMosaic Idealize.ShloMosaic.TcCoe Idealize.ShloMosaic.Tactic
open Idealize.ShloMosaic.Pointwise
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

set_option maxHeartbeats 2000000 in
/-- The body at the first point, where the weights are unpacked: what it leaves in
    each result block and in the unpacked weights. -/
theorem runA (c : Dev nD) (i : grid0.Coords) (arg1 : Memref sig .tc .vmem S256x3584 .f32) (harg1 : arg1.IsWhole) (arg2 : Memref sig .tc .vmem S256x3584 .bf16) (harg2 : arg2.IsWhole) (arg3 : Memref sig .tc .vmem S1792x3584 .i8) (harg3 : arg3.IsWhole) (arg4 : Memref sig .tc .vmem S1x3584 .f32) (harg4 : arg4.IsWhole) (arg5 : Memref sig .tc .vmem S256x3584 .bf16) (harg5 : arg5.IsWhole) (arg6 : Memref sig .tc .vmem S256x3584 .i8) (harg6 : arg6.IsWhole) (arg7 : Memref sig .tc .vmem S1x1x256 .f32) (harg7 : arg7.IsWhole) (arg8 : Memref sig .tc .vmem S3584x3584 .bf16) (harg8 : arg8.IsWhole) (arg9 : Memref sig .tc .vmem S256x3584 .f32) (harg9 : arg9.IsWhole) (arg10 : Memref sig .tc .vmem S256x128 .f32) (harg10 : arg10.IsWhole) (arg11 : Memref sig .tc .vmem S256x3584 .bf16) (harg11 : arg11.IsWhole) (arg12 : Memref sig .tc .vmem S256x128 .f32) (harg12 : arg12.IsWhole) (hc0 : k0_cond1 i = 1#1)
    (x0 : Vec Ideal S256x3584 .f32) (x1 : Vec Ideal S256x3584 .bf16) (x2 : Vec Ideal S1792x3584 .i8) (x3 : Vec Ideal S1x3584 .f32) :
      ∀ (E : Set ℕ) (K : PUnit → sProp 𝕄),
        iprop(owns (c : Thread nD τ) arg1 fullShare (x0) ∗ owns (c : Thread nD τ) arg2 fullShare (x1) ∗ owns (c : Thread nD τ) arg3 fullShare (x2) ∗ owns (c : Thread nD τ) arg4 fullShare (x3) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare (x0) ∗ owns (c : Thread nD τ) arg2 fullShare (x1) ∗ owns (c : Thread nD τ) arg3 fullShare (x2) ∗ owns (c : Thread nD τ) arg4 fullShare (x3) ∗ owns (c : Thread nD τ) arg5 fullShare (HID x0 x1 x2 x3) ∗ owns (c : Thread nD τ) arg6 fullShare (OC (O2 x0) (AM x0)) ∗ owns (c : Thread nD τ) arg7 fullShare (OS x0) ∗ owns (c : Thread nD τ) arg8 fullShare (WB x2) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := Ideal)) Variants.none c none) E (cc0_out i arg1 harg1 arg2 harg2 arg3 harg3 arg4 harg4 arg5 harg5 arg6 harg6 arg7 harg7 arg8 harg8 arg9 harg9 arg10 harg10 arg11 harg11 arg12 harg12) K := by
    intro E K
    simp only [cc0_out_eq_skeleton]; unfold cc0_out_skel
    simp only [k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      sl_unfold_run_names
      exact hid_read x0 x1 x2 x3 _ _ ((by rw [t1_read, harg3.read_unread])) _ _ (harg4.read_unread _) _ _ (harg2.read_unread _) _ _
        _ ((View.readAt_full _ _ _).trans (by rw [t3_read11, t2_read9, t2_read10, harg1.read_unread]))
        _ ((View.readAt_full _ _ _).trans (by rw [t3_read12, t2_read10, harg1.read_unread]))
    isplitl [H5]
    · iexists _; isplitr; swap; · iexact H5
      ipureintro
      rw [t3_read6, t2_read9, t2_read10, harg1.read_unread]
    isplitl [H6]
    · iexists _; isplitr; swap; · iexact H6
      ipureintro
      sl_unfold_run_names
      exact os_read x0 _ _ _ ((View.readAt_full _ _ _).trans (by rw [t3_read12, t2_read10, harg1.read_unread]))
    isplitl [HS0]
    · iexists _; isplitr; swap; · iexact HS0
      ipureintro
      rw [t1_read, harg3.read_unread]
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.OutIdeal.Hand
end
-- ==== Proof.Out.RunB.lean ====
module

public import proofs.«01_k».proof.Proof.Out.Hidden

/-!
# The body at a later point
-/

@[expose] public section
set_option maxRecDepth 16384
noncomputable section
namespace Cert.OutIdeal.Hand
open Cert.OutIdeal Cert.OutIdeal.Gen
open Idealize.ShloMosaic Idealize.ShloMosaic.TcCoe Idealize.ShloMosaic.Tactic
open Idealize.ShloMosaic.Pointwise
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

set_option maxHeartbeats 2000000 in
/-- The body at a later point, where the unpacked weights are already in place: what it leaves in
    each result block and in the unpacked weights. -/
theorem runB (c : Dev nD) (i : grid0.Coords) (arg1 : Memref sig .tc .vmem S256x3584 .f32) (harg1 : arg1.IsWhole) (arg2 : Memref sig .tc .vmem S256x3584 .bf16) (harg2 : arg2.IsWhole) (arg3 : Memref sig .tc .vmem S1792x3584 .i8) (harg3 : arg3.IsWhole) (arg4 : Memref sig .tc .vmem S1x3584 .f32) (harg4 : arg4.IsWhole) (arg5 : Memref sig .tc .vmem S256x3584 .bf16) (harg5 : arg5.IsWhole) (arg6 : Memref sig .tc .vmem S256x3584 .i8) (harg6 : arg6.IsWhole) (arg7 : Memref sig .tc .vmem S1x1x256 .f32) (harg7 : arg7.IsWhole) (arg8 : Memref sig .tc .vmem S3584x3584 .bf16) (harg8 : arg8.IsWhole) (arg9 : Memref sig .tc .vmem S256x3584 .f32) (harg9 : arg9.IsWhole) (arg10 : Memref sig .tc .vmem S256x128 .f32) (harg10 : arg10.IsWhole) (arg11 : Memref sig .tc .vmem S256x3584 .bf16) (harg11 : arg11.IsWhole) (arg12 : Memref sig .tc .vmem S256x128 .f32) (harg12 : arg12.IsWhole) (hc0 : ¬ k0_cond1 i = 1#1)
    (x0 : Vec Ideal S256x3584 .f32) (x1 : Vec Ideal S256x3584 .bf16) (x2 : Vec Ideal S1792x3584 .i8) (x3 : Vec Ideal S1x3584 .f32) :
      ∀ (E : Set ℕ) (K : PUnit → sProp 𝕄),
        iprop(owns (c : Thread nD τ) arg1 fullShare (x0) ∗ owns (c : Thread nD τ) arg2 fullShare (x1) ∗ owns (c : Thread nD τ) arg3 fullShare (x2) ∗ owns (c : Thread nD τ) arg4 fullShare (x3) ∗ (∃ d, owns (c : Thread nD τ) arg5 fullShare d) ∗ (∃ d, owns (c : Thread nD τ) arg6 fullShare d) ∗ (∃ d, owns (c : Thread nD τ) arg7 fullShare d) ∗ owns (c : Thread nD τ) arg8 fullShare (WB x2) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare (x0) ∗ owns (c : Thread nD τ) arg2 fullShare (x1) ∗ owns (c : Thread nD τ) arg3 fullShare (x2) ∗ owns (c : Thread nD τ) arg4 fullShare (x3) ∗ owns (c : Thread nD τ) arg5 fullShare (HID x0 x1 x2 x3) ∗ owns (c : Thread nD τ) arg6 fullShare (OC (O2 x0) (AM x0)) ∗ owns (c : Thread nD τ) arg7 fullShare (OS x0) ∗ owns (c : Thread nD τ) arg8 fullShare (WB x2) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := Ideal)) Variants.none c none) E (cc0_out i arg1 harg1 arg2 harg2 arg3 harg3 arg4 harg4 arg5 harg5 arg6 harg6 arg7 harg7 arg8 harg8 arg9 harg9 arg10 harg10 arg11 harg11 arg12 harg12) K := by
    intro E K
    simp only [cc0_out_eq_skeleton]; unfold cc0_out_skel
    simp only [k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg8.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      sl_unfold_run_names
      exact hid_read x0 x1 x2 x3 _ _ ((harg8.read_unread _)) _ _ (harg4.read_unread _) _ _ (harg2.read_unread _) _ _
        _ ((View.readAt_full _ _ _).trans (by rw [t3_read11, t2_read9, t2_read10, harg1.read_unread]))
        _ ((View.readAt_full _ _ _).trans (by rw [t3_read12, t2_read10, harg1.read_unread]))
    isplitl [H5]
    · iexists _; isplitr; swap; · iexact H5
      ipureintro
      rw [t3_read6, t2_read9, t2_read10, harg1.read_unread]
    isplitl [H6]
    · iexists _; isplitr; swap; · iexact H6
      ipureintro
      sl_unfold_run_names
      exact os_read x0 _ _ _ ((View.readAt_full _ _ _).trans (by rw [t3_read12, t2_read10, harg1.read_unread]))
    isplitl [HS0]
    · iexists _; isplitr; swap; · iexact HS0
      ipureintro
      exact harg8.read_unread _
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.OutIdeal.Hand
end
-- ==== Proof.Out.Run.lean ====
module

public import proofs.«01_k».proof.Proof.Out.RunA
public import proofs.«01_k».proof.Proof.Out.RunB
public import proofs.«01_k».proof.Proof.Gen.OutIdeal.Frame
public import Idealize.ShloMosaic.Lib.Claim

/-!
# The output kernel's run

The proof data of the pipeline (what every block buffer holds after the body at a point, and that from the
second point on the first scratch buffer holds the unpacked weights), the body at a generic point, and the run.
-/

@[expose] public section
set_option maxRecDepth 16384
noncomputable section
namespace Cert.OutIdeal.Hand
open Cert.OutIdeal Cert.OutIdeal.Gen
open Idealize.ShloMosaic Idealize.ShloMosaic.TcCoe Idealize.ShloMosaic.Tactic
open Idealize.ShloMosaic.Pointwise
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, k0_cond1, e0]
    word_cmp
   : ∀ t : Fin grid0.N, cond0_0 (grid0.coords t) ↔ t.val % 16 = 0)

/-! ## The kernel body on any staging memrefs: a subtype the run finds -/

/-- Each window's current staging memref at point `t`, spelled as the pipeline passes it (`bodyAt0`), and its wholeness. -/
abbrev ms0_0 (t : Fin cfg0.N) : Memref sig .tc .vmem S256x3584 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x3584 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1792x3584 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x3584 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x3584 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x3584 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x256 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S3584x3584 .bf16 := Memref.whole cc0_scratch0
abbrev scM0_1 : Memref sig .tc .vmem S256x3584 .f32 := Memref.whole cc0_scratch1
abbrev scM0_2 : Memref sig .tc .vmem S256x128 .f32 := Memref.whole cc0_scratch2
abbrev scM0_3 : Memref sig .tc .vmem S256x3584 .bf16 := Memref.whole cc0_scratch3
abbrev scM0_4 : Memref sig .tc .vmem S256x128 .f32 := Memref.whole cc0_scratch4

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

/-! ## The proof data -/

/-- The blocks of the inputs at a point, at their literal shapes. -/
abbrev b0 (c : Dev nD) (t : Fin cfg0.N) : Vec Ideal S256x3584 .f32 := iblk m c 0 t
abbrev b1 (c : Dev nD) (t : Fin cfg0.N) : Vec Ideal S256x3584 .bf16 := iblk m c 1 t
abbrev b2 (c : Dev nD) (t : Fin cfg0.N) : Vec Ideal S1792x3584 .i8 := iblk m c 2 t
abbrev b3 (c : Dev nD) (t : Fin cfg0.N) : Vec Ideal S1x3584 .f32 := iblk m c 3 t

/-- The packed weights: their block is the whole array at every point. -/
theorem b2_const (c : Dev nD) (t t' : Fin cfg0.N) : b2 m c t = b2 m c t' := rfl

/-- The first point. -/
abbrev t0 : Fin cfg0.N := ⟨0, by rw [show cfg0.N = 16 from N_0]; decide⟩

/-- What the body carries from point to point: from the second point on, the unpacked weights. -/
def carried (c : Dev nD) (n : Nat) : sProp 𝕄 :=
  iprop(iprop((∃ d, ⌜n ≠ 0 → d = WB (b2 m c t0)⌝ ∗ owns (c : Thread nD τ) scM0_0 fullShare d)
    ∗ (∃ d, owns (c : Thread nD τ) scM0_1 fullShare d) ∗ (∃ d, owns (c : Thread nD τ) scM0_2 fullShare d)
    ∗ (∃ d, owns (c : Thread nD τ) scM0_3 fullShare d) ∗ (∃ d, owns (c : Thread nD τ) scM0_4 fullShare d))
    ∗ (∃ r, prngReg c r))

/-- The proof data: each array as the region finds it, each result block at what the body computes from the
    input blocks. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => HID (b0 m c t) (b1 m c t) (b2 m c t) (b3 m c t)
    | ⟨5, _⟩ => OC (O2 (b0 m c t)) (AM (b0 m c t))
    | ⟨6, _⟩ => OS (b0 m c t)
  Φ t := carried m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = HID (b0 m c t) (b1 m c t) (b2 m c t) (b3 m c t) := by dsimp only [dats]
theorem after0_5 (c : Dev nD) (t : Fin cfg0.N) : (dats m 0 c).after 5 t = OC (O2 (b0 m c t)) (AM (b0 m c t)) := by dsimp only [dats]
theorem after0_6 (c : Dev nD) (t : Fin cfg0.N) : (dats m 0 c).after 6 t = OS (b0 m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 2400000 in
/-- The body at any point: at the first it unpacks the weights, later it finds them unpacked. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4, after0_5, after0_6]
  rw [show (dats m 0 c).Φ t.castSucc = carried m c t.val from rfl,
    show (dats m 0 c).Φ t.succ = carried m c (t.val + 1) from rfl]
  unfold carried
  have hN : t.val < 16 := lt_of_lt_of_eq t.isLt (show cfg0.N = 16 from N_0)
  by_cases h0 : t.val % 16 = 0
  · iintro ⟨⟨⟨⟨%ds, %hds, HS0⟩, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
    iapply ((runA c (grid0.coords t) _ _ _ _ _ _ _ _ _ _ _ _ _ _ _ _ _ _ _ _ _ _ _ _ ((hcond0_0 t).mpr h0) (b0 m c t) (b1 m c t) (b2 m c t) (b3 m c t)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexists _; iexact HS0
    isplitl [HS1]; · iexact HS1
    isplitl [HS2]; · iexact HS2
    isplitl [HS3]; · iexact HS3
    isplitl [HS4]; · iexact HS4
    iintro ⟨H0, H1, H2, H3, H4, H5, H6, HS0, HS1, HS2, HS3, HS4⟩
    isplitl [HS0 HS1 HS2 HS3 HS4 Hg]
    · isplitl [HS0 HS1 HS2 HS3 HS4]
      · isplitl [HS0]
        · iexists _; isplitr; swap; · iexact HS0
          ipureintro; exact fun _ => congrArg WB (b2_const m c t t0)
        isplitl [HS1]
        · iexact HS1
        isplitl [HS2]
        · iexact HS2
        isplitl [HS3]
        · iexact HS3
        iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · iintro ⟨⟨⟨⟨%ds, %hds, HS0⟩, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
    obtain rfl : ds = WB (b2 m c t) := (hds (by omega)).trans (congrArg WB (b2_const m c t0 t))
    iapply ((runB c (grid0.coords t) _ _ _ _ _ _ _ _ _ _ _ _ _ _ _ _ _ _ _ _ _ _ _ _ (fun h => h0 ((hcond0_0 t).mp h)) (b0 m c t) (b1 m c t) (b2 m c t) (b3 m c t)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, HS0, HS1, HS2, HS3, HS4⟩
    isplitl [HS0 HS1 HS2 HS3 HS4 Hg]
    · isplitl [HS0 HS1 HS2 HS3 HS4]
      · isplitl [HS0]
        · iexists _; isplitr; swap; · iexact HS0
          ipureintro; exact fun _ => congrArg WB (b2_const m c t t0)
        isplitl [HS1]
        · iexact HS1
        isplitl [HS2]
        · iexact HS2
        isplitl [HS3]
        · iexact HS3
        iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem defs₀_row (t : Fin cfg0.N) :
    defs₀ (F := Ideal) .tc cfg0.body (cfg0.bodyArgs t (cfg0.slots t)) = bodyAt0 t := by
  unfold defs₀; rw [Defs.onTc_tc]

/-- The body obligation, at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run -/

/-- Before the first point nothing is known of the scratch buffers; after the last it is forgotten. -/
theorem carried_in (c : Dev nD) : Pipeline.ΦA spec0 c ⊢ (carried m c 0 : sProp 𝕄) := by
  rw [PhiA0_eq]; unfold carried
  iintro ⟨⟨⟨%d, HS0⟩, HS1, HS2, HS3, HS4⟩, Hg⟩
  isplitl [HS0 HS1 HS2 HS3 HS4]
  · isplitl [HS0]
    · iexists d; isplitr; swap; · iexact HS0
      ipureintro; exact fun h => absurd rfl h
    isplitl [HS1]
    · iexact HS1
    isplitl [HS2]
    · iexact HS2
    isplitl [HS3]
    · iexact HS3
    iexact HS4
  iexact Hg

theorem carried_out (c : Dev nD) (n : Nat) : (carried m c n : sProp 𝕄) ⊢ Pipeline.ΦA spec0 c := by
  rw [PhiA0_eq]; unfold carried
  iintro ⟨⟨⟨%d, %hd, HS0⟩, HS1, HS2, HS3, HS4⟩, Hg⟩
  isplitl [HS0 HS1 HS2 HS3 HS4]
  · isplitl [HS0]
    · iexists d; iexact HS0
    isplitl [HS1]
    · iexact HS1
    isplitl [HS2]
    · iexact HS2
    isplitl [HS3]
    · iexact HS3
    iexact HS4
  iexact Hg

set_option backward.isDefEq.respectTransparency.types false in
/-- Every run ends, with each array of the pipeline at what the proof data say and every semaphore at zero. -/
theorem run_main_quiescent : θ_run defs (onTc (τ := τ) (main (F := Ideal))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => carried_in m c) (hout := fun c => carried_out m c _)

theorem run_main : θ_run defs (onTc (τ := τ) (main (F := Ideal))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame of the idealized kernel. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.OutIdeal.Hand

end
-- ==== Proof.Out.Arrays.lean ====
module

public import proofs.«01_k».proof.Proof.Out.Run
public import Idealize.ShloMosaic.Lib.Pipeline.Value
public import Idealize.ShloMosaic.Lib.StableHlo.Run

/-!
# The output kernel's result arrays

Point `t` works on rows `256 t` to `256 t + 255`.  Its blocks tile the three result arrays, so each array ends at one
function of the argument arrays.
-/

@[expose] public section
set_option maxRecDepth 16384
noncomputable section
namespace Cert.OutIdeal.Hand
open Cert.OutIdeal Cert.OutIdeal.Gen
open Idealize.ShloMosaic Idealize.ShloMosaic.TcCoe Idealize.ShloMosaic.Tactic
open Idealize.ShloMosaic.Pointwise
open Idealize.SL.Sem
open Idealize.ShloMosaic.Pipeline (Dat)

/-- Rows `256 t` to `256 t + 255` of an array. -/
def rowsOf {e : EltTy} (A : Vec Ideal S4096x3584 e) (t : Fin 16) : Vec Ideal S256x3584 e := fun y =>
  A (ix2 (⟨256 * t.val + (y 0).val, by have := (y 0).isLt; have := t.isLt; simp only [Shape.size] at *; change (y 0).val < 256 at *; omega⟩ : Fin 4096) (y 1))

/-- A vector as a one-row array. -/
def oneRow (S : Vec Ideal S3584 .f32) : Vec Ideal S1x3584 .f32 := fun y => S (ix1 (y 1))

/-- The block a row lies in, and its place there. -/
def blkOf (R : Fin 4096) : Fin 16 := ⟨R.val / 256, by omega⟩
def inBlk (R : Fin 4096) : Fin 256 := ⟨R.val % 256, by omega⟩

/-- The three result arrays, as functions of the argument arrays. -/
def G4 (A : Vec Ideal S4096x3584 .f32) (X : Vec Ideal S4096x3584 .bf16) (W : Vec Ideal S1792x3584 .i8) (S : Vec Ideal S3584 .f32) :
    Vec Ideal S4096x3584 .bf16 := fun y =>
  HID (rowsOf A (blkOf (y 0))) (rowsOf X (blkOf (y 0))) W (oneRow S) (ix2 (inBlk (y 0)) (y 1))
def G5 (A : Vec Ideal S4096x3584 .f32) : Vec Ideal S4096x3584 .i8 := fun y =>
  OC (O2 (rowsOf A (blkOf (y 0)))) (AM (rowsOf A (blkOf (y 0)))) (ix2 (inBlk (y 0)) (y 1))
def G6 (A : Vec Ideal S4096x3584 .f32) : Vec Ideal S16x1x256 .f32 := fun y =>
  OS (rowsOf A (y 0)) (ix3 0 (y 1) (y 2))

variable (m : (ℓ : Loc nD τ sig) → Buf (Elt Ideal) ℓ) (ρ : Dev nD → PrngReg)

/-- The argument arrays of a device. -/
abbrev argA (c : Dev nD) : Vec Ideal S4096x3584 .f32 := m ((c : Thread nD τ).loc main_arg0)
abbrev argX (c : Dev nD) : Vec Ideal S4096x3584 .bf16 := m ((c : Thread nD τ).loc main_arg1)
abbrev argW (c : Dev nD) : Vec Ideal S1792x3584 .i8 := m ((c : Thread nD τ).loc main_arg2)
abbrev argS (c : Dev nD) : Vec Ideal S3584 .f32 := m ((c : Thread nD τ).loc main_arg3)

/-- A point's number. -/
def pt (t : Fin cfg0.N) : Fin 16 := ⟨t.val, Nat.lt_of_lt_of_eq t.isLt N_0⟩

/-- The block indices at a point. -/
theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = t.val ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = t.val ∧ win0_4.index t (1 : Fin 2) = 0 := (by decide +kernel : ∀ t : Fin grid0.N, _)
theorem idx5 : ∀ t : Fin cfg0.N, win0_5.index t (0 : Fin 2) = t.val ∧ win0_5.index t (1 : Fin 2) = 0 := (by decide +kernel : ∀ t : Fin grid0.N, _)
theorem idx6 : ∀ t : Fin cfg0.N, win0_6.index t (0 : Fin 3) = t.val ∧ win0_6.index t (1 : Fin 3) = 0 ∧ win0_6.index t (2 : Fin 3) = 0 := (by decide +kernel : ∀ t : Fin grid0.N, _)

/-- Where an element of a block of rows lies in its array. -/
abbrev rowIdx (t : Fin 16) (j : S256x3584.Idx) : S4096x3584.Idx :=
  ix2 (⟨256 * t.val + (j 0).val, by have := t.isLt; have h : (j 0).val < 256 := (j 0).isLt; omega⟩ : Fin 4096) (j 1)

theorem emb0 (t : Fin cfg0.N) (j : S256x3584.Idx) : ((cfg0.win 0).blk t).view.emb j = rowIdx (pt t) j := by
  obtain ⟨e0, e1⟩ := idx0 t
  funext a; apply Fin.ext
  match a with
  | ⟨0, _⟩ => show win0_0.index t (0 : Fin 2) * 256 + 1 * (j 0).val = 256 * t.val + (j 0).val; omega
  | ⟨1, _⟩ => show win0_0.index t (1 : Fin 2) * 3584 + 1 * (j 1).val = (j 1).val; omega
theorem emb1 (t : Fin cfg0.N) (j : S256x3584.Idx) : ((cfg0.win 1).blk t).view.emb j = rowIdx (pt t) j := by
  obtain ⟨e0, e1⟩ := idx1 t
  funext a; apply Fin.ext
  match a with
  | ⟨0, _⟩ => show win0_1.index t (0 : Fin 2) * 256 + 1 * (j 0).val = 256 * t.val + (j 0).val; omega
  | ⟨1, _⟩ => show win0_1.index t (1 : Fin 2) * 3584 + 1 * (j 1).val = (j 1).val; omega
theorem emb2 (t : Fin cfg0.N) (j : S1792x3584.Idx) : ((cfg0.win 2).blk t).view.emb j = j := by
  obtain ⟨e0, e1⟩ := idx2 t
  funext a; apply Fin.ext
  match a with
  | ⟨0, _⟩ => show win0_2.index t (0 : Fin 2) * 1792 + 1 * (j 0).val = (j 0).val; omega
  | ⟨1, _⟩ => show win0_2.index t (1 : Fin 2) * 3584 + 1 * (j 1).val = (j 1).val; omega
theorem emb3 (t : Fin cfg0.N) (j : S1x3584.Idx) : ((cfg0.win 3).blk t).view.emb j = j := by
  obtain ⟨e0, e1⟩ := idx3 t
  funext a; apply Fin.ext
  match a with
  | ⟨0, _⟩ => show win0_3.index t (0 : Fin 2) * 1 + 1 * (j 0).val = (j 0).val; omega
  | ⟨1, _⟩ => show win0_3.index t (1 : Fin 2) * 3584 + 1 * (j 1).val = (j 1).val; omega
theorem emb4 (t : Fin cfg0.N) (j : S256x3584.Idx) : ((cfg0.win 4).blk t).view.emb j = rowIdx (pt t) j := by
  obtain ⟨e0, e1⟩ := idx4 t
  funext a; apply Fin.ext
  match a with
  | ⟨0, _⟩ => show win0_4.index t (0 : Fin 2) * 256 + 1 * (j 0).val = 256 * t.val + (j 0).val; omega
  | ⟨1, _⟩ => show win0_4.index t (1 : Fin 2) * 3584 + 1 * (j 1).val = (j 1).val; omega
theorem emb5 (t : Fin cfg0.N) (j : S256x3584.Idx) : ((cfg0.win 5).blk t).view.emb j = rowIdx (pt t) j := by
  obtain ⟨e0, e1⟩ := idx5 t
  funext a; apply Fin.ext
  match a with
  | ⟨0, _⟩ => show win0_5.index t (0 : Fin 2) * 256 + 1 * (j 0).val = 256 * t.val + (j 0).val; omega
  | ⟨1, _⟩ => show win0_5.index t (1 : Fin 2) * 3584 + 1 * (j 1).val = (j 1).val; omega
theorem emb6 (t : Fin cfg0.N) (j : S1x1x256.Idx) : ((cfg0.win 6).blk t).view.emb j = (ix3 (pt t) (j 1) (j 2) : S16x1x256.Idx) := by
  obtain ⟨e0, e1, e2⟩ := idx6 t
  have h0 : (j 0).val < 1 := (j 0).isLt
  funext a; apply Fin.ext
  match a with
  | ⟨0, _⟩ => show win0_6.index t (0 : Fin 3) * 1 + 1 * (j 0).val = t.val; omega
  | ⟨1, _⟩ => show win0_6.index t (1 : Fin 3) * 1 + 1 * (j 1).val = (j 1).val; omega
  | ⟨2, _⟩ => show win0_6.index t (2 : Fin 3) * 256 + 1 * (j 2).val = (j 2).val; omega

/-- The one-row array of column scales, as the kernel finds it. -/
theorem V_v0 (c : Dev nD) : V m c main_v0 = oneRow (argS m c) := by
  unfold_abbrev_sides
  after_results
  funext y
  refine shapeCast_apply _ shapeCasts_S3584_S1x3584 y (ix1 (y 1)) ?_
  rw [Shape.rowMajor_val_one, Shape.rowMajor_val_two]
  have h0 : (y 0).val < 1 := (y 0).isLt
  have h1 : (y 1).val < 3584 := (y 1).isLt
  show (y 1).val = (y 0).val * 3584 + (y 1).val
  omega

/-- The input blocks at a point, from the argument arrays. -/
theorem b0_eq (c : Dev nD) (t : Fin cfg0.N) : b0 m c t = rowsOf (argA m c) (pt t) := by
  funext j; show V m c main_arg0 (((cfg0.win 0).blk t).view.emb j) = _; rw [emb0, V_main_arg0]; rfl
theorem b1_eq (c : Dev nD) (t : Fin cfg0.N) : b1 m c t = rowsOf (argX m c) (pt t) := by
  funext j; show V m c main_arg1 (((cfg0.win 1).blk t).view.emb j) = _; rw [emb1, V_main_arg1]; rfl
theorem b2_eq (c : Dev nD) (t : Fin cfg0.N) : b2 m c t = argW m c := by
  funext j; show V m c main_arg2 (((cfg0.win 2).blk t).view.emb j) = _; rw [emb2, V_main_arg2]
theorem b3_eq (c : Dev nD) (t : Fin cfg0.N) : b3 m c t = oneRow (argS m c) := by
  funext j; show V m c main_v0 (((cfg0.win 3).blk t).view.emb j) = _; rw [emb3, V_v0]

/-- A row of block `t` lies in block `t`. -/
theorem blkOf_row (t : Fin 16) (j : S256x3584.Idx) : blkOf (rowIdx t j 0) = t := by
  have h : (j 0).val < 256 := (j 0).isLt
  apply Fin.ext; show (256 * t.val + (j 0).val) / 256 = t.val; omega
theorem inBlk_row (t : Fin 16) (j : S256x3584.Idx) : ix2 (inBlk (rowIdx t j 0)) (rowIdx t j 1) = j := by
  have h : (j 0).val < 256 := (j 0).isLt
  funext a; apply Fin.ext
  match a with
  | ⟨0, _⟩ => show (256 * t.val + (j 0).val) % 256 = (j 0).val; omega
  | ⟨1, _⟩ => rfl

/-- What a point writes back is its block of the result array. -/
theorem flushed4 (c : Dev nD) (t : Fin cfg0.N) : (dats m 0 c).flushed 4 t
    = ((cfg0.win 4).blk t).view.read (Elt Ideal) (G4 (argA m c) (argX m c) (argW m c) (argS m c)) := by
  funext j
  show (dats m 0 c).after 4 t j = G4 (argA m c) (argX m c) (argW m c) (argS m c) (((cfg0.win 4).blk t).view.emb j)
  rw [after0_4, emb4, b0_eq, b1_eq, b2_eq, b3_eq]
  unfold G4
  rw [blkOf_row]
  exact congrArg _ (inBlk_row (pt t) j).symm
theorem flushed5 (c : Dev nD) (t : Fin cfg0.N) : (dats m 0 c).flushed 5 t
    = ((cfg0.win 5).blk t).view.read (Elt Ideal) (G5 (argA m c)) := by
  funext j
  show (dats m 0 c).after 5 t j = G5 (argA m c) (((cfg0.win 5).blk t).view.emb j)
  rw [after0_5, emb5, b0_eq]
  unfold G5
  rw [blkOf_row]
  exact congrArg _ (inBlk_row (pt t) j).symm
theorem flushed6 (c : Dev nD) (t : Fin cfg0.N) : (dats m 0 c).flushed 6 t
    = ((cfg0.win 6).blk t).view.read (Elt Ideal) (G6 (argA m c)) := by
  funext j
  show (dats m 0 c).after 6 t j = G6 (argA m c) (((cfg0.win 6).blk t).view.emb j)
  rw [after0_6, emb6, b0_eq]
  rfl

/-- The blocks tile the result arrays. -/
theorem cover4 (i : S4096x3584.Idx) : ∃ t : Fin cfg0.N, (cfg0.win 4).flush t = true ∧ i ∈ ((cfg0.win 4).blk t).view.set := by
  have h : (i 0).val < 4096 := (i 0).isLt
  refine ⟨⟨(i 0).val / 256, lt_of_lt_of_eq (b := 16) (by omega) N_0.symm⟩, flush0_4 _, ?_⟩
  have hm := ((cfg0.win 4).blk ⟨(i 0).val / 256, lt_of_lt_of_eq (b := 16) (by omega) N_0.symm⟩).view.emb_mem_set (ix2 (⟨(i 0).val % 256, by omega⟩ : Fin 256) (i 1) : S256x3584.Idx)
  rw [emb4] at hm
  refine (congrArg (· ∈ _) (funext fun a => Fin.ext ?_)).mp hm
  match a with
  | ⟨0, _⟩ => show 256 * ((i 0).val / 256) + (i 0).val % 256 = (i 0).val; omega
  | ⟨1, _⟩ => rfl
theorem cover5 (i : S4096x3584.Idx) : ∃ t : Fin cfg0.N, (cfg0.win 5).flush t = true ∧ i ∈ ((cfg0.win 5).blk t).view.set := by
  have h : (i 0).val < 4096 := (i 0).isLt
  refine ⟨⟨(i 0).val / 256, lt_of_lt_of_eq (b := 16) (by omega) N_0.symm⟩, flush0_5 _, ?_⟩
  have hm := ((cfg0.win 5).blk ⟨(i 0).val / 256, lt_of_lt_of_eq (b := 16) (by omega) N_0.symm⟩).view.emb_mem_set (ix2 (⟨(i 0).val % 256, by omega⟩ : Fin 256) (i 1) : S256x3584.Idx)
  rw [emb5] at hm
  refine (congrArg (· ∈ _) (funext fun a => Fin.ext ?_)).mp hm
  match a with
  | ⟨0, _⟩ => show 256 * ((i 0).val / 256) + (i 0).val % 256 = (i 0).val; omega
  | ⟨1, _⟩ => rfl
theorem cover6 (i : S16x1x256.Idx) : ∃ t : Fin cfg0.N, (cfg0.win 6).flush t = true ∧ i ∈ ((cfg0.win 6).blk t).view.set := by
  have h : (i 0).val < 16 := (i 0).isLt
  refine ⟨⟨(i 0).val, lt_of_lt_of_eq (b := 16) (by omega) N_0.symm⟩, flush0_6 _, ?_⟩
  have hm := ((cfg0.win 6).blk ⟨(i 0).val, lt_of_lt_of_eq (b := 16) (by omega) N_0.symm⟩).view.emb_mem_set (ix3 (0 : Fin 1) (i 1) (i 2) : S1x1x256.Idx)
  rw [emb6] at hm
  refine (congrArg (· ∈ _) (funext fun a => Fin.ext ?_)).mp hm
  match a with
  | ⟨0, _⟩ => rfl
  | ⟨1, _⟩ => rfl
  | ⟨2, _⟩ => rfl

/-- The result arrays after the run. -/
theorem final4 (c : Dev nD) : (dats m 0 c).arrAt 4 cfg0.N = G4 (argA m c) (argX m c) (argW m c) (argS m c) :=
  (dats m 0 c).arrAt_eq_of_cover 4 _ (fun t _ => flushed4 m c t) cover4
theorem final5 (c : Dev nD) : (dats m 0 c).arrAt 5 cfg0.N = G5 (argA m c) :=
  (dats m 0 c).arrAt_eq_of_cover 5 _ (fun t _ => flushed5 m c t) cover5
theorem final6 (c : Dev nD) : (dats m 0 c).arrAt 6 cfg0.N = G6 (argA m c) :=
  (dats m 0 c).arrAt_eq_of_cover 6 _ (fun t _ => flushed6 m c t) cover6

/-- Every run ends with the result arrays at these functions of the argument arrays, the arguments unchanged. -/
theorem run : θ_run defs (onTc (τ := τ) (main (F := Ideal))) ⟨m, fun _ => 0, ρ⟩ fun r => ∀ c : Dev nD,
      (r.2.mem ((c : Thread nD τ).loc main_v1_0) = G4 (argA m c) (argX m c) (argW m c) (argS m c)
      ∧ r.2.mem ((c : Thread nD τ).loc main_v1_1) = G5 (argA m c)
      ∧ r.2.mem ((c : Thread nD τ).loc main_v1_2) = G6 (argA m c))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨⟨((h.1 c).1 4).trans (final4 m c), ((h.1 c).1 5).trans (final5 m c), ((h.1 c).1 6).trans (final6 m c)⟩, h.2 c⟩)
    (θ_run_and (run_main m ρ) (unchanged m ρ))

end Cert.OutIdeal.Hand

end
-- ==== Proof.Out.Signs.lean ====
module

public import proofs.«01_k».proof.Proof.Gen.OutReferenceIdeal.Read
public import Idealize.ShloMosaic.Lib.Pointwise

/-!
# The 28 by 28 matrix of signs

The table of the matrix, row by row, and the proof that the reference's integer arithmetic makes exactly this table.
-/

@[expose] public section
set_option maxRecDepth 65536
noncomputable section
namespace Cert.OutReferenceIdeal.Hand
open Cert.OutReferenceIdeal Cert.OutReferenceIdeal.Read
open Idealize.ShloMosaic Idealize.ShloMosaic.Pointwise

/-- The matrix's entries, row by row. -/
def signRows : List (List Int) := [
    [1, -1, 1, 1, 1, 1, 1, 1, 1, 1, 1, 1, 1, 1, 1, 1, 1, 1, 1, 1, 1, 1, 1, 1, 1, 1, 1, 1],
    [-1, -1, 1, -1, 1, -1, 1, -1, 1, -1, 1, -1, 1, -1, 1, -1, 1, -1, 1, -1, 1, -1, 1, -1, 1, -1, 1, -1],
    [1, 1, 1, -1, 1, 1, -1, -1, 1, 1, 1, 1, -1, -1, -1, -1, -1, -1, -1, -1, 1, 1, 1, 1, -1, -1, 1, 1],
    [1, -1, -1, -1, 1, -1, -1, 1, 1, -1, 1, -1, -1, 1, -1, 1, -1, 1, -1, 1, 1, -1, 1, -1, -1, 1, 1, -1],
    [1, 1, 1, 1, 1, -1, 1, 1, -1, -1, 1, 1, 1, 1, -1, -1, -1, -1, -1, -1, -1, -1, 1, 1, 1, 1, -1, -1],
    [1, -1, 1, -1, -1, -1, 1, -1, -1, 1, 1, -1, 1, -1, -1, 1, -1, 1, -1, 1, -1, 1, 1, -1, 1, -1, -1, 1],
    [1, 1, -1, -1, 1, 1, 1, -1, 1, 1, -1, -1, 1, 1, 1, 1, -1, -1, -1, -1, -1, -1, -1, -1, 1, 1, 1, 1],
    [1, -1, -1, 1, 1, -1, -1, -1, 1, -1, -1, 1, 1, -1, 1, -1, -1, 1, -1, 1, -1, 1, -1, 1, 1, -1, 1, -1],
    [1, 1, 1, 1, -1, -1, 1, 1, 1, -1, 1, 1, -1, -1, 1, 1, 1, 1, -1, -1, -1, -1, -1, -1, -1, -1, 1, 1],
    [1, -1, 1, -1, -1, 1, 1, -1, -1, -1, 1, -1, -1, 1, 1, -1, 1, -1, -1, 1, -1, 1, -1, 1, -1, 1, 1, -1],
    [1, 1, 1, 1, 1, 1, -1, -1, 1, 1, 1, -1, 1, 1, -1, -1, 1, 1, 1, 1, -1, -1, -1, -1, -1, -1, -1, -1],
    [1, -1, 1, -1, 1, -1, -1, 1, 1, -1, -1, -1, 1, -1, -1, 1, 1, -1, 1, -1, -1, 1, -1, 1, -1, 1, -1, 1],
    [1, 1, -1, -1, 1, 1, 1, 1, -1, -1, 1, 1, 1, -1, 1, 1, -1, -1, 1, 1, 1, 1, -1, -1, -1, -1, -1, -1],
    [1, -1, -1, 1, 1, -1, 1, -1, -1, 1, 1, -1, -1, -1, 1, -1, -1, 1, 1, -1, 1, -1, -1, 1, -1, 1, -1, 1],
    [1, 1, -1, -1, -1, -1, 1, 1, 1, 1, -1, -1, 1, 1, 1, -1, 1, 1, -1, -1, 1, 1, 1, 1, -1, -1, -1, -1],
    [1, -1, -1, 1, -1, 1, 1, -1, 1, -1, -1, 1, 1, -1, -1, -1, 1, -1, -1, 1, 1, -1, 1, -1, -1, 1, -1, 1],
    [1, 1, -1, -1, -1, -1, -1, -1, 1, 1, 1, 1, -1, -1, 1, 1, 1, -1, 1, 1, -1, -1, 1, 1, 1, 1, -1, -1],
    [1, -1, -1, 1, -1, 1, -1, 1, 1, -1, 1, -1, -1, 1, 1, -1, -1, -1, 1, -1, -1, 1, 1, -1, 1, -1, -1, 1],
    [1, 1, -1, -1, -1, -1, -1, -1, -1, -1, 1, 1, 1, 1, -1, -1, 1, 1, 1, -1, 1, 1, -1, -1, 1, 1, 1, 1],
    [1, -1, -1, 1, -1, 1, -1, 1, -1, 1, 1, -1, 1, -1, -1, 1, 1, -1, -1, -1, 1, -1, -1, 1, 1, -1, 1, -1],
    [1, 1, 1, 1, -1, -1, -1, -1, -1, -1, -1, -1, 1, 1, 1, 1, -1, -1, 1, 1, 1, -1, 1, 1, -1, -1, 1, 1],
    [1, -1, 1, -1, -1, 1, -1, 1, -1, 1, -1, 1, 1, -1, 1, -1, -1, 1, 1, -1, -1, -1, 1, -1, -1, 1, 1, -1],
    [1, 1, 1, 1, 1, 1, -1, -1, -1, -1, -1, -1, -1, -1, 1, 1, 1, 1, -1, -1, 1, 1, 1, -1, 1, 1, -1, -1],
    [1, -1, 1, -1, 1, -1, -1, 1, -1, 1, -1, 1, -1, 1, 1, -1, 1, -1, -1, 1, 1, -1, -1, -1, 1, -1, -1, 1],
    [1, 1, -1, -1, 1, 1, 1, 1, -1, -1, -1, -1, -1, -1, -1, -1, 1, 1, 1, 1, -1, -1, 1, 1, 1, -1, 1, 1],
    [1, -1, -1, 1, 1, -1, 1, -1, -1, 1, -1, 1, -1, 1, -1, 1, 1, -1, 1, -1, -1, 1, 1, -1, -1, -1, 1, -1],
    [1, 1, 1, 1, -1, -1, 1, 1, 1, 1, -1, -1, -1, -1, -1, -1, -1, -1, 1, 1, 1, 1, -1, -1, 1, 1, 1, -1],
    [1, -1, 1, -1, -1, 1, 1, -1, 1, -1, -1, 1, -1, 1, -1, 1, -1, 1, 1, -1, 1, -1, -1, 1, 1, -1, -1, -1]]

/-- Entry `(g, h)` of the matrix. -/
def sign (g h : Fin 28) : Int := (signRows.getD g.val []).getD h.val 0

theorem word_eq : ∀ g h : Fin 28, val_main_v55 (F := Ideal) (ix2 g h) = BitVec.ofInt 32 (sign g h) := by
  decide +kernel

theorem toInt_sign : ∀ g h : Fin 28, (BitVec.ofInt 32 (sign g h)).toInt = sign g h := by
  decide +kernel

/-- The reference's matrix holds the table's entries as floats. -/
theorem entry (g h : Fin 28) : val_main_v56 (F := Ideal) (ix2 g h) = (((sign g h : ℤ) : ℝ) : EReal) := by
  rw [val_main_v56_apply, word_eq]
  change (((BitVec.ofInt 32 (sign g h)).toInt : ℝ) : EReal) = _
  rw [toInt_sign]

end Cert.OutReferenceIdeal.Hand
end
-- ==== Proof.Out.Conference.lean ====
module

public import proofs.«01_k».proof.Proof.Out.Paley
public import proofs.«01_k».proof.Proof.Out.Signs

/-!
# The kernel's additions are the product with the matrix of signs

On real entries the chain of additions `paley v g` equals row `g` of the matrix of signs times `v`, times `28 ^ (-1/2)`
as a float.  The chain is first carried over to the reals; there each of the 28 rows is an identity of linear forms.
-/

@[expose] public section
set_option maxRecDepth 16384
noncomputable section
namespace Cert.OutIdeal.Hand
open Idealize.ShloMosaic Idealize.ShloMosaic.Pointwise
open Cert.OutReferenceIdeal.Hand (sign signRows)

/-- `evenOf` and the functions after it, on real entries. -/
def evenR (v : Fin 28 → ℝ) (j : Fin 14) : ℝ := v ⟨2 * j.val, by omega⟩
def oddR (v : Fin 28 → ℝ) (j : Fin 14) : ℝ := v ⟨2 * j.val + 1, by omega⟩
def sumR (v : Fin 28 → ℝ) (j : Fin 14) : ℝ := evenR v j + oddR v j
def diffR (v : Fin 28 → ℝ) (j : Fin 14) : ℝ := evenR v j - oddR v j
def totalR (t : Fin 14 → ℝ) : ℝ :=
  t 1 + t 2 + t 3 + t 4 + t 5 + t 6 + t 7 + t 8 + t 9 + t 10 + t 11 + t 12 + t 13
def tlR (t : Fin 14 → ℝ) (k : Fin 13) : ℝ := t k.succ
def pairR (t : Fin 14 → ℝ) (k : Fin 13) : ℝ := tlR t k + tlR t (k + 2)
def posR (t : Fin 14 → ℝ) (k : Fin 13) : ℝ :=
  (pairR t (k + 1) + pairR t (k + 10)) + (tlR t (k + 4) + tlR t (k + 9))
def paleyR (q : ℝ) (v : Fin 28 → ℝ) (g : Fin 28) : ℝ :=
  match g with
  | ⟨0, _⟩ => (totalR (sumR v) + diffR v 0) * q
  | ⟨1, _⟩ => (totalR (diffR v) - sumR v 0) * q
  | ⟨n + 2, h⟩ =>
    if n % 2 = 0 then
      (posR (sumR v) ⟨n / 2, by omega⟩ + evenR v ⟨n / 2 + 1, by omega⟩) * (2 * q) + (sumR v 0 - totalR (sumR v)) * q
    else
      (posR (diffR v) ⟨n / 2, by omega⟩ + (0 - oddR v ⟨n / 2 + 1, by omega⟩)) * (2 * q)
        + (diffR v 0 - totalR (diffR v)) * q

/-- The value of the constant `c28`. -/
def q28 : ℝ := (2 ^ 23 + 4293775 : ℕ) * (2 : ℝ) ^ (-26 : ℤ)

theorem c28_eq : c28 = (q28 : EReal) := by
  simp [c28, q28, Ideal.ofBits, Ideal.ieee]

theorem c28x2_eq : c28x2 = ((2 * q28 : ℝ) : EReal) := by
  rw [show 2 * q28 = (2 ^ 23 + 4293775 : ℕ) * (2 : ℝ) ^ (-25 : ℤ) by unfold q28; norm_num]
  simp [c28x2, Ideal.ofBits, Ideal.ieee]

variable (r : Fin 28 → ℝ)

theorem sumOf_coe : sumOf (fun i => (r i : EReal)) = fun j => ((sumR r j : ℝ) : EReal) := by
  funext j; exact (EReal.coe_add _ _).symm
theorem diffOf_coe : diffOf (fun i => (r i : EReal)) = fun j => ((diffR r j : ℝ) : EReal) := by
  funext j; exact (EReal.coe_sub _ _).symm
theorem total_coe (t : Fin 14 → ℝ) : total (fun i => (t i : EReal)) = ((totalR t : ℝ) : EReal) := by
  simp only [total, totalR, EReal.coe_add]
theorem pos_coe (t : Fin 14 → ℝ) (k : Fin 13) : posOf (fun i => (t i : EReal)) k = ((posR t k : ℝ) : EReal) := by
  simp only [posOf, posR, pairOf, pairR, tl, tlR, EReal.coe_add]

/-- On real entries the kernel's chain is the chain on the reals. -/
theorem paley_coe (g : Fin 28) : paley (fun i => (r i : EReal)) g = ((paleyR q28 r g : ℝ) : EReal) := by
  match g with
  | ⟨0, _⟩ =>
    simp only [paley, paleyR, sumOf_coe, diffOf_coe, total_coe, c28_eq, EReal.coe_add, EReal.coe_mul]
  | ⟨1, _⟩ =>
    simp only [paley, paleyR, sumOf_coe, diffOf_coe, total_coe, c28_eq, EReal.coe_sub, EReal.coe_mul]
  | ⟨n + 2, h⟩ =>
    simp only [paley, paleyR]
    split
    · simp only [sumOf_coe, total_coe, pos_coe, c28_eq, c28x2_eq, EReal.coe_add, EReal.coe_sub, EReal.coe_mul]
      rfl
    · simp only [diffOf_coe, total_coe, pos_coe, c28_eq, c28x2_eq, EReal.coe_add, EReal.coe_sub, EReal.coe_mul, EReal.coe_zero]
      rfl

/-- Row `g` of the matrix of signs times the entries. -/
theorem paleyR_eq (q : ℝ) (g : Fin 28) : paleyR q r g = (∑ h : Fin 28, r h * ((sign g h : ℤ) : ℝ)) * q := by
  fin_cases g <;>
  simp [paleyR, posR, pairR, tlR, totalR, sumR, diffR, evenR, oddR, sign, signRows, Fin.sum_univ_ofNat, -mul_eq_mul_right_iff] <;>
  ring

/-- On real entries the kernel's chain is the sum over the heads, times the constant. -/
theorem paley_eq (g : Fin 28) :
    paley (fun i => (r i : EReal)) g = (∑ h : Fin 28, (r h : EReal) * (((sign g h : ℤ) : ℝ) : EReal)) * c28 := by
  rw [paley_coe, paleyR_eq, c28_eq, EReal.coe_mul]
  congr 1

end Cert.OutIdeal.Hand
end
-- ==== Proof.Out.Reference.lean ====
module

public import proofs.«01_k».proof.Proof.Out.Arrays
public import proofs.«01_k».proof.Proof.Out.Conference

/-!
# The reference's rotated rows, scales and codes

Each intermediate array of the reference, at an index, is the kernel's function of the same row of the argument: the
rotated entries (for finite entries), the largest absolute value of a row, the row's scale and the codes.
-/

@[expose] public section
set_option maxRecDepth 16384
noncomputable section
namespace Cert.OutIdeal.Hand
open Cert.OutIdeal
open Idealize.ShloMosaic Idealize.ShloMosaic.Pointwise
open Cert.OutReferenceIdeal.Read
open Cert.OutReferenceIdeal.Hand (sign entry)

/-- The entries of row `R` at place `d` of each of the 28 heads. -/
def heads (A : Vec Ideal S4096x3584 .f32) (R : Fin 4096) (d : Fin 128) (h : Fin 28) : EReal :=
  A (ix2 R (⟨128 * h.val + d.val, by omega⟩ : Fin 3584))

/-- Every entry is a real number. -/
def Finite (A : Vec Ideal S4096x3584 .f32) : Prop := ∀ y, ∃ r : ℝ, A y = (r : EReal)

/-- The block's lane is the row's. -/
theorem lane_eq (A : Vec Ideal S4096x3584 .f32) (R : Fin 4096) (d : Fin 128) :
    lane (rowsOf A (blkOf R)) (inBlk R) d = heads A R d := by
  funext h
  unfold lane heads rowsOf
  congr 1
  funext a
  match a with
  | ⟨0, _⟩ => exact Fin.ext (by show 256 * (R.val / 256) + R.val % 256 = R.val; omega)
  | ⟨1, _⟩ => rfl

/-- The reference's rotated row. -/
theorem v62_eq (A : Vec Ideal S4096x3584 .f32) (hA : Finite A) (R : Fin 4096) (c : Fin 3584) :
    val_main_v62 (F := Ideal) A (ix2 R c)
      = paley (heads A R ⟨c.val % 128, by omega⟩) ⟨c.val / 128, by omega⟩ := by
  choose r hr using hA
  have hv : heads A R ⟨c.val % 128, by omega⟩
      = fun h : Fin 28 => ((r (ix2 R (⟨128 * h.val + c.val % 128, by omega⟩ : Fin 3584)) : ℝ) : EReal) := by
    funext h; exact hr _
  rw [hv, paley_eq, val_main_v62_apply, val_main_v61_apply, val_main_v59_apply, val_main_v58_apply, val_main_v60_apply,
    val_main_cst_apply]
  show _ * c28 = _
  congr 1
  refine Finset.sum_congr rfl fun h _ => ?_
  rw [val_main_v57_apply, ← hr, ← entry]
  congr 2
  · funext a
    match a with
    | ⟨0, _⟩ => exact Fin.ext (by
        show (((R.val * 3584 + c.val) / 3584 * 28 + h.val) * 128 + (R.val * 3584 + c.val) % 128) / 3584 = R.val
        omega)
    | ⟨1, _⟩ => exact Fin.ext (by
        show (((R.val * 3584 + c.val) / 3584 * 28 + h.val) * 128 + (R.val * 3584 + c.val) % 128) % 3584
          = 128 * h.val + c.val % 128
        omega)
  · funext a
    match a with
    | ⟨0, _⟩ => exact Fin.ext (by
        show (R.val * 3584 + c.val) / 128 % 28 = c.val / 128
        omega)
    | ⟨1, _⟩ => rfl

/-- The block's rotated entry is the reference's. -/
theorem O2_eq (A : Vec Ideal S4096x3584 .f32) (hA : Finite A) (R : Fin 4096) (c : Fin 3584) :
    O2 (rowsOf A (blkOf R)) (ix2 (inBlk R) c) = val_main_v62 (F := Ideal) A (ix2 R c) := by
  rw [v62_eq A hA]
  unfold O2
  rw [← lane_eq]
  rfl

/-- A bound of the 28 absolute values. -/
theorem top28_le (v : Fin 28 → EReal) (b : EReal) : top28 v ≤ b ↔ ∀ g, absE (paley v g) ≤ b := by
  unfold top28
  simp only [max_le_iff]
  constructor
  · intro h g
    fin_cases g <;> simp_all
  · intro h
    simp only [h, and_self]

/-- The largest absolute value of a rotated row. -/
theorem rowMax_eq (A : Vec Ideal S4096x3584 .f32) (hA : Finite A) (R : Fin 4096) :
    rowMax (AM (rowsOf A (blkOf R))) (inBlk R) = val_main_v64 (F := Ideal) A (ix1 R) := by
  have h64 : val_main_v64 (F := Ideal) A (ix1 R)
      = Finset.univ.fold max (Ideal.ofBits .f32 4286578688#32) fun k : Fin 3584 => absE (val_main_v62 (F := Ideal) A (ix2 R k)) := by
    unfold val_main_v64
    simp only [pointwise]
    rfl
  rw [h64]
  unfold rowMax
  refine eq_of_forall_ge_iff fun b => ?_
  rw [Finset.fold_max_le, Finset.fold_max_le]
  refine and_congr_right fun _ => ?_
  constructor
  · intro h k _
    have := h ⟨k.val % 128, by omega⟩ (Finset.mem_univ _)
    unfold AM at this
    rw [top28_le] at this
    have := this ⟨k.val / 128, by omega⟩
    rw [v62_eq A hA, ← lane_eq]
    exact this
  · intro h d _
    unfold AM
    rw [top28_le]
    intro g
    have := h ⟨128 * g.val + d.val, by omega⟩ (Finset.mem_univ _)
    rw [v62_eq A hA, ← lane_eq] at this
    have e1 : (⟨(128 * g.val + d.val) % 128, by omega⟩ : Fin 128) = d := Fin.ext (by show _ % 128 = _; omega)
    have e2 : (⟨(128 * g.val + d.val) / 128, by omega⟩ : Fin 28) = g := Fin.ext (by show _ / 128 = _; omega)
    simp only [e1, e2] at this
    exact this

/-- The scale, as the reference's operations write it. -/
theorem scale_form (a : Ideal .f32) :
    Scalar.select (FloatOps.cmpf (F := Ideal) .oeq a (FloatOps.ofBits .f32 0x00000000#32)) (FloatOps.ofBits .f32 0x3F800000#32 : Ideal .f32)
      (FloatOps.hostDivf (FloatOps.mulf a (FloatOps.ofBits .f32 1063679181#32)) (FloatOps.ofBits .f32 1088421888#32)) = scaleOf a := by
  simp only [pointwise, scaleOf]

/-- The row's scale. -/
theorem scale_eq (A : Vec Ideal S4096x3584 .f32) (hA : Finite A) (R : Fin 4096) :
    scaleOf (rowMax (AM (rowsOf A (blkOf R))) (inBlk R)) = val_main_v71 (F := Ideal) A (ix1 R) := by
  rw [rowMax_eq A hA, val_main_v71_apply, val_main_v66_apply, val_main_v70_apply, val_main_v68_apply, val_main_v65_apply,
    val_main_v67_apply, val_main_v69_apply, val_main_call4_v1_apply, val_main_call4_v0_apply, val_main_cst_23_apply,
    val_main_cst_24_apply, val_main_cst_25_apply, val_main_cst_26_apply]
  exact (scale_form _).symm

end Cert.OutIdeal.Hand
end
-- ==== Proof.Out.Equal.lean ====
module

public import proofs.«01_k».proof.Proof.Out.Reference

/-!
# The kernel's result arrays are the reference's

Codes, unpacked weights, the product split into even and odd rows, and with them the three results.
-/

@[expose] public section
set_option maxRecDepth 16384
noncomputable section
namespace Cert.OutIdeal.Hand
open Cert.OutIdeal
open Idealize.ShloMosaic Idealize.ShloMosaic.Pointwise
open Cert.OutReferenceIdeal.Read

theorem ofBits_seven : Ideal.ofBits .f32 1088421888#32 = ((7 : ℝ) : EReal) := by
  simp [Ideal.ofBits, Ideal.ieee, ← EReal.coe_mul]
  norm_num
theorem ofBits_neg_seven : Ideal.ofBits .f32 3235905536#32 = ((-7 : ℝ) : EReal) := by
  simp [Ideal.ofBits, Ideal.ieee, ← EReal.coe_mul]
  norm_num

/-- The codes, as the reference's operations write them. -/
theorem code_form (o s : Ideal .f32) :
    FloatOps.minimumf (FloatOps.sitofp (F := Ideal) .f32 7#32)
      (FloatOps.maximumf (FloatOps.sitofp (F := Ideal) .f32 4294967289#32) (FloatOps.hostUnary .roundeven (FloatOps.hostDivf o s)))
      = codeOf o s := by
  have h7 : (FloatOps.sitofp (F := Ideal) .f32 7#32 : EReal) = Ideal.ofBits .f32 1088421888#32 := by
    rw [ofBits_seven]
    show ((((7#32 : BitVec 32).toInt : ℤ) : ℝ) : EReal) = _
    rw [show (7#32 : BitVec 32).toInt = 7 by decide]
    norm_num
  have hn : (FloatOps.sitofp (F := Ideal) .f32 4294967289#32 : EReal) = Ideal.ofBits .f32 3235905536#32 := by
    rw [ofBits_neg_seven]
    show ((((4294967289#32 : BitVec 32).toInt : ℤ) : ℝ) : EReal) = _
    rw [show (4294967289#32 : BitVec 32).toInt = -7 by decide]
    norm_num
  unfold codeOf
  rw [← h7, ← hn]
  rfl

/-- The codes of a row. -/
theorem code_eq (A : Vec Ideal S4096x3584 .f32) (hA : Finite A) (R : Fin 4096) (c : Fin 3584) :
    codeOf (O2 (rowsOf A (blkOf R)) (ix2 (inBlk R) c)) (scaleOf (rowMax (AM (rowsOf A (blkOf R))) (inBlk R)))
      = val_main_v76 (F := Ideal) A (ix2 R c) := by
  rw [O2_eq A hA, scale_eq A hA, val_main_v76_apply, val_main_call6_v4_apply, val_main_call6_v3_apply, val_main_c_28_apply,
    val_main_call6_v2_apply, val_main_call6_v1_apply, val_main_call6_v0_apply, val_main_c_27_apply, val_main_v75_apply,
    val_main_v74_apply, val_main_v73_apply, val_main_v72_apply]
  rw [show idx_main_v72 (idx_main_v73 (ix2 R c)) = ix1 R from funext fun a => match a with | ⟨0, _⟩ => rfl]
  exact (code_form _ _).symm

/-- A number between `-7` and `7` gives the same eight-bit integer directly and by way of thirty-two bits. -/
theorem narrow (x : EReal) (h0 : ((-7 : ℝ) : EReal) ≤ x) (h1 : x ≤ ((7 : ℝ) : EReal)) :
    Ideal.fptosi 8 x = (Ideal.fptosi 32 x).setWidth 8 := by
  induction x using EReal.rec with
  | bot => exact absurd h0 (by simp)
  | top => exact absurd h1 (by simp)
  | coe r =>
    rw [EReal.coe_le_coe_iff] at h0 h1
    unfold Ideal.fptosi
    rw [Ideal.toIntClamped_coe, Ideal.toIntClamped_coe]
    have ht : -7 ≤ (if 0 ≤ r then ⌊r⌋ else ⌈r⌉) ∧ (if 0 ≤ r then ⌊r⌋ else ⌈r⌉) ≤ 7 := by
      split
      · rename_i h
        exact ⟨le_trans (by norm_num) (Int.floor_nonneg.mpr h), Int.floor_le_iff.mpr (by push_cast; linarith)⟩
      · rename_i h
        exact ⟨Int.le_ceil_iff.mpr (by push_cast; linarith), Int.ceil_le.mpr (by push_cast; linarith)⟩
    generalize (if 0 ≤ r then ⌊r⌋ else ⌈r⌉) = t at ht
    obtain ⟨a, b⟩ := ht
    interval_cases t <;> decide

theorem code_bounds (o s : EReal) : ((-7 : ℝ) : EReal) ≤ codeOf o s ∧ codeOf o s ≤ ((7 : ℝ) : EReal) := by
  unfold codeOf
  rw [ofBits_seven, ofBits_neg_seven]
  refine ⟨le_min (EReal.coe_le_coe_iff.mpr (by norm_num)) (le_max_left _ _), min_le_left _ _⟩

/-- The codes: the second result. -/
theorem codes_eq (A : Vec Ideal S4096x3584 .f32) (hA : Finite A) : val_main_v110 (F := Ideal) A = G5 A := by
  funext y
  obtain ⟨R, c, rfl⟩ : ∃ (R : Fin 4096) (c : Fin 3584), y = ix2 R c := ⟨y 0, y 1, eq_ix2 y⟩
  rw [val_main_v110_apply, val_main_v109_apply, ← code_eq A hA]
  exact (narrow _ (code_bounds _ _).1 (code_bounds _ _).2).symm

/-- The scales: the third result. -/
theorem scales_eq (A : Vec Ideal S4096x3584 .f32) (hA : Finite A) : val_main_v111 (F := Ideal) A = G6 A := by
  funext y
  obtain ⟨t, o, d, rfl⟩ : ∃ (t : Fin 16) (o : Fin 1) (d : Fin 256), y = ix3 t o d := ⟨y 0, y 1, y 2, eq_ix3 y⟩
  rw [val_main_v111_apply]
  have ho : o.val = 0 := by omega
  have e : idx_main_v111 (ix3 t o d) = ix1 (⟨256 * t.val + d.val, by omega⟩ : Fin 4096) := funext fun a => match a with
    | ⟨0, _⟩ => Fin.ext (by show (t.val * 1 + o.val) * 256 + d.val = 256 * t.val + d.val; omega)
  rw [e, ← scale_eq A hA]
  have e1 : blkOf (⟨256 * t.val + d.val, by omega⟩ : Fin 4096) = t := Fin.ext (by show (256 * t.val + d.val) / 256 = t.val; omega)
  have e2 : inBlk (⟨256 * t.val + d.val, by omega⟩ : Fin 4096) = d := Fin.ext (by show (256 * t.val + d.val) % 256 = d.val; omega)
  rw [e1, e2]
  rfl

/-- The low half of a byte as a signed number: the kernel's two shifts and the reference's mask and comparison. -/
theorem low_word : ∀ w : BitVec 8,
    IntOp.shrsi ArithUnit.vector (IntOp.shli ArithUnit.vector (BitVec.setWidth 32 w) 28#32) 28#32
      = Scalar.select (IntOp.cmpi .sge (IntOp.andi (BitVec.setWidth 32 w) 15#32) 8#32)
          (IntOp.subi (IntOp.andi (BitVec.setWidth 32 w) 15#32) 16#32) (IntOp.andi (BitVec.setWidth 32 w) 15#32) := by
  decide +kernel
/-- The high half. -/
theorem high_word : ∀ w : BitVec 8,
    IntOp.shrsi ArithUnit.vector (IntOp.shli ArithUnit.vector (BitVec.setWidth 32 w) 24#32) 28#32
      = Scalar.select (IntOp.cmpi .sge (IntOp.shrsi ArithUnit.host (BitVec.setWidth 32 w) 4#32) 8#32)
          (IntOp.subi (IntOp.shrsi ArithUnit.host (BitVec.setWidth 32 w) 4#32) 16#32)
          (IntOp.shrsi ArithUnit.host (BitVec.setWidth 32 w) 4#32) := by
  decide +kernel

theorem low_eq (W : Vec Ideal S1792x3584 .i8) (k : Fin 1792) (j : Fin 3584) :
    val_main_v86 (F := Ideal) W (ix2 k j) = WB W (ix2 (⟨2 * k.val, by omega⟩ : Fin 3584) j) := by
  rw [val_main_v86_apply, val_main_v85_apply, val_main_v82_apply, val_main_v84_apply, val_main_v80_apply, val_main_v78_apply,
    val_main_v79_apply, val_main_v81_apply, val_main_v83_apply, val_main_c_29_apply, val_main_c_30_apply, val_main_c_31_apply,
    ← low_word]
  unfold WB nib
  have e : (⟨2 * k.val / 2, by omega⟩ : Fin 1792) = k := Fin.ext (by show _ / 2 = _; omega)
  show _ = (FloatOps.sitofp (F := Ideal) FTy.bf16 (if (2 * k.val) % 2 < 1 then _ else _) : EReal)
  rw [if_pos (by omega)]
  show _ = (FloatOps.sitofp (F := Ideal) FTy.bf16 (IntOp.shrsi ArithUnit.vector (IntOp.shli ArithUnit.vector
    (BitVec.setWidth 32 (W (ix2 (⟨2 * k.val / 2, by omega⟩ : Fin 1792) j))) 28#32) 28#32) : EReal)
  rw [e]
theorem high_eq (W : Vec Ideal S1792x3584 .i8) (k : Fin 1792) (j : Fin 3584) :
    val_main_v94 (F := Ideal) W (ix2 k j) = WB W (ix2 (⟨2 * k.val + 1, by omega⟩ : Fin 3584) j) := by
  rw [val_main_v94_apply, val_main_v93_apply, val_main_v90_apply, val_main_v92_apply, val_main_v88_apply, val_main_v78_apply,
    val_main_v87_apply, val_main_v89_apply, val_main_v91_apply, val_main_c_32_apply, val_main_c_33_apply, val_main_c_34_apply,
    ← high_word]
  unfold WB nib
  have e : (⟨(2 * k.val + 1) / 2, by omega⟩ : Fin 1792) = k := Fin.ext (by show _ / 2 = _; omega)
  show _ = (FloatOps.sitofp (F := Ideal) FTy.bf16 (if (2 * k.val + 1) % 2 < 1 then _ else _) : EReal)
  rw [if_neg (by omega)]
  show _ = (FloatOps.sitofp (F := Ideal) FTy.bf16 (IntOp.shrsi ArithUnit.vector (IntOp.shli ArithUnit.vector
    (BitVec.setWidth 32 (W (ix2 (⟨(2 * k.val + 1) / 2, by omega⟩ : Fin 1792) j))) 24#32) 28#32) : EReal)
  rw [e]

/-- A sum over 3584 places is the sum over the even ones plus the sum over the odd ones. -/
theorem sum_split (f : Fin 3584 → EReal) :
    ∑ k, f k = (∑ k : Fin 1792, f ⟨2 * k.val, by omega⟩) + ∑ k : Fin 1792, f ⟨2 * k.val + 1, by omega⟩ := by
  rw [← Finset.sum_add_distrib]
  rw [← (finProdFinEquiv (m := 1792) (n := 2)).sum_comp f, Fintype.sum_prod_type]
  refine Finset.sum_congr rfl fun k _ => ?_
  rw [Fin.sum_univ_two]
  congr 2
  · exact Fin.ext (by show 0 + 2 * k.val = 2 * k.val; omega)
  · exact Fin.ext (by show 1 + 2 * k.val = 2 * k.val + 1; omega)

/-- The hidden rows: the first result. -/
theorem hidden_eq (A : Vec Ideal S4096x3584 .f32) (hA : Finite A) (X : Vec Ideal S4096x3584 .bf16)
    (W : Vec Ideal S1792x3584 .i8) (S : Vec Ideal S3584 .f32) : val_main_v108 (F := Ideal) A X W S = G4 A X W S := by
  funext y
  obtain ⟨R, j, rfl⟩ : ∃ (R : Fin 4096) (j : Fin 3584), y = ix2 R j := ⟨y 0, y 1, eq_ix2 y⟩
  have hR : 256 * (R.val / 256) + R.val % 256 = R.val := by omega
  rw [val_main_v108_apply, val_main_v107_apply, val_main_v106_apply, val_main_v105_apply, val_main_v104_apply,
    val_main_v103_apply, val_main_v102_apply, val_main_v101_apply, val_main_v100_apply, val_main_v99_apply,
    val_main_v96_apply, val_main_v98_apply]
  show X (ix2 R j) + ((∑ k : Fin 1792, _) + (∑ k : Fin 1792, _)) * _ * S _ = HID _ _ _ _ (ix2 (inBlk R) j)
  unfold HID
  rw [sum_split]
  have eX : X (ix2 R j) = rowsOf X (blkOf R) (ix2 (inBlk R) j) := by
    unfold rowsOf
    congr 1
    funext a
    match a with
    | ⟨0, _⟩ => exact Fin.ext hR.symm
    | ⟨1, _⟩ => rfl
  have eS : S (idx_main_v103 (idx_main_v104 (ix2 R j))) = oneRow S (ix2 0 j) := by
    unfold oneRow
    congr 1
    funext a
    match a with
    | ⟨0, _⟩ => rfl
  have eC : val_main_v71 (F := Ideal) A (idx_main_v100 (idx_main_v101 (ix2 R j)))
      = scaleOf (rowMax (AM (rowsOf A (blkOf R))) (inBlk R)) := by
    rw [scale_eq A hA]
    congr 1
    funext a
    match a with
    | ⟨0, _⟩ => rfl
  rw [eX, eS, eC]
  refine congrArg (fun t => rowsOf X (blkOf R) (ix2 (inBlk R) j) + t * scaleOf (rowMax (AM (rowsOf A (blkOf R))) (inBlk R)) * oneRow S (ix2 0 j))
    (congrArg₂ (· + ·) ?_ ?_)
  · refine Finset.sum_congr rfl fun k _ => ?_
    rw [show ridx_main_v96 (ix2 R j) k = ix2 k j from funext fun a => match a with | ⟨0, _⟩ => rfl | ⟨1, _⟩ => rfl, low_eq]
    refine congrArg₂ (· * ·) ?_ rfl
    refine Eq.trans ?_ (code_eq A hA R ⟨2 * k.val, by omega⟩).symm
    refine congrArg (val_main_v76 (F := Ideal) A) (funext fun a => ?_)
    match a with
    | ⟨0, _⟩ => exact Fin.ext (by show 0 + 1 * R.val = R.val; omega)
    | ⟨1, _⟩ => exact Fin.ext (by show 0 + 2 * k.val = 2 * k.val; omega)
  · refine Finset.sum_congr rfl fun k _ => ?_
    rw [show ridx_main_v98 (ix2 R j) k = ix2 k j from funext fun a => match a with | ⟨0, _⟩ => rfl | ⟨1, _⟩ => rfl, high_eq]
    refine congrArg₂ (· * ·) ?_ rfl
    refine Eq.trans ?_ (code_eq A hA R ⟨2 * k.val + 1, by omega⟩).symm
    refine congrArg (val_main_v76 (F := Ideal) A) (funext fun a => ?_)
    match a with
    | ⟨0, _⟩ => exact Fin.ext (by show 0 + 1 * R.val = R.val; omega)
    | ⟨1, _⟩ => exact Fin.ext (by show 1 + 2 * k.val = 2 * k.val + 1; omega)

end Cert.OutIdeal.Hand
end
-- ==== Proof.Qkv.Real.lean ====
module

public import proofs.«01_k».proof.Proof.Qkv.Row
public import proofs.«01_k».proof.Proof.Out.Equal

/-!
# Real values

Where the quantities of a token are real numbers.  The normalized row always is: an infinite entry makes the root mean
square infinite, and the quotient zero.  So the row's scale and codes are real, and with real channel scales and angles the
heads and the rotated heads are.
-/

@[expose] public section
noncomputable section
namespace Cert.QkvIdeal.Hand
open Cert.QkvIdeal
open Idealize.ShloMosaic Idealize.ShloMosaic.Pointwise
open Cert.OutIdeal.Hand (nib scaleOf codeOf absE code_bounds ofBits_seven ofBits_neg_seven)

/-- A value that is a real number. -/
def IsReal (a : EReal) : Prop := ∃ r : ℝ, a = (r : EReal)

theorem IsReal.of_ne {a : EReal} (hb : a ≠ ⊥) (ht : a ≠ ⊤) : IsReal a := by
  induction a using EReal.rec with
  | bot => exact absurd rfl hb
  | top => exact absurd rfl ht
  | coe r => exact ⟨r, rfl⟩
theorem IsReal.ne_bot {a : EReal} (h : IsReal a) : a ≠ ⊥ := by obtain ⟨r, rfl⟩ := h; exact EReal.coe_ne_bot r
theorem IsReal.ne_top {a : EReal} (h : IsReal a) : a ≠ ⊤ := by obtain ⟨r, rfl⟩ := h; exact EReal.coe_ne_top r
theorem IsReal.of_between {a : EReal} {x y : ℝ} (h0 : (x : EReal) ≤ a) (h1 : a ≤ (y : EReal)) : IsReal a :=
  .of_ne (fun e => by rw [e] at h0; exact absurd h0 (by simp)) (fun e => by rw [e] at h1; exact absurd h1 (by simp))
theorem IsReal.coe (r : ℝ) : IsReal (r : EReal) := ⟨r, rfl⟩
theorem IsReal.add {a b : EReal} (ha : IsReal a) (hb : IsReal b) : IsReal (a + b) := by
  obtain ⟨r, rfl⟩ := ha; obtain ⟨s, rfl⟩ := hb; exact ⟨r + s, (EReal.coe_add r s).symm⟩
theorem IsReal.sub {a b : EReal} (ha : IsReal a) (hb : IsReal b) : IsReal (a - b) := by
  obtain ⟨r, rfl⟩ := ha; obtain ⟨s, rfl⟩ := hb; exact ⟨r - s, (EReal.coe_sub r s).symm⟩
theorem IsReal.mul {a b : EReal} (ha : IsReal a) (hb : IsReal b) : IsReal (a * b) := by
  obtain ⟨r, rfl⟩ := ha; obtain ⟨s, rfl⟩ := hb; exact ⟨r * s, (EReal.coe_mul r s).symm⟩
theorem IsReal.inv {a : EReal} (ha : IsReal a) : IsReal a⁻¹ := by
  obtain ⟨r, rfl⟩ := ha; exact ⟨r⁻¹, (EReal.coe_inv r).symm⟩
theorem IsReal.sum {n : ℕ} {f : Fin n → EReal} (h : ∀ k, IsReal (f k)) : IsReal (∑ k, f k) :=
  Finset.sum_induction f IsReal (fun _ _ => IsReal.add) ⟨0, rfl⟩ fun k _ => h k
theorem IsReal.sub_self {a : EReal} (h : IsReal a) : a - a = 0 := by
  obtain ⟨r, rfl⟩ := h; rw [← EReal.coe_sub, _root_.sub_self]; rfl
theorem IsReal.abs {a : EReal} (h : IsReal a) : IsReal (absE a) := by
  obtain ⟨r, rfl⟩ := h
  unfold absE
  rcases max_choice (r : EReal) (-(r : EReal)) with e | e <;> rw [e]
  · exact ⟨r, rfl⟩
  · exact ⟨-r, (EReal.coe_neg r).symm⟩

theorem ofBits_rows : Ideal.ofBits .f32 0x45600000#32 = ((3584 : ℝ) : EReal) := by
  simp [Ideal.ofBits, Ideal.ieee, ← EReal.coe_mul]
  norm_num
theorem ofBits_eps : ∃ e : ℝ, 0 < e ∧ Ideal.ofBits .f32 0x3727C5AC#32 = (e : EReal) :=
  ⟨(2 ^ 23 + 2606508 : ℕ) * (2 : ℝ) ^ (-40 : ℤ), by positivity, by simp [Ideal.ofBits, Ideal.ieee]⟩
theorem ofBits_quarter : ∃ e : ℝ, Ideal.ofBits .f32 1063679181#32 = (e : EReal) := by
  simp [Ideal.ofBits, Ideal.ieee]
  exact ⟨_, (EReal.coe_mul _ _).symm⟩

theorem sq_nonneg' (a : EReal) : 0 ≤ a * a := by
  induction a using EReal.rec with
  | bot => simp
  | top => simp
  | coe r => rw [← EReal.coe_mul]; exact_mod_cast mul_self_nonneg r

theorem real_of_sq {a : EReal} (h : a * a ≠ ⊤) : IsReal a := by
  induction a using EReal.rec with
  | bot => exact absurd (by simp) h
  | top => exact absurd (by simp) h
  | coe r => exact ⟨r, rfl⟩

/-- The normalized row is real, whatever the row. -/
theorem xnorm_real (x : Fin 3584 → EReal) (k : Fin 3584) : IsReal (xnorm x k) := by
  unfold xnorm
  obtain ⟨e, he, ee⟩ := ofBits_eps
  rw [ofBits_rows, ee, Ideal.div_coe (by norm_num)]
  have hS : 0 ≤ ∑ i, x i * x i := Finset.sum_nonneg fun i _ => sq_nonneg' (x i)
  have hk : x k * x k ≤ ∑ i, x i * x i := Finset.single_le_sum (fun i _ => sq_nonneg' (x i)) (Finset.mem_univ k)
  generalize ∑ i, x i * x i = S at hS hk
  induction S using EReal.rec with
  | bot => exact absurd hS (by simp)
  | top =>
    rw [EReal.top_mul_coe_of_pos (by norm_num : (0 : ℝ) < 1 / 3584), EReal.top_add_coe, Ideal.sqrt_top]
    unfold Ideal.div
    rw [if_neg (by simp), EReal.inv_top, mul_zero]
    exact ⟨0, rfl⟩
  | coe s =>
    have hs : 0 ≤ s := by exact_mod_cast hS
    have hx : IsReal (x k) := real_of_sq fun e => by rw [e] at hk; exact absurd hk (by simp)
    have hp : 0 < s * (1 / 3584) + e := by positivity
    rw [← EReal.coe_mul, ← EReal.coe_add, Ideal.sqrt_coe, if_neg (by linarith), Ideal.div_coe (Real.sqrt_pos.mpr hp).ne']
    exact hx.mul ⟨_, rfl⟩

/-- The row's scale is real. -/
theorem xscale_real (x : Fin 3584 → EReal) : IsReal (xscale x) := by
  unfold xscale scaleOf
  obtain ⟨q, eq⟩ := ofBits_quarter
  split
  · exact ⟨1, rfl⟩
  · rw [ofBits_seven, Ideal.div_coe (by norm_num), eq]
    refine (IsReal.mul ?_ ⟨q, rfl⟩).mul ⟨_, rfl⟩
    have hf : ∀ k, IsReal (absE (xnorm x k)) := fun k => (xnorm_real x k).abs
    have hb : Ideal.ofBits FTy.f32 4286578688#32 = ⊥ := by simp [Ideal.ofBits, Ideal.ieee]
    rw [hb]
    refine .of_ne (fun e => ?_) (lt_top_iff_ne_top.mp ?_)
    · have := (Finset.le_fold_max (s := Finset.univ) (f := fun k => absE (xnorm x k)) (b := ⊥) (absE (xnorm x 0))).mpr
        (Or.inr ⟨0, Finset.mem_univ _, le_rfl⟩)
      rw [e] at this
      exact (hf 0).ne_bot (le_bot_iff.mp this)
    · exact (Finset.fold_max_lt _).mpr ⟨bot_lt_top, fun k _ => lt_top_iff_ne_top.mpr (hf k).ne_top⟩

/-- A code is real. -/
theorem xcode_real (x : Fin 3584 → EReal) (k : Fin 3584) : IsReal (xcode x k) :=
  .of_between (code_bounds _ _).1 (code_bounds _ _).2

/-- A head is real when its channel scales are. -/
theorem headAt_real (x : Fin 3584 → EReal) (W : Vec Ideal S4608x3584 .i8) (s : Fin 4608 → EReal)
    (hd : Fin 36) (hs : ∀ d : Fin 128, IsReal (s ⟨128 * hd.val + d.val, by omega⟩)) (d : Fin 128) : IsReal (headAt x W s hd d) := by
  unfold headAt prj
  exact ((IsReal.sum fun k => IsReal.mul ⟨_, rfl⟩ (xcode_real x k)).mul (xscale_real x)).mul (hs _)

/-- A rotated head is real when the angles are. -/
theorem rot_real (v : Fin 128 → EReal) (c s : Fin 64 → EReal) (hv : ∀ d, IsReal (v d)) (hc : ∀ d, IsReal (c d))
    (hs : ∀ d, IsReal (s d)) (d : Fin 128) : IsReal (rot v c s d) := by
  unfold rot
  split
  · exact ((hv _).mul (hc _)).sub ((hv _).mul (hs _))
  · exact ((hv _).mul (hc _)).add ((hv _).mul (hs _))

/-- A real value in three parts is itself and two zeros, so the table's first 128 columns decide the product. -/
theorem had_real (h : Vec Ideal S128x384 .bf16) (r : Fin 128 → EReal) (hr : ∀ d, IsReal (r d)) (e : Fin 128) :
    had h r e = (∑ d : Fin 128, h (ix2 e (⟨d.val, by omega⟩ : Fin 384)) * r d) * Ideal.ofBits .f32 0x3DB504F3#32 := by
  unfold had
  congr 1
  rw [@Fin.sum_univ_add EReal _ 128 256 fun j : Fin 384 => h (ix2 e j) * three r j]
  have hz : ∀ k : Fin 256, h (ix2 e (Fin.natAdd 128 k : Fin 384)) * three r (Fin.natAdd 128 k : Fin 384) = 0 := fun k => by
    have : three r (Fin.natAdd 128 k : Fin 384) = 0 := by
      unfold three
      rw [dif_neg (by show ¬ 128 + k.val < 128; omega)]
      split
      · exact (hr _).sub_self
      · rw [(hr _).sub_self]; simp
    rw [this, mul_zero]
  rw [Finset.sum_eq_zero (f := fun k : Fin 256 => h (ix2 e (Fin.natAdd 128 k : Fin 384)) * three r (Fin.natAdd 128 k : Fin 384)) (fun k _ => hz k),
    add_zero]
  refine Finset.sum_congr rfl fun d _ => ?_
  have : three r (Fin.castAdd 256 d : Fin 384) = r d := by
    unfold three
    rw [dif_pos (show (Fin.castAdd 256 d : Fin 384).val < 128 from d.isLt)]
    rfl
  rw [this]
  rfl

end Cert.QkvIdeal.Hand
end
-- ==== Proof.Qkv.Ops.lean ====
module

public import proofs.«01_k».proof.Proof.Qkv.Row
public import proofs.«01_k».proof.Proof.Gen.QkvIdeal.Skeleton

/-!
# The kernel's vector steps at an element

The projection's blocks repeat the same vector steps for every head. Each step is written once here, with its value at an
element.
-/

@[expose] public section
set_option maxRecDepth 16384
noncomputable section
namespace Cert.QkvIdeal.Hand
open Cert.QkvIdeal Cert.QkvIdeal.Gen
open Idealize.ShloMosaic Idealize.ShloMosaic.Pointwise
open Cert.OutIdeal.Hand (nib scaleOf codeOf absE)

abbrev F512 := FVec Ideal S512x256 .f32
abbrev F128 := FVec Ideal S128x256 .f32
abbrev F64 := FVec Ideal S64x256 .f32
abbrev F1 := FVec Ideal S1x256 .f32

/-- 512 channels of 256 tokens. -/
def PROJ (w : Vec Ideal S512x3584 .i8) (x : Vec Ideal S1x256x3584 .bf16) : F512 :=
  matmul dot_S512x3584_S256x3584_S512x256_1_1_0_0_n_n none (sitofp .bf16 w : FVec Ideal S512x3584 .bf16)
    (shapeCast S256x3584 x shapeCasts_S1x256x3584_S256x3584 : FVec Ideal S256x3584 .bf16) (constant S512x256 .f32 0x00000000#32)

/-- One head out of the 512 channels, scaled. -/
def HEADV {off : Fin 2 → Nat} (hs : S512x256.Slices off S128x256) (acc : F512) (ws : Vec Ideal S128x128 .f32) (xs : Vec Ideal S1x256 .f32) : F128 :=
  mulf (mulf (extractStridedSlice S128x256 off acc hs)
      (broadcastTo S128x256 (shapeCast S1x256 xs shapeCasts_S1x256_S1x256) broadcasts_S1x256_S128x256))
    (concatenate S128x256 1 [⟨S128x128, ws⟩, ⟨S128x128, ws⟩] concatenates_S128x128_S128x128_S128x256_d1)

/-- The rotation. -/
def ROTV (t : F128) (c s : Vec Ideal S1x64x256 .f32) : F128 :=
  concatenate S128x256 0
    [⟨S64x256, subf (mulf (extractStridedSlice S64x256 ![0, 0] t slices_S128x256_o0_0_S64x256) (shapeCast S64x256 c shapeCasts_S1x64x256_S64x256))
        (mulf (extractStridedSlice S64x256 ![64, 0] t slices_S128x256_o64_0_S64x256) (shapeCast S64x256 s shapeCasts_S1x64x256_S64x256))⟩,
     ⟨S64x256, addf (mulf (extractStridedSlice S64x256 ![64, 0] t slices_S128x256_o64_0_S64x256) (shapeCast S64x256 c shapeCasts_S1x64x256_S64x256))
        (mulf (extractStridedSlice S64x256 ![0, 0] t slices_S128x256_o0_0_S64x256) (shapeCast S64x256 s shapeCasts_S1x64x256_S64x256))⟩]
    concatenates_S64x256_S64x256_S128x256_d0

/-- The part of a value that the narrower format keeps, and the remainder. -/
def top (t : F128) : FVec Ideal S128x256 .bf16 := truncf .bf16 t bitsLt_bf16_f32
def rest (t : F128) : F128 := subf t (extf .f32 (top t) bitsLt_bf16_f32)

/-- The multiplication by the table, in three parts. -/
def HADV (h : Vec Ideal S128x384 .bf16) (t : F128) : F128 :=
  mulf (matmul (φ₁ := .bf16) (φ₂ := .bf16) dot_S128x384_S384x256_S128x256_1_0_0_1_n_n none h
      (concatenate S384x256 0 [⟨S128x256, top t⟩, ⟨S128x256, top (rest t)⟩, ⟨S128x256, top (rest (rest t))⟩]
        concatenates_S128x256_S128x256_S128x256_S384x256_d0 : FVec Ideal S384x256 .bf16) (constant S128x256 .f32 0x00000000#32))
    (broadcast S128x256 (Scalar.ofBits .f32 0x3DB504F3#32))

/-- The ends of the range, the step and the codes of a head. -/
def LOV (t : F128) : F1 :=
  mulf (broadcast S1x256 (Scalar.ofBits .f32 0x3F733333#32))
    (shapeCast S1x256 (multiReduction .minimumf [0] S256 t 0x7F800000#32 reduces_S128x256_S256 (.inl rfl) rfl) shapeCasts_S256_S1x256)
def HIV (t : F128) : F1 :=
  mulf (broadcast S1x256 (Scalar.ofBits .f32 0x3F733333#32))
    (shapeCast S1x256 (multiReduction .maximumf [0] S256 t 0xFF800000#32 reduces_S128x256_S256 (.inl rfl) rfl) shapeCasts_S256_S1x256)
def STEPV (t : F128) : F1 :=
  select (cmpf .oeq (HIV t) (LOV t)) (broadcast S1x256 (Scalar.ofBits .f32 0x3F800000#32))
    (divf (subf (HIV t) (LOV t)) (broadcast S1x256 (Scalar.ofBits .f32 0x41700000#32)))
def CODEV (t : F128) : F128 :=
  minimumf (broadcast S128x256 (Scalar.ofBits .f32 0x41700000#32))
    (maximumf (broadcast S128x256 (Scalar.ofBits .f32 0x00000000#32))
      (roundeven (divf (subf t (broadcastTo S128x256 (LOV t) broadcasts_S1x256_S128x256)) (broadcastTo S128x256 (STEPV t) broadcasts_S1x256_S128x256))))
def PAIRS (t : F128) : IVec S64x2x256 32 := shapeCast S64x2x256 (fptosi 32 (CODEV t)) shapeCasts_S128x256_S64x2x256
def BYTEV (t : F128) : IVec S1x1x64x256 8 :=
  shapeCast S1x1x64x256 (trunci 8
    (ori (shapeCast S64x256 (extractStridedSlice S64x1x256 ![0, 0, 0] (PAIRS t) slices_S64x2x256_o0_0_0_S64x1x256) shapeCasts_S64x1x256_S64x256)
      (shli (shapeCast S64x256 (extractStridedSlice S64x1x256 ![0, 1, 0] (PAIRS t) slices_S64x2x256_o0_1_0_S64x1x256) shapeCasts_S64x1x256_S64x256)
        (broadcast S64x256 4#32))) natLt_8_32) shapeCasts_S64x256_S1x1x64x256
/-- A row and a head as stored. -/
def ROWS (r : F1) : FVec Ideal S1x1x256 .f32 := shapeCast S1x1x256 r shapeCasts_S1x256_S1x1x256
def HEADS (t : F128) : FVec Ideal S1x1x128x256 .bf16 :=
  shapeCast S1x1x128x256 (truncf .bf16 t bitsLt_bf16_f32) shapeCasts_S128x256_S1x1x128x256

theorem PROJ_apply (w : Vec Ideal S512x3584 .i8) (x : Vec Ideal S1x256x3584 .bf16) (r : Fin 512) (t : Fin 256) :
    PROJ w x (ix2 r t) = ∑ k : Fin 3584, (FloatOps.sitofp (F := Ideal) FTy.bf16 (w (ix2 r k)) : EReal) * x (ix3 0 t k) := by
  pointwise [PROJ]

theorem HEADV_apply {off : Fin 2 → Nat} (hs : S512x256.Slices off S128x256) (acc : F512) (ws : Vec Ideal S128x128 .f32) (xs : Vec Ideal S1x256 .f32)
    (a : Fin 4) (hoff : off = ![128 * a.val, 0]) (d : Fin 128) (t : Fin 256) (s : EReal) (hws : ∀ l : Fin 128, ws (ix2 d l) = s) :
    HEADV hs acc ws xs (ix2 d t) = acc (ix2 (⟨128 * a.val + d.val, by omega⟩ : Fin 512) t) * xs (ix2 0 t) * s := by
  subst hoff
  pointwise [HEADV]
  simp only [hws]
  split <;> rfl

theorem ROTV_apply (v : F128) (c s : Vec Ideal S1x64x256 .f32) (d : Fin 128) (t : Fin 256) :
    ROTV v c s (ix2 d t) = rot (fun e => v (ix2 e t)) (fun e => c (ix3 0 e t)) (fun e => s (ix3 0 e t)) d := by
  pointwise [ROTV]
  unfold rot
  rfl

theorem HADV_apply (h : Vec Ideal S128x384 .bf16) (v : F128) (e : Fin 128) (t : Fin 256) :
    HADV h v (ix2 e t) = had h (fun d => v (ix2 d t)) e := by
  pointwise [HADV, rest, top]
  unfold had three
  rfl

theorem LOV_apply (v : F128) (t : Fin 256) : LOV v (ix2 0 t) = kvLo (fun d => v (ix2 d t)) := by
  pointwise [LOV]
  unfold kvLo
  rfl
theorem HIV_apply (v : F128) (t : Fin 256) : HIV v (ix2 0 t) = kvHi (fun d => v (ix2 d t)) := by
  pointwise [HIV]
  unfold kvHi
  rfl
theorem STEPV_apply (v : F128) (t : Fin 256) : STEPV v (ix2 0 t) = kvScale (fun d => v (ix2 d t)) := by
  pointwise [STEPV]
  rw [LOV_apply, HIV_apply]
  unfold kvScale
  rfl
theorem CODEV_apply (v : F128) (e : Fin 128) (t : Fin 256) : CODEV v (ix2 e t) = kvCode (fun d => v (ix2 d t)) e := by
  pointwise [CODEV]
  rw [LOV_apply, STEPV_apply]
  unfold kvCode
  rfl
theorem BYTEV_apply (v : F128) (r : Fin 64) (t : Fin 256) : BYTEV v (ix4 0 0 r t) = kvByte (fun d => v (ix2 d t)) r := by
  pointwise [BYTEV, PAIRS]
  rw [CODEV_apply, CODEV_apply]
  unfold kvByte
  rfl
theorem ROWS_apply (r : F1) (t : Fin 256) : ROWS r (ix3 0 0 t) = r (ix2 0 t) := by
  pointwise [ROWS]
theorem HEADS_apply (v : F128) (e : Fin 128) (t : Fin 256) : HEADS v (ix4 0 0 e t) = v (ix2 e t) := by
  pointwise [HEADS]

end Cert.QkvIdeal.Hand
end
-- ==== Proof.Qkv.Leaves.lean ====
module

public import proofs.«01_k».proof.Proof.Qkv.Ops
public import proofs.«01_k».proof.Proof.Out.Steps

/-!
# Loads, stores and heads

Where a load of a block reads and where a store of a block lands; a head's value from the values of the operands it is
computed from; and the results assembled from the stores of the single heads.
-/

@[expose] public section
set_option maxRecDepth 16384
noncomputable section
namespace Cert.QkvIdeal.Hand
open Cert.QkvIdeal Cert.QkvIdeal.Gen
open Idealize.ShloMosaic Idealize.ShloMosaic.Pointwise
open Cert.OutIdeal.Hand (nib scaleOf codeOf absE mem_steps)

/-- A load of full rows at an element. -/
theorem leafRows {n rows w : Nat} {e : EltTy} (m : Memref sig .tc .vmem ⟨2, ![n, w]⟩ e) (X : BufTy.Contents (Elt Ideal) m.view.ty) {off : Fin 2 → Nat}
    (inb) (a : Nat) (hoff : off = ![a, 0]) (r : Fin rows) (d : Fin w) (h : a + r.val < n) :
    View.readAt (Elt Ideal) m.view (Rect.unit (s := ⟨2, ![n, w]⟩) off ![rows, w] inb).toLoadRect X (ix2 r d)
      = m.view.read (Elt Ideal) X (ix2 ⟨a + r.val, h⟩ d) := by
  subst hoff
  refine congrArg (m.view.read (Elt Ideal) X) (funext fun i => Fin.ext ?_)
  fin_cases i
  · show a + 1 * r.val = a + r.val
    omega
  · show 0 + 1 * d.val = d.val
    omega

/-- A load of full columns at an element. -/
theorem leafCols {n w cols : Nat} {e : EltTy} (m : Memref sig .tc .vmem ⟨2, ![n, w]⟩ e) (X : BufTy.Contents (Elt Ideal) m.view.ty) {off : Fin 2 → Nat}
    (inb) (a : Nat) (hoff : off = ![0, a]) (r : Fin n) (d : Fin cols) (h : a + d.val < w) :
    View.readAt (Elt Ideal) m.view (Rect.unit (s := ⟨2, ![n, w]⟩) off ![n, cols] inb).toLoadRect X (ix2 r d)
      = m.view.read (Elt Ideal) X (ix2 r ⟨a + d.val, h⟩) := by
  subst hoff
  refine congrArg (m.view.read (Elt Ideal) X) (funext fun i => Fin.ext ?_)
  fin_cases i
  · show 0 + 1 * r.val = r.val
    omega
  · show a + 1 * d.val = a + d.val
    omega

/-- A load of rows of one plane at an element. -/
theorem leaf3 {B n rows w : Nat} {e : EltTy} (m : Memref sig .tc .vmem ⟨3, ![B, n, w]⟩ e) (X : BufTy.Contents (Elt Ideal) m.view.ty) {off : Fin 3 → Nat}
    (inb) (b : Fin B) (a : Nat) (hoff : off = ![b.val, a, 0]) (z : Fin 1) (r : Fin rows) (d : Fin w) (h : a + r.val < n) :
    View.readAt (Elt Ideal) m.view (Rect.unit (s := ⟨3, ![B, n, w]⟩) off ![1, rows, w] inb).toLoadRect X (ix3 z r d)
      = m.view.read (Elt Ideal) X (ix3 b ⟨a + r.val, h⟩ d) := by
  subst hoff
  refine congrArg (m.view.read (Elt Ideal) X) (funext fun i => Fin.ext ?_)
  fin_cases i
  · show b.val + 1 * z.val = b.val
    omega
  · show a + 1 * r.val = a + r.val
    omega
  · show 0 + 1 * d.val = d.val
    omega

/-- Where a stored row of one plane lands. -/
theorem emb3 {B n rows w : Nat} {off : Fin 3 → Nat} (inb) (b : Fin B) (a : Nat) (hoff : off = ![b.val, a, 0]) (z : Fin 1) (r : Fin rows) (d : Fin w)
    (h : a + r.val < n) : (Rect.unit (s := ⟨3, ![B, n, w]⟩) off ![1, rows, w] inb).emb (ix3 z r d) = ix3 b ⟨a + r.val, h⟩ d := by
  subst hoff
  refine funext fun i => Fin.ext ?_
  fin_cases i
  · show b.val + 1 * z.val = b.val
    omega
  · show a + 1 * r.val = a + r.val
    omega
  · show 0 + 1 * d.val = d.val
    omega

theorem mem3 {B n rows w : Nat} {off : Fin 3 → Nat} (inb) (b : Nat) (a : Nat) (hoff : off = ![b, a, 0]) (y : (⟨3, ![B, n, w]⟩ : Shape).Idx)
    (hb : (y 0).val = b) (h0 : a ≤ (y 1).val) (h1 : (y 1).val < a + rows) :
    y ∈ (Rect.unit (s := ⟨3, ![B, n, w]⟩) off ![1, rows, w] inb).set := by
  subst hoff
  rw [Rect.mem_set_unit]
  have h2 : (y 2).val < w := (y 2).isLt
  intro i
  fin_cases i
  · show b ≤ (y 0).val ∧ (y 0).val < b + 1
    omega
  · exact ⟨h0, h1⟩
  · show 0 ≤ (y 2).val ∧ (y 2).val < 0 + w
    omega

/-- Where a stored plane lands. -/
theorem emb4 {B n r w : Nat} {off : Fin 4 → Nat} (inb) (b : Fin B) (a : Fin n) (hoff : off = ![b.val, a.val, 0, 0]) (z z' : Fin 1) (d : Fin r) (t : Fin w) :
    (Rect.unit (s := ⟨4, ![B, n, r, w]⟩) off ![1, 1, r, w] inb).emb (ix4 z z' d t) = ix4 b a d t := by
  subst hoff
  refine funext fun i => Fin.ext ?_
  fin_cases i
  · show b.val + 1 * z.val = b.val
    omega
  · show a.val + 1 * z'.val = a.val
    omega
  · show 0 + 1 * d.val = d.val
    omega
  · show 0 + 1 * t.val = t.val
    omega

theorem mem4 {B n r w : Nat} {off : Fin 4 → Nat} (inb) (b : Nat) (a : Nat) (hoff : off = ![b, a, 0, 0]) (y : (⟨4, ![B, n, r, w]⟩ : Shape).Idx)
    (hb : (y 0).val = b) (ha : (y 1).val = a) : y ∈ (Rect.unit (s := ⟨4, ![B, n, r, w]⟩) off ![1, 1, r, w] inb).set := by
  subst hoff
  rw [Rect.mem_set_unit]
  have h2 : (y 2).val < r := (y 2).isLt
  have h3 : (y 3).val < w := (y 3).isLt
  intro i
  fin_cases i
  · show b ≤ (y 0).val ∧ (y 0).val < b + 1
    omega
  · show a ≤ (y 1).val ∧ (y 1).val < a + 1
    omega
  · show 0 ≤ (y 2).val ∧ (y 2).val < 0 + r
    omega
  · show 0 ≤ (y 3).val ∧ (y 3).val < 0 + w
    omega

/-- The pieces of a loop's trips all agree with `G` if each trip's do. -/
theorem steps_agree {Val : EltTy → Type} {s : Shape} {e : EltTy} (G : s.Idx → Val e) {n : Nat} (L : Fin n → List (View.Piece Val s e)) (P : Nat → List (View.Piece Val s e)) (h0 : P 0 = [])
    (hs : ∀ k : Fin n, P (k.val + 1) = L k ++ P k.val)
    (hG : ∀ k, ∀ p ∈ L k, ∀ x : p.1.shape.Idx, p.2 x = G (p.1.emb x)) : ∀ p ∈ P n, ∀ x : p.1.shape.Idx, p.2 x = G (p.1.emb x) := fun p hp => by
  obtain ⟨k, -, h⟩ := (mem_steps L P h0 hs n le_rfl p).mp hp
  exact hG k p h
/-- A trip's piece is one of the loop's. -/
theorem steps_mem {Val : EltTy → Type} {s : Shape} {e : EltTy} {n : Nat} (L : Fin n → List (View.Piece Val s e)) (P : Nat → List (View.Piece Val s e)) (h0 : P 0 = [])
    (hs : ∀ k : Fin n, P (k.val + 1) = L k ++ P k.val) {y : s.Idx} (h : ∃ k, ∃ p ∈ L k, y ∈ p.1.set) : ∃ p ∈ P n, y ∈ p.1.set := by
  obtain ⟨k, p, hp, hy⟩ := h
  exact ⟨p, (mem_steps L P h0 hs n le_rfl p).mpr ⟨k, k.isLt, hp⟩, hy⟩

/-! ## One head -/

/-- A vector of 256 tokens holds, token by token, the values `v`. -/
def Is (v : Fin 256 → Fin 128 → EReal) (t : F128) : Prop := ∀ (d : Fin 128) (τ : Fin 256), t (ix2 d τ) = v τ d

/-- 512 rows of the weights from row `o` on. -/
def LW (w : Vec Ideal S1792x4608 .i8) (o : Nat) (W : Vec Ideal S512x3584 .i8) : Prop :=
  ∀ (r : Fin 512) (k : Fin 3584) (h : o + r.val < 4608), W (ix2 r k) = WT w (ix2 ⟨o + r.val, h⟩ k)
/-- The scales of 128 rows from row `o` on. -/
def LS (s : Vec Ideal S36x128 .f32) (o : Nat) (ws : Vec Ideal S128x128 .f32) : Prop :=
  ∀ (d l : Fin 128) (h : o + d.val < 4608), ws (ix2 d l) = scaleAt s ⟨o + d.val, h⟩
/-- The codes of batch `b`. -/
def LX (x : Vec Ideal S2x256x3584 .bf16) (b : Fin 2) (X : Vec Ideal S1x256x3584 .bf16) : Prop :=
  ∀ (t : Fin 256) (k : Fin 3584), X (ix3 0 t k) = xcode (rowAt x b t) k
/-- The row scales of batch `b`. -/
def LR (x : Vec Ideal S2x256x3584 .bf16) (b : Fin 2) (r : Vec Ideal S1x256 .f32) : Prop := ∀ t : Fin 256, r (ix2 0 t) = xscale (rowAt x b t)
/-- The angles of batch `b`. -/
def LA (a : Vec Ideal S2x64x256 .f32) (b : Fin 2) (r : Vec Ideal S1x64x256 .f32) : Prop :=
  ∀ (e : Fin 64) (t : Fin 256), r (ix3 0 e t) = angAt a b t e

/-- Head `hd` is the slice of rows `128 * a` of the 512 rows from `512 * q`, where `hd = 4 * q + a`. -/
theorem is_val {x : Vec Ideal S2x256x3584 .bf16} {w : Vec Ideal S1792x4608 .i8} {s : Vec Ideal S36x128 .f32} {b : Fin 2} (hd : Fin 36) (q : Nat) (a : Fin 4)
    (e : hd.val = 4 * q + a.val) {off : Fin 2 → Nat} {hs : S512x256.Slices off S128x256} (hoff : off = ![128 * a.val, 0])
    {W : Vec Ideal S512x3584 .i8} {X : Vec Ideal S1x256x3584 .bf16} {ws : Vec Ideal S128x128 .f32} {xs : Vec Ideal S1x256 .f32}
    (hW : LW w (512 * q) W) (hX : LX x b X) (hws : LS s (128 * hd.val) ws) (hxs : LR x b xs) :
    Is (fun τ => valAt x w s hd b τ) (HEADV hs (PROJ W X) ws xs) := fun d τ => by
  have hlt : hd.val < 36 := hd.isLt
  rw [HEADV_apply hs (PROJ W X) ws xs a hoff d τ (scaleAt s ⟨128 * hd.val + d.val, by omega⟩) (fun l => hws d l _), PROJ_apply, hxs τ]
  show _ = prj (rowAt x b τ) (WT w) _ * _ * _
  refine congrArg (fun z => z * _ * _) ?_
  unfold prj
  refine Finset.sum_congr rfl fun k _ => ?_
  rw [hX τ k, hW _ k (by show 512 * q + (128 * a.val + d.val) < 4608; omega)]
  refine congrArg (fun o => (FloatOps.sitofp (F := Ideal) FTy.bf16 (WT w (ix2 o k)) : EReal) * _) (Fin.ext ?_)
  show 512 * q + (128 * a.val + d.val) = 128 * hd.val + d.val
  omega

theorem is_key {x : Vec Ideal S2x256x3584 .bf16} {w : Vec Ideal S1792x4608 .i8} {s : Vec Ideal S36x128 .f32} {c sn : Vec Ideal S2x64x256 .f32}
    {h h' : Vec Ideal S128x384 .bf16} {b : Fin 2} {hd : Fin 36} {t : F128} {c' sn' : Vec Ideal S1x64x256 .f32}
    (ht : Is (fun τ => valAt x w s hd b τ) t) (hc : LA c b c') (hsn : LA sn b sn') (hh : h' = h) :
    Is (fun τ => keyAt x w s c sn h hd b τ) (HADV h' (ROTV t c' sn')) := fun d τ => by
  subst hh
  rw [HADV_apply]
  show had h' _ d = had h' _ d
  refine congrArg (fun f => had h' f d) (funext fun e => ?_)
  rw [ROTV_apply]
  exact congr (congr (congrArg rot (funext fun i => ht i τ)) (funext fun i => hc i τ)) (funext fun i => hsn i τ) ▸ rfl

/-! ## The operands, loaded -/

theorem lw_of {w : Vec Ideal S1792x4608 .i8} (m : Memref sig .tc .vmem S4608x3584 .i8) {X : BufTy.Contents (Elt Ideal) m.view.ty} (hX : m.view.read (Elt Ideal) X = WT w)
    {off : Fin 2 → Nat} (inb) {o : Nat} (hoff : off = ![o, 0]) :
    LW w o (View.readAt (Elt Ideal) m.view (Rect.unit (s := S4608x3584) off S512x3584.size inb).toLoadRect X) := fun r k h => by
  rw [← hX]
  exact leafRows (n := 4608) (rows := 512) (w := 3584) m X inb o hoff r k h
theorem ls_of {s : Vec Ideal S36x128 .f32} (m : Memref sig .tc .vmem S4608x128 .f32) {X : BufTy.Contents (Elt Ideal) m.view.ty} (hX : m.view.read (Elt Ideal) X = WSR s)
    {off : Fin 2 → Nat} (inb) {o : Nat} (hoff : off = ![o, 0]) :
    LS s o (View.readAt (Elt Ideal) m.view (Rect.unit (s := S4608x128) off S128x128.size inb).toLoadRect X) := fun d l h => by
  refine (leafRows (n := 4608) (rows := 128) (w := 128) m X inb o hoff d l h).trans ?_
  rw [hX]
  rfl
theorem lx_of {x : Vec Ideal S2x256x3584 .bf16} (m : Memref sig .tc .vmem S2x256x3584 .bf16) {X : BufTy.Contents (Elt Ideal) m.view.ty} (hX : m.view.read (Elt Ideal) X = XB x)
    {off : Fin 3 → Nat} (inb) (b : Fin 2) (hoff : off = ![b.val, 0, 0]) :
    LX x b (View.readAt (Elt Ideal) m.view (Rect.unit (s := S2x256x3584) off S1x256x3584.size inb).toLoadRect X) := fun t k => by
  refine (leaf3 (B := 2) (n := 256) (rows := 256) (w := 3584) m X inb b 0 hoff 0 t k (by omega)).trans ?_
  rw [hX]
  exact congrArg (fun t => xcode (rowAt x b t) k) (Fin.ext (Nat.zero_add _))
theorem lr_of {x : Vec Ideal S2x256x3584 .bf16} (m : Memref sig .tc .vmem S2x256 .f32) {X : BufTy.Contents (Elt Ideal) m.view.ty} (hX : m.view.read (Elt Ideal) X = XS x)
    {off : Fin 2 → Nat} (inb) (b : Fin 2) (hoff : off = ![b.val, 0]) :
    LR x b (View.readAt (Elt Ideal) m.view (Rect.unit (s := S2x256) off S1x256.size inb).toLoadRect X) := fun t => by
  refine (leafRows (n := 2) (rows := 1) (w := 256) m X inb b.val hoff 0 t (by show b.val + 0 < 2; omega)).trans ?_
  rw [hX]
  rfl
theorem la_of {a : Vec Ideal S2x64x256 .f32} (m : Memref sig .tc .vmem S2x64x256 .f32) {X : BufTy.Contents (Elt Ideal) m.view.ty} (hX : m.view.read (Elt Ideal) X = a)
    {off : Fin 3 → Nat} (inb) (b : Fin 2) (hoff : off = ![b.val, 0, 0]) :
    LA a b (View.readAt (Elt Ideal) m.view (Rect.unit (s := S2x64x256) off S1x64x256.size inb).toLoadRect X) := fun e t => by
  refine (leaf3 (B := 2) (n := 64) (rows := 64) (w := 256) m X inb b 0 hoff 0 e t (by omega)).trans ?_
  rw [hX]
  exact congrArg (fun e => angAt a b t e) (Fin.ext (Nat.zero_add _))
theorem lh_of {h : Vec Ideal S128x384 .bf16} (m : Memref sig .tc .vmem S128x384 .bf16) {X : BufTy.Contents (Elt Ideal) m.view.ty} (hX : m.view.read (Elt Ideal) X = h) (inb) :
    View.readAt (Elt Ideal) m.view (Rect.unit (s := S128x384) ![0, 0] S128x384.size inb).toLoadRect X = h := by
  funext y
  obtain ⟨r, d, rfl⟩ : ∃ (r : Fin 128) (d : Fin 384), y = ix2 r d := ⟨y 0, y 1, eq_ix2 y⟩
  refine (leafRows (n := 128) (rows := 128) (w := 384) m X inb 0 rfl r d (by omega)).trans ?_
  rw [hX]
  exact congrArg (fun r => h (ix2 r d)) (Fin.ext (Nat.zero_add _))

/-! ## The stores of a head -/

theorem is_lo {v : Fin 256 → Fin 128 → EReal} {t : F128} (h : Is v t) (τ : Fin 256) : (fun d => t (ix2 d τ)) = v τ := funext fun d => h d τ

theorem steps_piece {V : Fin 4 → Fin 2 → Fin 256 → Fin 128 → EReal} {off : Fin 3 → Nat} (inb) (b : Fin 2) (j : Fin 4) (hoff : off = ![b.val, j.val, 0])
    {p : FVec Ideal S1x1x256 .f32} (hp : ∃ t, p = ROWS (STEPV t) ∧ Is (V j b) t) (y : S1x1x256.Idx) :
    p y = STEPS V ((Rect.unit (s := S2x4x256) off ![1, 1, 256] inb).emb y) := by
  obtain ⟨t, rfl, h⟩ := hp
  obtain ⟨z, z', τ, rfl⟩ : ∃ (z z' : Fin 1) (τ : Fin 256), y = ix3 z z' τ := ⟨y 0, y 1, y 2, eq_ix3 y⟩
  obtain rfl : z = 0 := Subsingleton.elim _ _
  obtain rfl : z' = 0 := Subsingleton.elim _ _
  rw [ROWS_apply, STEPV_apply, is_lo h, emb3 (B := 2) (n := 4) (rows := 1) (w := 256) inb b j.val hoff 0 0 τ (by show j.val + 0 < 4; omega)]
  rfl

theorem lows_piece {V : Fin 4 → Fin 2 → Fin 256 → Fin 128 → EReal} {off : Fin 3 → Nat} (inb) (b : Fin 2) (j : Fin 4) (hoff : off = ![b.val, j.val, 0])
    {p : FVec Ideal S1x1x256 .f32} (hp : ∃ t, p = ROWS (LOV t) ∧ Is (V j b) t) (y : S1x1x256.Idx) :
    p y = LOWS V ((Rect.unit (s := S2x4x256) off ![1, 1, 256] inb).emb y) := by
  obtain ⟨t, rfl, h⟩ := hp
  obtain ⟨z, z', τ, rfl⟩ : ∃ (z z' : Fin 1) (τ : Fin 256), y = ix3 z z' τ := ⟨y 0, y 1, y 2, eq_ix3 y⟩
  obtain rfl : z = 0 := Subsingleton.elim _ _
  obtain rfl : z' = 0 := Subsingleton.elim _ _
  rw [ROWS_apply, LOV_apply, is_lo h, emb3 (B := 2) (n := 4) (rows := 1) (w := 256) inb b j.val hoff 0 0 τ (by show j.val + 0 < 4; omega)]
  rfl

theorem bytes_piece {V : Fin 4 → Fin 2 → Fin 256 → Fin 128 → EReal} {off : Fin 4 → Nat} (inb) (b : Fin 2) (j : Fin 4) (hoff : off = ![b.val, j.val, 0, 0])
    {p : IVec S1x1x64x256 8} (hp : ∃ t, p = BYTEV t ∧ Is (V j b) t) (y : S1x1x64x256.Idx) :
    p y = BYTES V ((Rect.unit (s := S2x4x64x256) off ![1, 1, 64, 256] inb).emb y) := by
  obtain ⟨t, rfl, h⟩ := hp
  obtain ⟨z, z', r, τ, rfl⟩ : ∃ (z z' : Fin 1) (r : Fin 64) (τ : Fin 256), y = ix4 z z' r τ := ⟨y 0, y 1, y 2, y 3, eq_ix4 y⟩
  obtain rfl : z = 0 := Subsingleton.elim _ _
  obtain rfl : z' = 0 := Subsingleton.elim _ _
  rw [BYTEV_apply, is_lo h, emb4 (B := 2) (n := 4) (r := 64) (w := 256) inb b j hoff 0 0 r τ]
  rfl

theorem heads_piece {V : Fin 28 → Fin 2 → Fin 256 → Fin 128 → EReal} {off : Fin 4 → Nat} (inb) (b : Fin 2) (j : Fin 28) (hoff : off = ![b.val, j.val, 0, 0])
    {p : FVec Ideal S1x1x128x256 .bf16} (hp : ∃ t, p = HEADS t ∧ Is (V j b) t) (y : S1x1x128x256.Idx) :
    p y = (fun z : S2x28x128x256.Idx => V (z 1) (z 0) (z 3) (z 2)) ((Rect.unit (s := S2x28x128x256) off ![1, 1, 128, 256] inb).emb y) := by
  obtain ⟨t, rfl, h⟩ := hp
  obtain ⟨z, z', d, τ, rfl⟩ : ∃ (z z' : Fin 1) (d : Fin 128) (τ : Fin 256), y = ix4 z z' d τ := ⟨y 0, y 1, y 2, y 3, eq_ix4 y⟩
  obtain rfl : z = 0 := Subsingleton.elim _ _
  obtain rfl : z' = 0 := Subsingleton.elim _ _
  rw [HEADS_apply, h d τ, emb4 (B := 2) (n := 28) (r := 128) (w := 256) inb b j hoff 0 0 d τ]
  rfl

end Cert.QkvIdeal.Hand
end
-- ==== Proof.Qkv.Query.lean ====
module

public import proofs.«01_k».proof.Proof.Qkv.Leaves
public import proofs.«01_k».proof.Proof.Gen.QkvIdeal.Loops

/-!
# The transformed queries

Two loops, one per batch, each trip four heads.
-/

@[expose] public section
set_option maxRecDepth 16384
noncomputable section
namespace Cert.QkvIdeal.Hand
open Cert.QkvIdeal Cert.QkvIdeal.Gen
open Idealize.ShloMosaic Idealize.ShloMosaic.TcCoe Idealize.ShloMosaic.Tactic
open Idealize.ShloMosaic.Pointwise
open Cert.OutIdeal.Hand (nib scaleOf codeOf absE mem_steps read_steps embRows memRows)

variable (𝒱 : Variants) (c : Dev nD) (bd : Option 𝒱.V) (i : grid0.Coords) (arg1 : Memref sig .tc .vmem S2x256x3584 .bf16) (harg1 : arg1.IsWhole) (arg2 : Memref sig .tc .vmem S1792x4608 .i8) (harg2 : arg2.IsWhole) (arg3 : Memref sig .tc .vmem S36x128 .f32) (harg3 : arg3.IsWhole) (arg4 : Memref sig .tc .vmem S2x64x256 .f32) (harg4 : arg4.IsWhole) (arg5 : Memref sig .tc .vmem S2x64x256 .f32) (harg5 : arg5.IsWhole) (arg6 : Memref sig .tc .vmem S128x384 .bf16) (harg6 : arg6.IsWhole) (arg7 : Memref sig .tc .vmem S2x256x3584 .i8) (harg7 : arg7.IsWhole) (arg8 : Memref sig .tc .vmem S2x256 .f32) (harg8 : arg8.IsWhole) (arg9 : Memref sig .tc .vmem S2x28x128x256 .bf16) (harg9 : arg9.IsWhole) (arg10 : Memref sig .tc .vmem S2x4x256x256 .bf16) (harg10 : arg10.IsWhole) (arg11 : Memref sig .tc .vmem S2x4x128x256 .bf16) (harg11 : arg11.IsWhole) (arg12 : Memref sig .tc .vmem S2x4x64x256 .i8) (harg12 : arg12.IsWhole) (arg13 : Memref sig .tc .vmem S2x4x256 .f32) (harg13 : arg13.IsWhole) (arg14 : Memref sig .tc .vmem S2x4x256 .f32) (harg14 : arg14.IsWhole) (arg15 : Memref sig .tc .vmem S2x4x64x256 .i8) (harg15 : arg15.IsWhole) (arg16 : Memref sig .tc .vmem S2x4x256 .f32) (harg16 : arg16.IsWhole) (arg17 : Memref sig .tc .vmem S2x4x256 .f32) (harg17 : arg17.IsWhole) (arg18 : Memref sig .tc .vmem S2x4x256x128 .f32) (harg18 : arg18.IsWhole) (arg19 : Memref sig .tc .vmem S2x4x256x128 .f32) (harg19 : arg19.IsWhole) (arg20 : Memref sig .tc .vmem S2x4x256x128 .f32) (harg20 : arg20.IsWhole) (arg21 : Memref sig .tc .vmem S4608x3584 .i8) (harg21 : arg21.IsWhole) (arg22 : Memref sig .tc .vmem S4608x128 .f32) (harg22 : arg22.IsWhole) (arg23 : Memref sig .tc .vmem S2x256x3584 .bf16) (harg23 : arg23.IsWhole) (arg24 : Memref sig .tc .vmem S256x128 .f32) (harg24 : arg24.IsWhole)

theorem trips4 : k0_t4_loop.trips = 7 := by decide
theorem trips5 : k0_t5_loop.trips = 7 := by decide

/-- The query head of number `hd`. -/
def qHead (hd : Fin 28) : Fin 36 := ⟨hd.val, by omega⟩

set_option maxHeartbeats 2000000 in
theorem t4_agree (X4 : BufTy.Contents (Elt Ideal) arg4.view.ty) (X5 : BufTy.Contents (Elt Ideal) arg5.view.ty) (X6 : BufTy.Contents (Elt Ideal) arg6.view.ty)
    (X8 : BufTy.Contents (Elt Ideal) arg8.view.ty) (X21 : BufTy.Contents (Elt Ideal) arg21.view.ty) (X22 : BufTy.Contents (Elt Ideal) arg22.view.ty)
    (X23 : BufTy.Contents (Elt Ideal) arg23.view.ty)
    {x : Vec Ideal S2x256x3584 .bf16} {w : Vec Ideal S1792x4608 .i8} {s : Vec Ideal S36x128 .f32} {cs sn : Vec Ideal S2x64x256 .f32} {h : Vec Ideal S128x384 .bf16}
    (h4 : arg4.view.read (Elt Ideal) X4 = cs) (h5 : arg5.view.read (Elt Ideal) X5 = sn) (h6 : arg6.view.read (Elt Ideal) X6 = h)
    (h8 : arg8.view.read (Elt Ideal) X8 = XS x) (h21 : arg21.view.read (Elt Ideal) X21 = WT w) (h22 : arg22.view.read (Elt Ideal) X22 = WSR s)
    (h23 : arg23.view.read (Elt Ideal) X23 = XB x) :
    ∀ p ∈ (pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 X4 X5 X6 X8 X21 X22 X23 k0_t4_loop.trips), ∀ y : p.1.shape.Idx,
      p.2 y = QB x w s cs sn h (p.1.emb y) := by
  refine steps_agree (QB x w s cs sn h) (fun k => (tripL_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 X4 X5 X6 X8 X21 X22 X23 k)) (fun n => (pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 X4 X5 X6 X8 X21 X22 X23 n)) rfl (fun k => by rw [pb_k0_t4_succ]) (fun k => ?_)
  have hk : k.val < 7 := lt_of_lt_of_eq k.isLt trips4
  unfold tripL_k0_t4 trip_k0_t4
  dsimp only
  simp only [List.forall_mem_cons]
  refine ⟨fun y => ?_, fun y => ?_, fun y => ?_, fun y => ?_, fun _ h => absurd h List.not_mem_nil⟩
  · refine heads_piece (V := fun hd b t => keyAt x w s cs sn h (qHead hd) b t) (k0_off11_inb k 3) 0 (⟨4 * k.val + 3, by omega⟩ : Fin 28)
      (k0_off11_eq k 3) (p := _) ?_ y
    sl_unfold_run_names
    refine ⟨HADV _ (ROTV (HEADV slices_S512x256_o384_0_S128x256 (PROJ _ _) _ _) _ _), rfl, ?_⟩
    refine is_key (is_val (qHead ⟨4 * k.val + 3, by omega⟩) k.val 3 rfl rfl (lw_of arg21 h21 (k0_off9_inb k) (k0_off9_eq k)) (lx_of arg23 h23 _ 0 rfl)
      (ls_of arg22 h22 (k0_off10_inb k 3) ((k0_off10_eq k 3).trans ?_)) (lr_of arg8 h8 _ 0 rfl)) (la_of arg4 h4 _ 0 rfl) (la_of arg5 h5 _ 0 rfl) (lh_of arg6 h6 _)
    show ![512 * k.val + 128 * 3, 0] = ![128 * (4 * k.val + 3), 0]
    exact congrArg (fun a => ![a, 0]) (by omega)
  · refine heads_piece (V := fun hd b t => keyAt x w s cs sn h (qHead hd) b t) (k0_off11_inb k 2) 0 (⟨4 * k.val + 2, by omega⟩ : Fin 28)
      (k0_off11_eq k 2) (p := _) ?_ y
    sl_unfold_run_names
    refine ⟨HADV _ (ROTV (HEADV slices_S512x256_o256_0_S128x256 (PROJ _ _) _ _) _ _), rfl, ?_⟩
    refine is_key (is_val (qHead ⟨4 * k.val + 2, by omega⟩) k.val 2 rfl rfl (lw_of arg21 h21 (k0_off9_inb k) (k0_off9_eq k)) (lx_of arg23 h23 _ 0 rfl)
      (ls_of arg22 h22 (k0_off10_inb k 2) ((k0_off10_eq k 2).trans ?_)) (lr_of arg8 h8 _ 0 rfl)) (la_of arg4 h4 _ 0 rfl) (la_of arg5 h5 _ 0 rfl) (lh_of arg6 h6 _)
    show ![512 * k.val + 128 * 2, 0] = ![128 * (4 * k.val + 2), 0]
    exact congrArg (fun a => ![a, 0]) (by omega)
  · refine heads_piece (V := fun hd b t => keyAt x w s cs sn h (qHead hd) b t) (k0_off11_inb k 1) 0 (⟨4 * k.val + 1, by omega⟩ : Fin 28)
      (k0_off11_eq k 1) (p := _) ?_ y
    sl_unfold_run_names
    refine ⟨HADV _ (ROTV (HEADV slices_S512x256_o128_0_S128x256 (PROJ _ _) _ _) _ _), rfl, ?_⟩
    refine is_key (is_val (qHead ⟨4 * k.val + 1, by omega⟩) k.val 1 rfl rfl (lw_of arg21 h21 (k0_off9_inb k) (k0_off9_eq k)) (lx_of arg23 h23 _ 0 rfl)
      (ls_of arg22 h22 (k0_off10_inb k 1) ((k0_off10_eq k 1).trans ?_)) (lr_of arg8 h8 _ 0 rfl)) (la_of arg4 h4 _ 0 rfl) (la_of arg5 h5 _ 0 rfl) (lh_of arg6 h6 _)
    show ![512 * k.val + 128 * 1, 0] = ![128 * (4 * k.val + 1), 0]
    exact congrArg (fun a => ![a, 0]) (by omega)
  · refine heads_piece (V := fun hd b t => keyAt x w s cs sn h (qHead hd) b t) (k0_off11_inb k 0) 0 (⟨4 * k.val + 0, by omega⟩ : Fin 28)
      (k0_off11_eq k 0) (p := _) ?_ y
    sl_unfold_run_names
    refine ⟨HADV _ (ROTV (HEADV slices_S512x256_o0_0_S128x256 (PROJ _ _) _ _) _ _), rfl, ?_⟩
    refine is_key (is_val (qHead ⟨4 * k.val + 0, by omega⟩) k.val 0 rfl rfl (lw_of arg21 h21 (k0_off9_inb k) (k0_off9_eq k)) (lx_of arg23 h23 _ 0 rfl)
      (ls_of arg22 h22 (k0_off10_inb k 0) ((k0_off10_eq k 0).trans ?_)) (lr_of arg8 h8 _ 0 rfl)) (la_of arg4 h4 _ 0 rfl) (la_of arg5 h5 _ 0 rfl) (lh_of arg6 h6 _)
    show ![512 * k.val + 128 * 0, 0] = ![128 * (4 * k.val + 0), 0]
    exact congrArg (fun a => ![a, 0]) (by omega)

theorem t4_cover (X4 : BufTy.Contents (Elt Ideal) arg4.view.ty) (X5 : BufTy.Contents (Elt Ideal) arg5.view.ty) (X6 : BufTy.Contents (Elt Ideal) arg6.view.ty)
    (X8 : BufTy.Contents (Elt Ideal) arg8.view.ty) (X21 : BufTy.Contents (Elt Ideal) arg21.view.ty) (X22 : BufTy.Contents (Elt Ideal) arg22.view.ty)
    (X23 : BufTy.Contents (Elt Ideal) arg23.view.ty) (y : S2x28x128x256.Idx) (hb : (y 0).val = 0) :
    ∃ p ∈ (pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 X4 X5 X6 X8 X21 X22 X23 k0_t4_loop.trips), y ∈ p.1.set := by
  refine steps_mem (fun k => (tripL_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 X4 X5 X6 X8 X21 X22 X23 k)) (fun n => (pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 X4 X5 X6 X8 X21 X22 X23 n)) rfl (fun k => by rw [pb_k0_t4_succ]) ?_
  have h0 : (y 1).val < 28 := (y 1).isLt
  have htr := trips4
  obtain ⟨kk, hkk⟩ : ∃ kk : Fin k0_t4_loop.trips, (y 1).val / 4 = kk.val := ⟨⟨(y 1).val / 4, by omega⟩, rfl⟩
  refine ⟨kk, ?_⟩
  unfold tripL_k0_t4 trip_k0_t4
  dsimp only
  rcases (by omega : (y 1).val = 4 * kk.val + 3 ∨ (y 1).val = 4 * kk.val + 2 ∨ (y 1).val = 4 * kk.val + 1 ∨ (y 1).val = 4 * kk.val + 0) with h | h | h | h
  · exact ⟨_, List.mem_cons_self, mem4 (B := 2) (n := 28) (r := 128) (w := 256) (k0_off11_inb kk 3) 0 (4 * kk.val + 3) (k0_off11_eq kk 3) y hb h⟩
  · exact ⟨_, (List.mem_cons_of_mem _ List.mem_cons_self), mem4 (B := 2) (n := 28) (r := 128) (w := 256) (k0_off11_inb kk 2) 0 (4 * kk.val + 2) (k0_off11_eq kk 2) y hb h⟩
  · exact ⟨_, (List.mem_cons_of_mem _ (List.mem_cons_of_mem _ List.mem_cons_self)), mem4 (B := 2) (n := 28) (r := 128) (w := 256) (k0_off11_inb kk 1) 0 (4 * kk.val + 1) (k0_off11_eq kk 1) y hb h⟩
  · exact ⟨_, (List.mem_cons_of_mem _ (List.mem_cons_of_mem _ (List.mem_cons_of_mem _ List.mem_cons_self))), mem4 (B := 2) (n := 28) (r := 128) (w := 256) (k0_off11_inb kk 0) 0 (4 * kk.val + 0) (k0_off11_eq kk 0) y hb h⟩

set_option maxHeartbeats 2000000 in
theorem t5_agree (p1 p2 : FVec Ideal S1x256 .f32) (p3 : FVec Ideal S128x256 .f32) (p4 : Vec Ideal S1x1x256 .f32) (X4 : BufTy.Contents (Elt Ideal) arg4.view.ty) (X5 : BufTy.Contents (Elt Ideal) arg5.view.ty) (X6 : BufTy.Contents (Elt Ideal) arg6.view.ty)
    (X8 : BufTy.Contents (Elt Ideal) arg8.view.ty) (X21 : BufTy.Contents (Elt Ideal) arg21.view.ty) (X22 : BufTy.Contents (Elt Ideal) arg22.view.ty)
    (X23 : BufTy.Contents (Elt Ideal) arg23.view.ty)
    {x : Vec Ideal S2x256x3584 .bf16} {w : Vec Ideal S1792x4608 .i8} {s : Vec Ideal S36x128 .f32} {cs sn : Vec Ideal S2x64x256 .f32} {h : Vec Ideal S128x384 .bf16}
    (h4 : arg4.view.read (Elt Ideal) X4 = cs) (h5 : arg5.view.read (Elt Ideal) X5 = sn) (h6 : arg6.view.read (Elt Ideal) X6 = h)
    (h8 : arg8.view.read (Elt Ideal) X8 = XS x) (h21 : arg21.view.read (Elt Ideal) X21 = WT w) (h22 : arg22.view.read (Elt Ideal) X22 = WSR s)
    (h23 : arg23.view.read (Elt Ideal) X23 = XB x) :
    ∀ p ∈ (pb_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 p1 p2 p3 p4 X4 X5 X6 X8 X21 X22 X23 k0_t5_loop.trips), ∀ y : p.1.shape.Idx,
      p.2 y = QB x w s cs sn h (p.1.emb y) := by
  refine steps_agree (QB x w s cs sn h) (fun k => (tripL_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 p1 p2 p3 p4 X4 X5 X6 X8 X21 X22 X23 k)) (fun n => (pb_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 p1 p2 p3 p4 X4 X5 X6 X8 X21 X22 X23 n)) rfl (fun k => by rw [pb_k0_t5_succ]) (fun k => ?_)
  have hk : k.val < 7 := lt_of_lt_of_eq k.isLt trips5
  unfold tripL_k0_t5 trip_k0_t5
  dsimp only
  simp only [List.forall_mem_cons]
  refine ⟨fun y => ?_, fun y => ?_, fun y => ?_, fun y => ?_, fun _ h => absurd h List.not_mem_nil⟩
  · refine heads_piece (V := fun hd b t => keyAt x w s cs sn h (qHead hd) b t) (k0_off14_inb k 3) 1 (⟨4 * k.val + 3, by omega⟩ : Fin 28)
      (k0_off14_eq k 3) (p := _) ?_ y
    sl_unfold_run_names
    refine ⟨HADV _ (ROTV (HEADV slices_S512x256_o384_0_S128x256 (PROJ _ _) _ _) _ _), rfl, ?_⟩
    refine is_key (is_val (qHead ⟨4 * k.val + 3, by omega⟩) k.val 3 rfl rfl (lw_of arg21 h21 (k0_off12_inb k) (k0_off12_eq k)) (lx_of arg23 h23 _ 1 rfl)
      (ls_of arg22 h22 (k0_off13_inb k 3) ((k0_off13_eq k 3).trans ?_)) (lr_of arg8 h8 _ 1 rfl)) (la_of arg4 h4 _ 1 rfl) (la_of arg5 h5 _ 1 rfl) (lh_of arg6 h6 _)
    show ![512 * k.val + 128 * 3, 0] = ![128 * (4 * k.val + 3), 0]
    exact congrArg (fun a => ![a, 0]) (by omega)
  · refine heads_piece (V := fun hd b t => keyAt x w s cs sn h (qHead hd) b t) (k0_off14_inb k 2) 1 (⟨4 * k.val + 2, by omega⟩ : Fin 28)
      (k0_off14_eq k 2) (p := _) ?_ y
    sl_unfold_run_names
    refine ⟨HADV _ (ROTV (HEADV slices_S512x256_o256_0_S128x256 (PROJ _ _) _ _) _ _), rfl, ?_⟩
    refine is_key (is_val (qHead ⟨4 * k.val + 2, by omega⟩) k.val 2 rfl rfl (lw_of arg21 h21 (k0_off12_inb k) (k0_off12_eq k)) (lx_of arg23 h23 _ 1 rfl)
      (ls_of arg22 h22 (k0_off13_inb k 2) ((k0_off13_eq k 2).trans ?_)) (lr_of arg8 h8 _ 1 rfl)) (la_of arg4 h4 _ 1 rfl) (la_of arg5 h5 _ 1 rfl) (lh_of arg6 h6 _)
    show ![512 * k.val + 128 * 2, 0] = ![128 * (4 * k.val + 2), 0]
    exact congrArg (fun a => ![a, 0]) (by omega)
  · refine heads_piece (V := fun hd b t => keyAt x w s cs sn h (qHead hd) b t) (k0_off14_inb k 1) 1 (⟨4 * k.val + 1, by omega⟩ : Fin 28)
      (k0_off14_eq k 1) (p := _) ?_ y
    sl_unfold_run_names
    refine ⟨HADV _ (ROTV (HEADV slices_S512x256_o128_0_S128x256 (PROJ _ _) _ _) _ _), rfl, ?_⟩
    refine is_key (is_val (qHead ⟨4 * k.val + 1, by omega⟩) k.val 1 rfl rfl (lw_of arg21 h21 (k0_off12_inb k) (k0_off12_eq k)) (lx_of arg23 h23 _ 1 rfl)
      (ls_of arg22 h22 (k0_off13_inb k 1) ((k0_off13_eq k 1).trans ?_)) (lr_of arg8 h8 _ 1 rfl)) (la_of arg4 h4 _ 1 rfl) (la_of arg5 h5 _ 1 rfl) (lh_of arg6 h6 _)
    show ![512 * k.val + 128 * 1, 0] = ![128 * (4 * k.val + 1), 0]
    exact congrArg (fun a => ![a, 0]) (by omega)
  · refine heads_piece (V := fun hd b t => keyAt x w s cs sn h (qHead hd) b t) (k0_off14_inb k 0) 1 (⟨4 * k.val + 0, by omega⟩ : Fin 28)
      (k0_off14_eq k 0) (p := _) ?_ y
    sl_unfold_run_names
    refine ⟨HADV _ (ROTV (HEADV slices_S512x256_o0_0_S128x256 (PROJ _ _) _ _) _ _), rfl, ?_⟩
    refine is_key (is_val (qHead ⟨4 * k.val + 0, by omega⟩) k.val 0 rfl rfl (lw_of arg21 h21 (k0_off12_inb k) (k0_off12_eq k)) (lx_of arg23 h23 _ 1 rfl)
      (ls_of arg22 h22 (k0_off13_inb k 0) ((k0_off13_eq k 0).trans ?_)) (lr_of arg8 h8 _ 1 rfl)) (la_of arg4 h4 _ 1 rfl) (la_of arg5 h5 _ 1 rfl) (lh_of arg6 h6 _)
    show ![512 * k.val + 128 * 0, 0] = ![128 * (4 * k.val + 0), 0]
    exact congrArg (fun a => ![a, 0]) (by omega)

theorem t5_cover (p1 p2 : FVec Ideal S1x256 .f32) (p3 : FVec Ideal S128x256 .f32) (p4 : Vec Ideal S1x1x256 .f32) (X4 : BufTy.Contents (Elt Ideal) arg4.view.ty) (X5 : BufTy.Contents (Elt Ideal) arg5.view.ty) (X6 : BufTy.Contents (Elt Ideal) arg6.view.ty)
    (X8 : BufTy.Contents (Elt Ideal) arg8.view.ty) (X21 : BufTy.Contents (Elt Ideal) arg21.view.ty) (X22 : BufTy.Contents (Elt Ideal) arg22.view.ty)
    (X23 : BufTy.Contents (Elt Ideal) arg23.view.ty) (y : S2x28x128x256.Idx) (hb : (y 0).val = 1) :
    ∃ p ∈ (pb_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 p1 p2 p3 p4 X4 X5 X6 X8 X21 X22 X23 k0_t5_loop.trips), y ∈ p.1.set := by
  refine steps_mem (fun k => (tripL_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 p1 p2 p3 p4 X4 X5 X6 X8 X21 X22 X23 k)) (fun n => (pb_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 p1 p2 p3 p4 X4 X5 X6 X8 X21 X22 X23 n)) rfl (fun k => by rw [pb_k0_t5_succ]) ?_
  have h0 : (y 1).val < 28 := (y 1).isLt
  have htr := trips5
  obtain ⟨kk, hkk⟩ : ∃ kk : Fin k0_t5_loop.trips, (y 1).val / 4 = kk.val := ⟨⟨(y 1).val / 4, by omega⟩, rfl⟩
  refine ⟨kk, ?_⟩
  unfold tripL_k0_t5 trip_k0_t5
  dsimp only
  rcases (by omega : (y 1).val = 4 * kk.val + 3 ∨ (y 1).val = 4 * kk.val + 2 ∨ (y 1).val = 4 * kk.val + 1 ∨ (y 1).val = 4 * kk.val + 0) with h | h | h | h
  · exact ⟨_, List.mem_cons_self, mem4 (B := 2) (n := 28) (r := 128) (w := 256) (k0_off14_inb kk 3) 1 (4 * kk.val + 3) (k0_off14_eq kk 3) y hb h⟩
  · exact ⟨_, (List.mem_cons_of_mem _ List.mem_cons_self), mem4 (B := 2) (n := 28) (r := 128) (w := 256) (k0_off14_inb kk 2) 1 (4 * kk.val + 2) (k0_off14_eq kk 2) y hb h⟩
  · exact ⟨_, (List.mem_cons_of_mem _ (List.mem_cons_of_mem _ List.mem_cons_self)), mem4 (B := 2) (n := 28) (r := 128) (w := 256) (k0_off14_inb kk 1) 1 (4 * kk.val + 1) (k0_off14_eq kk 1) y hb h⟩
  · exact ⟨_, (List.mem_cons_of_mem _ (List.mem_cons_of_mem _ (List.mem_cons_of_mem _ List.mem_cons_self))), mem4 (B := 2) (n := 28) (r := 128) (w := 256) (k0_off14_inb kk 0) 1 (4 * kk.val + 0) (k0_off14_eq kk 0) y hb h⟩

theorem query_read (X4 : BufTy.Contents (Elt Ideal) arg4.view.ty) (X5 : BufTy.Contents (Elt Ideal) arg5.view.ty) (X6 : BufTy.Contents (Elt Ideal) arg6.view.ty)
    (X8 : BufTy.Contents (Elt Ideal) arg8.view.ty) (X21 : BufTy.Contents (Elt Ideal) arg21.view.ty) (X22 : BufTy.Contents (Elt Ideal) arg22.view.ty)
    (X23 : BufTy.Contents (Elt Ideal) arg23.view.ty)
    {x : Vec Ideal S2x256x3584 .bf16} {w : Vec Ideal S1792x4608 .i8} {s : Vec Ideal S36x128 .f32} {cs sn : Vec Ideal S2x64x256 .f32} {h : Vec Ideal S128x384 .bf16}
    (h4 : arg4.view.read (Elt Ideal) X4 = cs) (h5 : arg5.view.read (Elt Ideal) X5 = sn) (h6 : arg6.view.read (Elt Ideal) X6 = h)
    (h8 : arg8.view.read (Elt Ideal) X8 = XS x) (h21 : arg21.view.read (Elt Ideal) X21 = WT w) (h22 : arg22.view.read (Elt Ideal) X22 = WSR s)
    (h23 : arg23.view.read (Elt Ideal) X23 = XB x) (G : BufTy.Contents (Elt Ideal) arg9.view.ty)
    (p1 p2 : FVec Ideal S1x256 .f32) (p3 : FVec Ideal S128x256 .f32) (p4 : Vec Ideal S1x1x256 .f32) (Y4 : BufTy.Contents (Elt Ideal) arg4.view.ty) (Y5 : BufTy.Contents (Elt Ideal) arg5.view.ty) (Y6 : BufTy.Contents (Elt Ideal) arg6.view.ty)
    (Y8 : BufTy.Contents (Elt Ideal) arg8.view.ty) (Y21 : BufTy.Contents (Elt Ideal) arg21.view.ty) (Y22 : BufTy.Contents (Elt Ideal) arg22.view.ty)
    (Y23 : BufTy.Contents (Elt Ideal) arg23.view.ty)
    (g4 : arg4.view.read (Elt Ideal) Y4 = cs) (g5 : arg5.view.read (Elt Ideal) Y5 = sn) (g6 : arg6.view.read (Elt Ideal) Y6 = h)
    (g8 : arg8.view.read (Elt Ideal) Y8 = XS x) (g21 : arg21.view.read (Elt Ideal) Y21 = WT w) (g22 : arg22.view.read (Elt Ideal) Y22 = WSR s)
    (g23 : arg23.view.read (Elt Ideal) Y23 = XB x) :
    arg9.view.read (Elt Ideal) (arg9.view.writes (Elt Ideal) G ((pb_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 p1 p2 p3 p4 Y4 Y5 Y6 Y8 Y21 Y22 Y23 k0_t5_loop.trips) ++ (pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 X4 X5 X6 X8 X21 X22 X23 k0_t4_loop.trips))) = QB x w s cs sn h := by
  funext y
  refine View.read_writes_apply_of_pieces arg9.view (f := G) (QB x w s cs sn h) _ (fun p hp => ?_) y ?_
  · rcases List.mem_append.mp hp with h' | h'
    · exact t5_agree 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 p1 p2 p3 p4 Y4 Y5 Y6 Y8 Y21 Y22 Y23 g4 g5 g6 g8 g21 g22 g23 p h'
    · exact t4_agree 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 X4 X5 X6 X8 X21 X22 X23 h4 h5 h6 h8 h21 h22 h23 p h'
  · have h0 : (y 0).val < 2 := (y 0).isLt
    rcases (by omega : (y 0).val = 0 ∨ (y 0).val = 1) with h' | h'
    · obtain ⟨p, hp, hy⟩ := t4_cover 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 X4 X5 X6 X8 X21 X22 X23 y h'
      exact ⟨p, List.mem_append_right _ hp, hy⟩
    · obtain ⟨p, hp, hy⟩ := t5_cover 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 p1 p2 p3 p4 Y4 Y5 Y6 Y8 Y21 Y22 Y23 y h'
      exact ⟨p, List.mem_append_left _ hp, hy⟩

end Cert.QkvIdeal.Hand
end
-- ==== Proof.Qkv.Unpack.lean ====
module

public import proofs.«01_k».proof.Proof.Qkv.Leaves
public import proofs.«01_k».proof.Proof.Gen.QkvIdeal.Loops

/-!
# Unpacking the weights

The loop of the first point fills two buffers: the weights as eight-bit integers with one output channel per row, and
the channel scales in every lane.
-/

@[expose] public section
set_option maxRecDepth 16384
noncomputable section
namespace Cert.QkvIdeal.Hand
open Cert.QkvIdeal Cert.QkvIdeal.Gen
open Idealize.ShloMosaic Idealize.ShloMosaic.TcCoe Idealize.ShloMosaic.Tactic
open Idealize.ShloMosaic.Pointwise
open Cert.OutIdeal.Hand (nib scaleOf codeOf absE mem_steps read_steps embRows memRows)

variable (𝒱 : Variants) (c : Dev nD) (bd : Option 𝒱.V) (i : grid0.Coords) (arg1 : Memref sig .tc .vmem S2x256x3584 .bf16) (harg1 : arg1.IsWhole) (arg2 : Memref sig .tc .vmem S1792x4608 .i8) (harg2 : arg2.IsWhole) (arg3 : Memref sig .tc .vmem S36x128 .f32) (harg3 : arg3.IsWhole) (arg4 : Memref sig .tc .vmem S2x64x256 .f32) (harg4 : arg4.IsWhole) (arg5 : Memref sig .tc .vmem S2x64x256 .f32) (harg5 : arg5.IsWhole) (arg6 : Memref sig .tc .vmem S128x384 .bf16) (harg6 : arg6.IsWhole) (arg7 : Memref sig .tc .vmem S2x256x3584 .i8) (harg7 : arg7.IsWhole) (arg8 : Memref sig .tc .vmem S2x256 .f32) (harg8 : arg8.IsWhole) (arg9 : Memref sig .tc .vmem S2x28x128x256 .bf16) (harg9 : arg9.IsWhole) (arg10 : Memref sig .tc .vmem S2x4x256x256 .bf16) (harg10 : arg10.IsWhole) (arg11 : Memref sig .tc .vmem S2x4x128x256 .bf16) (harg11 : arg11.IsWhole) (arg12 : Memref sig .tc .vmem S2x4x64x256 .i8) (harg12 : arg12.IsWhole) (arg13 : Memref sig .tc .vmem S2x4x256 .f32) (harg13 : arg13.IsWhole) (arg14 : Memref sig .tc .vmem S2x4x256 .f32) (harg14 : arg14.IsWhole) (arg15 : Memref sig .tc .vmem S2x4x64x256 .i8) (harg15 : arg15.IsWhole) (arg16 : Memref sig .tc .vmem S2x4x256 .f32) (harg16 : arg16.IsWhole) (arg17 : Memref sig .tc .vmem S2x4x256 .f32) (harg17 : arg17.IsWhole) (arg18 : Memref sig .tc .vmem S2x4x256x128 .f32) (harg18 : arg18.IsWhole) (arg19 : Memref sig .tc .vmem S2x4x256x128 .f32) (harg19 : arg19.IsWhole) (arg20 : Memref sig .tc .vmem S2x4x256x128 .f32) (harg20 : arg20.IsWhole) (arg21 : Memref sig .tc .vmem S4608x3584 .i8) (harg21 : arg21.IsWhole) (arg22 : Memref sig .tc .vmem S4608x128 .f32) (harg22 : arg22.IsWhole) (arg23 : Memref sig .tc .vmem S2x256x3584 .bf16) (harg23 : arg23.IsWhole) (arg24 : Memref sig .tc .vmem S256x128 .f32) (harg24 : arg24.IsWhole)

theorem pay45_apply (v : Vec Ideal S1792x128 .i8) (r : Fin 128) (k : Fin 3584) :
    k0_pay45 v (ix2 r k) = FloatOps.fptosi (F := Ideal) 8 (φ := FTy.bf16) (nib (v (ix2 ⟨k.val / 2, by omega⟩ r)) (k.val % 2)) := by
  pointwise [k0_pay45]
  unfold nib
  split <;> rfl
theorem pay46_apply (v : Vec Ideal S1x128 .f32) (d l : Fin 128) : k0_pay46 v (ix2 d l) = v (ix2 0 d) := by
  pointwise [k0_pay46]

theorem trips1 : k0_t1_loop.trips = 36 := by decide

theorem t1_read21 (h : k0_cond1 i = 1#1) (X : BufTy.Contents (Elt Ideal) arg2.view.ty) (Y : BufTy.Contents (Elt Ideal) arg3.view.ty) (G : BufTy.Contents (Elt Ideal) arg21.view.ty) :
    arg21.view.read (Elt Ideal) (arg21.view.writes (Elt Ideal) G (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h X Y k0_t1_loop.trips).1) = WT (arg2.view.read (Elt Ideal) X) := by
  refine read_steps arg21.view G _ (fun k => (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h X Y k).1) (fun n => (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h X Y n).1) rfl (fun k => by rw [pb_k0_t1_succ]) (fun k => ?_) (fun y => ?_)
  · unfold tripL_k0_t1 trip_k0_t1
    dsimp only
    simp only [List.forall_mem_cons]
    refine ⟨fun y => ?_, fun _ h => absurd h List.not_mem_nil⟩
    have hk : k.val < 36 := lt_of_lt_of_eq k.isLt trips1
    obtain ⟨r, d, rfl⟩ : ∃ (r : Fin 128) (d : Fin 3584), y = ix2 r d := ⟨y 0, y 1, eq_ix2 y⟩
    rw [pay45_apply, leafCols (n := 1792) (cols := 128) (w := 4608) arg2 X _ (128 * k.val) (k0_off1_eq k) _ _ (by omega),
      embRows (n := 4608) (rows := 128) (w := 3584) _ (128 * k.val) (k0_off2_eq k) r d (by omega)]
    rfl
  · have h0 : (y 0).val < 4608 := (y 0).isLt
    have htr := trips1
    obtain ⟨kk, hkk⟩ : ∃ kk : Fin k0_t1_loop.trips, (y 0).val / 128 = kk.val := ⟨⟨(y 0).val / 128, by omega⟩, rfl⟩
    refine ⟨kk, ?_⟩
    unfold tripL_k0_t1 trip_k0_t1
    dsimp only
    refine ⟨_, List.mem_cons_self, ?_⟩
    exact memRows (n := 4608) (rows := 128) (w := 3584) (k0_off2_inb i kk h) (128 * kk.val) (k0_off2_eq kk) y (by omega) (by omega)

theorem t1_read22 (h : k0_cond1 i = 1#1) (X : BufTy.Contents (Elt Ideal) arg2.view.ty) (Y : BufTy.Contents (Elt Ideal) arg3.view.ty) (G : BufTy.Contents (Elt Ideal) arg22.view.ty) :
    arg22.view.read (Elt Ideal) (arg22.view.writes (Elt Ideal) G (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h X Y k0_t1_loop.trips).2) = WSR (arg3.view.read (Elt Ideal) Y) := by
  refine read_steps arg22.view G _ (fun k => (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h X Y k).2) (fun n => (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h X Y n).2) rfl (fun k => by rw [pb_k0_t1_succ]) (fun k => ?_) (fun y => ?_)
  · unfold tripL_k0_t1 trip_k0_t1
    dsimp only
    simp only [List.forall_mem_cons]
    refine ⟨fun y => ?_, fun _ h => absurd h List.not_mem_nil⟩
    have hk : k.val < 36 := lt_of_lt_of_eq k.isLt trips1
    obtain ⟨r, d, rfl⟩ : ∃ (r : Fin 128) (d : Fin 128), y = ix2 r d := ⟨y 0, y 1, eq_ix2 y⟩
    rw [pay46_apply, leafRows (n := 36) (rows := 1) (w := 128) arg3 Y _ k.val (k0_off3_eq k) _ _ (by show k.val + 0 < 36; omega),
      embRows (n := 4608) (rows := 128) (w := 128) _ (128 * k.val) (k0_off4_eq k) r d (by omega)]
    unfold WSR scaleAt
    refine congrArg _ (congrArg₂ ix2 (Fin.ext ?_) (Fin.ext ?_))
    · show k.val + 0 = (128 * k.val + r.val) / 128
      omega
    · show r.val = (128 * k.val + r.val) % 128
      omega
  · have h0 : (y 0).val < 4608 := (y 0).isLt
    have htr := trips1
    obtain ⟨kk, hkk⟩ : ∃ kk : Fin k0_t1_loop.trips, (y 0).val / 128 = kk.val := ⟨⟨(y 0).val / 128, by omega⟩, rfl⟩
    refine ⟨kk, ?_⟩
    unfold tripL_k0_t1 trip_k0_t1
    dsimp only
    refine ⟨_, List.mem_cons_self, ?_⟩
    exact memRows (n := 4608) (rows := 128) (w := 128) (k0_off4_inb i kk h) (128 * kk.val) (k0_off4_eq kk) y (by omega) (by omega)

end Cert.QkvIdeal.Hand
end
-- ==== Proof.Qkv.Quant.lean ====
module

public import proofs.«01_k».proof.Proof.Qkv.Leaves
public import proofs.«01_k».proof.Proof.Gen.QkvIdeal.Loops

/-!
# Quantizing the inputs

Two loops, one per batch, fill the integer codes, the codes as floats and the row scales.
-/

@[expose] public section
set_option maxRecDepth 16384
noncomputable section
namespace Cert.QkvIdeal.Hand
open Cert.QkvIdeal Cert.QkvIdeal.Gen
open Idealize.ShloMosaic Idealize.ShloMosaic.TcCoe Idealize.ShloMosaic.Tactic
open Idealize.ShloMosaic.Pointwise
open Cert.OutIdeal.Hand (nib scaleOf codeOf absE mem_steps read_steps embRows memRows)

variable (𝒱 : Variants) (c : Dev nD) (bd : Option 𝒱.V) (i : grid0.Coords) (arg1 : Memref sig .tc .vmem S2x256x3584 .bf16) (harg1 : arg1.IsWhole) (arg2 : Memref sig .tc .vmem S1792x4608 .i8) (harg2 : arg2.IsWhole) (arg3 : Memref sig .tc .vmem S36x128 .f32) (harg3 : arg3.IsWhole) (arg4 : Memref sig .tc .vmem S2x64x256 .f32) (harg4 : arg4.IsWhole) (arg5 : Memref sig .tc .vmem S2x64x256 .f32) (harg5 : arg5.IsWhole) (arg6 : Memref sig .tc .vmem S128x384 .bf16) (harg6 : arg6.IsWhole) (arg7 : Memref sig .tc .vmem S2x256x3584 .i8) (harg7 : arg7.IsWhole) (arg8 : Memref sig .tc .vmem S2x256 .f32) (harg8 : arg8.IsWhole) (arg9 : Memref sig .tc .vmem S2x28x128x256 .bf16) (harg9 : arg9.IsWhole) (arg10 : Memref sig .tc .vmem S2x4x256x256 .bf16) (harg10 : arg10.IsWhole) (arg11 : Memref sig .tc .vmem S2x4x128x256 .bf16) (harg11 : arg11.IsWhole) (arg12 : Memref sig .tc .vmem S2x4x64x256 .i8) (harg12 : arg12.IsWhole) (arg13 : Memref sig .tc .vmem S2x4x256 .f32) (harg13 : arg13.IsWhole) (arg14 : Memref sig .tc .vmem S2x4x256 .f32) (harg14 : arg14.IsWhole) (arg15 : Memref sig .tc .vmem S2x4x64x256 .i8) (harg15 : arg15.IsWhole) (arg16 : Memref sig .tc .vmem S2x4x256 .f32) (harg16 : arg16.IsWhole) (arg17 : Memref sig .tc .vmem S2x4x256 .f32) (harg17 : arg17.IsWhole) (arg18 : Memref sig .tc .vmem S2x4x256x128 .f32) (harg18 : arg18.IsWhole) (arg19 : Memref sig .tc .vmem S2x4x256x128 .f32) (harg19 : arg19.IsWhole) (arg20 : Memref sig .tc .vmem S2x4x256x128 .f32) (harg20 : arg20.IsWhole) (arg21 : Memref sig .tc .vmem S4608x3584 .i8) (harg21 : arg21.IsWhole) (arg22 : Memref sig .tc .vmem S4608x128 .f32) (harg22 : arg22.IsWhole) (arg23 : Memref sig .tc .vmem S2x256x3584 .bf16) (harg23 : arg23.IsWhole) (arg24 : Memref sig .tc .vmem S256x128 .f32) (harg24 : arg24.IsWhole)

theorem pay3_apply (v : Vec Ideal S1x32x3584 .bf16) (r : Fin 32) (k : Fin 3584) : k0_pay3 v (ix2 r k) = xnorm (fun i => v (ix3 0 r i)) k := by
  pointwise [k0_pay3]
  rfl
theorem pay4_apply (v : Vec Ideal S1x32x3584 .bf16) (r : Fin 32) : k0_pay4 v (ix2 r 0) = xscale (fun i => v (ix3 0 r i)) := by
  pointwise [k0_pay4]
  simp only [pay3_apply]
  rfl
theorem pay5_apply (v : Vec Ideal S1x32x3584 .bf16) (r : Fin 32) (k : Fin 3584) : k0_pay5 v (ix2 r k) = xcode (fun i => v (ix3 0 r i)) k := by
  pointwise [k0_pay5]
  rw [pay3_apply, pay4_apply]
  rfl
theorem pay6_apply (v : Vec Ideal S1x32x3584 .bf16) (r : Fin 32) (k : Fin 3584) :
    k0_pay6 v (ix3 0 r k) = FloatOps.fptosi (F := Ideal) 8 (φ := FTy.f32) (xcode (fun i => v (ix3 0 r i)) k) := by
  pointwise [k0_pay6]
  rw [pay5_apply]
theorem pay47_apply (v : Vec Ideal S1x32x3584 .bf16) (r : Fin 32) (k : Fin 3584) :
    k0_pay47 (k0_pay7 v) (ix3 0 r k) = xcode (fun i => v (ix3 0 r i)) k := by
  pointwise [k0_pay47, k0_pay7]
  rw [pay5_apply]
theorem pay48_apply (v : Vec Ideal S1x32x3584 .bf16) (r : Fin 32) (l : Fin 128) :
    k0_pay48 (k0_pay4 v) (ix2 r l) = xscale (fun i => v (ix3 0 r i)) := by
  pointwise [k0_pay48]
  rw [pay4_apply]
theorem pay49_apply (v : Vec Ideal S256x128 .f32) (t : Fin 256) : k0_pay49 v (ix2 0 t) = v (ix2 t 0) := by
  pointwise [k0_pay49]
theorem pay11_eq (v : Vec Ideal S1x32x3584 .bf16) : k0_pay11 v = k0_pay6 v := rfl
theorem pay50_eq (v : Vec Ideal S1x32x3584 .bf16) : k0_pay50 (k0_pay12 v) = k0_pay47 (k0_pay7 v) := rfl
theorem pay51_eq (v : Vec Ideal S1x32x3584 .bf16) : k0_pay51 (k0_pay9 v) = k0_pay48 (k0_pay4 v) := rfl
theorem pay52_eq (v : Vec Ideal S256x128 .f32) : k0_pay52 v = k0_pay49 v := rfl

theorem trips2 : k0_t2_loop.trips = 8 := by decide
theorem trips3 : k0_t3_loop.trips = 8 := by decide

theorem t2_agree7 (X : BufTy.Contents (Elt Ideal) arg1.view.ty) :
    ∀ p ∈ (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 X k0_t2_loop.trips).1, ∀ x : p.1.shape.Idx, p.2 x = XC (arg1.view.read (Elt Ideal) X) (p.1.emb x) := by
  refine steps_agree _ (fun k => (tripL_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 X k).1) (fun n => (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 X n).1) rfl (fun k => by rw [pb_k0_t2_succ]) (fun k => ?_)
  unfold tripL_k0_t2 trip_k0_t2
  dsimp only
  simp only [List.forall_mem_cons]
  refine ⟨fun y => ?_, fun _ h => absurd h List.not_mem_nil⟩
  have hk : k.val < 8 := lt_of_lt_of_eq k.isLt trips2
  obtain ⟨z, r, d, rfl⟩ : ∃ (z : Fin 1) (r : Fin 32) (d : Fin 3584), y = ix3 z r d := ⟨y 0, y 1, y 2, eq_ix3 y⟩
  obtain rfl : z = 0 := Subsingleton.elim _ _
  sl_unfold_run_names
  rw [pay6_apply, emb3 (B := 2) (n := 256) (rows := 32) (w := 3584) _ 0 (32 * k.val) (k0_off5_eq k) 0 r d (by omega)]
  simp only [leaf3 (B := 2) (n := 256) (rows := 32) (w := 3584) arg1 X _ 0 (32 * k.val) (k0_off5_eq k) 0 r _ (by omega)]
  rfl
theorem t2_cover7 (X : BufTy.Contents (Elt Ideal) arg1.view.ty) (y : S2x256x3584.Idx) (hb : (y 0).val = 0) :
    ∃ p ∈ (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 X k0_t2_loop.trips).1, y ∈ p.1.set := by
  refine steps_mem (fun k => (tripL_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 X k).1) (fun n => (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 X n).1) rfl (fun k => by rw [pb_k0_t2_succ]) ?_
  have h0 : (y 1).val < 256 := (y 1).isLt
  have htr := trips2
  obtain ⟨kk, hkk⟩ : ∃ kk : Fin k0_t2_loop.trips, (y 1).val / 32 = kk.val := ⟨⟨(y 1).val / 32, by omega⟩, rfl⟩
  refine ⟨kk, ?_⟩
  unfold tripL_k0_t2 trip_k0_t2
  dsimp only
  refine ⟨_, List.mem_cons_self, ?_⟩
  exact mem3 (B := 2) (n := 256) (rows := 32) (w := 3584) (k0_off5_inb kk) 0 (32 * kk.val) (k0_off5_eq kk) y hb (by omega) (by omega)

theorem t2_agree23 (X : BufTy.Contents (Elt Ideal) arg1.view.ty) :
    ∀ p ∈ (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 X k0_t2_loop.trips).2.1, ∀ x : p.1.shape.Idx, p.2 x = XB (arg1.view.read (Elt Ideal) X) (p.1.emb x) := by
  refine steps_agree _ (fun k => (tripL_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 X k).2.1) (fun n => (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 X n).2.1) rfl (fun k => by rw [pb_k0_t2_succ]) (fun k => ?_)
  unfold tripL_k0_t2 trip_k0_t2
  dsimp only
  simp only [List.forall_mem_cons]
  refine ⟨fun y => ?_, fun _ h => absurd h List.not_mem_nil⟩
  have hk : k.val < 8 := lt_of_lt_of_eq k.isLt trips2
  obtain ⟨z, r, d, rfl⟩ : ∃ (z : Fin 1) (r : Fin 32) (d : Fin 3584), y = ix3 z r d := ⟨y 0, y 1, y 2, eq_ix3 y⟩
  obtain rfl : z = 0 := Subsingleton.elim _ _
  sl_unfold_run_names
  rw [pay47_apply, emb3 (B := 2) (n := 256) (rows := 32) (w := 3584) _ 0 (32 * k.val) (k0_off5_eq k) 0 r d (by omega)]
  simp only [leaf3 (B := 2) (n := 256) (rows := 32) (w := 3584) arg1 X _ 0 (32 * k.val) (k0_off5_eq k) 0 r _ (by omega)]
  rfl
theorem t2_cover23 (X : BufTy.Contents (Elt Ideal) arg1.view.ty) (y : S2x256x3584.Idx) (hb : (y 0).val = 0) :
    ∃ p ∈ (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 X k0_t2_loop.trips).2.1, y ∈ p.1.set := by
  refine steps_mem (fun k => (tripL_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 X k).2.1) (fun n => (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 X n).2.1) rfl (fun k => by rw [pb_k0_t2_succ]) ?_
  have h0 : (y 1).val < 256 := (y 1).isLt
  have htr := trips2
  obtain ⟨kk, hkk⟩ : ∃ kk : Fin k0_t2_loop.trips, (y 1).val / 32 = kk.val := ⟨⟨(y 1).val / 32, by omega⟩, rfl⟩
  refine ⟨kk, ?_⟩
  unfold tripL_k0_t2 trip_k0_t2
  dsimp only
  refine ⟨_, List.mem_cons_self, ?_⟩
  exact mem3 (B := 2) (n := 256) (rows := 32) (w := 3584) (k0_off5_inb kk) 0 (32 * kk.val) (k0_off5_eq kk) y hb (by omega) (by omega)

theorem t2_read24 (X : BufTy.Contents (Elt Ideal) arg1.view.ty) (G : BufTy.Contents (Elt Ideal) arg24.view.ty) :
    arg24.view.read (Elt Ideal) (arg24.view.writes (Elt Ideal) G (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 X k0_t2_loop.trips).2.2) = fun y => xscale (rowAt (arg1.view.read (Elt Ideal) X) 0 (y 0)) := by
  refine read_steps arg24.view G _ (fun k => (tripL_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 X k).2.2) (fun n => (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 X n).2.2) rfl (fun k => by rw [pb_k0_t2_succ]) (fun k => ?_) (fun y => ?_)
  · unfold tripL_k0_t2 trip_k0_t2
    dsimp only
    simp only [List.forall_mem_cons]
    refine ⟨fun y => ?_, fun _ h => absurd h List.not_mem_nil⟩
    have hk : k.val < 8 := lt_of_lt_of_eq k.isLt trips2
    obtain ⟨r, d, rfl⟩ : ∃ (r : Fin 32) (d : Fin 128), y = ix2 r d := ⟨y 0, y 1, eq_ix2 y⟩
    sl_unfold_run_names
    rw [pay48_apply, embRows (n := 256) (rows := 32) (w := 128) _ (32 * k.val) (k0_off6_eq k) r d (by omega)]
    simp only [leaf3 (B := 2) (n := 256) (rows := 32) (w := 3584) arg1 X _ 0 (32 * k.val) (k0_off5_eq k) 0 r _ (by omega)]
    rfl
  · have h0 : (y 0).val < 256 := (y 0).isLt
    have htr := trips2
    obtain ⟨kk, hkk⟩ : ∃ kk : Fin k0_t2_loop.trips, (y 0).val / 32 = kk.val := ⟨⟨(y 0).val / 32, by omega⟩, rfl⟩
    refine ⟨kk, ?_⟩
    unfold tripL_k0_t2 trip_k0_t2
    dsimp only
    refine ⟨_, List.mem_cons_self, ?_⟩
    exact memRows (n := 256) (rows := 32) (w := 128) (k0_off6_inb kk) (32 * kk.val) (k0_off6_eq kk) y (by omega) (by omega)

theorem t3_agree7 (X : BufTy.Contents (Elt Ideal) arg1.view.ty) :
    ∀ p ∈ (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 X k0_t3_loop.trips).1, ∀ x : p.1.shape.Idx, p.2 x = XC (arg1.view.read (Elt Ideal) X) (p.1.emb x) := by
  refine steps_agree _ (fun k => (tripL_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 X k).1) (fun n => (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 X n).1) rfl (fun k => by rw [pb_k0_t3_succ]) (fun k => ?_)
  unfold tripL_k0_t3 trip_k0_t3
  dsimp only
  simp only [List.forall_mem_cons]
  refine ⟨fun y => ?_, fun _ h => absurd h List.not_mem_nil⟩
  have hk : k.val < 8 := lt_of_lt_of_eq k.isLt trips3
  obtain ⟨z, r, d, rfl⟩ : ∃ (z : Fin 1) (r : Fin 32) (d : Fin 3584), y = ix3 z r d := ⟨y 0, y 1, y 2, eq_ix3 y⟩
  obtain rfl : z = 0 := Subsingleton.elim _ _
  sl_unfold_run_names
  rw [pay11_eq, pay6_apply, emb3 (B := 2) (n := 256) (rows := 32) (w := 3584) _ 1 (32 * k.val) (k0_off7_eq k) 0 r d (by omega)]
  simp only [leaf3 (B := 2) (n := 256) (rows := 32) (w := 3584) arg1 X _ 1 (32 * k.val) (k0_off7_eq k) 0 r _ (by omega)]
  rfl
theorem t3_cover7 (X : BufTy.Contents (Elt Ideal) arg1.view.ty) (y : S2x256x3584.Idx) (hb : (y 0).val = 1) :
    ∃ p ∈ (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 X k0_t3_loop.trips).1, y ∈ p.1.set := by
  refine steps_mem (fun k => (tripL_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 X k).1) (fun n => (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 X n).1) rfl (fun k => by rw [pb_k0_t3_succ]) ?_
  have h0 : (y 1).val < 256 := (y 1).isLt
  have htr := trips3
  obtain ⟨kk, hkk⟩ : ∃ kk : Fin k0_t3_loop.trips, (y 1).val / 32 = kk.val := ⟨⟨(y 1).val / 32, by omega⟩, rfl⟩
  refine ⟨kk, ?_⟩
  unfold tripL_k0_t3 trip_k0_t3
  dsimp only
  refine ⟨_, List.mem_cons_self, ?_⟩
  exact mem3 (B := 2) (n := 256) (rows := 32) (w := 3584) (k0_off7_inb kk) 1 (32 * kk.val) (k0_off7_eq kk) y hb (by omega) (by omega)

theorem t3_agree23 (X : BufTy.Contents (Elt Ideal) arg1.view.ty) :
    ∀ p ∈ (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 X k0_t3_loop.trips).2.1, ∀ x : p.1.shape.Idx, p.2 x = XB (arg1.view.read (Elt Ideal) X) (p.1.emb x) := by
  refine steps_agree _ (fun k => (tripL_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 X k).2.1) (fun n => (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 X n).2.1) rfl (fun k => by rw [pb_k0_t3_succ]) (fun k => ?_)
  unfold tripL_k0_t3 trip_k0_t3
  dsimp only
  simp only [List.forall_mem_cons]
  refine ⟨fun y => ?_, fun _ h => absurd h List.not_mem_nil⟩
  have hk : k.val < 8 := lt_of_lt_of_eq k.isLt trips3
  obtain ⟨z, r, d, rfl⟩ : ∃ (z : Fin 1) (r : Fin 32) (d : Fin 3584), y = ix3 z r d := ⟨y 0, y 1, y 2, eq_ix3 y⟩
  obtain rfl : z = 0 := Subsingleton.elim _ _
  sl_unfold_run_names
  rw [pay50_eq, pay47_apply, emb3 (B := 2) (n := 256) (rows := 32) (w := 3584) _ 1 (32 * k.val) (k0_off7_eq k) 0 r d (by omega)]
  simp only [leaf3 (B := 2) (n := 256) (rows := 32) (w := 3584) arg1 X _ 1 (32 * k.val) (k0_off7_eq k) 0 r _ (by omega)]
  rfl
theorem t3_cover23 (X : BufTy.Contents (Elt Ideal) arg1.view.ty) (y : S2x256x3584.Idx) (hb : (y 0).val = 1) :
    ∃ p ∈ (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 X k0_t3_loop.trips).2.1, y ∈ p.1.set := by
  refine steps_mem (fun k => (tripL_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 X k).2.1) (fun n => (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 X n).2.1) rfl (fun k => by rw [pb_k0_t3_succ]) ?_
  have h0 : (y 1).val < 256 := (y 1).isLt
  have htr := trips3
  obtain ⟨kk, hkk⟩ : ∃ kk : Fin k0_t3_loop.trips, (y 1).val / 32 = kk.val := ⟨⟨(y 1).val / 32, by omega⟩, rfl⟩
  refine ⟨kk, ?_⟩
  unfold tripL_k0_t3 trip_k0_t3
  dsimp only
  refine ⟨_, List.mem_cons_self, ?_⟩
  exact mem3 (B := 2) (n := 256) (rows := 32) (w := 3584) (k0_off7_inb kk) 1 (32 * kk.val) (k0_off7_eq kk) y hb (by omega) (by omega)

theorem t3_read24 (X : BufTy.Contents (Elt Ideal) arg1.view.ty) (G : BufTy.Contents (Elt Ideal) arg24.view.ty) :
    arg24.view.read (Elt Ideal) (arg24.view.writes (Elt Ideal) G (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 X k0_t3_loop.trips).2.2) = fun y => xscale (rowAt (arg1.view.read (Elt Ideal) X) 1 (y 0)) := by
  refine read_steps arg24.view G _ (fun k => (tripL_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 X k).2.2) (fun n => (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 X n).2.2) rfl (fun k => by rw [pb_k0_t3_succ]) (fun k => ?_) (fun y => ?_)
  · unfold tripL_k0_t3 trip_k0_t3
    dsimp only
    simp only [List.forall_mem_cons]
    refine ⟨fun y => ?_, fun _ h => absurd h List.not_mem_nil⟩
    have hk : k.val < 8 := lt_of_lt_of_eq k.isLt trips3
    obtain ⟨r, d, rfl⟩ : ∃ (r : Fin 32) (d : Fin 128), y = ix2 r d := ⟨y 0, y 1, eq_ix2 y⟩
    sl_unfold_run_names
    rw [pay51_eq, pay48_apply, embRows (n := 256) (rows := 32) (w := 128) _ (32 * k.val) (k0_off8_eq k) r d (by omega)]
    simp only [leaf3 (B := 2) (n := 256) (rows := 32) (w := 3584) arg1 X _ 1 (32 * k.val) (k0_off7_eq k) 0 r _ (by omega)]
    rfl
  · have h0 : (y 0).val < 256 := (y 0).isLt
    have htr := trips3
    obtain ⟨kk, hkk⟩ : ∃ kk : Fin k0_t3_loop.trips, (y 0).val / 32 = kk.val := ⟨⟨(y 0).val / 32, by omega⟩, rfl⟩
    refine ⟨kk, ?_⟩
    unfold tripL_k0_t3 trip_k0_t3
    dsimp only
    refine ⟨_, List.mem_cons_self, ?_⟩
    exact memRows (n := 256) (rows := 32) (w := 128) (k0_off8_inb kk) (32 * kk.val) (k0_off8_eq kk) y (by omega) (by omega)

theorem quant_read7 (X : BufTy.Contents (Elt Ideal) arg1.view.ty) (G : BufTy.Contents (Elt Ideal) arg7.view.ty) :
    arg7.view.read (Elt Ideal) (arg7.view.writes (Elt Ideal) G ((pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 X k0_t3_loop.trips).1 ++ (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 X k0_t2_loop.trips).1)) = XC (arg1.view.read (Elt Ideal) X) := by
  funext y
  refine View.read_writes_apply_of_pieces arg7.view (f := G) (XC (arg1.view.read (Elt Ideal) X)) _ (fun p hp => ?_) y ?_
  · rcases List.mem_append.mp hp with h | h
    · exact t3_agree7 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 X p h
    · exact t2_agree7 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 X p h
  · have h0 : (y 0).val < 2 := (y 0).isLt
    rcases (by omega : (y 0).val = 0 ∨ (y 0).val = 1) with h | h
    · obtain ⟨p, hp, hy⟩ := t2_cover7 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 X y h
      exact ⟨p, List.mem_append_right _ hp, hy⟩
    · obtain ⟨p, hp, hy⟩ := t3_cover7 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 X y h
      exact ⟨p, List.mem_append_left _ hp, hy⟩

theorem quant_read23 (X : BufTy.Contents (Elt Ideal) arg1.view.ty) (G : BufTy.Contents (Elt Ideal) arg23.view.ty) :
    arg23.view.read (Elt Ideal) (arg23.view.writes (Elt Ideal) G ((pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 X k0_t3_loop.trips).2.1 ++ (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 X k0_t2_loop.trips).2.1)) = XB (arg1.view.read (Elt Ideal) X) := by
  funext y
  refine View.read_writes_apply_of_pieces arg23.view (f := G) (XB (arg1.view.read (Elt Ideal) X)) _ (fun p hp => ?_) y ?_
  · rcases List.mem_append.mp hp with h | h
    · exact t3_agree23 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 X p h
    · exact t2_agree23 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 X p h
  · have h0 : (y 0).val < 2 := (y 0).isLt
    rcases (by omega : (y 0).val = 0 ∨ (y 0).val = 1) with h | h
    · obtain ⟨p, hp, hy⟩ := t2_cover23 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 X y h
      exact ⟨p, List.mem_append_right _ hp, hy⟩
    · obtain ⟨p, hp, hy⟩ := t3_cover23 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 X y h
      exact ⟨p, List.mem_append_left _ hp, hy⟩

/-- The row scales as stored: each batch's, read from the buffer the batch's loop fills. -/
theorem quant_read8 (X : BufTy.Contents (Elt Ideal) arg1.view.ty) (H : BufTy.Contents (Elt Ideal) arg24.view.ty) (G : BufTy.Contents (Elt Ideal) arg8.view.ty)
    (inb1 : ∀ a, (![1, 0] : Fin 2 → Nat) a + S1x256.size a ≤ S2x256.size a) (inb0 : ∀ a, (![0, 0] : Fin 2 → Nat) a + S1x256.size a ≤ S2x256.size a) (inb inb') :
    arg8.view.read (Elt Ideal) (arg8.view.writes (Elt Ideal) G
      [⟨Rect.unit (s := S2x256) ![1, 0] S1x256.size inb1, k0_pay52 (F := Ideal) (View.readAt (Elt Ideal) arg24.view (Rect.unit (s := S256x128) ![0, 0] S256x128.size inb).toLoadRect
          (arg24.view.writes (Elt Ideal) H ((pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 X k0_t3_loop.trips).2.2 ++ (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 X k0_t2_loop.trips).2.2)))⟩,
       ⟨Rect.unit (s := S2x256) ![0, 0] S1x256.size inb0, k0_pay49 (F := Ideal) (View.readAt (Elt Ideal) arg24.view (Rect.unit (s := S256x128) ![0, 0] S256x128.size inb').toLoadRect
          (arg24.view.writes (Elt Ideal) H (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 X k0_t2_loop.trips).2.2))⟩]) = XS (arg1.view.read (Elt Ideal) X) := by
  funext y
  refine View.read_writes_apply_of_pieces arg8.view (f := G) (XS (arg1.view.read (Elt Ideal) X)) _ ?_ y ?_
  · simp only [List.forall_mem_cons]
    refine ⟨fun y => ?_, fun y => ?_, fun _ h => absurd h List.not_mem_nil⟩
    · obtain ⟨z, t, rfl⟩ : ∃ (z : Fin 1) (t : Fin 256), y = ix2 z t := ⟨y 0, y 1, eq_ix2 y⟩
      obtain rfl : z = 0 := Subsingleton.elim _ _
      rw [pay52_eq, pay49_apply, embRows (n := 2) (rows := 1) (w := 256) _ 1 rfl 0 t (by show 1 + 0 < 2; omega),
        leafRows (n := 256) (rows := 256) (w := 128) arg24 _ _ 0 rfl t 0 (by omega), View.writes_append, t3_read24]
      show xscale (rowAt _ 1 ⟨0 + t.val, _⟩) = xscale (rowAt _ 1 t)
      refine congrArg (fun t => xscale (rowAt _ 1 t)) (Fin.ext (Nat.zero_add _))
    · obtain ⟨z, t, rfl⟩ : ∃ (z : Fin 1) (t : Fin 256), y = ix2 z t := ⟨y 0, y 1, eq_ix2 y⟩
      obtain rfl : z = 0 := Subsingleton.elim _ _
      rw [pay49_apply, embRows (n := 2) (rows := 1) (w := 256) _ 0 rfl 0 t (by show 0 + 0 < 2; omega),
        leafRows (n := 256) (rows := 256) (w := 128) arg24 _ _ 0 rfl t 0 (by omega), t2_read24]
      show xscale (rowAt _ 0 ⟨0 + t.val, _⟩) = xscale (rowAt _ 0 t)
      refine congrArg (fun t => xscale (rowAt _ 0 t)) (Fin.ext (Nat.zero_add _))
  · have h0 : (y 0).val < 2 := (y 0).isLt
    rcases (by omega : (y 0).val = 0 ∨ (y 0).val = 1) with h | h
    · exact ⟨_, List.mem_cons_of_mem _ List.mem_cons_self, memRows (n := 2) (rows := 1) (w := 256) inb0 0 rfl y (by omega) (by omega)⟩
    · exact ⟨_, List.mem_cons_self, memRows (n := 2) (rows := 1) (w := 256) inb1 1 rfl y (by omega) (by omega)⟩

end Cert.QkvIdeal.Hand
end
-- ==== Proof.Qkv.Heads.lean ====
module

public import proofs.«01_k».proof.Proof.Qkv.Leaves

/-!
# The key and value results

Each result is stored head by head, eight pieces in all: what the array then holds, from what each piece holds.
-/

@[expose] public section
set_option maxRecDepth 16384
noncomputable section
namespace Cert.QkvIdeal.Hand
open Cert.QkvIdeal Cert.QkvIdeal.Gen
open Idealize.ShloMosaic Idealize.ShloMosaic.Pointwise

/-- The bytes of the four heads of the two batches. -/
theorem bytes_read (r : Memref sig .tc .vmem S2x4x64x256 .i8) (V : Fin 4 → Fin 2 → Fin 256 → Fin 128 → EReal) (G : BufTy.Contents (Elt Ideal) r.view.ty)
    (n13) (n12) (n11) (n10) (n03) (n02) (n01) (n00)
    {p13 p12 p11 p10 p03 p02 p01 p00 : IVec S1x1x64x256 8}
    (h13 : ∃ t, p13 = BYTEV t ∧ Is (V 3 1) t)
    (h12 : ∃ t, p12 = BYTEV t ∧ Is (V 2 1) t)
    (h11 : ∃ t, p11 = BYTEV t ∧ Is (V 1 1) t)
    (h10 : ∃ t, p10 = BYTEV t ∧ Is (V 0 1) t)
    (h03 : ∃ t, p03 = BYTEV t ∧ Is (V 3 0) t)
    (h02 : ∃ t, p02 = BYTEV t ∧ Is (V 2 0) t)
    (h01 : ∃ t, p01 = BYTEV t ∧ Is (V 1 0) t)
    (h00 : ∃ t, p00 = BYTEV t ∧ Is (V 0 0) t)
    :
    r.view.read (Elt Ideal) (r.view.writes (Elt Ideal) G [
      ⟨Rect.unit (s := S2x4x64x256) ![1, 3, 0, 0] S1x1x64x256.size n13, p13⟩,
      ⟨Rect.unit (s := S2x4x64x256) ![1, 2, 0, 0] S1x1x64x256.size n12, p12⟩,
      ⟨Rect.unit (s := S2x4x64x256) ![1, 1, 0, 0] S1x1x64x256.size n11, p11⟩,
      ⟨Rect.unit (s := S2x4x64x256) ![1, 0, 0, 0] S1x1x64x256.size n10, p10⟩,
      ⟨Rect.unit (s := S2x4x64x256) ![0, 3, 0, 0] S1x1x64x256.size n03, p03⟩,
      ⟨Rect.unit (s := S2x4x64x256) ![0, 2, 0, 0] S1x1x64x256.size n02, p02⟩,
      ⟨Rect.unit (s := S2x4x64x256) ![0, 1, 0, 0] S1x1x64x256.size n01, p01⟩,
      ⟨Rect.unit (s := S2x4x64x256) ![0, 0, 0, 0] S1x1x64x256.size n00, p00⟩]) = BYTES V := by
  funext y
  refine View.read_writes_apply_of_pieces r.view (f := G) (BYTES V) _ ?_ y ?_
  · simp only [List.forall_mem_cons]
    exact ⟨bytes_piece n13 1 3 rfl h13,
      bytes_piece n12 1 2 rfl h12,
      bytes_piece n11 1 1 rfl h11,
      bytes_piece n10 1 0 rfl h10,
      bytes_piece n03 0 3 rfl h03,
      bytes_piece n02 0 2 rfl h02,
      bytes_piece n01 0 1 rfl h01,
      bytes_piece n00 0 0 rfl h00, fun _ h => absurd h List.not_mem_nil⟩
  · have hb : (y 0).val < 2 := (y 0).isLt
    have hj : (y 1).val < 4 := (y 1).isLt
    rcases (by omega : (y 0).val = 0 ∨ (y 0).val = 1) with hb | hb <;>
      rcases (by omega : (y 1).val = 0 ∨ (y 1).val = 1 ∨ (y 1).val = 2 ∨ (y 1).val = 3) with hj | hj | hj | hj
    · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), mem4 (B := 2) (n := 4) (r := 64) (w := 256) n00 0 0 rfl y hb hj⟩
    · exact ⟨_, (List.mem_cons_of_mem _ (List.mem_cons_of_mem _ (List.mem_cons_of_mem _ (List.mem_cons_of_mem _ (List.mem_cons_of_mem _ (List.mem_cons_of_mem _ List.mem_cons_self)))))), mem4 (B := 2) (n := 4) (r := 64) (w := 256) n01 0 1 rfl y hb hj⟩
    · exact ⟨_, (List.mem_cons_of_mem _ (List.mem_cons_of_mem _ (List.mem_cons_of_mem _ (List.mem_cons_of_mem _ (List.mem_cons_of_mem _ List.mem_cons_self))))), mem4 (B := 2) (n := 4) (r := 64) (w := 256) n02 0 2 rfl y hb hj⟩
    · exact ⟨_, (List.mem_cons_of_mem _ (List.mem_cons_of_mem _ (List.mem_cons_of_mem _ (List.mem_cons_of_mem _ List.mem_cons_self)))), mem4 (B := 2) (n := 4) (r := 64) (w := 256) n03 0 3 rfl y hb hj⟩
    · exact ⟨_, (List.mem_cons_of_mem _ (List.mem_cons_of_mem _ (List.mem_cons_of_mem _ List.mem_cons_self))), mem4 (B := 2) (n := 4) (r := 64) (w := 256) n10 1 0 rfl y hb hj⟩
    · exact ⟨_, (List.mem_cons_of_mem _ (List.mem_cons_of_mem _ List.mem_cons_self)), mem4 (B := 2) (n := 4) (r := 64) (w := 256) n11 1 1 rfl y hb hj⟩
    · exact ⟨_, (List.mem_cons_of_mem _ List.mem_cons_self), mem4 (B := 2) (n := 4) (r := 64) (w := 256) n12 1 2 rfl y hb hj⟩
    · exact ⟨_, List.mem_cons_self, mem4 (B := 2) (n := 4) (r := 64) (w := 256) n13 1 3 rfl y hb hj⟩

/-- The steps. -/
theorem steps_read (r : Memref sig .tc .vmem S2x4x256 .f32) (V : Fin 4 → Fin 2 → Fin 256 → Fin 128 → EReal) (G : BufTy.Contents (Elt Ideal) r.view.ty)
    (n13) (n12) (n11) (n10) (n03) (n02) (n01) (n00)
    {p13 p12 p11 p10 p03 p02 p01 p00 : FVec Ideal S1x1x256 .f32}
    (h13 : ∃ t, p13 = ROWS (STEPV t) ∧ Is (V 3 1) t)
    (h12 : ∃ t, p12 = ROWS (STEPV t) ∧ Is (V 2 1) t)
    (h11 : ∃ t, p11 = ROWS (STEPV t) ∧ Is (V 1 1) t)
    (h10 : ∃ t, p10 = ROWS (STEPV t) ∧ Is (V 0 1) t)
    (h03 : ∃ t, p03 = ROWS (STEPV t) ∧ Is (V 3 0) t)
    (h02 : ∃ t, p02 = ROWS (STEPV t) ∧ Is (V 2 0) t)
    (h01 : ∃ t, p01 = ROWS (STEPV t) ∧ Is (V 1 0) t)
    (h00 : ∃ t, p00 = ROWS (STEPV t) ∧ Is (V 0 0) t)
    :
    r.view.read (Elt Ideal) (r.view.writes (Elt Ideal) G [
      ⟨Rect.unit (s := S2x4x256) ![1, 3, 0] S1x1x256.size n13, p13⟩,
      ⟨Rect.unit (s := S2x4x256) ![1, 2, 0] S1x1x256.size n12, p12⟩,
      ⟨Rect.unit (s := S2x4x256) ![1, 1, 0] S1x1x256.size n11, p11⟩,
      ⟨Rect.unit (s := S2x4x256) ![1, 0, 0] S1x1x256.size n10, p10⟩,
      ⟨Rect.unit (s := S2x4x256) ![0, 3, 0] S1x1x256.size n03, p03⟩,
      ⟨Rect.unit (s := S2x4x256) ![0, 2, 0] S1x1x256.size n02, p02⟩,
      ⟨Rect.unit (s := S2x4x256) ![0, 1, 0] S1x1x256.size n01, p01⟩,
      ⟨Rect.unit (s := S2x4x256) ![0, 0, 0] S1x1x256.size n00, p00⟩]) = STEPS V := by
  funext y
  refine View.read_writes_apply_of_pieces r.view (f := G) (STEPS V) _ ?_ y ?_
  · simp only [List.forall_mem_cons]
    exact ⟨steps_piece n13 1 3 rfl h13,
      steps_piece n12 1 2 rfl h12,
      steps_piece n11 1 1 rfl h11,
      steps_piece n10 1 0 rfl h10,
      steps_piece n03 0 3 rfl h03,
      steps_piece n02 0 2 rfl h02,
      steps_piece n01 0 1 rfl h01,
      steps_piece n00 0 0 rfl h00, fun _ h => absurd h List.not_mem_nil⟩
  · have hb : (y 0).val < 2 := (y 0).isLt
    have hj : (y 1).val < 4 := (y 1).isLt
    rcases (by omega : (y 0).val = 0 ∨ (y 0).val = 1) with hb | hb <;>
      rcases (by omega : (y 1).val = 0 ∨ (y 1).val = 1 ∨ (y 1).val = 2 ∨ (y 1).val = 3) with hj | hj | hj | hj
    · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), mem3 (B := 2) (n := 4) (rows := 1) (w := 256) n00 0 0 rfl y hb (by omega) (by omega)⟩
    · exact ⟨_, (List.mem_cons_of_mem _ (List.mem_cons_of_mem _ (List.mem_cons_of_mem _ (List.mem_cons_of_mem _ (List.mem_cons_of_mem _ (List.mem_cons_of_mem _ List.mem_cons_self)))))), mem3 (B := 2) (n := 4) (rows := 1) (w := 256) n01 0 1 rfl y hb (by omega) (by omega)⟩
    · exact ⟨_, (List.mem_cons_of_mem _ (List.mem_cons_of_mem _ (List.mem_cons_of_mem _ (List.mem_cons_of_mem _ (List.mem_cons_of_mem _ List.mem_cons_self))))), mem3 (B := 2) (n := 4) (rows := 1) (w := 256) n02 0 2 rfl y hb (by omega) (by omega)⟩
    · exact ⟨_, (List.mem_cons_of_mem _ (List.mem_cons_of_mem _ (List.mem_cons_of_mem _ (List.mem_cons_of_mem _ List.mem_cons_self)))), mem3 (B := 2) (n := 4) (rows := 1) (w := 256) n03 0 3 rfl y hb (by omega) (by omega)⟩
    · exact ⟨_, (List.mem_cons_of_mem _ (List.mem_cons_of_mem _ (List.mem_cons_of_mem _ List.mem_cons_self))), mem3 (B := 2) (n := 4) (rows := 1) (w := 256) n10 1 0 rfl y hb (by omega) (by omega)⟩
    · exact ⟨_, (List.mem_cons_of_mem _ (List.mem_cons_of_mem _ List.mem_cons_self)), mem3 (B := 2) (n := 4) (rows := 1) (w := 256) n11 1 1 rfl y hb (by omega) (by omega)⟩
    · exact ⟨_, (List.mem_cons_of_mem _ List.mem_cons_self), mem3 (B := 2) (n := 4) (rows := 1) (w := 256) n12 1 2 rfl y hb (by omega) (by omega)⟩
    · exact ⟨_, List.mem_cons_self, mem3 (B := 2) (n := 4) (rows := 1) (w := 256) n13 1 3 rfl y hb (by omega) (by omega)⟩

/-- The lower ends. -/
theorem lows_read (r : Memref sig .tc .vmem S2x4x256 .f32) (V : Fin 4 → Fin 2 → Fin 256 → Fin 128 → EReal) (G : BufTy.Contents (Elt Ideal) r.view.ty)
    (n13) (n12) (n11) (n10) (n03) (n02) (n01) (n00)
    {p13 p12 p11 p10 p03 p02 p01 p00 : FVec Ideal S1x1x256 .f32}
    (h13 : ∃ t, p13 = ROWS (LOV t) ∧ Is (V 3 1) t)
    (h12 : ∃ t, p12 = ROWS (LOV t) ∧ Is (V 2 1) t)
    (h11 : ∃ t, p11 = ROWS (LOV t) ∧ Is (V 1 1) t)
    (h10 : ∃ t, p10 = ROWS (LOV t) ∧ Is (V 0 1) t)
    (h03 : ∃ t, p03 = ROWS (LOV t) ∧ Is (V 3 0) t)
    (h02 : ∃ t, p02 = ROWS (LOV t) ∧ Is (V 2 0) t)
    (h01 : ∃ t, p01 = ROWS (LOV t) ∧ Is (V 1 0) t)
    (h00 : ∃ t, p00 = ROWS (LOV t) ∧ Is (V 0 0) t)
    :
    r.view.read (Elt Ideal) (r.view.writes (Elt Ideal) G [
      ⟨Rect.unit (s := S2x4x256) ![1, 3, 0] S1x1x256.size n13, p13⟩,
      ⟨Rect.unit (s := S2x4x256) ![1, 2, 0] S1x1x256.size n12, p12⟩,
      ⟨Rect.unit (s := S2x4x256) ![1, 1, 0] S1x1x256.size n11, p11⟩,
      ⟨Rect.unit (s := S2x4x256) ![1, 0, 0] S1x1x256.size n10, p10⟩,
      ⟨Rect.unit (s := S2x4x256) ![0, 3, 0] S1x1x256.size n03, p03⟩,
      ⟨Rect.unit (s := S2x4x256) ![0, 2, 0] S1x1x256.size n02, p02⟩,
      ⟨Rect.unit (s := S2x4x256) ![0, 1, 0] S1x1x256.size n01, p01⟩,
      ⟨Rect.unit (s := S2x4x256) ![0, 0, 0] S1x1x256.size n00, p00⟩]) = LOWS V := by
  funext y
  refine View.read_writes_apply_of_pieces r.view (f := G) (LOWS V) _ ?_ y ?_
  · simp only [List.forall_mem_cons]
    exact ⟨lows_piece n13 1 3 rfl h13,
      lows_piece n12 1 2 rfl h12,
      lows_piece n11 1 1 rfl h11,
      lows_piece n10 1 0 rfl h10,
      lows_piece n03 0 3 rfl h03,
      lows_piece n02 0 2 rfl h02,
      lows_piece n01 0 1 rfl h01,
      lows_piece n00 0 0 rfl h00, fun _ h => absurd h List.not_mem_nil⟩
  · have hb : (y 0).val < 2 := (y 0).isLt
    have hj : (y 1).val < 4 := (y 1).isLt
    rcases (by omega : (y 0).val = 0 ∨ (y 0).val = 1) with hb | hb <;>
      rcases (by omega : (y 1).val = 0 ∨ (y 1).val = 1 ∨ (y 1).val = 2 ∨ (y 1).val = 3) with hj | hj | hj | hj
    · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), mem3 (B := 2) (n := 4) (rows := 1) (w := 256) n00 0 0 rfl y hb (by omega) (by omega)⟩
    · exact ⟨_, (List.mem_cons_of_mem _ (List.mem_cons_of_mem _ (List.mem_cons_of_mem _ (List.mem_cons_of_mem _ (List.mem_cons_of_mem _ (List.mem_cons_of_mem _ List.mem_cons_self)))))), mem3 (B := 2) (n := 4) (rows := 1) (w := 256) n01 0 1 rfl y hb (by omega) (by omega)⟩
    · exact ⟨_, (List.mem_cons_of_mem _ (List.mem_cons_of_mem _ (List.mem_cons_of_mem _ (List.mem_cons_of_mem _ (List.mem_cons_of_mem _ List.mem_cons_self))))), mem3 (B := 2) (n := 4) (rows := 1) (w := 256) n02 0 2 rfl y hb (by omega) (by omega)⟩
    · exact ⟨_, (List.mem_cons_of_mem _ (List.mem_cons_of_mem _ (List.mem_cons_of_mem _ (List.mem_cons_of_mem _ List.mem_cons_self)))), mem3 (B := 2) (n := 4) (rows := 1) (w := 256) n03 0 3 rfl y hb (by omega) (by omega)⟩
    · exact ⟨_, (List.mem_cons_of_mem _ (List.mem_cons_of_mem _ (List.mem_cons_of_mem _ List.mem_cons_self))), mem3 (B := 2) (n := 4) (rows := 1) (w := 256) n10 1 0 rfl y hb (by omega) (by omega)⟩
    · exact ⟨_, (List.mem_cons_of_mem _ (List.mem_cons_of_mem _ List.mem_cons_self)), mem3 (B := 2) (n := 4) (rows := 1) (w := 256) n11 1 1 rfl y hb (by omega) (by omega)⟩
    · exact ⟨_, (List.mem_cons_of_mem _ List.mem_cons_self), mem3 (B := 2) (n := 4) (rows := 1) (w := 256) n12 1 2 rfl y hb (by omega) (by omega)⟩
    · exact ⟨_, List.mem_cons_self, mem3 (B := 2) (n := 4) (rows := 1) (w := 256) n13 1 3 rfl y hb (by omega) (by omega)⟩

end Cert.QkvIdeal.Hand
end
-- ==== Proof.Qkv.RunA.lean ====
module

public import proofs.«01_k».proof.Proof.Qkv.Query
public import proofs.«01_k».proof.Proof.Qkv.Unpack
public import proofs.«01_k».proof.Proof.Qkv.Quant
public import proofs.«01_k».proof.Proof.Qkv.Heads
public import proofs.«01_k».proof.Proof.Gen.QkvIdeal.Frame

/-!
# The body at the first point
-/

@[expose] public section
set_option maxRecDepth 16384
noncomputable section
namespace Cert.QkvIdeal.Hand
open Cert.QkvIdeal Cert.QkvIdeal.Gen
open Idealize.ShloMosaic Idealize.ShloMosaic.TcCoe Idealize.ShloMosaic.Tactic
open Idealize.ShloMosaic.Pointwise
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

set_option maxHeartbeats 4000000 in
/-- The body at the first point: it unpacks the weights, then computes the block. -/
theorem runA (c : Dev nD) (i : grid0.Coords) (arg1 : Memref sig .tc .vmem S2x256x3584 .bf16) (harg1 : arg1.IsWhole) (arg2 : Memref sig .tc .vmem S1792x4608 .i8) (harg2 : arg2.IsWhole) (arg3 : Memref sig .tc .vmem S36x128 .f32) (harg3 : arg3.IsWhole) (arg4 : Memref sig .tc .vmem S2x64x256 .f32) (harg4 : arg4.IsWhole) (arg5 : Memref sig .tc .vmem S2x64x256 .f32) (harg5 : arg5.IsWhole) (arg6 : Memref sig .tc .vmem S128x384 .bf16) (harg6 : arg6.IsWhole) (arg7 : Memref sig .tc .vmem S2x256x3584 .i8) (harg7 : arg7.IsWhole) (arg8 : Memref sig .tc .vmem S2x256 .f32) (harg8 : arg8.IsWhole) (arg9 : Memref sig .tc .vmem S2x28x128x256 .bf16) (harg9 : arg9.IsWhole) (arg10 : Memref sig .tc .vmem S2x4x256x256 .bf16) (harg10 : arg10.IsWhole) (arg11 : Memref sig .tc .vmem S2x4x128x256 .bf16) (harg11 : arg11.IsWhole) (arg12 : Memref sig .tc .vmem S2x4x64x256 .i8) (harg12 : arg12.IsWhole) (arg13 : Memref sig .tc .vmem S2x4x256 .f32) (harg13 : arg13.IsWhole) (arg14 : Memref sig .tc .vmem S2x4x256 .f32) (harg14 : arg14.IsWhole) (arg15 : Memref sig .tc .vmem S2x4x64x256 .i8) (harg15 : arg15.IsWhole) (arg16 : Memref sig .tc .vmem S2x4x256 .f32) (harg16 : arg16.IsWhole) (arg17 : Memref sig .tc .vmem S2x4x256 .f32) (harg17 : arg17.IsWhole) (arg18 : Memref sig .tc .vmem S2x4x256x128 .f32) (harg18 : arg18.IsWhole) (arg19 : Memref sig .tc .vmem S2x4x256x128 .f32) (harg19 : arg19.IsWhole) (arg20 : Memref sig .tc .vmem S2x4x256x128 .f32) (harg20 : arg20.IsWhole) (arg21 : Memref sig .tc .vmem S4608x3584 .i8) (harg21 : arg21.IsWhole) (arg22 : Memref sig .tc .vmem S4608x128 .f32) (harg22 : arg22.IsWhole) (arg23 : Memref sig .tc .vmem S2x256x3584 .bf16) (harg23 : arg23.IsWhole) (arg24 : Memref sig .tc .vmem S256x128 .f32) (harg24 : arg24.IsWhole) (hc0 : k0_cond1 i = 1#1)
    (x0 : Vec Ideal S2x256x3584 .bf16) (x1 : Vec Ideal S1792x4608 .i8) (x2 : Vec Ideal S36x128 .f32) (x3 : Vec Ideal S2x64x256 .f32) (x4 : Vec Ideal S2x64x256 .f32) (x5 : Vec Ideal S128x384 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (XC x0) ∗ owns (c : Thread nD τ) arg8 fullShare (XS x0) ∗ owns (c : Thread nD τ) arg9 fullShare (QB x0 x1 x2 x3 x4 x5) ∗ (∃ d, owns (c : Thread nD τ) arg10 fullShare d) ∗ (∃ d, owns (c : Thread nD τ) arg11 fullShare d) ∗ owns (c : Thread nD τ) arg12 fullShare (BYTES (KEYS x0 x1 x2 x3 x4 x5)) ∗ owns (c : Thread nD τ) arg13 fullShare (STEPS (KEYS x0 x1 x2 x3 x4 x5)) ∗ owns (c : Thread nD τ) arg14 fullShare (LOWS (KEYS x0 x1 x2 x3 x4 x5)) ∗ owns (c : Thread nD τ) arg15 fullShare (BYTES (VALS x0 x1 x2)) ∗ owns (c : Thread nD τ) arg16 fullShare (STEPS (VALS x0 x1 x2)) ∗ owns (c : Thread nD τ) arg17 fullShare (LOWS (VALS x0 x1 x2)) ∗ (∃ d, owns (c : Thread nD τ) arg18 fullShare d) ∗ (∃ d, owns (c : Thread nD τ) arg19 fullShare d) ∗ (∃ d, owns (c : Thread nD τ) arg20 fullShare d) ∗ owns (c : Thread nD τ) arg21 fullShare (WT x1) ∗ owns (c : Thread nD τ) arg22 fullShare (WSR x2) ∗ (∃ d, owns (c : Thread nD τ) arg23 fullShare d) ∗ (∃ d, owns (c : Thread nD τ) arg24 fullShare d)) -∗ K ⟨⟩))
          ⊢ wp frame (wpE (defs₀ (F := Ideal)) Variants.none c none) E (cc0_qkv i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
    intro E K
    simp only [cc0_qkv_eq_skeleton]; unfold cc0_qkv_skel
    simp only [k0_part47_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0)
    sl_step
    have h4 := harg4.read_unread (Val := Elt Ideal) x3
    have h5 := harg5.read_unread (Val := Elt Ideal) x4
    have h6 := harg6.read_unread (Val := Elt Ideal) x5
    have h23 := fun G => (quant_read23 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (harg1.unread x0) G).trans (congrArg XB (harg1.read_unread x0))
    have h8 := fun H G a b d e => (quant_read8 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (harg1.unread x0) H G a b d e).trans (congrArg XS (harg1.read_unread x0))
    have h21 := fun G => (t1_read21 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 (harg2.unread x1) (harg3.unread x2) G).trans (congrArg WT (harg2.read_unread x1))
    have h22 := fun G => (t1_read22 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 (harg2.unread x1) (harg3.unread x2) G).trans (congrArg WSR (harg3.read_unread x2))
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; swap; · iexact H6
      ipureintro
      exact (quant_read7 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (harg1.unread x0) _).trans (congrArg XC (harg1.read_unread x0))
    isplitl [H7]
    · iexists _; isplitr; swap; · iexact H7
      ipureintro
      exact h8 _ _ _ _ _ _
    isplitl [H8]
    · iexists _; isplitr; swap; · iexact H8
      ipureintro
      sl_unfold_run_names
      exact query_read Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 _ _ _ _ _ _ _ h4 h5 h6 (h8 _ _ _ _ _ _) (h21 _) (h22 _) (h23 _) _ _ _ _ _ _ _ _ _ _ _ _ h4 h5 h6 (h8 _ _ _ _ _ _) (h21 _) (h22 _) (h23 _)
    isplitl [H9]
    · iexists _, _; isplitr; swap; · iexact H9
      ipureintro; rfl
    isplitl [H10]
    · iexists _, _; isplitr; swap; · iexact H10
      ipureintro; rfl
    isplitl [H11]
    · iexists _; isplitr; swap; · iexact H11
      ipureintro
      sl_unfold_run_names
      refine bytes_read _ _ _ _ _ _ _ _ _ _ _ ?_ ?_ ?_ ?_ ?_ ?_ ?_ ?_
      · exact ⟨HADV _ (ROTV (HEADV slices_S512x256_o384_0_S128x256 (PROJ _ _) _ _) _ _), rfl, is_key (is_val (keyHead 3) 7 3 rfl rfl (lw_of arg21 (h21 _) _ rfl) (lx_of arg23 (h23 _) _ 1 rfl) (ls_of arg22 (h22 _) _ rfl) (lr_of arg8 (h8 _ _ _ _ _ _) _ 1 rfl)) (la_of arg4 h4 _ 1 rfl) (la_of arg5 h5 _ 1 rfl) (lh_of arg6 h6 _)⟩
      · exact ⟨HADV _ (ROTV (HEADV slices_S512x256_o256_0_S128x256 (PROJ _ _) _ _) _ _), rfl, is_key (is_val (keyHead 2) 7 2 rfl rfl (lw_of arg21 (h21 _) _ rfl) (lx_of arg23 (h23 _) _ 1 rfl) (ls_of arg22 (h22 _) _ rfl) (lr_of arg8 (h8 _ _ _ _ _ _) _ 1 rfl)) (la_of arg4 h4 _ 1 rfl) (la_of arg5 h5 _ 1 rfl) (lh_of arg6 h6 _)⟩
      · exact ⟨HADV _ (ROTV (HEADV slices_S512x256_o128_0_S128x256 (PROJ _ _) _ _) _ _), rfl, is_key (is_val (keyHead 1) 7 1 rfl rfl (lw_of arg21 (h21 _) _ rfl) (lx_of arg23 (h23 _) _ 1 rfl) (ls_of arg22 (h22 _) _ rfl) (lr_of arg8 (h8 _ _ _ _ _ _) _ 1 rfl)) (la_of arg4 h4 _ 1 rfl) (la_of arg5 h5 _ 1 rfl) (lh_of arg6 h6 _)⟩
      · exact ⟨HADV _ (ROTV (HEADV slices_S512x256_o0_0_S128x256 (PROJ _ _) _ _) _ _), rfl, is_key (is_val (keyHead 0) 7 0 rfl rfl (lw_of arg21 (h21 _) _ rfl) (lx_of arg23 (h23 _) _ 1 rfl) (ls_of arg22 (h22 _) _ rfl) (lr_of arg8 (h8 _ _ _ _ _ _) _ 1 rfl)) (la_of arg4 h4 _ 1 rfl) (la_of arg5 h5 _ 1 rfl) (lh_of arg6 h6 _)⟩
      · exact ⟨HADV _ (ROTV (HEADV slices_S512x256_o384_0_S128x256 (PROJ _ _) _ _) _ _), rfl, is_key (is_val (keyHead 3) 7 3 rfl rfl (lw_of arg21 (h21 _) _ rfl) (lx_of arg23 (h23 _) _ 0 rfl) (ls_of arg22 (h22 _) _ rfl) (lr_of arg8 (h8 _ _ _ _ _ _) _ 0 rfl)) (la_of arg4 h4 _ 0 rfl) (la_of arg5 h5 _ 0 rfl) (lh_of arg6 h6 _)⟩
      · exact ⟨HADV _ (ROTV (HEADV slices_S512x256_o256_0_S128x256 (PROJ _ _) _ _) _ _), rfl, is_key (is_val (keyHead 2) 7 2 rfl rfl (lw_of arg21 (h21 _) _ rfl) (lx_of arg23 (h23 _) _ 0 rfl) (ls_of arg22 (h22 _) _ rfl) (lr_of arg8 (h8 _ _ _ _ _ _) _ 0 rfl)) (la_of arg4 h4 _ 0 rfl) (la_of arg5 h5 _ 0 rfl) (lh_of arg6 h6 _)⟩
      · exact ⟨HADV _ (ROTV (HEADV slices_S512x256_o128_0_S128x256 (PROJ _ _) _ _) _ _), rfl, is_key (is_val (keyHead 1) 7 1 rfl rfl (lw_of arg21 (h21 _) _ rfl) (lx_of arg23 (h23 _) _ 0 rfl) (ls_of arg22 (h22 _) _ rfl) (lr_of arg8 (h8 _ _ _ _ _ _) _ 0 rfl)) (la_of arg4 h4 _ 0 rfl) (la_of arg5 h5 _ 0 rfl) (lh_of arg6 h6 _)⟩
      · exact ⟨HADV _ (ROTV (HEADV slices_S512x256_o0_0_S128x256 (PROJ _ _) _ _) _ _), rfl, is_key (is_val (keyHead 0) 7 0 rfl rfl (lw_of arg21 (h21 _) _ rfl) (lx_of arg23 (h23 _) _ 0 rfl) (ls_of arg22 (h22 _) _ rfl) (lr_of arg8 (h8 _ _ _ _ _ _) _ 0 rfl)) (la_of arg4 h4 _ 0 rfl) (la_of arg5 h5 _ 0 rfl) (lh_of arg6 h6 _)⟩
    isplitl [H12]
    · iexists _; isplitr; swap; · iexact H12
      ipureintro
      sl_unfold_run_names
      refine steps_read _ _ _ _ _ _ _ _ _ _ _ ?_ ?_ ?_ ?_ ?_ ?_ ?_ ?_
      · exact ⟨HADV _ (ROTV (HEADV slices_S512x256_o384_0_S128x256 (PROJ _ _) _ _) _ _), rfl, is_key (is_val (keyHead 3) 7 3 rfl rfl (lw_of arg21 (h21 _) _ rfl) (lx_of arg23 (h23 _) _ 1 rfl) (ls_of arg22 (h22 _) _ rfl) (lr_of arg8 (h8 _ _ _ _ _ _) _ 1 rfl)) (la_of arg4 h4 _ 1 rfl) (la_of arg5 h5 _ 1 rfl) (lh_of arg6 h6 _)⟩
      · exact ⟨HADV _ (ROTV (HEADV slices_S512x256_o256_0_S128x256 (PROJ _ _) _ _) _ _), rfl, is_key (is_val (keyHead 2) 7 2 rfl rfl (lw_of arg21 (h21 _) _ rfl) (lx_of arg23 (h23 _) _ 1 rfl) (ls_of arg22 (h22 _) _ rfl) (lr_of arg8 (h8 _ _ _ _ _ _) _ 1 rfl)) (la_of arg4 h4 _ 1 rfl) (la_of arg5 h5 _ 1 rfl) (lh_of arg6 h6 _)⟩
      · exact ⟨HADV _ (ROTV (HEADV slices_S512x256_o128_0_S128x256 (PROJ _ _) _ _) _ _), rfl, is_key (is_val (keyHead 1) 7 1 rfl rfl (lw_of arg21 (h21 _) _ rfl) (lx_of arg23 (h23 _) _ 1 rfl) (ls_of arg22 (h22 _) _ rfl) (lr_of arg8 (h8 _ _ _ _ _ _) _ 1 rfl)) (la_of arg4 h4 _ 1 rfl) (la_of arg5 h5 _ 1 rfl) (lh_of arg6 h6 _)⟩
      · exact ⟨HADV _ (ROTV (HEADV slices_S512x256_o0_0_S128x256 (PROJ _ _) _ _) _ _), rfl, is_key (is_val (keyHead 0) 7 0 rfl rfl (lw_of arg21 (h21 _) _ rfl) (lx_of arg23 (h23 _) _ 1 rfl) (ls_of arg22 (h22 _) _ rfl) (lr_of arg8 (h8 _ _ _ _ _ _) _ 1 rfl)) (la_of arg4 h4 _ 1 rfl) (la_of arg5 h5 _ 1 rfl) (lh_of arg6 h6 _)⟩
      · exact ⟨HADV _ (ROTV (HEADV slices_S512x256_o384_0_S128x256 (PROJ _ _) _ _) _ _), rfl, is_key (is_val (keyHead 3) 7 3 rfl rfl (lw_of arg21 (h21 _) _ rfl) (lx_of arg23 (h23 _) _ 0 rfl) (ls_of arg22 (h22 _) _ rfl) (lr_of arg8 (h8 _ _ _ _ _ _) _ 0 rfl)) (la_of arg4 h4 _ 0 rfl) (la_of arg5 h5 _ 0 rfl) (lh_of arg6 h6 _)⟩
      · exact ⟨HADV _ (ROTV (HEADV slices_S512x256_o256_0_S128x256 (PROJ _ _) _ _) _ _), rfl, is_key (is_val (keyHead 2) 7 2 rfl rfl (lw_of arg21 (h21 _) _ rfl) (lx_of arg23 (h23 _) _ 0 rfl) (ls_of arg22 (h22 _) _ rfl) (lr_of arg8 (h8 _ _ _ _ _ _) _ 0 rfl)) (la_of arg4 h4 _ 0 rfl) (la_of arg5 h5 _ 0 rfl) (lh_of arg6 h6 _)⟩
      · exact ⟨HADV _ (ROTV (HEADV slices_S512x256_o128_0_S128x256 (PROJ _ _) _ _) _ _), rfl, is_key (is_val (keyHead 1) 7 1 rfl rfl (lw_of arg21 (h21 _) _ rfl) (lx_of arg23 (h23 _) _ 0 rfl) (ls_of arg22 (h22 _) _ rfl) (lr_of arg8 (h8 _ _ _ _ _ _) _ 0 rfl)) (la_of arg4 h4 _ 0 rfl) (la_of arg5 h5 _ 0 rfl) (lh_of arg6 h6 _)⟩
      · exact ⟨HADV _ (ROTV (HEADV slices_S512x256_o0_0_S128x256 (PROJ _ _) _ _) _ _), rfl, is_key (is_val (keyHead 0) 7 0 rfl rfl (lw_of arg21 (h21 _) _ rfl) (lx_of arg23 (h23 _) _ 0 rfl) (ls_of arg22 (h22 _) _ rfl) (lr_of arg8 (h8 _ _ _ _ _ _) _ 0 rfl)) (la_of arg4 h4 _ 0 rfl) (la_of arg5 h5 _ 0 rfl) (lh_of arg6 h6 _)⟩
    isplitl [H13]
    · iexists _; isplitr; swap; · iexact H13
      ipureintro
      sl_unfold_run_names
      refine lows_read _ _ _ _ _ _ _ _ _ _ _ ?_ ?_ ?_ ?_ ?_ ?_ ?_ ?_
      · exact ⟨HADV _ (ROTV (HEADV slices_S512x256_o384_0_S128x256 (PROJ _ _) _ _) _ _), rfl, is_key (is_val (keyHead 3) 7 3 rfl rfl (lw_of arg21 (h21 _) _ rfl) (lx_of arg23 (h23 _) _ 1 rfl) (ls_of arg22 (h22 _) _ rfl) (lr_of arg8 (h8 _ _ _ _ _ _) _ 1 rfl)) (la_of arg4 h4 _ 1 rfl) (la_of arg5 h5 _ 1 rfl) (lh_of arg6 h6 _)⟩
      · exact ⟨HADV _ (ROTV (HEADV slices_S512x256_o256_0_S128x256 (PROJ _ _) _ _) _ _), rfl, is_key (is_val (keyHead 2) 7 2 rfl rfl (lw_of arg21 (h21 _) _ rfl) (lx_of arg23 (h23 _) _ 1 rfl) (ls_of arg22 (h22 _) _ rfl) (lr_of arg8 (h8 _ _ _ _ _ _) _ 1 rfl)) (la_of arg4 h4 _ 1 rfl) (la_of arg5 h5 _ 1 rfl) (lh_of arg6 h6 _)⟩
      · exact ⟨HADV _ (ROTV (HEADV slices_S512x256_o128_0_S128x256 (PROJ _ _) _ _) _ _), rfl, is_key (is_val (keyHead 1) 7 1 rfl rfl (lw_of arg21 (h21 _) _ rfl) (lx_of arg23 (h23 _) _ 1 rfl) (ls_of arg22 (h22 _) _ rfl) (lr_of arg8 (h8 _ _ _ _ _ _) _ 1 rfl)) (la_of arg4 h4 _ 1 rfl) (la_of arg5 h5 _ 1 rfl) (lh_of arg6 h6 _)⟩
      · exact ⟨HADV _ (ROTV (HEADV slices_S512x256_o0_0_S128x256 (PROJ _ _) _ _) _ _), rfl, is_key (is_val (keyHead 0) 7 0 rfl rfl (lw_of arg21 (h21 _) _ rfl) (lx_of arg23 (h23 _) _ 1 rfl) (ls_of arg22 (h22 _) _ rfl) (lr_of arg8 (h8 _ _ _ _ _ _) _ 1 rfl)) (la_of arg4 h4 _ 1 rfl) (la_of arg5 h5 _ 1 rfl) (lh_of arg6 h6 _)⟩
      · exact ⟨HADV _ (ROTV (HEADV slices_S512x256_o384_0_S128x256 (PROJ _ _) _ _) _ _), rfl, is_key (is_val (keyHead 3) 7 3 rfl rfl (lw_of arg21 (h21 _) _ rfl) (lx_of arg23 (h23 _) _ 0 rfl) (ls_of arg22 (h22 _) _ rfl) (lr_of arg8 (h8 _ _ _ _ _ _) _ 0 rfl)) (la_of arg4 h4 _ 0 rfl) (la_of arg5 h5 _ 0 rfl) (lh_of arg6 h6 _)⟩
      · exact ⟨HADV _ (ROTV (HEADV slices_S512x256_o256_0_S128x256 (PROJ _ _) _ _) _ _), rfl, is_key (is_val (keyHead 2) 7 2 rfl rfl (lw_of arg21 (h21 _) _ rfl) (lx_of arg23 (h23 _) _ 0 rfl) (ls_of arg22 (h22 _) _ rfl) (lr_of arg8 (h8 _ _ _ _ _ _) _ 0 rfl)) (la_of arg4 h4 _ 0 rfl) (la_of arg5 h5 _ 0 rfl) (lh_of arg6 h6 _)⟩
      · exact ⟨HADV _ (ROTV (HEADV slices_S512x256_o128_0_S128x256 (PROJ _ _) _ _) _ _), rfl, is_key (is_val (keyHead 1) 7 1 rfl rfl (lw_of arg21 (h21 _) _ rfl) (lx_of arg23 (h23 _) _ 0 rfl) (ls_of arg22 (h22 _) _ rfl) (lr_of arg8 (h8 _ _ _ _ _ _) _ 0 rfl)) (la_of arg4 h4 _ 0 rfl) (la_of arg5 h5 _ 0 rfl) (lh_of arg6 h6 _)⟩
      · exact ⟨HADV _ (ROTV (HEADV slices_S512x256_o0_0_S128x256 (PROJ _ _) _ _) _ _), rfl, is_key (is_val (keyHead 0) 7 0 rfl rfl (lw_of arg21 (h21 _) _ rfl) (lx_of arg23 (h23 _) _ 0 rfl) (ls_of arg22 (h22 _) _ rfl) (lr_of arg8 (h8 _ _ _ _ _ _) _ 0 rfl)) (la_of arg4 h4 _ 0 rfl) (la_of arg5 h5 _ 0 rfl) (lh_of arg6 h6 _)⟩
    isplitl [H14]
    · iexists _; isplitr; swap; · iexact H14
      ipureintro
      sl_unfold_run_names
      refine bytes_read _ _ _ _ _ _ _ _ _ _ _ ?_ ?_ ?_ ?_ ?_ ?_ ?_ ?_
      · exact ⟨HEADV slices_S512x256_o384_0_S128x256 (PROJ _ _) _ _, rfl, is_val (valHead 3) 8 3 rfl rfl (lw_of arg21 (h21 _) _ rfl) (lx_of arg23 (h23 _) _ 1 rfl) (ls_of arg22 (h22 _) _ rfl) (lr_of arg8 (h8 _ _ _ _ _ _) _ 1 rfl)⟩
      · exact ⟨HEADV slices_S512x256_o256_0_S128x256 (PROJ _ _) _ _, rfl, is_val (valHead 2) 8 2 rfl rfl (lw_of arg21 (h21 _) _ rfl) (lx_of arg23 (h23 _) _ 1 rfl) (ls_of arg22 (h22 _) _ rfl) (lr_of arg8 (h8 _ _ _ _ _ _) _ 1 rfl)⟩
      · exact ⟨HEADV slices_S512x256_o128_0_S128x256 (PROJ _ _) _ _, rfl, is_val (valHead 1) 8 1 rfl rfl (lw_of arg21 (h21 _) _ rfl) (lx_of arg23 (h23 _) _ 1 rfl) (ls_of arg22 (h22 _) _ rfl) (lr_of arg8 (h8 _ _ _ _ _ _) _ 1 rfl)⟩
      · exact ⟨HEADV slices_S512x256_o0_0_S128x256 (PROJ _ _) _ _, rfl, is_val (valHead 0) 8 0 rfl rfl (lw_of arg21 (h21 _) _ rfl) (lx_of arg23 (h23 _) _ 1 rfl) (ls_of arg22 (h22 _) _ rfl) (lr_of arg8 (h8 _ _ _ _ _ _) _ 1 rfl)⟩
      · exact ⟨HEADV slices_S512x256_o384_0_S128x256 (PROJ _ _) _ _, rfl, is_val (valHead 3) 8 3 rfl rfl (lw_of arg21 (h21 _) _ rfl) (lx_of arg23 (h23 _) _ 0 rfl) (ls_of arg22 (h22 _) _ rfl) (lr_of arg8 (h8 _ _ _ _ _ _) _ 0 rfl)⟩
      · exact ⟨HEADV slices_S512x256_o256_0_S128x256 (PROJ _ _) _ _, rfl, is_val (valHead 2) 8 2 rfl rfl (lw_of arg21 (h21 _) _ rfl) (lx_of arg23 (h23 _) _ 0 rfl) (ls_of arg22 (h22 _) _ rfl) (lr_of arg8 (h8 _ _ _ _ _ _) _ 0 rfl)⟩
      · exact ⟨HEADV slices_S512x256_o128_0_S128x256 (PROJ _ _) _ _, rfl, is_val (valHead 1) 8 1 rfl rfl (lw_of arg21 (h21 _) _ rfl) (lx_of arg23 (h23 _) _ 0 rfl) (ls_of arg22 (h22 _) _ rfl) (lr_of arg8 (h8 _ _ _ _ _ _) _ 0 rfl)⟩
      · exact ⟨HEADV slices_S512x256_o0_0_S128x256 (PROJ _ _) _ _, rfl, is_val (valHead 0) 8 0 rfl rfl (lw_of arg21 (h21 _) _ rfl) (lx_of arg23 (h23 _) _ 0 rfl) (ls_of arg22 (h22 _) _ rfl) (lr_of arg8 (h8 _ _ _ _ _ _) _ 0 rfl)⟩
    isplitl [H15]
    · iexists _; isplitr; swap; · iexact H15
      ipureintro
      sl_unfold_run_names
      refine steps_read _ _ _ _ _ _ _ _ _ _ _ ?_ ?_ ?_ ?_ ?_ ?_ ?_ ?_
      · exact ⟨HEADV slices_S512x256_o384_0_S128x256 (PROJ _ _) _ _, rfl, is_val (valHead 3) 8 3 rfl rfl (lw_of arg21 (h21 _) _ rfl) (lx_of arg23 (h23 _) _ 1 rfl) (ls_of arg22 (h22 _) _ rfl) (lr_of arg8 (h8 _ _ _ _ _ _) _ 1 rfl)⟩
      · exact ⟨HEADV slices_S512x256_o256_0_S128x256 (PROJ _ _) _ _, rfl, is_val (valHead 2) 8 2 rfl rfl (lw_of arg21 (h21 _) _ rfl) (lx_of arg23 (h23 _) _ 1 rfl) (ls_of arg22 (h22 _) _ rfl) (lr_of arg8 (h8 _ _ _ _ _ _) _ 1 rfl)⟩
      · exact ⟨HEADV slices_S512x256_o128_0_S128x256 (PROJ _ _) _ _, rfl, is_val (valHead 1) 8 1 rfl rfl (lw_of arg21 (h21 _) _ rfl) (lx_of arg23 (h23 _) _ 1 rfl) (ls_of arg22 (h22 _) _ rfl) (lr_of arg8 (h8 _ _ _ _ _ _) _ 1 rfl)⟩
      · exact ⟨HEADV slices_S512x256_o0_0_S128x256 (PROJ _ _) _ _, rfl, is_val (valHead 0) 8 0 rfl rfl (lw_of arg21 (h21 _) _ rfl) (lx_of arg23 (h23 _) _ 1 rfl) (ls_of arg22 (h22 _) _ rfl) (lr_of arg8 (h8 _ _ _ _ _ _) _ 1 rfl)⟩
      · exact ⟨HEADV slices_S512x256_o384_0_S128x256 (PROJ _ _) _ _, rfl, is_val (valHead 3) 8 3 rfl rfl (lw_of arg21 (h21 _) _ rfl) (lx_of arg23 (h23 _) _ 0 rfl) (ls_of arg22 (h22 _) _ rfl) (lr_of arg8 (h8 _ _ _ _ _ _) _ 0 rfl)⟩
      · exact ⟨HEADV slices_S512x256_o256_0_S128x256 (PROJ _ _) _ _, rfl, is_val (valHead 2) 8 2 rfl rfl (lw_of arg21 (h21 _) _ rfl) (lx_of arg23 (h23 _) _ 0 rfl) (ls_of arg22 (h22 _) _ rfl) (lr_of arg8 (h8 _ _ _ _ _ _) _ 0 rfl)⟩
      · exact ⟨HEADV slices_S512x256_o128_0_S128x256 (PROJ _ _) _ _, rfl, is_val (valHead 1) 8 1 rfl rfl (lw_of arg21 (h21 _) _ rfl) (lx_of arg23 (h23 _) _ 0 rfl) (ls_of arg22 (h22 _) _ rfl) (lr_of arg8 (h8 _ _ _ _ _ _) _ 0 rfl)⟩
      · exact ⟨HEADV slices_S512x256_o0_0_S128x256 (PROJ _ _) _ _, rfl, is_val (valHead 0) 8 0 rfl rfl (lw_of arg21 (h21 _) _ rfl) (lx_of arg23 (h23 _) _ 0 rfl) (ls_of arg22 (h22 _) _ rfl) (lr_of arg8 (h8 _ _ _ _ _ _) _ 0 rfl)⟩
    isplitl [H16]
    · iexists _; isplitr; swap; · iexact H16
      ipureintro
      sl_unfold_run_names
      refine lows_read _ _ _ _ _ _ _ _ _ _ _ ?_ ?_ ?_ ?_ ?_ ?_ ?_ ?_
      · exact ⟨HEADV slices_S512x256_o384_0_S128x256 (PROJ _ _) _ _, rfl, is_val (valHead 3) 8 3 rfl rfl (lw_of arg21 (h21 _) _ rfl) (lx_of arg23 (h23 _) _ 1 rfl) (ls_of arg22 (h22 _) _ rfl) (lr_of arg8 (h8 _ _ _ _ _ _) _ 1 rfl)⟩
      · exact ⟨HEADV slices_S512x256_o256_0_S128x256 (PROJ _ _) _ _, rfl, is_val (valHead 2) 8 2 rfl rfl (lw_of arg21 (h21 _) _ rfl) (lx_of arg23 (h23 _) _ 1 rfl) (ls_of arg22 (h22 _) _ rfl) (lr_of arg8 (h8 _ _ _ _ _ _) _ 1 rfl)⟩
      · exact ⟨HEADV slices_S512x256_o128_0_S128x256 (PROJ _ _) _ _, rfl, is_val (valHead 1) 8 1 rfl rfl (lw_of arg21 (h21 _) _ rfl) (lx_of arg23 (h23 _) _ 1 rfl) (ls_of arg22 (h22 _) _ rfl) (lr_of arg8 (h8 _ _ _ _ _ _) _ 1 rfl)⟩
      · exact ⟨HEADV slices_S512x256_o0_0_S128x256 (PROJ _ _) _ _, rfl, is_val (valHead 0) 8 0 rfl rfl (lw_of arg21 (h21 _) _ rfl) (lx_of arg23 (h23 _) _ 1 rfl) (ls_of arg22 (h22 _) _ rfl) (lr_of arg8 (h8 _ _ _ _ _ _) _ 1 rfl)⟩
      · exact ⟨HEADV slices_S512x256_o384_0_S128x256 (PROJ _ _) _ _, rfl, is_val (valHead 3) 8 3 rfl rfl (lw_of arg21 (h21 _) _ rfl) (lx_of arg23 (h23 _) _ 0 rfl) (ls_of arg22 (h22 _) _ rfl) (lr_of arg8 (h8 _ _ _ _ _ _) _ 0 rfl)⟩
      · exact ⟨HEADV slices_S512x256_o256_0_S128x256 (PROJ _ _) _ _, rfl, is_val (valHead 2) 8 2 rfl rfl (lw_of arg21 (h21 _) _ rfl) (lx_of arg23 (h23 _) _ 0 rfl) (ls_of arg22 (h22 _) _ rfl) (lr_of arg8 (h8 _ _ _ _ _ _) _ 0 rfl)⟩
      · exact ⟨HEADV slices_S512x256_o128_0_S128x256 (PROJ _ _) _ _, rfl, is_val (valHead 1) 8 1 rfl rfl (lw_of arg21 (h21 _) _ rfl) (lx_of arg23 (h23 _) _ 0 rfl) (ls_of arg22 (h22 _) _ rfl) (lr_of arg8 (h8 _ _ _ _ _ _) _ 0 rfl)⟩
      · exact ⟨HEADV slices_S512x256_o0_0_S128x256 (PROJ _ _) _ _, rfl, is_val (valHead 0) 8 0 rfl rfl (lw_of arg21 (h21 _) _ rfl) (lx_of arg23 (h23 _) _ 0 rfl) (ls_of arg22 (h22 _) _ rfl) (lr_of arg8 (h8 _ _ _ _ _ _) _ 0 rfl)⟩
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [HS0]
    · iexists _; isplitr; swap; · iexact HS0
      ipureintro
      exact h21 _
    isplitl [HS1]
    · iexists _; isplitr; swap; · iexact HS1
      ipureintro
      exact h22 _
    isplitl [HS2]
    · iexists _, _; isplitr; swap; · iexact HS2
      ipureintro; rfl
    iexists _, _; isplitr; swap; · iexact HS3
    ipureintro; rfl

end Cert.QkvIdeal.Hand
end
-- ==== Proof.Qkv.RunB.lean ====
module

public import proofs.«01_k».proof.Proof.Qkv.Query
public import proofs.«01_k».proof.Proof.Qkv.Unpack
public import proofs.«01_k».proof.Proof.Qkv.Quant
public import proofs.«01_k».proof.Proof.Qkv.Heads
public import proofs.«01_k».proof.Proof.Gen.QkvIdeal.Frame

/-!
# The body at a later point
-/

@[expose] public section
set_option maxRecDepth 16384
noncomputable section
namespace Cert.QkvIdeal.Hand
open Cert.QkvIdeal Cert.QkvIdeal.Gen
open Idealize.ShloMosaic Idealize.ShloMosaic.TcCoe Idealize.ShloMosaic.Tactic
open Idealize.ShloMosaic.Pointwise
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

set_option maxHeartbeats 4000000 in
/-- The body at a later point: it finds the weights unpacked. -/
theorem runB (c : Dev nD) (i : grid0.Coords) (arg1 : Memref sig .tc .vmem S2x256x3584 .bf16) (harg1 : arg1.IsWhole) (arg2 : Memref sig .tc .vmem S1792x4608 .i8) (harg2 : arg2.IsWhole) (arg3 : Memref sig .tc .vmem S36x128 .f32) (harg3 : arg3.IsWhole) (arg4 : Memref sig .tc .vmem S2x64x256 .f32) (harg4 : arg4.IsWhole) (arg5 : Memref sig .tc .vmem S2x64x256 .f32) (harg5 : arg5.IsWhole) (arg6 : Memref sig .tc .vmem S128x384 .bf16) (harg6 : arg6.IsWhole) (arg7 : Memref sig .tc .vmem S2x256x3584 .i8) (harg7 : arg7.IsWhole) (arg8 : Memref sig .tc .vmem S2x256 .f32) (harg8 : arg8.IsWhole) (arg9 : Memref sig .tc .vmem S2x28x128x256 .bf16) (harg9 : arg9.IsWhole) (arg10 : Memref sig .tc .vmem S2x4x256x256 .bf16) (harg10 : arg10.IsWhole) (arg11 : Memref sig .tc .vmem S2x4x128x256 .bf16) (harg11 : arg11.IsWhole) (arg12 : Memref sig .tc .vmem S2x4x64x256 .i8) (harg12 : arg12.IsWhole) (arg13 : Memref sig .tc .vmem S2x4x256 .f32) (harg13 : arg13.IsWhole) (arg14 : Memref sig .tc .vmem S2x4x256 .f32) (harg14 : arg14.IsWhole) (arg15 : Memref sig .tc .vmem S2x4x64x256 .i8) (harg15 : arg15.IsWhole) (arg16 : Memref sig .tc .vmem S2x4x256 .f32) (harg16 : arg16.IsWhole) (arg17 : Memref sig .tc .vmem S2x4x256 .f32) (harg17 : arg17.IsWhole) (arg18 : Memref sig .tc .vmem S2x4x256x128 .f32) (harg18 : arg18.IsWhole) (arg19 : Memref sig .tc .vmem S2x4x256x128 .f32) (harg19 : arg19.IsWhole) (arg20 : Memref sig .tc .vmem S2x4x256x128 .f32) (harg20 : arg20.IsWhole) (arg21 : Memref sig .tc .vmem S4608x3584 .i8) (harg21 : arg21.IsWhole) (arg22 : Memref sig .tc .vmem S4608x128 .f32) (harg22 : arg22.IsWhole) (arg23 : Memref sig .tc .vmem S2x256x3584 .bf16) (harg23 : arg23.IsWhole) (arg24 : Memref sig .tc .vmem S256x128 .f32) (harg24 : arg24.IsWhole) (hc0 : ¬ k0_cond1 i = 1#1)
    (x0 : Vec Ideal S2x256x3584 .bf16) (x1 : Vec Ideal S1792x4608 .i8) (x2 : Vec Ideal S36x128 .f32) (x3 : Vec Ideal S2x64x256 .f32) (x4 : Vec Ideal S2x64x256 .f32) (x5 : Vec Ideal S128x384 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ owns (c : Thread nD τ) arg21 fullShare (WT x1) ∗ owns (c : Thread nD τ) arg22 fullShare (WSR x2) ∗ (∃ d, owns (c : Thread nD τ) arg23 fullShare d) ∗ (∃ d, owns (c : Thread nD τ) arg24 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (XC x0) ∗ owns (c : Thread nD τ) arg8 fullShare (XS x0) ∗ owns (c : Thread nD τ) arg9 fullShare (QB x0 x1 x2 x3 x4 x5) ∗ (∃ d, owns (c : Thread nD τ) arg10 fullShare d) ∗ (∃ d, owns (c : Thread nD τ) arg11 fullShare d) ∗ owns (c : Thread nD τ) arg12 fullShare (BYTES (KEYS x0 x1 x2 x3 x4 x5)) ∗ owns (c : Thread nD τ) arg13 fullShare (STEPS (KEYS x0 x1 x2 x3 x4 x5)) ∗ owns (c : Thread nD τ) arg14 fullShare (LOWS (KEYS x0 x1 x2 x3 x4 x5)) ∗ owns (c : Thread nD τ) arg15 fullShare (BYTES (VALS x0 x1 x2)) ∗ owns (c : Thread nD τ) arg16 fullShare (STEPS (VALS x0 x1 x2)) ∗ owns (c : Thread nD τ) arg17 fullShare (LOWS (VALS x0 x1 x2)) ∗ (∃ d, owns (c : Thread nD τ) arg18 fullShare d) ∗ (∃ d, owns (c : Thread nD τ) arg19 fullShare d) ∗ (∃ d, owns (c : Thread nD τ) arg20 fullShare d) ∗ owns (c : Thread nD τ) arg21 fullShare (WT x1) ∗ owns (c : Thread nD τ) arg22 fullShare (WSR x2) ∗ (∃ d, owns (c : Thread nD τ) arg23 fullShare d) ∗ (∃ d, owns (c : Thread nD τ) arg24 fullShare d)) -∗ K ⟨⟩))
          ⊢ wp frame (wpE (defs₀ (F := Ideal)) Variants.none c none) E (cc0_qkv i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
    intro E K
    simp only [cc0_qkv_eq_skeleton]; unfold cc0_qkv_skel
    simp only [k0_part47_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%fs0, %hfs0, HS0⟩, ⟨%fs1, %hfs1, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg21.eq_unread hfs0; obtain rfl := harg22.eq_unread hfs1
    sl_exec (disch := first | sl_exact hc0)
    sl_step
    have h4 := harg4.read_unread (Val := Elt Ideal) x3
    have h5 := harg5.read_unread (Val := Elt Ideal) x4
    have h6 := harg6.read_unread (Val := Elt Ideal) x5
    have h23 := fun G => (quant_read23 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (harg1.unread x0) G).trans (congrArg XB (harg1.read_unread x0))
    have h8 := fun H G a b d e => (quant_read8 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (harg1.unread x0) H G a b d e).trans (congrArg XS (harg1.read_unread x0))
    have h21 := harg21.read_unread (Val := Elt Ideal) (WT x1)
    have h22 := harg22.read_unread (Val := Elt Ideal) (WSR x2)
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; swap; · iexact H6
      ipureintro
      exact (quant_read7 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (harg1.unread x0) _).trans (congrArg XC (harg1.read_unread x0))
    isplitl [H7]
    · iexists _; isplitr; swap; · iexact H7
      ipureintro
      exact h8 _ _ _ _ _ _
    isplitl [H8]
    · iexists _; isplitr; swap; · iexact H8
      ipureintro
      sl_unfold_run_names
      exact query_read Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 _ _ _ _ _ _ _ h4 h5 h6 (h8 _ _ _ _ _ _) h21 h22 (h23 _) _ _ _ _ _ _ _ _ _ _ _ _ h4 h5 h6 (h8 _ _ _ _ _ _) h21 h22 (h23 _)
    isplitl [H9]
    · iexists _, _; isplitr; swap; · iexact H9
      ipureintro; rfl
    isplitl [H10]
    · iexists _, _; isplitr; swap; · iexact H10
      ipureintro; rfl
    isplitl [H11]
    · iexists _; isplitr; swap; · iexact H11
      ipureintro
      sl_unfold_run_names
      refine bytes_read _ _ _ _ _ _ _ _ _ _ _ ?_ ?_ ?_ ?_ ?_ ?_ ?_ ?_
      · exact ⟨HADV _ (ROTV (HEADV slices_S512x256_o384_0_S128x256 (PROJ _ _) _ _) _ _), rfl, is_key (is_val (keyHead 3) 7 3 rfl rfl (lw_of arg21 h21 _ rfl) (lx_of arg23 (h23 _) _ 1 rfl) (ls_of arg22 h22 _ rfl) (lr_of arg8 (h8 _ _ _ _ _ _) _ 1 rfl)) (la_of arg4 h4 _ 1 rfl) (la_of arg5 h5 _ 1 rfl) (lh_of arg6 h6 _)⟩
      · exact ⟨HADV _ (ROTV (HEADV slices_S512x256_o256_0_S128x256 (PROJ _ _) _ _) _ _), rfl, is_key (is_val (keyHead 2) 7 2 rfl rfl (lw_of arg21 h21 _ rfl) (lx_of arg23 (h23 _) _ 1 rfl) (ls_of arg22 h22 _ rfl) (lr_of arg8 (h8 _ _ _ _ _ _) _ 1 rfl)) (la_of arg4 h4 _ 1 rfl) (la_of arg5 h5 _ 1 rfl) (lh_of arg6 h6 _)⟩
      · exact ⟨HADV _ (ROTV (HEADV slices_S512x256_o128_0_S128x256 (PROJ _ _) _ _) _ _), rfl, is_key (is_val (keyHead 1) 7 1 rfl rfl (lw_of arg21 h21 _ rfl) (lx_of arg23 (h23 _) _ 1 rfl) (ls_of arg22 h22 _ rfl) (lr_of arg8 (h8 _ _ _ _ _ _) _ 1 rfl)) (la_of arg4 h4 _ 1 rfl) (la_of arg5 h5 _ 1 rfl) (lh_of arg6 h6 _)⟩
      · exact ⟨HADV _ (ROTV (HEADV slices_S512x256_o0_0_S128x256 (PROJ _ _) _ _) _ _), rfl, is_key (is_val (keyHead 0) 7 0 rfl rfl (lw_of arg21 h21 _ rfl) (lx_of arg23 (h23 _) _ 1 rfl) (ls_of arg22 h22 _ rfl) (lr_of arg8 (h8 _ _ _ _ _ _) _ 1 rfl)) (la_of arg4 h4 _ 1 rfl) (la_of arg5 h5 _ 1 rfl) (lh_of arg6 h6 _)⟩
      · exact ⟨HADV _ (ROTV (HEADV slices_S512x256_o384_0_S128x256 (PROJ _ _) _ _) _ _), rfl, is_key (is_val (keyHead 3) 7 3 rfl rfl (lw_of arg21 h21 _ rfl) (lx_of arg23 (h23 _) _ 0 rfl) (ls_of arg22 h22 _ rfl) (lr_of arg8 (h8 _ _ _ _ _ _) _ 0 rfl)) (la_of arg4 h4 _ 0 rfl) (la_of arg5 h5 _ 0 rfl) (lh_of arg6 h6 _)⟩
      · exact ⟨HADV _ (ROTV (HEADV slices_S512x256_o256_0_S128x256 (PROJ _ _) _ _) _ _), rfl, is_key (is_val (keyHead 2) 7 2 rfl rfl (lw_of arg21 h21 _ rfl) (lx_of arg23 (h23 _) _ 0 rfl) (ls_of arg22 h22 _ rfl) (lr_of arg8 (h8 _ _ _ _ _ _) _ 0 rfl)) (la_of arg4 h4 _ 0 rfl) (la_of arg5 h5 _ 0 rfl) (lh_of arg6 h6 _)⟩
      · exact ⟨HADV _ (ROTV (HEADV slices_S512x256_o128_0_S128x256 (PROJ _ _) _ _) _ _), rfl, is_key (is_val (keyHead 1) 7 1 rfl rfl (lw_of arg21 h21 _ rfl) (lx_of arg23 (h23 _) _ 0 rfl) (ls_of arg22 h22 _ rfl) (lr_of arg8 (h8 _ _ _ _ _ _) _ 0 rfl)) (la_of arg4 h4 _ 0 rfl) (la_of arg5 h5 _ 0 rfl) (lh_of arg6 h6 _)⟩
      · exact ⟨HADV _ (ROTV (HEADV slices_S512x256_o0_0_S128x256 (PROJ _ _) _ _) _ _), rfl, is_key (is_val (keyHead 0) 7 0 rfl rfl (lw_of arg21 h21 _ rfl) (lx_of arg23 (h23 _) _ 0 rfl) (ls_of arg22 h22 _ rfl) (lr_of arg8 (h8 _ _ _ _ _ _) _ 0 rfl)) (la_of arg4 h4 _ 0 rfl) (la_of arg5 h5 _ 0 rfl) (lh_of arg6 h6 _)⟩
    isplitl [H12]
    · iexists _; isplitr; swap; · iexact H12
      ipureintro
      sl_unfold_run_names
      refine steps_read _ _ _ _ _ _ _ _ _ _ _ ?_ ?_ ?_ ?_ ?_ ?_ ?_ ?_
      · exact ⟨HADV _ (ROTV (HEADV slices_S512x256_o384_0_S128x256 (PROJ _ _) _ _) _ _), rfl, is_key (is_val (keyHead 3) 7 3 rfl rfl (lw_of arg21 h21 _ rfl) (lx_of arg23 (h23 _) _ 1 rfl) (ls_of arg22 h22 _ rfl) (lr_of arg8 (h8 _ _ _ _ _ _) _ 1 rfl)) (la_of arg4 h4 _ 1 rfl) (la_of arg5 h5 _ 1 rfl) (lh_of arg6 h6 _)⟩
      · exact ⟨HADV _ (ROTV (HEADV slices_S512x256_o256_0_S128x256 (PROJ _ _) _ _) _ _), rfl, is_key (is_val (keyHead 2) 7 2 rfl rfl (lw_of arg21 h21 _ rfl) (lx_of arg23 (h23 _) _ 1 rfl) (ls_of arg22 h22 _ rfl) (lr_of arg8 (h8 _ _ _ _ _ _) _ 1 rfl)) (la_of arg4 h4 _ 1 rfl) (la_of arg5 h5 _ 1 rfl) (lh_of arg6 h6 _)⟩
      · exact ⟨HADV _ (ROTV (HEADV slices_S512x256_o128_0_S128x256 (PROJ _ _) _ _) _ _), rfl, is_key (is_val (keyHead 1) 7 1 rfl rfl (lw_of arg21 h21 _ rfl) (lx_of arg23 (h23 _) _ 1 rfl) (ls_of arg22 h22 _ rfl) (lr_of arg8 (h8 _ _ _ _ _ _) _ 1 rfl)) (la_of arg4 h4 _ 1 rfl) (la_of arg5 h5 _ 1 rfl) (lh_of arg6 h6 _)⟩
      · exact ⟨HADV _ (ROTV (HEADV slices_S512x256_o0_0_S128x256 (PROJ _ _) _ _) _ _), rfl, is_key (is_val (keyHead 0) 7 0 rfl rfl (lw_of arg21 h21 _ rfl) (lx_of arg23 (h23 _) _ 1 rfl) (ls_of arg22 h22 _ rfl) (lr_of arg8 (h8 _ _ _ _ _ _) _ 1 rfl)) (la_of arg4 h4 _ 1 rfl) (la_of arg5 h5 _ 1 rfl) (lh_of arg6 h6 _)⟩
      · exact ⟨HADV _ (ROTV (HEADV slices_S512x256_o384_0_S128x256 (PROJ _ _) _ _) _ _), rfl, is_key (is_val (keyHead 3) 7 3 rfl rfl (lw_of arg21 h21 _ rfl) (lx_of arg23 (h23 _) _ 0 rfl) (ls_of arg22 h22 _ rfl) (lr_of arg8 (h8 _ _ _ _ _ _) _ 0 rfl)) (la_of arg4 h4 _ 0 rfl) (la_of arg5 h5 _ 0 rfl) (lh_of arg6 h6 _)⟩
      · exact ⟨HADV _ (ROTV (HEADV slices_S512x256_o256_0_S128x256 (PROJ _ _) _ _) _ _), rfl, is_key (is_val (keyHead 2) 7 2 rfl rfl (lw_of arg21 h21 _ rfl) (lx_of arg23 (h23 _) _ 0 rfl) (ls_of arg22 h22 _ rfl) (lr_of arg8 (h8 _ _ _ _ _ _) _ 0 rfl)) (la_of arg4 h4 _ 0 rfl) (la_of arg5 h5 _ 0 rfl) (lh_of arg6 h6 _)⟩
      · exact ⟨HADV _ (ROTV (HEADV slices_S512x256_o128_0_S128x256 (PROJ _ _) _ _) _ _), rfl, is_key (is_val (keyHead 1) 7 1 rfl rfl (lw_of arg21 h21 _ rfl) (lx_of arg23 (h23 _) _ 0 rfl) (ls_of arg22 h22 _ rfl) (lr_of arg8 (h8 _ _ _ _ _ _) _ 0 rfl)) (la_of arg4 h4 _ 0 rfl) (la_of arg5 h5 _ 0 rfl) (lh_of arg6 h6 _)⟩
      · exact ⟨HADV _ (ROTV (HEADV slices_S512x256_o0_0_S128x256 (PROJ _ _) _ _) _ _), rfl, is_key (is_val (keyHead 0) 7 0 rfl rfl (lw_of arg21 h21 _ rfl) (lx_of arg23 (h23 _) _ 0 rfl) (ls_of arg22 h22 _ rfl) (lr_of arg8 (h8 _ _ _ _ _ _) _ 0 rfl)) (la_of arg4 h4 _ 0 rfl) (la_of arg5 h5 _ 0 rfl) (lh_of arg6 h6 _)⟩
    isplitl [H13]
    · iexists _; isplitr; swap; · iexact H13
      ipureintro
      sl_unfold_run_names
      refine lows_read _ _ _ _ _ _ _ _ _ _ _ ?_ ?_ ?_ ?_ ?_ ?_ ?_ ?_
      · exact ⟨HADV _ (ROTV (HEADV slices_S512x256_o384_0_S128x256 (PROJ _ _) _ _) _ _), rfl, is_key (is_val (keyHead 3) 7 3 rfl rfl (lw_of arg21 h21 _ rfl) (lx_of arg23 (h23 _) _ 1 rfl) (ls_of arg22 h22 _ rfl) (lr_of arg8 (h8 _ _ _ _ _ _) _ 1 rfl)) (la_of arg4 h4 _ 1 rfl) (la_of arg5 h5 _ 1 rfl) (lh_of arg6 h6 _)⟩
      · exact ⟨HADV _ (ROTV (HEADV slices_S512x256_o256_0_S128x256 (PROJ _ _) _ _) _ _), rfl, is_key (is_val (keyHead 2) 7 2 rfl rfl (lw_of arg21 h21 _ rfl) (lx_of arg23 (h23 _) _ 1 rfl) (ls_of arg22 h22 _ rfl) (lr_of arg8 (h8 _ _ _ _ _ _) _ 1 rfl)) (la_of arg4 h4 _ 1 rfl) (la_of arg5 h5 _ 1 rfl) (lh_of arg6 h6 _)⟩
      · exact ⟨HADV _ (ROTV (HEADV slices_S512x256_o128_0_S128x256 (PROJ _ _) _ _) _ _), rfl, is_key (is_val (keyHead 1) 7 1 rfl rfl (lw_of arg21 h21 _ rfl) (lx_of arg23 (h23 _) _ 1 rfl) (ls_of arg22 h22 _ rfl) (lr_of arg8 (h8 _ _ _ _ _ _) _ 1 rfl)) (la_of arg4 h4 _ 1 rfl) (la_of arg5 h5 _ 1 rfl) (lh_of arg6 h6 _)⟩
      · exact ⟨HADV _ (ROTV (HEADV slices_S512x256_o0_0_S128x256 (PROJ _ _) _ _) _ _), rfl, is_key (is_val (keyHead 0) 7 0 rfl rfl (lw_of arg21 h21 _ rfl) (lx_of arg23 (h23 _) _ 1 rfl) (ls_of arg22 h22 _ rfl) (lr_of arg8 (h8 _ _ _ _ _ _) _ 1 rfl)) (la_of arg4 h4 _ 1 rfl) (la_of arg5 h5 _ 1 rfl) (lh_of arg6 h6 _)⟩
      · exact ⟨HADV _ (ROTV (HEADV slices_S512x256_o384_0_S128x256 (PROJ _ _) _ _) _ _), rfl, is_key (is_val (keyHead 3) 7 3 rfl rfl (lw_of arg21 h21 _ rfl) (lx_of arg23 (h23 _) _ 0 rfl) (ls_of arg22 h22 _ rfl) (lr_of arg8 (h8 _ _ _ _ _ _) _ 0 rfl)) (la_of arg4 h4 _ 0 rfl) (la_of arg5 h5 _ 0 rfl) (lh_of arg6 h6 _)⟩
      · exact ⟨HADV _ (ROTV (HEADV slices_S512x256_o256_0_S128x256 (PROJ _ _) _ _) _ _), rfl, is_key (is_val (keyHead 2) 7 2 rfl rfl (lw_of arg21 h21 _ rfl) (lx_of arg23 (h23 _) _ 0 rfl) (ls_of arg22 h22 _ rfl) (lr_of arg8 (h8 _ _ _ _ _ _) _ 0 rfl)) (la_of arg4 h4 _ 0 rfl) (la_of arg5 h5 _ 0 rfl) (lh_of arg6 h6 _)⟩
      · exact ⟨HADV _ (ROTV (HEADV slices_S512x256_o128_0_S128x256 (PROJ _ _) _ _) _ _), rfl, is_key (is_val (keyHead 1) 7 1 rfl rfl (lw_of arg21 h21 _ rfl) (lx_of arg23 (h23 _) _ 0 rfl) (ls_of arg22 h22 _ rfl) (lr_of arg8 (h8 _ _ _ _ _ _) _ 0 rfl)) (la_of arg4 h4 _ 0 rfl) (la_of arg5 h5 _ 0 rfl) (lh_of arg6 h6 _)⟩
      · exact ⟨HADV _ (ROTV (HEADV slices_S512x256_o0_0_S128x256 (PROJ _ _) _ _) _ _), rfl, is_key (is_val (keyHead 0) 7 0 rfl rfl (lw_of arg21 h21 _ rfl) (lx_of arg23 (h23 _) _ 0 rfl) (ls_of arg22 h22 _ rfl) (lr_of arg8 (h8 _ _ _ _ _ _) _ 0 rfl)) (la_of arg4 h4 _ 0 rfl) (la_of arg5 h5 _ 0 rfl) (lh_of arg6 h6 _)⟩
    isplitl [H14]
    · iexists _; isplitr; swap; · iexact H14
      ipureintro
      sl_unfold_run_names
      refine bytes_read _ _ _ _ _ _ _ _ _ _ _ ?_ ?_ ?_ ?_ ?_ ?_ ?_ ?_
      · exact ⟨HEADV slices_S512x256_o384_0_S128x256 (PROJ _ _) _ _, rfl, is_val (valHead 3) 8 3 rfl rfl (lw_of arg21 h21 _ rfl) (lx_of arg23 (h23 _) _ 1 rfl) (ls_of arg22 h22 _ rfl) (lr_of arg8 (h8 _ _ _ _ _ _) _ 1 rfl)⟩
      · exact ⟨HEADV slices_S512x256_o256_0_S128x256 (PROJ _ _) _ _, rfl, is_val (valHead 2) 8 2 rfl rfl (lw_of arg21 h21 _ rfl) (lx_of arg23 (h23 _) _ 1 rfl) (ls_of arg22 h22 _ rfl) (lr_of arg8 (h8 _ _ _ _ _ _) _ 1 rfl)⟩
      · exact ⟨HEADV slices_S512x256_o128_0_S128x256 (PROJ _ _) _ _, rfl, is_val (valHead 1) 8 1 rfl rfl (lw_of arg21 h21 _ rfl) (lx_of arg23 (h23 _) _ 1 rfl) (ls_of arg22 h22 _ rfl) (lr_of arg8 (h8 _ _ _ _ _ _) _ 1 rfl)⟩
      · exact ⟨HEADV slices_S512x256_o0_0_S128x256 (PROJ _ _) _ _, rfl, is_val (valHead 0) 8 0 rfl rfl (lw_of arg21 h21 _ rfl) (lx_of arg23 (h23 _) _ 1 rfl) (ls_of arg22 h22 _ rfl) (lr_of arg8 (h8 _ _ _ _ _ _) _ 1 rfl)⟩
      · exact ⟨HEADV slices_S512x256_o384_0_S128x256 (PROJ _ _) _ _, rfl, is_val (valHead 3) 8 3 rfl rfl (lw_of arg21 h21 _ rfl) (lx_of arg23 (h23 _) _ 0 rfl) (ls_of arg22 h22 _ rfl) (lr_of arg8 (h8 _ _ _ _ _ _) _ 0 rfl)⟩
      · exact ⟨HEADV slices_S512x256_o256_0_S128x256 (PROJ _ _) _ _, rfl, is_val (valHead 2) 8 2 rfl rfl (lw_of arg21 h21 _ rfl) (lx_of arg23 (h23 _) _ 0 rfl) (ls_of arg22 h22 _ rfl) (lr_of arg8 (h8 _ _ _ _ _ _) _ 0 rfl)⟩
      · exact ⟨HEADV slices_S512x256_o128_0_S128x256 (PROJ _ _) _ _, rfl, is_val (valHead 1) 8 1 rfl rfl (lw_of arg21 h21 _ rfl) (lx_of arg23 (h23 _) _ 0 rfl) (ls_of arg22 h22 _ rfl) (lr_of arg8 (h8 _ _ _ _ _ _) _ 0 rfl)⟩
      · exact ⟨HEADV slices_S512x256_o0_0_S128x256 (PROJ _ _) _ _, rfl, is_val (valHead 0) 8 0 rfl rfl (lw_of arg21 h21 _ rfl) (lx_of arg23 (h23 _) _ 0 rfl) (ls_of arg22 h22 _ rfl) (lr_of arg8 (h8 _ _ _ _ _ _) _ 0 rfl)⟩
    isplitl [H15]
    · iexists _; isplitr; swap; · iexact H15
      ipureintro
      sl_unfold_run_names
      refine steps_read _ _ _ _ _ _ _ _ _ _ _ ?_ ?_ ?_ ?_ ?_ ?_ ?_ ?_
      · exact ⟨HEADV slices_S512x256_o384_0_S128x256 (PROJ _ _) _ _, rfl, is_val (valHead 3) 8 3 rfl rfl (lw_of arg21 h21 _ rfl) (lx_of arg23 (h23 _) _ 1 rfl) (ls_of arg22 h22 _ rfl) (lr_of arg8 (h8 _ _ _ _ _ _) _ 1 rfl)⟩
      · exact ⟨HEADV slices_S512x256_o256_0_S128x256 (PROJ _ _) _ _, rfl, is_val (valHead 2) 8 2 rfl rfl (lw_of arg21 h21 _ rfl) (lx_of arg23 (h23 _) _ 1 rfl) (ls_of arg22 h22 _ rfl) (lr_of arg8 (h8 _ _ _ _ _ _) _ 1 rfl)⟩
      · exact ⟨HEADV slices_S512x256_o128_0_S128x256 (PROJ _ _) _ _, rfl, is_val (valHead 1) 8 1 rfl rfl (lw_of arg21 h21 _ rfl) (lx_of arg23 (h23 _) _ 1 rfl) (ls_of arg22 h22 _ rfl) (lr_of arg8 (h8 _ _ _ _ _ _) _ 1 rfl)⟩
      · exact ⟨HEADV slices_S512x256_o0_0_S128x256 (PROJ _ _) _ _, rfl, is_val (valHead 0) 8 0 rfl rfl (lw_of arg21 h21 _ rfl) (lx_of arg23 (h23 _) _ 1 rfl) (ls_of arg22 h22 _ rfl) (lr_of arg8 (h8 _ _ _ _ _ _) _ 1 rfl)⟩
      · exact ⟨HEADV slices_S512x256_o384_0_S128x256 (PROJ _ _) _ _, rfl, is_val (valHead 3) 8 3 rfl rfl (lw_of arg21 h21 _ rfl) (lx_of arg23 (h23 _) _ 0 rfl) (ls_of arg22 h22 _ rfl) (lr_of arg8 (h8 _ _ _ _ _ _) _ 0 rfl)⟩
      · exact ⟨HEADV slices_S512x256_o256_0_S128x256 (PROJ _ _) _ _, rfl, is_val (valHead 2) 8 2 rfl rfl (lw_of arg21 h21 _ rfl) (lx_of arg23 (h23 _) _ 0 rfl) (ls_of arg22 h22 _ rfl) (lr_of arg8 (h8 _ _ _ _ _ _) _ 0 rfl)⟩
      · exact ⟨HEADV slices_S512x256_o128_0_S128x256 (PROJ _ _) _ _, rfl, is_val (valHead 1) 8 1 rfl rfl (lw_of arg21 h21 _ rfl) (lx_of arg23 (h23 _) _ 0 rfl) (ls_of arg22 h22 _ rfl) (lr_of arg8 (h8 _ _ _ _ _ _) _ 0 rfl)⟩
      · exact ⟨HEADV slices_S512x256_o0_0_S128x256 (PROJ _ _) _ _, rfl, is_val (valHead 0) 8 0 rfl rfl (lw_of arg21 h21 _ rfl) (lx_of arg23 (h23 _) _ 0 rfl) (ls_of arg22 h22 _ rfl) (lr_of arg8 (h8 _ _ _ _ _ _) _ 0 rfl)⟩
    isplitl [H16]
    · iexists _; isplitr; swap; · iexact H16
      ipureintro
      sl_unfold_run_names
      refine lows_read _ _ _ _ _ _ _ _ _ _ _ ?_ ?_ ?_ ?_ ?_ ?_ ?_ ?_
      · exact ⟨HEADV slices_S512x256_o384_0_S128x256 (PROJ _ _) _ _, rfl, is_val (valHead 3) 8 3 rfl rfl (lw_of arg21 h21 _ rfl) (lx_of arg23 (h23 _) _ 1 rfl) (ls_of arg22 h22 _ rfl) (lr_of arg8 (h8 _ _ _ _ _ _) _ 1 rfl)⟩
      · exact ⟨HEADV slices_S512x256_o256_0_S128x256 (PROJ _ _) _ _, rfl, is_val (valHead 2) 8 2 rfl rfl (lw_of arg21 h21 _ rfl) (lx_of arg23 (h23 _) _ 1 rfl) (ls_of arg22 h22 _ rfl) (lr_of arg8 (h8 _ _ _ _ _ _) _ 1 rfl)⟩
      · exact ⟨HEADV slices_S512x256_o128_0_S128x256 (PROJ _ _) _ _, rfl, is_val (valHead 1) 8 1 rfl rfl (lw_of arg21 h21 _ rfl) (lx_of arg23 (h23 _) _ 1 rfl) (ls_of arg22 h22 _ rfl) (lr_of arg8 (h8 _ _ _ _ _ _) _ 1 rfl)⟩
      · exact ⟨HEADV slices_S512x256_o0_0_S128x256 (PROJ _ _) _ _, rfl, is_val (valHead 0) 8 0 rfl rfl (lw_of arg21 h21 _ rfl) (lx_of arg23 (h23 _) _ 1 rfl) (ls_of arg22 h22 _ rfl) (lr_of arg8 (h8 _ _ _ _ _ _) _ 1 rfl)⟩
      · exact ⟨HEADV slices_S512x256_o384_0_S128x256 (PROJ _ _) _ _, rfl, is_val (valHead 3) 8 3 rfl rfl (lw_of arg21 h21 _ rfl) (lx_of arg23 (h23 _) _ 0 rfl) (ls_of arg22 h22 _ rfl) (lr_of arg8 (h8 _ _ _ _ _ _) _ 0 rfl)⟩
      · exact ⟨HEADV slices_S512x256_o256_0_S128x256 (PROJ _ _) _ _, rfl, is_val (valHead 2) 8 2 rfl rfl (lw_of arg21 h21 _ rfl) (lx_of arg23 (h23 _) _ 0 rfl) (ls_of arg22 h22 _ rfl) (lr_of arg8 (h8 _ _ _ _ _ _) _ 0 rfl)⟩
      · exact ⟨HEADV slices_S512x256_o128_0_S128x256 (PROJ _ _) _ _, rfl, is_val (valHead 1) 8 1 rfl rfl (lw_of arg21 h21 _ rfl) (lx_of arg23 (h23 _) _ 0 rfl) (ls_of arg22 h22 _ rfl) (lr_of arg8 (h8 _ _ _ _ _ _) _ 0 rfl)⟩
      · exact ⟨HEADV slices_S512x256_o0_0_S128x256 (PROJ _ _) _ _, rfl, is_val (valHead 0) 8 0 rfl rfl (lw_of arg21 h21 _ rfl) (lx_of arg23 (h23 _) _ 0 rfl) (ls_of arg22 h22 _ rfl) (lr_of arg8 (h8 _ _ _ _ _ _) _ 0 rfl)⟩
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [HS0]
    · iexists _; isplitr; · ipureintro; exact harg21.read_unread _
      iexact HS0
    isplitl [HS1]
    · iexists _; isplitr; · ipureintro; exact harg22.read_unread _
      iexact HS1
    isplitl [HS2]
    · iexists _, _; isplitr; swap; · iexact HS2
      ipureintro; rfl
    iexists _, _; isplitr; swap; · iexact HS3
    ipureintro; rfl

end Cert.QkvIdeal.Hand
end
-- ==== Proof.Qkv.Run.lean ====
module

public import proofs.«01_k».proof.Proof.Qkv.RunA
public import proofs.«01_k».proof.Proof.Qkv.RunB
public import Idealize.ShloMosaic.Lib.Claim

/-!
# The projection kernel's run

The proof data of the pipeline (what every block buffer holds after the body at a point, and that from the second point
on two scratch buffers hold the unpacked weights and their scales), the body at a generic point, and the run.  The five
intermediate arrays that only the attention reads are not named: keys and values as floats, and the three buffers of steps
and ends spread over lanes.
-/

@[expose] public section
set_option maxRecDepth 16384
noncomputable section
namespace Cert.QkvIdeal.Hand
open Cert.QkvIdeal Cert.QkvIdeal.Gen
open Idealize.ShloMosaic Idealize.ShloMosaic.TcCoe Idealize.ShloMosaic.Tactic
open Idealize.ShloMosaic.Pointwise
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## The frame claim's post from the frame run's -/

set_option maxHeartbeats 1200000 in
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Qkv`, Defs.lean, at any `F`). -/
theorem frame_of_rel (rdat : (c : Dev nD) → Pipeline.RDat τ (Elt Ideal) Unit ℕ (UR sig nD τ) ℕ (cfgs 0) c)
    (hA : ∀ c w, (rdat c).A w = V m c (Pipeline.arrRef spec0 w))
    (h : θ_run defs (onTc (τ := τ) (main (F := Ideal))) (s₀ m ρ) (Pipeline.RDat.FramePost (cfgs 0) rdat (V m))) :
    θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, k0_cond1, e0]
    word_cmp
   : ∀ t : Fin grid0.N, cond0_0 (grid0.coords t) ↔ t.val % 8 = 0)

/-! ## The kernel body on any staging memrefs: a subtype the run finds -/

/-- Each window's current staging memref at point `t`, spelled as the pipeline passes it (`bodyAt0`), and its wholeness. -/
abbrev ms0_0 (t : Fin cfg0.N) : Memref sig .tc .vmem S2x256x3584 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1792x4608 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S36x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x64x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x64x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x384 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2x256x3584 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2x28x128x256 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S2x4x256x256 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S2x4x128x256 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S2x4x64x256 .i8 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S2x4x256 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S2x4x256 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S2x4x64x256 .i8 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S2x4x256 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S2x4x256 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S2x4x256x128 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S2x4x256x128 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S2x4x256x128 .f32 := win0_19.stage (cfg0.slots t 19)
abbrev hs0_19 (t : Fin cfg0.N) : (ms0_19 t).IsWhole := hstage0_19 ((cfg0.slots t 19).cast nbuf0_19)
/-- The scratch operands: whole scoped buffers of the kernel's own, passed beside the windows. -/
abbrev scM0_0 : Memref sig .tc .vmem S4608x3584 .i8 := Memref.whole cc0_scratch0
abbrev scM0_1 : Memref sig .tc .vmem S4608x128 .f32 := Memref.whole cc0_scratch1
abbrev scM0_2 : Memref sig .tc .vmem S2x256x3584 .bf16 := Memref.whole cc0_scratch2
abbrev scM0_3 : Memref sig .tc .vmem S256x128 .f32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

-- (the run's proof term is large: the definition's epilogue — `abstractNestedProofs` — walks it past the default budget)

/-! ## The proof data -/

/-- The blocks of the inputs at a point, at their literal shapes. -/
abbrev b0 (c : Dev nD) (t : Fin cfg0.N) : Vec Ideal S2x256x3584 .bf16 := iblk m c 0 t
abbrev b1 (c : Dev nD) (t : Fin cfg0.N) : Vec Ideal S1792x4608 .i8 := iblk m c 1 t
abbrev b2 (c : Dev nD) (t : Fin cfg0.N) : Vec Ideal S36x128 .f32 := iblk m c 2 t
abbrev b3 (c : Dev nD) (t : Fin cfg0.N) : Vec Ideal S2x64x256 .f32 := iblk m c 3 t
abbrev b4 (c : Dev nD) (t : Fin cfg0.N) : Vec Ideal S2x64x256 .f32 := iblk m c 4 t
abbrev b5 (c : Dev nD) (t : Fin cfg0.N) : Vec Ideal S128x384 .bf16 := iblk m c 5 t

/-- The packed weights and the scales: their block is the whole array at every point. -/
theorem b1_const (c : Dev nD) (t t' : Fin cfg0.N) : b1 m c t = b1 m c t' := rfl
theorem b2_const (c : Dev nD) (t t' : Fin cfg0.N) : b2 m c t = b2 m c t' := rfl

/-- The first point. -/
abbrev t0 : Fin cfg0.N := ⟨0, by rw [show cfg0.N = 8 from N_0]; decide⟩

/-- What the body carries from point to point: from the second point on, the unpacked weights and their scales. -/
def carried (c : Dev nD) (n : Nat) : sProp 𝕄 :=
  iprop(iprop((∃ d, ⌜n ≠ 0 → d = WT (b1 m c t0)⌝ ∗ owns (c : Thread nD τ) scM0_0 fullShare d)
    ∗ (∃ d, ⌜n ≠ 0 → d = WSR (b2 m c t0)⌝ ∗ owns (c : Thread nD τ) scM0_1 fullShare d)
    ∗ (∃ d, owns (c : Thread nD τ) scM0_2 fullShare d) ∗ (∃ d, owns (c : Thread nD τ) scM0_3 fullShare d))
    ∗ (∃ r, prngReg c r))

/-- The windows of which nothing is named. -/
def forgets0 : Fin 20 → Bool := fun w => w.val == 9 || w.val == 10 || w.val == 17 || w.val == 18 || w.val == 19

/-- The proof data: each array as the region finds it, each named result block at what the body computes from the input
blocks. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => XC (b0 m c t)
    | ⟨7, _⟩ => XS (b0 m c t)
    | ⟨8, _⟩ => QB (b0 m c t) (b1 m c t) (b2 m c t) (b3 m c t) (b4 m c t) (b5 m c t)
    | ⟨9, h⟩ => Pipeline.Dat.unnamed (cfg := cfg0) ⟨9, h⟩ t
    | ⟨10, h⟩ => Pipeline.Dat.unnamed (cfg := cfg0) ⟨10, h⟩ t
    | ⟨11, _⟩ => BYTES (KEYS (b0 m c t) (b1 m c t) (b2 m c t) (b3 m c t) (b4 m c t) (b5 m c t))
    | ⟨12, _⟩ => STEPS (KEYS (b0 m c t) (b1 m c t) (b2 m c t) (b3 m c t) (b4 m c t) (b5 m c t))
    | ⟨13, _⟩ => LOWS (KEYS (b0 m c t) (b1 m c t) (b2 m c t) (b3 m c t) (b4 m c t) (b5 m c t))
    | ⟨14, _⟩ => BYTES (VALS (b0 m c t) (b1 m c t) (b2 m c t))
    | ⟨15, _⟩ => STEPS (VALS (b0 m c t) (b1 m c t) (b2 m c t))
    | ⟨16, _⟩ => LOWS (VALS (b0 m c t) (b1 m c t) (b2 m c t))
    | ⟨17, h⟩ => Pipeline.Dat.unnamed (cfg := cfg0) ⟨17, h⟩ t
    | ⟨18, h⟩ => Pipeline.Dat.unnamed (cfg := cfg0) ⟨18, h⟩ t
    | ⟨19, h⟩ => Pipeline.Dat.unnamed (cfg := cfg0) ⟨19, h⟩ t
    | ⟨_ + 20, h⟩ => absurd h (Nat.not_lt.2 (Nat.le_add_left _ _))
  Φ t := carried m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = XC (b0 m c t) := by dsimp only [dats]
theorem after0_7 (c : Dev nD) (t : Fin cfg0.N) : (dats m 0 c).after 7 t = XS (b0 m c t) := by dsimp only [dats]
theorem after0_8 (c : Dev nD) (t : Fin cfg0.N) : (dats m 0 c).after 8 t = QB (b0 m c t) (b1 m c t) (b2 m c t) (b3 m c t) (b4 m c t) (b5 m c t) := by dsimp only [dats]
theorem after0_11 (c : Dev nD) (t : Fin cfg0.N) : (dats m 0 c).after 11 t = BYTES (KEYS (b0 m c t) (b1 m c t) (b2 m c t) (b3 m c t) (b4 m c t) (b5 m c t)) := by dsimp only [dats]
theorem after0_12 (c : Dev nD) (t : Fin cfg0.N) : (dats m 0 c).after 12 t = STEPS (KEYS (b0 m c t) (b1 m c t) (b2 m c t) (b3 m c t) (b4 m c t) (b5 m c t)) := by dsimp only [dats]
theorem after0_13 (c : Dev nD) (t : Fin cfg0.N) : (dats m 0 c).after 13 t = LOWS (KEYS (b0 m c t) (b1 m c t) (b2 m c t) (b3 m c t) (b4 m c t) (b5 m c t)) := by dsimp only [dats]
theorem after0_14 (c : Dev nD) (t : Fin cfg0.N) : (dats m 0 c).after 14 t = BYTES (VALS (b0 m c t) (b1 m c t) (b2 m c t)) := by dsimp only [dats]
theorem after0_15 (c : Dev nD) (t : Fin cfg0.N) : (dats m 0 c).after 15 t = STEPS (VALS (b0 m c t) (b1 m c t) (b2 m c t)) := by dsimp only [dats]
theorem after0_16 (c : Dev nD) (t : Fin cfg0.N) : (dats m 0 c).after 16 t = LOWS (VALS (b0 m c t) (b1 m c t) (b2 m c t)) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare d)
    ∗ (∃ d, owns (c : Thread nD τ) (ms0_10 t) fullShare d)
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare d)
    ∗ (∃ d, owns (c : Thread nD τ) (ms0_18 t) fullShare d)
    ∗ (∃ d, owns (c : Thread nD τ) (ms0_19 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ (∃ d, owns (c : Thread nD τ) (ms0_9 t) fullShare d)
    ∗ (∃ d, owns (c : Thread nD τ) (ms0_10 t) fullShare d)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ (∃ d, owns (c : Thread nD τ) (ms0_17 t) fullShare d)
    ∗ (∃ d, owns (c : Thread nD τ) (ms0_18 t) fullShare d)
    ∗ (∃ d, owns (c : Thread nD τ) (ms0_19 t) fullShare d))

set_option maxHeartbeats 19200000 in
/-- The body at any point: at the first it unpacks the weights, later it finds them unpacked. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6, after0_7, after0_8, after0_11, after0_12, after0_13, after0_14, after0_15, after0_16]
  rw [show (dats m 0 c).Φ t.castSucc = carried m c t.val from rfl,
    show (dats m 0 c).Φ t.succ = carried m c (t.val + 1) from rfl]
  unfold carried
  have hN : t.val < 8 := lt_of_lt_of_eq t.isLt (show cfg0.N = 8 from N_0)
  by_cases h0 : t.val % 8 = 0
  · iintro ⟨⟨⟨⟨%ds, %hds, HS0⟩, ⟨%dr, %hdr, HS1⟩, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
    iapply ((runA c (grid0.coords t) _ _ _ _ _ _ _ _ _ _ _ _ _ _ _ _ _ _ _ _ _ _ _ _ _ _ _ _ _ _ _ _ _ _ _ _ _ _ _ _ _ _ _ _ _ _ _ _ ((hcond0_0 t).mpr h0) (b0 m c t) (b1 m c t) (b2 m c t) (b3 m c t) (b4 m c t) (b5 m c t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [HS0]; · iexists _; iexact HS0
    isplitl [HS1]; · iexists _; iexact HS1
    isplitl [HS2]; · iexact HS2
    isplitl [HS3]; · iexact HS3
    iintro ⟨H0, H1, H2, H3, H4, H5, H6, H7, H8, H9, H10, H11, H12, H13, H14, H15, H16, H17, H18, H19, HS0, HS1, HS2, HS3⟩
    isplitl [HS0 HS1 HS2 HS3 Hg]
    · isplitl [HS0 HS1 HS2 HS3]
      · isplitl [HS0]
        · iexists _; isplitr; swap; · iexact HS0
          ipureintro; exact fun _ => congrArg WT (b1_const m c t t0)
        isplitl [HS1]
        · iexists _; isplitr; swap; · iexact HS1
          ipureintro; exact fun _ => congrArg WSR (b2_const m c t t0)
        isplitl [HS2]
        · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19
  · iintro ⟨⟨⟨⟨%ds, %hds, HS0⟩, ⟨%dr, %hdr, HS1⟩, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
    obtain rfl : ds = WT (b1 m c t) := (hds (by omega)).trans (congrArg WT (b1_const m c t0 t))
    obtain rfl : dr = WSR (b2 m c t) := (hdr (by omega)).trans (congrArg WSR (b2_const m c t0 t))
    iapply ((runB c (grid0.coords t) _ _ _ _ _ _ _ _ _ _ _ _ _ _ _ _ _ _ _ _ _ _ _ _ _ _ _ _ _ _ _ _ _ _ _ _ _ _ _ _ _ _ _ _ _ _ _ _ (fun h => h0 ((hcond0_0 t).mp h)) (b0 m c t) (b1 m c t) (b2 m c t) (b3 m c t) (b4 m c t) (b5 m c t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [HS0]; · iexact HS0
    isplitl [HS1]; · iexact HS1
    isplitl [HS2]; · iexact HS2
    isplitl [HS3]; · iexact HS3
    iintro ⟨H0, H1, H2, H3, H4, H5, H6, H7, H8, H9, H10, H11, H12, H13, H14, H15, H16, H17, H18, H19, HS0, HS1, HS2, HS3⟩
    isplitl [HS0 HS1 HS2 HS3 Hg]
    · isplitl [HS0 HS1 HS2 HS3]
      · isplitl [HS0]
        · iexists _; isplitr; swap; · iexact HS0
          ipureintro; exact fun _ => congrArg WT (b1_const m c t t0)
        isplitl [HS1]
        · iexists _; isplitr; swap; · iexact HS1
          ipureintro; exact fun _ => congrArg WSR (b2_const m c t t0)
        isplitl [HS2]
        · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19

theorem defs₀_row (t : Fin cfg0.N) :
    defs₀ (F := Ideal) .tc cfg0.body (cfg0.bodyArgs t (cfg0.slots t)) = bodyAt0 t := by
  unfold defs₀; rw [Defs.onTc_tc]

/-- The body obligation, at every point. -/
theorem body_obligation (c : Dev nD) : BodyObligation (dats m 0 c) (defs₀ (F := Ideal)) Variants.none () Set.univ forgets0 := fun t => by
  rw [bigSep_W0, bigSep_W0, defs₀_row]
  exact triple_restated (sound_body m c t) rfl .rfl fun _ => .rfl

/-! ## The run -/

/-- Before the first point nothing is known of the scratch buffers; after the last it is forgotten. -/
theorem carried_in (c : Dev nD) : Pipeline.ΦA spec0 c ⊢ (carried m c 0 : sProp 𝕄) := by
  rw [PhiA0_eq]; unfold carried
  iintro ⟨⟨⟨%d, HS0⟩, ⟨%e, HS1⟩, HS2, HS3⟩, Hg⟩
  isplitl [HS0 HS1 HS2 HS3]
  · isplitl [HS0]
    · iexists d; isplitr; swap; · iexact HS0
      ipureintro; exact fun h => absurd rfl h
    isplitl [HS1]
    · iexists e; isplitr; swap; · iexact HS1
      ipureintro; exact fun h => absurd rfl h
    isplitl [HS2]
    · iexact HS2
    iexact HS3
  iexact Hg

theorem carried_out (c : Dev nD) (n : Nat) : (carried m c n : sProp 𝕄) ⊢ Pipeline.ΦA spec0 c := by
  rw [PhiA0_eq]; unfold carried
  iintro ⟨⟨⟨%d, %hd, HS0⟩, ⟨%e, %he, HS1⟩, HS2, HS3⟩, Hg⟩
  isplitl [HS0 HS1 HS2 HS3]
  · isplitl [HS0]
    · iexists d; iexact HS0
    isplitl [HS1]
    · iexists e; iexact HS1
    isplitl [HS2]
    · iexact HS2
    iexact HS3
  iexact Hg

set_option backward.isDefEq.respectTransparency.types false in
/-- Every run ends, with each named array of the pipeline at what the proof data say and every semaphore at zero. -/
theorem run_main_quiescent : θ_run defs (onTc (τ := τ) (main (F := Ideal))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m)
    (hin := fun c => carried_in m c) (hout := fun c => carried_out m c _)

theorem run_main : θ_run defs (onTc (τ := τ) (main (F := Ideal))) (s₀ m ρ) (Pipeline.RDat.FramePost (cfgs 0) (fun c => (dats m 0 c).toRForget forgets0) (V m)) :=
  (θ_run defs _ _).mono (fun _ h => h.1) (run_main_quiescent m ρ)

/-- The argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of_rel m ρ (fun c => (dats m 0 c).toRForget forgets0) (A_eq m) (run_main m ρ)

/-- The frame of the idealized kernel. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.QkvIdeal.Hand

end
-- ==== Proof.Qkv.Arrays.lean ====
module

public import proofs.«01_k».proof.Proof.Qkv.Run
public import Idealize.ShloMosaic.Lib.Pipeline.Value
public import Idealize.ShloMosaic.Lib.StableHlo.Run

/-!
# The projection kernel's result arrays

Point `t` works on tokens `256 t` to `256 t + 255` of both batches.  Its blocks tile the result arrays, so each named array
ends at one function of the argument arrays, given token by token.
-/

@[expose] public section
set_option maxRecDepth 16384
noncomputable section
namespace Cert.QkvIdeal.Hand
open Cert.QkvIdeal Cert.QkvIdeal.Gen
open Idealize.ShloMosaic Idealize.ShloMosaic.TcCoe Idealize.ShloMosaic.Tactic
open Idealize.ShloMosaic.Pointwise
open Idealize.SL.Sem
open Idealize.ShloMosaic.Pipeline (Dat)

/-- The row of token `T` of batch `b`, its angles, and the channel scales. -/
def tokRow (X : Vec Ideal S2x2048x3584 .bf16) (b : Fin 2) (T : Fin 2048) (k : Fin 3584) : EReal := X (ix3 b T k)
def tokAng (A : Vec Ideal S2x2048x64 .f32) (b : Fin 2) (T : Fin 2048) (d : Fin 64) : EReal := A (ix3 b T d)
def chanAt (S : Vec Ideal S4608 .f32) (o : Fin 4608) : EReal := S (ix1 o)

/-- The kernel's table of signs. -/
def HT : Vec Ideal S128x384 .bf16 := fun i => FloatOps.ofBits (F := Ideal) .bf16 (lit0 (S128x384.rowMajor i))

/-- Head `hd` of a token, rotated and transformed; and untouched. -/
def keyTok (X : Vec Ideal S2x2048x3584 .bf16) (W : Vec Ideal S1792x4608 .i8) (S : Vec Ideal S4608 .f32) (C Sn : Vec Ideal S2x2048x64 .f32)
    (hd : Fin 36) (b : Fin 2) (T : Fin 2048) : Fin 128 → EReal :=
  turned (tokRow X b T) (WT W) (chanAt S) (tokAng C b T) (tokAng Sn b T) HT hd
def valTok (X : Vec Ideal S2x2048x3584 .bf16) (W : Vec Ideal S1792x4608 .i8) (S : Vec Ideal S4608 .f32)
    (hd : Fin 36) (b : Fin 2) (T : Fin 2048) : Fin 128 → EReal := headAt (tokRow X b T) (WT W) (chanAt S) hd

/-- The result arrays, as functions of the argument arrays. -/
def GXC (X : Vec Ideal S2x2048x3584 .bf16) : Vec Ideal S2x2048x3584 .i8 := fun y =>
  FloatOps.fptosi (F := Ideal) 8 (φ := FTy.f32) (xcode (tokRow X (y 0) (y 1)) (y 2))
def GXS (X : Vec Ideal S2x2048x3584 .bf16) : Vec Ideal S2x2048 .f32 := fun y => xscale (tokRow X (y 0) (y 1))
def GQ (v : Fin 36 → Fin 2 → Fin 2048 → Fin 128 → EReal) : Vec Ideal S2x28x128x2048 .bf16 := fun y =>
  v ⟨(y 1).val, lt_trans (y 1).isLt (by decide)⟩ (y 0) (y 3) (y 2)
def GB (v : Fin 4 → Fin 2 → Fin 2048 → Fin 128 → EReal) : Vec Ideal S2x4x64x2048 .i8 := fun y => kvByte (v (y 1) (y 0) (y 3)) (y 2)
def GS (v : Fin 4 → Fin 2 → Fin 2048 → Fin 128 → EReal) : Vec Ideal S2x4x2048 .f32 := fun y => kvScale (v (y 1) (y 0) (y 2))
def GLow (v : Fin 4 → Fin 2 → Fin 2048 → Fin 128 → EReal) : Vec Ideal S2x4x2048 .f32 := fun y => kvLo (v (y 1) (y 0) (y 2))

variable (m : (ℓ : Loc nD τ sig) → Buf (Elt Ideal) ℓ) (ρ : Dev nD → PrngReg)

/-- The argument arrays of a device. -/
abbrev argX (c : Dev nD) : Vec Ideal S2x2048x3584 .bf16 := m ((c : Thread nD τ).loc main_arg0)
abbrev argW (c : Dev nD) : Vec Ideal S1792x4608 .i8 := m ((c : Thread nD τ).loc main_arg1)
abbrev argS (c : Dev nD) : Vec Ideal S4608 .f32 := m ((c : Thread nD τ).loc main_arg2)
abbrev argC (c : Dev nD) : Vec Ideal S2x2048x64 .f32 := m ((c : Thread nD τ).loc main_arg3)
abbrev argN (c : Dev nD) : Vec Ideal S2x2048x64 .f32 := m ((c : Thread nD τ).loc main_arg4)

/-- The heads of the argument arrays of a device. -/
abbrev heads (c : Dev nD) : Fin 36 → Fin 2 → Fin 2048 → Fin 128 → EReal := keyTok (argX m c) (argW m c) (argS m c) (argC m c) (argN m c)
abbrev keys (c : Dev nD) (j : Fin 4) : Fin 2 → Fin 2048 → Fin 128 → EReal := heads m c (keyHead j)
abbrev vals (c : Dev nD) (j : Fin 4) : Fin 2 → Fin 2048 → Fin 128 → EReal := valTok (argX m c) (argW m c) (argS m c) (valHead j)

/-- Token `p` of the block of point `t`. -/
def tok (t : Fin cfg0.N) (p : Fin 256) : Fin 2048 := ⟨256 * t.val + p.val, by have := t.isLt; have h : cfg0.N = 8 := N_0; omega⟩

/-- The block indices at a point. -/
theorem idx0 : ∀ t : Fin cfg0.N, win0_0.index t (0 : Fin 3) = 0 ∧ win0_0.index t (1 : Fin 3) = t.val ∧ win0_0.index t (2 : Fin 3) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 3) = 0 ∧ win0_3.index t (1 : Fin 3) = 0 ∧ win0_3.index t (2 : Fin 3) = t.val := (by decide +kernel : ∀ t : Fin grid0.N, _)
theorem idx4 : ∀ t : Fin cfg0.N, win0_4.index t (0 : Fin 3) = 0 ∧ win0_4.index t (1 : Fin 3) = 0 ∧ win0_4.index t (2 : Fin 3) = t.val := (by decide +kernel : ∀ t : Fin grid0.N, _)
theorem idx5 : ∀ t : Fin cfg0.N, win0_5.index t (0 : Fin 2) = 0 ∧ win0_5.index t (1 : Fin 2) = 0 := (by decide +kernel : ∀ t : Fin grid0.N, _)
theorem idx6 : ∀ t : Fin cfg0.N, win0_6.index t (0 : Fin 3) = 0 ∧ win0_6.index t (1 : Fin 3) = t.val ∧ win0_6.index t (2 : Fin 3) = 0 := (by decide +kernel : ∀ t : Fin grid0.N, _)
theorem idx7 : ∀ t : Fin cfg0.N, win0_7.index t (0 : Fin 2) = 0 ∧ win0_7.index t (1 : Fin 2) = t.val := (by decide +kernel : ∀ t : Fin grid0.N, _)
theorem idx8 : ∀ t : Fin cfg0.N, win0_8.index t (0 : Fin 4) = 0 ∧ win0_8.index t (1 : Fin 4) = 0 ∧ win0_8.index t (2 : Fin 4) = 0 ∧ win0_8.index t (3 : Fin 4) = t.val := (by decide +kernel : ∀ t : Fin grid0.N, _)
theorem idx11 : ∀ t : Fin cfg0.N, win0_11.index t (0 : Fin 4) = 0 ∧ win0_11.index t (1 : Fin 4) = 0 ∧ win0_11.index t (2 : Fin 4) = 0 ∧ win0_11.index t (3 : Fin 4) = t.val := (by decide +kernel : ∀ t : Fin grid0.N, _)
theorem idx12 : ∀ t : Fin cfg0.N, win0_12.index t (0 : Fin 3) = 0 ∧ win0_12.index t (1 : Fin 3) = 0 ∧ win0_12.index t (2 : Fin 3) = t.val := (by decide +kernel : ∀ t : Fin grid0.N, _)
theorem idx13 : ∀ t : Fin cfg0.N, win0_13.index t (0 : Fin 3) = 0 ∧ win0_13.index t (1 : Fin 3) = 0 ∧ win0_13.index t (2 : Fin 3) = t.val := (by decide +kernel : ∀ t : Fin grid0.N, _)
theorem idx14 : ∀ t : Fin cfg0.N, win0_14.index t (0 : Fin 4) = 0 ∧ win0_14.index t (1 : Fin 4) = 0 ∧ win0_14.index t (2 : Fin 4) = 0 ∧ win0_14.index t (3 : Fin 4) = t.val := (by decide +kernel : ∀ t : Fin grid0.N, _)
theorem idx15 : ∀ t : Fin cfg0.N, win0_15.index t (0 : Fin 3) = 0 ∧ win0_15.index t (1 : Fin 3) = 0 ∧ win0_15.index t (2 : Fin 3) = t.val := (by decide +kernel : ∀ t : Fin grid0.N, _)
theorem idx16 : ∀ t : Fin cfg0.N, win0_16.index t (0 : Fin 3) = 0 ∧ win0_16.index t (1 : Fin 3) = 0 ∧ win0_16.index t (2 : Fin 3) = t.val := (by decide +kernel : ∀ t : Fin grid0.N, _)

/-- Where an element of a block lies in its array. -/
theorem place0 (t : Fin cfg0.N) (j : S2x256x3584.Idx) : ((cfg0.win 0).blk t).view.emb j = (ix3 (j 0) (tok t (j 1)) (j 2) : S2x2048x3584.Idx) := by
  obtain ⟨e0, e1, e2⟩ := idx0 t
  funext a; apply Fin.ext
  match a with
  | ⟨0, _⟩ => show win0_0.index t (0 : Fin 3) * 2 + 1 * (j 0).val = (j 0).val; omega
  | ⟨1, _⟩ => show win0_0.index t (1 : Fin 3) * 256 + 1 * (j 1).val = 256 * t.val + (j 1).val; omega
  | ⟨2, _⟩ => show win0_0.index t (2 : Fin 3) * 3584 + 1 * (j 2).val = (j 2).val; omega
theorem place1 (t : Fin cfg0.N) (j : S1792x4608.Idx) : ((cfg0.win 1).blk t).view.emb j = j := by
  obtain ⟨e0, e1⟩ := idx1 t
  funext a; apply Fin.ext
  match a with
  | ⟨0, _⟩ => show win0_1.index t (0 : Fin 2) * 1792 + 1 * (j 0).val = (j 0).val; omega
  | ⟨1, _⟩ => show win0_1.index t (1 : Fin 2) * 4608 + 1 * (j 1).val = (j 1).val; omega
theorem place2 (t : Fin cfg0.N) (j : S36x128.Idx) : ((cfg0.win 2).blk t).view.emb j = j := by
  obtain ⟨e0, e1⟩ := idx2 t
  funext a; apply Fin.ext
  match a with
  | ⟨0, _⟩ => show win0_2.index t (0 : Fin 2) * 36 + 1 * (j 0).val = (j 0).val; omega
  | ⟨1, _⟩ => show win0_2.index t (1 : Fin 2) * 128 + 1 * (j 1).val = (j 1).val; omega
theorem place3 (t : Fin cfg0.N) (j : S2x64x256.Idx) : ((cfg0.win 3).blk t).view.emb j = (ix3 (j 0) (j 1) (tok t (j 2)) : S2x64x2048.Idx) := by
  obtain ⟨e0, e1, e2⟩ := idx3 t
  funext a; apply Fin.ext
  match a with
  | ⟨0, _⟩ => show win0_3.index t (0 : Fin 3) * 2 + 1 * (j 0).val = (j 0).val; omega
  | ⟨1, _⟩ => show win0_3.index t (1 : Fin 3) * 64 + 1 * (j 1).val = (j 1).val; omega
  | ⟨2, _⟩ => show win0_3.index t (2 : Fin 3) * 256 + 1 * (j 2).val = 256 * t.val + (j 2).val; omega
theorem place4 (t : Fin cfg0.N) (j : S2x64x256.Idx) : ((cfg0.win 4).blk t).view.emb j = (ix3 (j 0) (j 1) (tok t (j 2)) : S2x64x2048.Idx) := by
  obtain ⟨e0, e1, e2⟩ := idx4 t
  funext a; apply Fin.ext
  match a with
  | ⟨0, _⟩ => show win0_4.index t (0 : Fin 3) * 2 + 1 * (j 0).val = (j 0).val; omega
  | ⟨1, _⟩ => show win0_4.index t (1 : Fin 3) * 64 + 1 * (j 1).val = (j 1).val; omega
  | ⟨2, _⟩ => show win0_4.index t (2 : Fin 3) * 256 + 1 * (j 2).val = 256 * t.val + (j 2).val; omega
theorem place5 (t : Fin cfg0.N) (j : S128x384.Idx) : ((cfg0.win 5).blk t).view.emb j = j := by
  obtain ⟨e0, e1⟩ := idx5 t
  funext a; apply Fin.ext
  match a with
  | ⟨0, _⟩ => show win0_5.index t (0 : Fin 2) * 128 + 1 * (j 0).val = (j 0).val; omega
  | ⟨1, _⟩ => show win0_5.index t (1 : Fin 2) * 384 + 1 * (j 1).val = (j 1).val; omega
theorem place6 (t : Fin cfg0.N) (j : S2x256x3584.Idx) : ((cfg0.win 6).blk t).view.emb j = (ix3 (j 0) (tok t (j 1)) (j 2) : S2x2048x3584.Idx) := by
  obtain ⟨e0, e1, e2⟩ := idx6 t
  funext a; apply Fin.ext
  match a with
  | ⟨0, _⟩ => show win0_6.index t (0 : Fin 3) * 2 + 1 * (j 0).val = (j 0).val; omega
  | ⟨1, _⟩ => show win0_6.index t (1 : Fin 3) * 256 + 1 * (j 1).val = 256 * t.val + (j 1).val; omega
  | ⟨2, _⟩ => show win0_6.index t (2 : Fin 3) * 3584 + 1 * (j 2).val = (j 2).val; omega
theorem place7 (t : Fin cfg0.N) (j : S2x256.Idx) : ((cfg0.win 7).blk t).view.emb j = (ix2 (j 0) (tok t (j 1)) : S2x2048.Idx) := by
  obtain ⟨e0, e1⟩ := idx7 t
  funext a; apply Fin.ext
  match a with
  | ⟨0, _⟩ => show win0_7.index t (0 : Fin 2) * 2 + 1 * (j 0).val = (j 0).val; omega
  | ⟨1, _⟩ => show win0_7.index t (1 : Fin 2) * 256 + 1 * (j 1).val = 256 * t.val + (j 1).val; omega
theorem place8 (t : Fin cfg0.N) (j : S2x28x128x256.Idx) : ((cfg0.win 8).blk t).view.emb j = (ix4 (j 0) (j 1) (j 2) (tok t (j 3)) : S2x28x128x2048.Idx) := by
  obtain ⟨e0, e1, e2, e3⟩ := idx8 t
  funext a; apply Fin.ext
  match a with
  | ⟨0, _⟩ => show win0_8.index t (0 : Fin 4) * 2 + 1 * (j 0).val = (j 0).val; omega
  | ⟨1, _⟩ => show win0_8.index t (1 : Fin 4) * 28 + 1 * (j 1).val = (j 1).val; omega
  | ⟨2, _⟩ => show win0_8.index t (2 : Fin 4) * 128 + 1 * (j 2).val = (j 2).val; omega
  | ⟨3, _⟩ => show win0_8.index t (3 : Fin 4) * 256 + 1 * (j 3).val = 256 * t.val + (j 3).val; omega
theorem place11 (t : Fin cfg0.N) (j : S2x4x64x256.Idx) : ((cfg0.win 11).blk t).view.emb j = (ix4 (j 0) (j 1) (j 2) (tok t (j 3)) : S2x4x64x2048.Idx) := by
  obtain ⟨e0, e1, e2, e3⟩ := idx11 t
  funext a; apply Fin.ext
  match a with
  | ⟨0, _⟩ => show win0_11.index t (0 : Fin 4) * 2 + 1 * (j 0).val = (j 0).val; omega
  | ⟨1, _⟩ => show win0_11.index t (1 : Fin 4) * 4 + 1 * (j 1).val = (j 1).val; omega
  | ⟨2, _⟩ => show win0_11.index t (2 : Fin 4) * 64 + 1 * (j 2).val = (j 2).val; omega
  | ⟨3, _⟩ => show win0_11.index t (3 : Fin 4) * 256 + 1 * (j 3).val = 256 * t.val + (j 3).val; omega
theorem place12 (t : Fin cfg0.N) (j : S2x4x256.Idx) : ((cfg0.win 12).blk t).view.emb j = (ix3 (j 0) (j 1) (tok t (j 2)) : S2x4x2048.Idx) := by
  obtain ⟨e0, e1, e2⟩ := idx12 t
  funext a; apply Fin.ext
  match a with
  | ⟨0, _⟩ => show win0_12.index t (0 : Fin 3) * 2 + 1 * (j 0).val = (j 0).val; omega
  | ⟨1, _⟩ => show win0_12.index t (1 : Fin 3) * 4 + 1 * (j 1).val = (j 1).val; omega
  | ⟨2, _⟩ => show win0_12.index t (2 : Fin 3) * 256 + 1 * (j 2).val = 256 * t.val + (j 2).val; omega
theorem place13 (t : Fin cfg0.N) (j : S2x4x256.Idx) : ((cfg0.win 13).blk t).view.emb j = (ix3 (j 0) (j 1) (tok t (j 2)) : S2x4x2048.Idx) := by
  obtain ⟨e0, e1, e2⟩ := idx13 t
  funext a; apply Fin.ext
  match a with
  | ⟨0, _⟩ => show win0_13.index t (0 : Fin 3) * 2 + 1 * (j 0).val = (j 0).val; omega
  | ⟨1, _⟩ => show win0_13.index t (1 : Fin 3) * 4 + 1 * (j 1).val = (j 1).val; omega
  | ⟨2, _⟩ => show win0_13.index t (2 : Fin 3) * 256 + 1 * (j 2).val = 256 * t.val + (j 2).val; omega
theorem place14 (t : Fin cfg0.N) (j : S2x4x64x256.Idx) : ((cfg0.win 14).blk t).view.emb j = (ix4 (j 0) (j 1) (j 2) (tok t (j 3)) : S2x4x64x2048.Idx) := by
  obtain ⟨e0, e1, e2, e3⟩ := idx14 t
  funext a; apply Fin.ext
  match a with
  | ⟨0, _⟩ => show win0_14.index t (0 : Fin 4) * 2 + 1 * (j 0).val = (j 0).val; omega
  | ⟨1, _⟩ => show win0_14.index t (1 : Fin 4) * 4 + 1 * (j 1).val = (j 1).val; omega
  | ⟨2, _⟩ => show win0_14.index t (2 : Fin 4) * 64 + 1 * (j 2).val = (j 2).val; omega
  | ⟨3, _⟩ => show win0_14.index t (3 : Fin 4) * 256 + 1 * (j 3).val = 256 * t.val + (j 3).val; omega
theorem place15 (t : Fin cfg0.N) (j : S2x4x256.Idx) : ((cfg0.win 15).blk t).view.emb j = (ix3 (j 0) (j 1) (tok t (j 2)) : S2x4x2048.Idx) := by
  obtain ⟨e0, e1, e2⟩ := idx15 t
  funext a; apply Fin.ext
  match a with
  | ⟨0, _⟩ => show win0_15.index t (0 : Fin 3) * 2 + 1 * (j 0).val = (j 0).val; omega
  | ⟨1, _⟩ => show win0_15.index t (1 : Fin 3) * 4 + 1 * (j 1).val = (j 1).val; omega
  | ⟨2, _⟩ => show win0_15.index t (2 : Fin 3) * 256 + 1 * (j 2).val = 256 * t.val + (j 2).val; omega
theorem place16 (t : Fin cfg0.N) (j : S2x4x256.Idx) : ((cfg0.win 16).blk t).view.emb j = (ix3 (j 0) (j 1) (tok t (j 2)) : S2x4x2048.Idx) := by
  obtain ⟨e0, e1, e2⟩ := idx16 t
  funext a; apply Fin.ext
  match a with
  | ⟨0, _⟩ => show win0_16.index t (0 : Fin 3) * 2 + 1 * (j 0).val = (j 0).val; omega
  | ⟨1, _⟩ => show win0_16.index t (1 : Fin 3) * 4 + 1 * (j 1).val = (j 1).val; omega
  | ⟨2, _⟩ => show win0_16.index t (2 : Fin 3) * 256 + 1 * (j 2).val = 256 * t.val + (j 2).val; omega

/-- The arrays the host makes before the kernel: the two tables of angles with their tokens last, the channel scales in rows
of 128, and the table of signs. -/
theorem V_v0 (c : Dev nD) (b : Fin 2) (d : Fin 64) (T : Fin 2048) : V m c main_v0 (ix3 b d T : S2x64x2048.Idx) = argC m c (ix3 b T d) := by
  unfold_abbrev_sides
  after_results
  exact transpose_apply [0, 2, 1] _ transposes_S2x2048x64_S2x64x2048_0_2_1 (ix3 b d T) (ix3 b T d) (fun a => match a with | ⟨0, _⟩ => rfl | ⟨1, _⟩ => rfl | ⟨2, _⟩ => rfl)
theorem V_v1 (c : Dev nD) (b : Fin 2) (d : Fin 64) (T : Fin 2048) : V m c main_v1 (ix3 b d T : S2x64x2048.Idx) = argN m c (ix3 b T d) := by
  unfold_abbrev_sides
  after_results
  exact transpose_apply [0, 2, 1] _ transposes_S2x2048x64_S2x64x2048_0_2_1 (ix3 b d T) (ix3 b T d) (fun a => match a with | ⟨0, _⟩ => rfl | ⟨1, _⟩ => rfl | ⟨2, _⟩ => rfl)
theorem V_v2 (c : Dev nD) (o : Fin 4608) :
    V m c main_v2 (ix2 (⟨o.val / 128, by omega⟩ : Fin 36) (⟨o.val % 128, by omega⟩ : Fin 128) : S36x128.Idx) = argS m c (ix1 o) := by
  unfold_abbrev_sides
  after_results
  refine shapeCast_apply _ shapeCasts_S4608_S36x128 _ (ix1 o) ?_
  rw [Shape.rowMajor_val_one, Shape.rowMajor_val_two]
  show o.val = o.val / 128 * 128 + o.val % 128
  omega
theorem V_cst (c : Dev nD) : V m c main_cst = HT := by
  unfold_abbrev_sides
  after_results
  rfl

/-- What the body reads at a point, from the argument arrays. -/
theorem row_eq (c : Dev nD) (t : Fin cfg0.N) (b : Fin 2) (p : Fin 256) : rowAt (b0 m c t) b p = tokRow (argX m c) b (tok t p) := by
  funext k; show V m c main_arg0 (((cfg0.win 0).blk t).view.emb (ix3 b p k : S2x256x3584.Idx)) = _; rw [place0, V_main_arg0]; rfl
theorem b1_eq (c : Dev nD) (t : Fin cfg0.N) : b1 m c t = argW m c := by
  funext j; show V m c main_arg1 (((cfg0.win 1).blk t).view.emb j) = _; rw [place1, V_main_arg1]
theorem scale_eq (c : Dev nD) (t : Fin cfg0.N) : scaleAt (b2 m c t) = chanAt (argS m c) := by
  funext o
  show V m c main_v2 (((cfg0.win 2).blk t).view.emb (ix2 (⟨o.val / 128, by omega⟩ : Fin 36) (⟨o.val % 128, by omega⟩ : Fin 128) : S36x128.Idx)) = _
  rw [place2, V_v2]; rfl
theorem cos_eq (c : Dev nD) (t : Fin cfg0.N) (b : Fin 2) (p : Fin 256) : angAt (b3 m c t) b p = tokAng (argC m c) b (tok t p) := by
  funext d; show V m c main_v0 (((cfg0.win 3).blk t).view.emb (ix3 b d p : S2x64x256.Idx)) = _; rw [place3]; exact V_v0 m c b d (tok t p)
theorem sin_eq (c : Dev nD) (t : Fin cfg0.N) (b : Fin 2) (p : Fin 256) : angAt (b4 m c t) b p = tokAng (argN m c) b (tok t p) := by
  funext d; show V m c main_v1 (((cfg0.win 4).blk t).view.emb (ix3 b d p : S2x64x256.Idx)) = _; rw [place4]; exact V_v1 m c b d (tok t p)
theorem b5_eq (c : Dev nD) (t : Fin cfg0.N) : b5 m c t = HT := by
  funext j; show V m c main_cst (((cfg0.win 5).blk t).view.emb j) = _; rw [place5, V_cst]

/-- A head at a point is the head of its token. -/
theorem key_eq (c : Dev nD) (t : Fin cfg0.N) (hd : Fin 36) (b : Fin 2) (p : Fin 256) :
    keyAt (b0 m c t) (b1 m c t) (b2 m c t) (b3 m c t) (b4 m c t) (b5 m c t) hd b p = heads m c hd b (tok t p) := by
  unfold keyAt heads keyTok
  rw [row_eq, b1_eq, scale_eq, cos_eq, sin_eq, b5_eq]
theorem val_eq (c : Dev nD) (t : Fin cfg0.N) (hd : Fin 36) (b : Fin 2) (p : Fin 256) :
    valAt (b0 m c t) (b1 m c t) (b2 m c t) hd b p = valTok (argX m c) (argW m c) (argS m c) hd b (tok t p) := by
  unfold valAt valTok
  rw [row_eq, b1_eq, scale_eq]

/-- What a point writes back is its block of the result array. -/
theorem flushed6 (c : Dev nD) (t : Fin cfg0.N) : (dats m 0 c).flushed 6 t = ((cfg0.win 6).blk t).view.read (Elt Ideal) (GXC (argX m c)) := by
  funext j
  show (dats m 0 c).after 6 t j = GXC (argX m c) (((cfg0.win 6).blk t).view.emb j)
  rw [after0_6, place6]
  exact congrArg (fun r => FloatOps.fptosi (F := Ideal) 8 (φ := FTy.f32) (xcode r (j 2))) (row_eq m c t (j 0) (j 1))
theorem flushed7 (c : Dev nD) (t : Fin cfg0.N) : (dats m 0 c).flushed 7 t = ((cfg0.win 7).blk t).view.read (Elt Ideal) (GXS (argX m c)) := by
  funext j
  show (dats m 0 c).after 7 t j = GXS (argX m c) (((cfg0.win 7).blk t).view.emb j)
  rw [after0_7, place7]
  exact congrArg xscale (row_eq m c t (j 0) (j 1))
theorem flushed8 (c : Dev nD) (t : Fin cfg0.N) : (dats m 0 c).flushed 8 t = ((cfg0.win 8).blk t).view.read (Elt Ideal) (GQ (heads m c)) := by
  funext j
  show (dats m 0 c).after 8 t j = GQ (heads m c) (((cfg0.win 8).blk t).view.emb j)
  rw [after0_8, place8]
  exact congrFun (key_eq m c t _ (j 0) (j 3)) (j 2)
theorem flushed11 (c : Dev nD) (t : Fin cfg0.N) : (dats m 0 c).flushed 11 t = ((cfg0.win 11).blk t).view.read (Elt Ideal) (GB (keys m c)) := by
  funext j
  show (dats m 0 c).after 11 t j = GB (keys m c) (((cfg0.win 11).blk t).view.emb j)
  rw [after0_11, place11]
  exact congrArg (kvByte · (j 2)) (key_eq m c t _ (j 0) (j 3))
theorem flushed12 (c : Dev nD) (t : Fin cfg0.N) : (dats m 0 c).flushed 12 t = ((cfg0.win 12).blk t).view.read (Elt Ideal) (GS (keys m c)) := by
  funext j
  show (dats m 0 c).after 12 t j = GS (keys m c) (((cfg0.win 12).blk t).view.emb j)
  rw [after0_12, place12]
  exact congrArg kvScale (key_eq m c t _ (j 0) (j 2))
theorem flushed13 (c : Dev nD) (t : Fin cfg0.N) : (dats m 0 c).flushed 13 t = ((cfg0.win 13).blk t).view.read (Elt Ideal) (GLow (keys m c)) := by
  funext j
  show (dats m 0 c).after 13 t j = GLow (keys m c) (((cfg0.win 13).blk t).view.emb j)
  rw [after0_13, place13]
  exact congrArg kvLo (key_eq m c t _ (j 0) (j 2))
theorem flushed14 (c : Dev nD) (t : Fin cfg0.N) : (dats m 0 c).flushed 14 t = ((cfg0.win 14).blk t).view.read (Elt Ideal) (GB (vals m c)) := by
  funext j
  show (dats m 0 c).after 14 t j = GB (vals m c) (((cfg0.win 14).blk t).view.emb j)
  rw [after0_14, place14]
  exact congrArg (kvByte · (j 2)) (val_eq m c t _ (j 0) (j 3))
theorem flushed15 (c : Dev nD) (t : Fin cfg0.N) : (dats m 0 c).flushed 15 t = ((cfg0.win 15).blk t).view.read (Elt Ideal) (GS (vals m c)) := by
  funext j
  show (dats m 0 c).after 15 t j = GS (vals m c) (((cfg0.win 15).blk t).view.emb j)
  rw [after0_15, place15]
  exact congrArg kvScale (val_eq m c t _ (j 0) (j 2))
theorem flushed16 (c : Dev nD) (t : Fin cfg0.N) : (dats m 0 c).flushed 16 t = ((cfg0.win 16).blk t).view.read (Elt Ideal) (GLow (vals m c)) := by
  funext j
  show (dats m 0 c).after 16 t j = GLow (vals m c) (((cfg0.win 16).blk t).view.emb j)
  rw [after0_16, place16]
  exact congrArg kvLo (val_eq m c t _ (j 0) (j 2))

/-- The point that works on a token, and the token's place in its block. -/
def ptOf (T : Fin 2048) : Fin cfg0.N := ⟨T.val / 256, lt_of_lt_of_eq (b := 8) (by omega) N_0.symm⟩
def inBlk (T : Fin 2048) : Fin 256 := ⟨T.val % 256, by omega⟩
theorem tok_ptOf (T : Fin 2048) : tok (ptOf T) (inBlk T) = T := by
  apply Fin.ext; show 256 * (T.val / 256) + T.val % 256 = T.val; omega

/-- The blocks tile the result arrays. -/
theorem cover6 (i : S2x2048x3584.Idx) : ∃ t : Fin cfg0.N, (cfg0.win 6).flush t = true ∧ i ∈ ((cfg0.win 6).blk t).view.set := by
  refine ⟨ptOf (i 1), flush0_6 _, ?_⟩
  have hm := ((cfg0.win 6).blk (ptOf (i 1))).view.emb_mem_set (ix3 (i 0) (inBlk (i 1)) (i 2) : S2x256x3584.Idx)
  rw [place6] at hm
  refine (congrArg (· ∈ _) (funext fun a => ?_)).mp hm
  match a with
  | ⟨0, _⟩ => rfl
  | ⟨1, _⟩ => exact tok_ptOf (i 1)
  | ⟨2, _⟩ => rfl
theorem cover7 (i : S2x2048.Idx) : ∃ t : Fin cfg0.N, (cfg0.win 7).flush t = true ∧ i ∈ ((cfg0.win 7).blk t).view.set := by
  refine ⟨ptOf (i 1), flush0_7 _, ?_⟩
  have hm := ((cfg0.win 7).blk (ptOf (i 1))).view.emb_mem_set (ix2 (i 0) (inBlk (i 1)) : S2x256.Idx)
  rw [place7] at hm
  refine (congrArg (· ∈ _) (funext fun a => ?_)).mp hm
  match a with
  | ⟨0, _⟩ => rfl
  | ⟨1, _⟩ => exact tok_ptOf (i 1)
theorem cover8 (i : S2x28x128x2048.Idx) : ∃ t : Fin cfg0.N, (cfg0.win 8).flush t = true ∧ i ∈ ((cfg0.win 8).blk t).view.set := by
  refine ⟨ptOf (i 3), flush0_8 _, ?_⟩
  have hm := ((cfg0.win 8).blk (ptOf (i 3))).view.emb_mem_set (ix4 (i 0) (i 1) (i 2) (inBlk (i 3)) : S2x28x128x256.Idx)
  rw [place8] at hm
  refine (congrArg (· ∈ _) (funext fun a => ?_)).mp hm
  match a with
  | ⟨0, _⟩ => rfl
  | ⟨1, _⟩ => rfl
  | ⟨2, _⟩ => rfl
  | ⟨3, _⟩ => exact tok_ptOf (i 3)
theorem cover11 (i : S2x4x64x2048.Idx) : ∃ t : Fin cfg0.N, (cfg0.win 11).flush t = true ∧ i ∈ ((cfg0.win 11).blk t).view.set := by
  refine ⟨ptOf (i 3), flush0_11 _, ?_⟩
  have hm := ((cfg0.win 11).blk (ptOf (i 3))).view.emb_mem_set (ix4 (i 0) (i 1) (i 2) (inBlk (i 3)) : S2x4x64x256.Idx)
  rw [place11] at hm
  refine (congrArg (· ∈ _) (funext fun a => ?_)).mp hm
  match a with
  | ⟨0, _⟩ => rfl
  | ⟨1, _⟩ => rfl
  | ⟨2, _⟩ => rfl
  | ⟨3, _⟩ => exact tok_ptOf (i 3)
theorem cover12 (i : S2x4x2048.Idx) : ∃ t : Fin cfg0.N, (cfg0.win 12).flush t = true ∧ i ∈ ((cfg0.win 12).blk t).view.set := by
  refine ⟨ptOf (i 2), flush0_12 _, ?_⟩
  have hm := ((cfg0.win 12).blk (ptOf (i 2))).view.emb_mem_set (ix3 (i 0) (i 1) (inBlk (i 2)) : S2x4x256.Idx)
  rw [place12] at hm
  refine (congrArg (· ∈ _) (funext fun a => ?_)).mp hm
  match a with
  | ⟨0, _⟩ => rfl
  | ⟨1, _⟩ => rfl
  | ⟨2, _⟩ => exact tok_ptOf (i 2)
theorem cover13 (i : S2x4x2048.Idx) : ∃ t : Fin cfg0.N, (cfg0.win 13).flush t = true ∧ i ∈ ((cfg0.win 13).blk t).view.set := by
  refine ⟨ptOf (i 2), flush0_13 _, ?_⟩
  have hm := ((cfg0.win 13).blk (ptOf (i 2))).view.emb_mem_set (ix3 (i 0) (i 1) (inBlk (i 2)) : S2x4x256.Idx)
  rw [place13] at hm
  refine (congrArg (· ∈ _) (funext fun a => ?_)).mp hm
  match a with
  | ⟨0, _⟩ => rfl
  | ⟨1, _⟩ => rfl
  | ⟨2, _⟩ => exact tok_ptOf (i 2)
theorem cover14 (i : S2x4x64x2048.Idx) : ∃ t : Fin cfg0.N, (cfg0.win 14).flush t = true ∧ i ∈ ((cfg0.win 14).blk t).view.set := by
  refine ⟨ptOf (i 3), flush0_14 _, ?_⟩
  have hm := ((cfg0.win 14).blk (ptOf (i 3))).view.emb_mem_set (ix4 (i 0) (i 1) (i 2) (inBlk (i 3)) : S2x4x64x256.Idx)
  rw [place14] at hm
  refine (congrArg (· ∈ _) (funext fun a => ?_)).mp hm
  match a with
  | ⟨0, _⟩ => rfl
  | ⟨1, _⟩ => rfl
  | ⟨2, _⟩ => rfl
  | ⟨3, _⟩ => exact tok_ptOf (i 3)
theorem cover15 (i : S2x4x2048.Idx) : ∃ t : Fin cfg0.N, (cfg0.win 15).flush t = true ∧ i ∈ ((cfg0.win 15).blk t).view.set := by
  refine ⟨ptOf (i 2), flush0_15 _, ?_⟩
  have hm := ((cfg0.win 15).blk (ptOf (i 2))).view.emb_mem_set (ix3 (i 0) (i 1) (inBlk (i 2)) : S2x4x256.Idx)
  rw [place15] at hm
  refine (congrArg (· ∈ _) (funext fun a => ?_)).mp hm
  match a with
  | ⟨0, _⟩ => rfl
  | ⟨1, _⟩ => rfl
  | ⟨2, _⟩ => exact tok_ptOf (i 2)
theorem cover16 (i : S2x4x2048.Idx) : ∃ t : Fin cfg0.N, (cfg0.win 16).flush t = true ∧ i ∈ ((cfg0.win 16).blk t).view.set := by
  refine ⟨ptOf (i 2), flush0_16 _, ?_⟩
  have hm := ((cfg0.win 16).blk (ptOf (i 2))).view.emb_mem_set (ix3 (i 0) (i 1) (inBlk (i 2)) : S2x4x256.Idx)
  rw [place16] at hm
  refine (congrArg (· ∈ _) (funext fun a => ?_)).mp hm
  match a with
  | ⟨0, _⟩ => rfl
  | ⟨1, _⟩ => rfl
  | ⟨2, _⟩ => exact tok_ptOf (i 2)

/-- The result arrays after the run. -/
theorem final6 (c : Dev nD) : (dats m 0 c).arrAt 6 cfg0.N = GXC (argX m c) :=
  (dats m 0 c).arrAt_eq_of_cover 6 _ (fun t _ => flushed6 m c t) cover6
theorem final7 (c : Dev nD) : (dats m 0 c).arrAt 7 cfg0.N = GXS (argX m c) :=
  (dats m 0 c).arrAt_eq_of_cover 7 _ (fun t _ => flushed7 m c t) cover7
theorem final8 (c : Dev nD) : (dats m 0 c).arrAt 8 cfg0.N = GQ (heads m c) :=
  (dats m 0 c).arrAt_eq_of_cover 8 _ (fun t _ => flushed8 m c t) cover8
theorem final11 (c : Dev nD) : (dats m 0 c).arrAt 11 cfg0.N = GB (keys m c) :=
  (dats m 0 c).arrAt_eq_of_cover 11 _ (fun t _ => flushed11 m c t) cover11
theorem final12 (c : Dev nD) : (dats m 0 c).arrAt 12 cfg0.N = GS (keys m c) :=
  (dats m 0 c).arrAt_eq_of_cover 12 _ (fun t _ => flushed12 m c t) cover12
theorem final13 (c : Dev nD) : (dats m 0 c).arrAt 13 cfg0.N = GLow (keys m c) :=
  (dats m 0 c).arrAt_eq_of_cover 13 _ (fun t _ => flushed13 m c t) cover13
theorem final14 (c : Dev nD) : (dats m 0 c).arrAt 14 cfg0.N = GB (vals m c) :=
  (dats m 0 c).arrAt_eq_of_cover 14 _ (fun t _ => flushed14 m c t) cover14
theorem final15 (c : Dev nD) : (dats m 0 c).arrAt 15 cfg0.N = GS (vals m c) :=
  (dats m 0 c).arrAt_eq_of_cover 15 _ (fun t _ => flushed15 m c t) cover15
theorem final16 (c : Dev nD) : (dats m 0 c).arrAt 16 cfg0.N = GLow (vals m c) :=
  (dats m 0 c).arrAt_eq_of_cover 16 _ (fun t _ => flushed16 m c t) cover16

/-- Every run ends with the result arrays at these functions of the argument arrays, the arguments unchanged. -/
theorem run : θ_run defs (onTc (τ := τ) (main (F := Ideal))) ⟨m, fun _ => 0, ρ⟩ fun r => ∀ c : Dev nD,
      (r.2.mem ((c : Thread nD τ).loc main_v3_0) = GXC (argX m c)
      ∧ r.2.mem ((c : Thread nD τ).loc main_v3_1) = GXS (argX m c)
      ∧ r.2.mem ((c : Thread nD τ).loc main_v3_2) = GQ (heads m c)
      ∧ r.2.mem ((c : Thread nD τ).loc main_v3_5) = GB (keys m c)
      ∧ r.2.mem ((c : Thread nD τ).loc main_v3_6) = GS (keys m c)
      ∧ r.2.mem ((c : Thread nD τ).loc main_v3_7) = GLow (keys m c)
      ∧ r.2.mem ((c : Thread nD τ).loc main_v3_8) = GB (vals m c)
      ∧ r.2.mem ((c : Thread nD τ).loc main_v3_9) = GS (vals m c)
      ∧ r.2.mem ((c : Thread nD τ).loc main_v3_10) = GLow (vals m c))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨⟨(((dats m 0 c).toRForget_arrAt_iff (w := 6) (by rfl) _ _).mp ((h.1 c).1 6)).trans (final6 m c),
      (((dats m 0 c).toRForget_arrAt_iff (w := 7) (by rfl) _ _).mp ((h.1 c).1 7)).trans (final7 m c),
      (((dats m 0 c).toRForget_arrAt_iff (w := 8) (by rfl) _ _).mp ((h.1 c).1 8)).trans (final8 m c),
      (((dats m 0 c).toRForget_arrAt_iff (w := 11) (by rfl) _ _).mp ((h.1 c).1 11)).trans (final11 m c),
      (((dats m 0 c).toRForget_arrAt_iff (w := 12) (by rfl) _ _).mp ((h.1 c).1 12)).trans (final12 m c),
      (((dats m 0 c).toRForget_arrAt_iff (w := 13) (by rfl) _ _).mp ((h.1 c).1 13)).trans (final13 m c),
      (((dats m 0 c).toRForget_arrAt_iff (w := 14) (by rfl) _ _).mp ((h.1 c).1 14)).trans (final14 m c),
      (((dats m 0 c).toRForget_arrAt_iff (w := 15) (by rfl) _ _).mp ((h.1 c).1 15)).trans (final15 m c),
      (((dats m 0 c).toRForget_arrAt_iff (w := 16) (by rfl) _ _).mp ((h.1 c).1 16)).trans (final16 m c)⟩, h.2 c⟩)
    (θ_run_and (run_main m ρ) (unchanged m ρ))

end Cert.QkvIdeal.Hand
end
-- ==== Proof.Qkv.Reference.lean ====
module

public import proofs.«01_k».proof.Proof.Qkv.Real
public import proofs.«01_k».proof.Proof.Qkv.Arrays
public import proofs.«01_k».proof.Proof.Gen.QkvReferenceIdeal.Read

/-!
# The reference's codes and heads

Each intermediate array of the reference at an index is the kernel's function of the same token: the normalized row, its
scale and codes, the unpacked weights, and the output channels.
-/

@[expose] public section
set_option maxRecDepth 16384
noncomputable section
namespace Cert.QkvIdeal.Hand
open Cert.QkvIdeal
open Idealize.ShloMosaic Idealize.ShloMosaic.Pointwise
open Cert.QkvReferenceIdeal.Read
open Cert.OutIdeal.Hand (nib scaleOf codeOf absE code_form scale_form low_word high_word sum_split)

/-- The normalized row. -/
theorem ref_norm (X : Vec Ideal S2x2048x3584 .bf16) (b : Fin 2) (T : Fin 2048) (k : Fin 3584) :
    val_main_v10 (F := Ideal) X (ix3 b T k) = xnorm (tokRow X b T) k := by
  rw [val_main_v10_apply, val_main_v9_apply, val_main_v8_apply, val_main_v7_apply, val_main_v5_apply, val_main_v6_apply,
    val_main_v3_apply, val_main_v4_apply, val_main_v2_apply, val_main_cst_apply, val_main_cst_0_apply, val_main_cst_1_apply]
  show Ideal.div (X (ix3 b T k)) (Ideal.sqrt (Ideal.div (Ideal.ofBits .f32 0x00000000#32 + ∑ i : Fin 3584, _)
    (Ideal.ofBits .f32 0x45600000#32) + Ideal.ofBits .f32 0x3727C5AC#32)) = _
  have h0 : Ideal.ofBits .f32 0x00000000#32 = 0 := by simp [Ideal.ofBits, Ideal.ieee]
  rw [h0, zero_add]
  unfold xnorm
  have hs : (∑ i : Fin 3584, val_main_v1 (F := Ideal) X (idx_main_v2 (idx_main_v3 (idx_main_v9 (ix3 b T k))) i))
      = ∑ i, tokRow X b T i * tokRow X b T i := by
    refine Finset.sum_congr rfl fun i _ => ?_
    rw [show idx_main_v2 (idx_main_v3 (idx_main_v9 (ix3 b T k))) i = ix3 b T i from
      funext fun a => match a with | ⟨0, _⟩ => rfl | ⟨1, _⟩ => rfl | ⟨2, _⟩ => rfl]
    rfl
  rw [hs]
  rfl

/-- The row's scale. -/
theorem ref_scale (X : Vec Ideal S2x2048x3584 .bf16) (b : Fin 2) (T : Fin 2048) :
    val_main_v19 (F := Ideal) X (ix2 b T) = xscale (tokRow X b T) := by
  have hm : val_main_v12 (F := Ideal) X (ix2 b T)
      = Finset.univ.fold max (Ideal.ofBits .f32 4286578688#32) fun k : Fin 3584 => absE (val_main_v10 (F := Ideal) X (ix3 b T k)) := by
    unfold val_main_v12
    simp only [pointwise]
    rfl
  rw [val_main_v19_apply, val_main_v14_apply, val_main_v18_apply, val_main_v16_apply, val_main_v13_apply, val_main_v15_apply,
    val_main_v17_apply, val_main_call0_v1_apply, val_main_call0_v0_apply, val_main_cst_3_apply, val_main_cst_4_apply,
    val_main_cst_5_apply, val_main_cst_6_apply, hm]
  refine (scale_form _).trans ?_
  unfold xscale
  simp only [ref_norm]

/-- The row's codes. -/
theorem ref_code (X : Vec Ideal S2x2048x3584 .bf16) (b : Fin 2) (T : Fin 2048) (k : Fin 3584) :
    val_main_v24 (F := Ideal) X (ix3 b T k) = xcode (tokRow X b T) k := by
  rw [val_main_v24_apply, val_main_call2_v4_apply, val_main_call2_v3_apply, val_main_c_7_apply, val_main_call2_v2_apply,
    val_main_call2_v1_apply, val_main_call2_v0_apply, val_main_c_apply, val_main_v23_apply, val_main_v22_apply,
    val_main_v21_apply, val_main_v20_apply, ref_norm]
  rw [show idx_main_v20 (idx_main_v21 (ix3 b T k)) = ix2 b T from
    funext fun a => match a with | ⟨0, _⟩ => rfl | ⟨1, _⟩ => rfl, ref_scale]
  exact code_form _ _

/-- The two halves of a byte are numbers from `-8` to `7`. -/
theorem low_range : ∀ w : BitVec 8,
    -8 ≤ (IntOp.shrsi ArithUnit.vector (IntOp.shli ArithUnit.vector (BitVec.setWidth 32 w) 28#32) 28#32).toInt ∧
    (IntOp.shrsi ArithUnit.vector (IntOp.shli ArithUnit.vector (BitVec.setWidth 32 w) 28#32) 28#32).toInt ≤ 7 := by
  decide +kernel
theorem high_range : ∀ w : BitVec 8,
    -8 ≤ (IntOp.shrsi ArithUnit.vector (IntOp.shli ArithUnit.vector (BitVec.setWidth 32 w) 24#32) 28#32).toInt ∧
    (IntOp.shrsi ArithUnit.vector (IntOp.shli ArithUnit.vector (BitVec.setWidth 32 w) 24#32) 28#32).toInt ≤ 7 := by
  decide +kernel

/-- A small number survives the passage through an eight-bit integer. -/
theorem byte_back (v : BitVec 32) (h0 : -8 ≤ v.toInt) (h1 : v.toInt ≤ 7) :
    (FloatOps.sitofp (F := Ideal) FTy.bf16 (FloatOps.fptosi (F := Ideal) 8 (φ := FTy.bf16) (FloatOps.sitofp (F := Ideal) FTy.bf16 v)) : EReal)
      = FloatOps.sitofp (F := Ideal) FTy.bf16 v := by
  show ((((Ideal.fptosi 8 (((v.toInt : ℤ) : ℝ) : EReal)).toInt : ℤ) : ℝ) : EReal) = (((v.toInt : ℤ) : ℝ) : EReal)
  generalize v.toInt = t at h0 h1
  unfold Ideal.fptosi
  rw [Ideal.toIntClamped_coe, Int.floor_intCast, Int.ceil_intCast, ite_self]
  interval_cases t <;> exact congrArg (fun z : ℤ => ((z : ℝ) : EReal)) (by decide)

/-- The unpacked weights as floats. -/
theorem weight_eq (w : Vec Ideal S1792x4608 .i8) (o : Fin 4608) (k : Fin 3584) :
    (FloatOps.sitofp (F := Ideal) FTy.bf16 (WT w (ix2 o k)) : EReal)
      = nib (w (ix2 (⟨k.val / 2, by omega⟩ : Fin 1792) o)) (k.val % 2) := by
  unfold WT
  show (FloatOps.sitofp (F := Ideal) FTy.bf16 (FloatOps.fptosi (F := Ideal) 8 (φ := FTy.bf16)
    (nib (w (ix2 (⟨k.val / 2, by omega⟩ : Fin 1792) o)) (k.val % 2))) : EReal) = _
  generalize w (ix2 (⟨k.val / 2, by omega⟩ : Fin 1792) o) = b
  unfold nib
  split
  · exact byte_back _ (low_range b).1 (low_range b).2
  · exact byte_back _ (high_range b).1 (high_range b).2

theorem ref_low (w : Vec Ideal S1792x4608 .i8) (k : Fin 1792) (o : Fin 4608) :
    val_main_v36 (F := Ideal) w (ix2 k o) = FloatOps.sitofp (F := Ideal) FTy.bf16 (WT w (ix2 o (⟨2 * k.val, by omega⟩ : Fin 3584))) := by
  rw [val_main_v36_apply, val_main_v35_apply, val_main_v32_apply, val_main_v34_apply, val_main_v30_apply, val_main_v28_apply,
    val_main_v29_apply, val_main_v31_apply, val_main_v33_apply, val_main_c_8_apply, val_main_c_9_apply, val_main_c_10_apply,
    ← low_word, weight_eq]
  have e : (⟨2 * k.val / 2, by omega⟩ : Fin 1792) = k := Fin.ext (by show _ / 2 = _; omega)
  unfold nib
  rw [if_pos (show (2 * k.val) % 2 < 1 by omega)]
  show _ = (FloatOps.sitofp (F := Ideal) FTy.bf16 (IntOp.shrsi ArithUnit.vector (IntOp.shli ArithUnit.vector
    (BitVec.setWidth 32 (w (ix2 (⟨2 * k.val / 2, by omega⟩ : Fin 1792) o))) 28#32) 28#32) : EReal)
  rw [e]
theorem ref_high (w : Vec Ideal S1792x4608 .i8) (k : Fin 1792) (o : Fin 4608) :
    val_main_v44 (F := Ideal) w (ix2 k o) = FloatOps.sitofp (F := Ideal) FTy.bf16 (WT w (ix2 o (⟨2 * k.val + 1, by omega⟩ : Fin 3584))) := by
  rw [val_main_v44_apply, val_main_v43_apply, val_main_v40_apply, val_main_v42_apply, val_main_v38_apply, val_main_v28_apply,
    val_main_v37_apply, val_main_v39_apply, val_main_v41_apply, val_main_c_11_apply, val_main_c_12_apply, val_main_c_13_apply,
    ← high_word, weight_eq]
  have e : (⟨(2 * k.val + 1) / 2, by omega⟩ : Fin 1792) = k := Fin.ext (by show _ / 2 = _; omega)
  unfold nib
  rw [if_neg (show ¬ (2 * k.val + 1) % 2 < 1 by omega)]
  show _ = (FloatOps.sitofp (F := Ideal) FTy.bf16 (IntOp.shrsi ArithUnit.vector (IntOp.shli ArithUnit.vector
    (BitVec.setWidth 32 (w (ix2 (⟨(2 * k.val + 1) / 2, by omega⟩ : Fin 1792) o))) 24#32) 28#32) : EReal)
  rw [e]

/-- A flattened code. -/
theorem ref_flat (X : Vec Ideal S2x2048x3584 .bf16) (b : Fin 2) (T : Fin 2048) (k : Fin 3584) :
    val_main_v27 (F := Ideal) X (ix2 (⟨2048 * b.val + T.val, by omega⟩ : Fin 4096) k) = xcode (tokRow X b T) k := by
  rw [val_main_v27_apply, val_main_v25_apply, ← ref_code]
  refine congrArg (val_main_v24 (F := Ideal) X) (funext fun a => ?_)
  match a with
  | ⟨0, _⟩ => exact Fin.ext (by show ((2048 * b.val + T.val) * 3584 + k.val) / 7340032 = b.val; omega)
  | ⟨1, _⟩ => exact Fin.ext (by show ((2048 * b.val + T.val) * 3584 + k.val) / 3584 % 2048 = T.val; omega)
  | ⟨2, _⟩ => exact Fin.ext (by show ((2048 * b.val + T.val) * 3584 + k.val) % 3584 = k.val; omega)

/-- An output channel of a token. -/
theorem ref_channel (X : Vec Ideal S2x2048x3584 .bf16) (W : Vec Ideal S1792x4608 .i8) (S : Vec Ideal S4608 .f32)
    (b : Fin 2) (T : Fin 2048) (o : Fin 4608) :
    val_main_v56 (F := Ideal) X W S (ix3 b T o)
      = prj (tokRow X b T) (WT W) o * xscale (tokRow X b T) * chanAt S o := by
  have e : idx_main_v56 (ix3 b T o) = ix2 (⟨2048 * b.val + T.val, by omega⟩ : Fin 4096) o := funext fun a => match a with
    | ⟨0, _⟩ => Fin.ext (by show ((b.val * 2048 + T.val) * 4608 + o.val) / 4608 = 2048 * b.val + T.val; omega)
    | ⟨1, _⟩ => Fin.ext (by show ((b.val * 2048 + T.val) * 4608 + o.val) % 4608 = o.val; omega)
  rw [val_main_v56_apply, e, val_main_v55_apply, val_main_v54_apply, val_main_v53_apply, val_main_v52_apply, val_main_v51_apply,
    val_main_v50_apply, val_main_v26_apply, val_main_v49_apply, val_main_v46_apply, val_main_v48_apply]
  have es : idx_main_v26 (idx_main_v50 (idx_main_v51 (ix2 (⟨2048 * b.val + T.val, by omega⟩ : Fin 4096) o))) = ix2 b T :=
    funext fun a => match a with
    | ⟨0, _⟩ => Fin.ext (by show (2048 * b.val + T.val) / 2048 = b.val; omega)
    | ⟨1, _⟩ => Fin.ext (by show (2048 * b.val + T.val) % 2048 = T.val; omega)
  have ec : idx_main_v53 (idx_main_v54 (ix2 (⟨2048 * b.val + T.val, by omega⟩ : Fin 4096) o)) = ix1 o :=
    funext fun a => match a with
    | ⟨0, _⟩ => rfl
  rw [es, ec, ref_scale]
  show ((∑ k : Fin 1792, _) + (∑ k : Fin 1792, _)) * xscale (tokRow X b T) * S (ix1 o) = _
  refine congrArg (fun t => t * xscale (tokRow X b T) * S (ix1 o)) ?_
  unfold prj
  rw [sum_split]
  refine congrArg₂ (· + ·) (Finset.sum_congr rfl fun k _ => ?_) (Finset.sum_congr rfl fun k _ => ?_)
  · rw [show ridx_main_v46 (ix2 (⟨2048 * b.val + T.val, by omega⟩ : Fin 4096) o) k = ix2 k o from
      funext fun a => match a with | ⟨0, _⟩ => rfl | ⟨1, _⟩ => rfl, ref_low, mul_comm]
    refine congrArg₂ (· * ·) rfl ?_
    rw [← ref_flat]
    refine congrArg (val_main_v27 (F := Ideal) X) (funext fun a => ?_)
    match a with
    | ⟨0, _⟩ => exact Fin.ext (by show 0 + 1 * (2048 * b.val + T.val) = 2048 * b.val + T.val; omega)
    | ⟨1, _⟩ => exact Fin.ext (by show 0 + 2 * k.val = 2 * k.val; omega)
  · rw [show ridx_main_v48 (ix2 (⟨2048 * b.val + T.val, by omega⟩ : Fin 4096) o) k = ix2 k o from
      funext fun a => match a with | ⟨0, _⟩ => rfl | ⟨1, _⟩ => rfl, ref_high, mul_comm]
    refine congrArg₂ (· * ·) rfl ?_
    rw [← ref_flat]
    refine congrArg (val_main_v27 (F := Ideal) X) (funext fun a => ?_)
    match a with
    | ⟨0, _⟩ => exact Fin.ext (by show 0 + 1 * (2048 * b.val + T.val) = 2048 * b.val + T.val; omega)
    | ⟨1, _⟩ => exact Fin.ext (by show 1 + 2 * k.val = 2 * k.val + 1; omega)

/-- Head `h` of a token, before the rotation. -/
theorem ref_head (X : Vec Ideal S2x2048x3584 .bf16) (W : Vec Ideal S1792x4608 .i8) (S : Vec Ideal S4608 .f32)
    (b : Fin 2) (T : Fin 2048) (h : Fin 32) (d : Fin 128) :
    val_main_v58 (F := Ideal) X W S (ix4 b T h d)
      = headAt (tokRow X b T) (WT W) (chanAt S) ⟨h.val, by omega⟩ d := by
  rw [val_main_v58_apply, val_main_v57_apply]
  refine Eq.trans (congrArg (val_main_v56 (F := Ideal) X W S) (funext fun a => ?_))
    (ref_channel X W S b T ⟨128 * h.val + d.val, by omega⟩)
  match a with
  | ⟨0, _⟩ => exact Fin.ext (by show (((b.val * 2048 + T.val) * 32 + h.val) * 128 + d.val) / 8388608 = b.val; omega)
  | ⟨1, _⟩ => exact Fin.ext (by show (((b.val * 2048 + T.val) * 32 + h.val) * 128 + d.val) / 4096 % 2048 = T.val; omega)
  | ⟨2, _⟩ => exact Fin.ext (by show (((b.val * 2048 + T.val) * 32 + h.val) * 128 + d.val) % 4096 = 128 * h.val + d.val; omega)

/-- A value head of a token. -/
theorem ref_value (X : Vec Ideal S2x2048x3584 .bf16) (W : Vec Ideal S1792x4608 .i8) (S : Vec Ideal S4608 .f32)
    (b : Fin 2) (T : Fin 2048) (j : Fin 4) (d : Fin 128) :
    val_main_v60 (F := Ideal) X W S (ix4 b T j d) = valTok X W S (valHead j) b T d := by
  rw [val_main_v60_apply, val_main_v59_apply]
  refine Eq.trans (congrArg (val_main_v56 (F := Ideal) X W S) (funext fun a => ?_))
    (ref_channel X W S b T ⟨128 * (32 + j.val) + d.val, by omega⟩)
  match a with
  | ⟨0, _⟩ => exact Fin.ext (by show (((b.val * 2048 + T.val) * 4 + j.val) * 128 + d.val) / 1048576 = b.val; omega)
  | ⟨1, _⟩ => exact Fin.ext (by show (((b.val * 2048 + T.val) * 4 + j.val) * 128 + d.val) / 512 % 2048 = T.val; omega)
  | ⟨2, _⟩ => exact Fin.ext (by
      show 4096 + (((b.val * 2048 + T.val) * 4 + j.val) * 128 + d.val) % 512 = 128 * (32 + j.val) + d.val; omega)

end Cert.QkvIdeal.Hand
end
-- ==== Proof.Qkv.Table.lean ====
module

public import proofs.«01_k».proof.Proof.Qkv.Arrays
public import proofs.«01_k».proof.Proof.Gen.QkvReferenceIdeal.Read

/-!
# The table of signs

The kernel multiplies by a stored table of `1` and `-1`, three copies side by side; the reference computes the sign of an
entry from the number of ones in the bitwise product of its two indices.  Both are the parity written here with shifts.
-/

@[expose] public section
set_option maxRecDepth 65536
noncomputable section
namespace Cert.QkvIdeal.Hand
open Cert.QkvIdeal
open Idealize.ShloMosaic Idealize.ShloMosaic.Pointwise
open Cert.QkvReferenceIdeal.Read

/-- Whether a number below 128 has an odd number of ones. -/
def fold4 (a : Nat) : Nat := Nat.xor a (Nat.shiftRight a 4)
def fold2 (a : Nat) : Nat := Nat.xor a (Nat.shiftRight a 2)
def fold1 (a : Nat) : Nat := Nat.xor a (Nat.shiftRight a 1)
def odd (a : Nat) : Bool := Nat.beq (Nat.land (fold1 (fold2 (fold4 a))) 1) 1

/-- The sixteen rows from `16 q` of the stored table hold the parity's signs. -/
def StoredRows (q : Nat) : Prop := ∀ (e : Fin 16) (p : Fin 3) (d : Fin 128),
  lit0t ((16 * q + e.val) * 384 + (p.val * 128 + d.val)) = bif odd (Nat.land d.val (16 * q + e.val)) then 0xBF80#16 else 0x3F80#16
instance (q : Nat) : Decidable (StoredRows q) := by unfold StoredRows; infer_instance

theorem stored0 : StoredRows 0 := by decide +kernel
theorem stored1 : StoredRows 1 := by decide +kernel
theorem stored2 : StoredRows 2 := by decide +kernel
theorem stored3 : StoredRows 3 := by decide +kernel
theorem stored4 : StoredRows 4 := by decide +kernel
theorem stored5 : StoredRows 5 := by decide +kernel
theorem stored6 : StoredRows 6 := by decide +kernel
theorem stored7 : StoredRows 7 := by decide +kernel

theorem storedRows (q : Fin 8) : StoredRows q.val := match q with
  | ⟨0, _⟩ => stored0
  | ⟨1, _⟩ => stored1
  | ⟨2, _⟩ => stored2
  | ⟨3, _⟩ => stored3
  | ⟨4, _⟩ => stored4
  | ⟨5, _⟩ => stored5
  | ⟨6, _⟩ => stored6
  | ⟨7, _⟩ => stored7

/-- The stored word at row `e`, column `128 p + d`. -/
theorem stored (e : Fin 128) (p : Fin 3) (d : Fin 128) :
    lit0t (e.val * 384 + (p.val * 128 + d.val)) = bif odd (Nat.land d.val e.val) then 0xBF80#16 else 0x3F80#16 := by
  have h := storedRows ⟨e.val / 16, by omega⟩ ⟨e.val % 16, by omega⟩ p d
  have he : 16 * (e.val / 16) + e.val % 16 = e.val := by omega
  rw [he] at h
  exact h

/-- The word the reference computes from the bitwise product. -/
def signWord (a : BitVec 32) : BitVec 32 := IntOp.subi 1#32 (IntOp.muli 2#32 (IntOp.andi (IntOp.ctpop a) 1#32))
theorem signWord_eq : ∀ a : Fin 128, signWord (BitVec.ofNat 32 a.val) = bif odd a.val then 4294967295#32 else 1#32 := by
  decide +kernel

/-- The computed word at `(d, e)`. -/
theorem computed (d e : Fin 128) :
    val_main_v88 (F := Ideal) (ix2 d e) = bif odd (Nat.land d.val e.val) then 4294967295#32 else 1#32 := by
  rw [val_main_v88_apply, val_main_v87_apply, val_main_c_16_apply, val_main_v86_apply, val_main_v85_apply, val_main_c_15_apply,
    val_main_v84_apply, val_main_v83_apply, val_main_c_14_apply, val_main_v82_apply, val_main_v81_apply, val_main_v79_apply,
    val_main_v80_apply, val_main_v77_apply, val_main_v78_apply, val_main_v76_apply, val_main_v76_apply]
  have hl : d.val &&& e.val < 128 := lt_of_le_of_lt Nat.and_le_left d.isLt
  have h : IntOp.andi (BitVec.ofNat 32 d.val) (BitVec.ofNat 32 e.val) = BitVec.ofNat 32 (d.val &&& e.val) := BitVec.ofNat_and.symm
  refine Eq.trans (congrArg signWord h) ?_
  exact signWord_eq ⟨d.val &&& e.val, hl⟩

theorem ofBits_one : Ideal.ofBits .bf16 0x3F80#16 = ((1 : ℝ) : EReal) := by
  simp [Ideal.ofBits, Ideal.ieee, ← EReal.coe_mul]
  norm_num
theorem ofBits_neg_one : Ideal.ofBits .bf16 0xBF80#16 = ((-1 : ℝ) : EReal) := by
  simp [Ideal.ofBits, Ideal.ieee, ← EReal.coe_mul]
  norm_num

/-- The kernel's sign is the reference's. -/
theorem sign_eq (e : Fin 128) (p : Fin 3) (d : Fin 128) :
    HT (ix2 e (⟨p.val * 128 + d.val, by omega⟩ : Fin 384)) = val_main_v89 (F := Ideal) (ix2 d e) := by
  rw [val_main_v89_apply, computed]
  have h : lit0 (S128x384.rowMajor (ix2 e (⟨p.val * 128 + d.val, by omega⟩ : Fin 384)))
      = bif odd (Nat.land d.val e.val) then 0xBF80#16 else 0x3F80#16 := by
    rw [← stored]
    show lit0t (S128x384.rowMajor (ix2 e (⟨p.val * 128 + d.val, by omega⟩ : Fin 384))).val = _
    rw [Shape.rowMajor_val_two]
    rfl
  show Ideal.ofBits .bf16 (lit0 (S128x384.rowMajor (ix2 e (⟨p.val * 128 + d.val, by omega⟩ : Fin 384)))) = _
  rw [h]
  cases odd (Nat.land d.val e.val)
  · show Ideal.ofBits .bf16 0x3F80#16 = ((((1#32 : BitVec 32).toInt : ℤ) : ℝ) : EReal)
    rw [ofBits_one, show (1#32 : BitVec 32).toInt = 1 by decide]; norm_num
  · show Ideal.ofBits .bf16 0xBF80#16 = ((((4294967295#32 : BitVec 32).toInt : ℤ) : ℝ) : EReal)
    rw [ofBits_neg_one, show (4294967295#32 : BitVec 32).toInt = -1 by decide]; norm_num

/-- A sign is a real number. -/
theorem sign_real (e : Fin 128) (j : Fin 384) : ∃ r : ℝ, HT (ix2 e j) = (r : EReal) := by
  have hj : j = (⟨(⟨j.val / 128, by omega⟩ : Fin 3).val * 128 + (⟨j.val % 128, by omega⟩ : Fin 128).val, by show j.val / 128 * 128 + j.val % 128 < 384; omega⟩ : Fin 384) :=
    Fin.ext (by show j.val = j.val / 128 * 128 + j.val % 128; omega)
  rw [hj, sign_eq, val_main_v89_apply]
  exact ⟨_, rfl⟩

end Cert.QkvIdeal.Hand
end
-- ==== Proof.Qkv.Rotated.lean ====
module

public import proofs.«01_k».proof.Proof.Qkv.Reference
public import proofs.«01_k».proof.Proof.Qkv.Table

/-!
# The reference's rotated and transformed heads

The rotated head is the kernel's; for real channel scales and angles it is real, and then the product with the table of
signs is the kernel's as well.
-/

@[expose] public section
set_option maxRecDepth 16384
noncomputable section
namespace Cert.QkvIdeal.Hand
open Cert.QkvIdeal
open Idealize.ShloMosaic Idealize.ShloMosaic.Pointwise
open Cert.QkvReferenceIdeal.Read

/-- The rotated head. -/
theorem ref_rot (X : Vec Ideal S2x2048x3584 .bf16) (W : Vec Ideal S1792x4608 .i8) (S : Vec Ideal S4608 .f32)
    (C Sn : Vec Ideal S2x2048x64 .f32) (b : Fin 2) (T : Fin 2048) (h : Fin 32) (d : Fin 128) :
    val_main_v75 (F := Ideal) X W S C Sn (ix4 b T h d)
      = rot (headAt (tokRow X b T) (WT W) (chanAt S) ⟨h.val, by omega⟩) (tokAng C b T) (tokAng Sn b T) d := by
  have lo : ∀ e : Fin 64, val_main_v63 (F := Ideal) X W S (ix4 b T h e)
      = headAt (tokRow X b T) (WT W) (chanAt S) ⟨h.val, by omega⟩ ⟨e.val, by omega⟩ := fun e => by
    rw [val_main_v63_apply, ← ref_head]
    exact congrArg (val_main_v58 (F := Ideal) X W S)
      (funext fun a => match a with | ⟨0, _⟩ => rfl | ⟨1, _⟩ => rfl | ⟨2, _⟩ => rfl | ⟨3, _⟩ => rfl)
  have hi : ∀ e : Fin 64, val_main_v64 (F := Ideal) X W S (ix4 b T h e)
      = headAt (tokRow X b T) (WT W) (chanAt S) ⟨h.val, by omega⟩ ⟨64 + e.val, by omega⟩ := fun e => by
    rw [val_main_v64_apply, ← ref_head]
    exact congrArg (val_main_v58 (F := Ideal) X W S)
      (funext fun a => match a with | ⟨0, _⟩ => rfl | ⟨1, _⟩ => rfl | ⟨2, _⟩ => rfl | ⟨3, _⟩ => rfl)
  have ec : ∀ e : Fin 64, C (idx_main_v61 (idx_main_v65 (ix4 b T h e))) = tokAng C b T e := fun e =>
    congrArg C (funext fun a => match a with | ⟨0, _⟩ => rfl | ⟨1, _⟩ => rfl | ⟨2, _⟩ => rfl)
  have es : ∀ e : Fin 64, Sn (idx_main_v62 (idx_main_v67 (ix4 b T h e))) = tokAng Sn b T e := fun e =>
    congrArg Sn (funext fun a => match a with | ⟨0, _⟩ => rfl | ⟨1, _⟩ => rfl | ⟨2, _⟩ => rfl)
  unfold rot val_main_v75
  by_cases hd : d.val < 64
  · rw [dif_pos hd, concatenate_pair_apply_left (t := Cert.QkvReferenceIdeal.S2x2048x32x128) (s₁ := Cert.QkvReferenceIdeal.S2x2048x32x64)
      (s₂ := Cert.QkvReferenceIdeal.S2x2048x32x64) 3 _ _ _
      (ix4 b T h d) rfl (ix4 b T h (⟨d.val, hd⟩ : Fin 64))
      (fun a => match a with | ⟨0, _⟩ => rfl | ⟨1, _⟩ => rfl | ⟨2, _⟩ => rfl | ⟨3, _⟩ => rfl),
      val_main_v69_apply, val_main_v66_apply, val_main_v68_apply, lo, hi, val_main_v65_apply, val_main_v61_apply, ec,
      val_main_v67_apply, val_main_v62_apply, es]
    rfl
  · rw [dif_neg hd, concatenate_pair_apply_right (t := Cert.QkvReferenceIdeal.S2x2048x32x128) (s₁ := Cert.QkvReferenceIdeal.S2x2048x32x64)
      (s₂ := Cert.QkvReferenceIdeal.S2x2048x32x64) 3 _ _ _
      (ix4 b T h d) rfl rfl (ix4 b T h (⟨d.val - 64, by omega⟩ : Fin 64))
      (fun a ha => match a with | ⟨0, _⟩ => rfl | ⟨1, _⟩ => rfl | ⟨2, _⟩ => rfl | ⟨3, _⟩ => absurd rfl ha)
      (by show d.val - 64 + 64 = d.val; omega),
      val_main_v74_apply, val_main_v71_apply, val_main_v73_apply, lo, hi, val_main_v70_apply, val_main_v61_apply,
      val_main_v72_apply, val_main_v62_apply]
    refine congrArg₂ (· + ·) (congrArg₂ (· * ·) rfl (ec _)) (congrArg₂ (· * ·) rfl (es _))

/-- The channel scales of the query and key heads are real numbers. -/
def Real1 (S : Vec Ideal S4608 .f32) : Prop := ∀ o : Fin 4096, IsReal (S (ix1 (⟨o.val, by omega⟩ : Fin 4608)))
/-- Every entry of an array of angles is a real number. -/
def Real3 (A : Vec Ideal S2x2048x64 .f32) : Prop := ∀ y, IsReal (A y)

/-- The transformed head. -/
theorem ref_turned (X : Vec Ideal S2x2048x3584 .bf16) (W : Vec Ideal S1792x4608 .i8) (S : Vec Ideal S4608 .f32)
    (C Sn : Vec Ideal S2x2048x64 .f32) (hS : Real1 S) (hC : Real3 C) (hN : Real3 Sn)
    (b : Fin 2) (T : Fin 2048) (h : Fin 32) (e : Fin 128) :
    val_main_v92 (F := Ideal) X W S C Sn (ix4 b T h e) = keyTok X W S C Sn ⟨h.val, by omega⟩ b T e := by
  unfold keyTok turned
  have hr : ∀ d, IsReal (rot (headAt (tokRow X b T) (WT W) (chanAt S) ⟨h.val, by omega⟩) (tokAng C b T) (tokAng Sn b T) d) :=
    rot_real _ _ _ (headAt_real _ _ _ _ fun d => hS ⟨128 * h.val + d.val, by omega⟩) (fun d => hC (ix3 b T d)) (fun d => hN (ix3 b T d))
  rw [had_real HT _ hr,
    val_main_v92_apply, val_main_v91_apply, val_main_cst_17_apply, val_main_v90_apply]
  refine congrArg (fun t : EReal => t * Ideal.ofBits .f32 0x3DB504F3#32) (Finset.sum_congr rfl fun d _ => ?_)
  rw [mul_comm]
  refine congrArg₂ (· * ·) ?_ ?_
  · refine Eq.trans (congrArg (val_main_v89 (F := Ideal)) (funext fun a => ?_)) (sign_eq e 0 d).symm |>.trans ?_
    · match a with
      | ⟨0, _⟩ => rfl
      | ⟨1, _⟩ => rfl
    · refine congrArg HT (funext fun a => ?_)
      match a with
      | ⟨0, _⟩ => rfl
      | ⟨1, _⟩ => exact Fin.ext (by show 0 * 128 + d.val = d.val; omega)
  · rw [← ref_rot]
    exact congrArg (val_main_v75 (F := Ideal) X W S C Sn)
      (funext fun a => match a with | ⟨0, _⟩ => rfl | ⟨1, _⟩ => rfl | ⟨2, _⟩ => rfl | ⟨3, _⟩ => rfl)

/-- A transformed query head. -/
theorem ref_query (X : Vec Ideal S2x2048x3584 .bf16) (W : Vec Ideal S1792x4608 .i8) (S : Vec Ideal S4608 .f32)
    (C Sn : Vec Ideal S2x2048x64 .f32) (hS : Real1 S) (hC : Real3 C) (hN : Real3 Sn)
    (b : Fin 2) (T : Fin 2048) (h : Fin 28) (e : Fin 128) :
    val_main_v93 (F := Ideal) X W S C Sn (ix4 b T h e) = keyTok X W S C Sn ⟨h.val, by omega⟩ b T e := by
  rw [val_main_v93_apply, ← ref_turned X W S C Sn hS hC hN b T ⟨h.val, by omega⟩ e]
  exact congrArg (val_main_v92 (F := Ideal) X W S C Sn)
    (funext fun a => match a with | ⟨0, _⟩ => rfl | ⟨1, _⟩ => rfl | ⟨2, _⟩ => rfl | ⟨3, _⟩ => rfl)

/-- A transformed key head. -/
theorem ref_key (X : Vec Ideal S2x2048x3584 .bf16) (W : Vec Ideal S1792x4608 .i8) (S : Vec Ideal S4608 .f32)
    (C Sn : Vec Ideal S2x2048x64 .f32) (hS : Real1 S) (hC : Real3 C) (hN : Real3 Sn)
    (b : Fin 2) (T : Fin 2048) (j : Fin 4) (e : Fin 128) :
    val_main_v94 (F := Ideal) X W S C Sn (ix4 b T j e) = keyTok X W S C Sn (keyHead j) b T e := by
  rw [val_main_v94_apply]
  refine Eq.trans (congrArg (val_main_v92 (F := Ideal) X W S C Sn) (funext fun a => ?_))
    (ref_turned X W S C Sn hS hC hN b T ⟨28 + j.val, by omega⟩ e)
  match a with
  | ⟨0, _⟩ => rfl
  | ⟨1, _⟩ => rfl
  | ⟨2, _⟩ => rfl
  | ⟨3, _⟩ => rfl

end Cert.QkvIdeal.Hand
end
-- ==== Proof.Qkv.Equal.lean ====
module

public import proofs.«01_k».proof.Proof.Qkv.Rotated

/-!
# The kernel's result arrays are the reference's

The steps, lower ends and bytes of a key or value head, and with them the nine results.
-/

@[expose] public section
set_option maxRecDepth 16384
noncomputable section
namespace Cert.QkvIdeal.Hand
open Cert.QkvIdeal
open Idealize.ShloMosaic Idealize.ShloMosaic.Pointwise
open Cert.QkvReferenceIdeal.Read
open Cert.OutIdeal.Hand (narrow code_bounds)

/-- The step, as the reference's operations write it. -/
theorem step_form (hi lo : Ideal .f32) :
    Scalar.select (FloatOps.cmpf (F := Ideal) .oeq hi lo) (FloatOps.ofBits .f32 0x3F800000#32 : Ideal .f32)
      (FloatOps.hostDivf (FloatOps.subf hi lo) (FloatOps.ofBits .f32 0x41700000#32))
      = if hi = lo then 1 else Ideal.div (hi - lo) (Ideal.ofBits .f32 0x41700000#32) := by
  simp only [pointwise]

theorem ofBits_fifteen : Ideal.ofBits .f32 0x41700000#32 = ((15 : ℝ) : EReal) := by
  simp [Ideal.ofBits, Ideal.ieee, ← EReal.coe_mul]
  norm_num

/-- The code of an entry, as the reference's operations write it. -/
theorem kv_form (a s : Ideal .f32) :
    FloatOps.minimumf (FloatOps.sitofp (F := Ideal) .f32 15#32)
      (FloatOps.maximumf (FloatOps.sitofp (F := Ideal) .f32 0#32) (FloatOps.hostUnary .roundeven (FloatOps.hostDivf a s)))
      = min (Ideal.ofBits .f32 0x41700000#32) (max 0 (Ideal.liftRound Ideal.roundHalfEven (Ideal.div a s))) := by
  have h15 : (FloatOps.sitofp (F := Ideal) .f32 15#32 : EReal) = Ideal.ofBits .f32 0x41700000#32 := by
    rw [ofBits_fifteen]
    show ((((15#32 : BitVec 32).toInt : ℤ) : ℝ) : EReal) = _
    rw [show (15#32 : BitVec 32).toInt = 15 by decide]
    norm_num
  have h0 : (FloatOps.sitofp (F := Ideal) .f32 0#32 : EReal) = 0 := by
    show ((((0#32 : BitVec 32).toInt : ℤ) : ℝ) : EReal) = _
    rw [show (0#32 : BitVec 32).toInt = 0 by decide]
    norm_num
  rw [← h15, ← h0]
  rfl

/-- Two codes in a byte, as the reference's operations write it. -/
theorem byte_form (a b : EReal) :
    BitVec.setWidth 8 (IntOp.ori (Ideal.fptosi 32 a) (IntOp.shli ArithUnit.host (Ideal.fptosi 32 b) 4#32))
      = BitVec.setWidth 8 (IntOp.ori (Ideal.fptosi 32 a) (IntOp.shli ArithUnit.vector (Ideal.fptosi 32 b) 4#32)) := by
  simp [IntOp.shli]

section keys
variable (X : Vec Ideal S2x2048x3584 .bf16) (W : Vec Ideal S1792x4608 .i8) (S : Vec Ideal S4608 .f32)
  (C Sn : Vec Ideal S2x2048x64 .f32) (hS : Real1 S) (hC : Real3 C) (hN : Real3 Sn)
  (b : Fin 2) (T : Fin 2048) (j : Fin 4)
include hS hC hN

theorem key_lo : val_main_v97 (F := Ideal) X W S C Sn (ix3 b T j) = kvLo (keyTok X W S C Sn (keyHead j) b T) := by
  have hm : val_main_v95 (F := Ideal) X W S C Sn (ix3 b T j)
      = Finset.univ.fold min (Ideal.ofBits .f32 0x7F800000#32) fun e : Fin 128 => val_main_v94 (F := Ideal) X W S C Sn (ix4 b T j e) := by
    unfold val_main_v95
    simp only [pointwise]
    rfl
  rw [val_main_v97_apply, val_main_v96_apply, val_main_cst_19_apply, hm]
  simp only [ref_key X W S C Sn hS hC hN]
  rfl
theorem key_hi : val_main_v100 (F := Ideal) X W S C Sn (ix3 b T j) = kvHi (keyTok X W S C Sn (keyHead j) b T) := by
  have hm : val_main_v98 (F := Ideal) X W S C Sn (ix3 b T j)
      = Finset.univ.fold max (Ideal.ofBits .f32 0xFF800000#32) fun e : Fin 128 => val_main_v94 (F := Ideal) X W S C Sn (ix4 b T j e) := by
    unfold val_main_v98
    simp only [pointwise]
    rfl
  rw [val_main_v100_apply, val_main_v99_apply, val_main_cst_21_apply, hm]
  simp only [ref_key X W S C Sn hS hC hN]
  rfl
theorem key_step : val_main_v105 (F := Ideal) X W S C Sn (ix3 b T j) = kvScale (keyTok X W S C Sn (keyHead j) b T) := by
  rw [val_main_v105_apply, val_main_v101_apply, val_main_v104_apply, val_main_v102_apply, val_main_v103_apply,
    val_main_call5_v1_apply, val_main_call5_v0_apply, val_main_cst_22_apply, val_main_cst_23_apply,
    key_lo X W S C Sn hS hC hN, key_hi X W S C Sn hS hC hN]
  exact step_form _ _
theorem key_code (e : Fin 128) :
    val_main_v113 (F := Ideal) X W S C Sn (ix4 b T j e) = kvCode (keyTok X W S C Sn (keyHead j) b T) e := by
  rw [val_main_v113_apply, val_main_call7_v4_apply, val_main_call7_v3_apply, val_main_c_25_apply, val_main_call7_v2_apply,
    val_main_call7_v1_apply, val_main_call7_v0_apply, val_main_c_24_apply, val_main_v112_apply, val_main_v111_apply,
    val_main_v110_apply, val_main_v109_apply, val_main_v108_apply, val_main_v107_apply, val_main_v106_apply,
    show idx_main_v109 (idx_main_v110 (ix4 b T j e)) = ix3 b T j from
      funext fun a => match a with | ⟨0, _⟩ => rfl | ⟨1, _⟩ => rfl | ⟨2, _⟩ => rfl,
    show idx_main_v106 (idx_main_v107 (ix4 b T j e)) = ix3 b T j from
      funext fun a => match a with | ⟨0, _⟩ => rfl | ⟨1, _⟩ => rfl | ⟨2, _⟩ => rfl,
    key_step X W S C Sn hS hC hN, key_lo X W S C Sn hS hC hN, ref_key X W S C Sn hS hC hN]
  exact kv_form _ _
theorem key_byte (r : Fin 64) :
    val_main_v120 (F := Ideal) X W S C Sn (ix4 b T j r) = kvByte (keyTok X W S C Sn (keyHead j) b T) r := by
  rw [val_main_v120_apply, val_main_v119_apply, val_main_v118_apply, val_main_v117_apply, val_main_c_26_apply]
  unfold kvByte
  rw [← byte_form, ← key_code X W S C Sn hS hC hN, ← key_code X W S C Sn hS hC hN]
  refine congrArg₂ (fun u v => BitVec.setWidth 8 (IntOp.ori u (IntOp.shli ArithUnit.host v 4#32)))
    (congrArg (val_main_v114 (F := Ideal) X W S C Sn) (funext fun a => ?_))
    (congrArg (val_main_v114 (F := Ideal) X W S C Sn) (funext fun a => ?_))
  · match a with
    | ⟨0, _⟩ => exact Fin.ext (by show 0 + 1 * b.val = b.val; omega)
    | ⟨1, _⟩ => exact Fin.ext (by show 0 + 1 * T.val = T.val; omega)
    | ⟨2, _⟩ => exact Fin.ext (by show 0 + 1 * j.val = j.val; omega)
    | ⟨3, _⟩ => exact Fin.ext (by show 0 + 2 * r.val = r.val * 2; omega)
  · match a with
    | ⟨0, _⟩ => exact Fin.ext (by show 0 + 1 * b.val = b.val; omega)
    | ⟨1, _⟩ => exact Fin.ext (by show 0 + 1 * T.val = T.val; omega)
    | ⟨2, _⟩ => exact Fin.ext (by show 0 + 1 * j.val = j.val; omega)
    | ⟨3, _⟩ => exact Fin.ext (by show 1 + 2 * r.val = r.val * 2 + 1; omega)
end keys

section values
variable (X : Vec Ideal S2x2048x3584 .bf16) (W : Vec Ideal S1792x4608 .i8) (S : Vec Ideal S4608 .f32)
  (b : Fin 2) (T : Fin 2048) (j : Fin 4)

theorem val_lo : val_main_v123 (F := Ideal) X W S (ix3 b T j) = kvLo (valTok X W S (valHead j) b T) := by
  have hm : val_main_v121 (F := Ideal) X W S (ix3 b T j)
      = Finset.univ.fold min (Ideal.ofBits .f32 0x7F800000#32) fun e : Fin 128 => val_main_v60 (F := Ideal) X W S (ix4 b T j e) := by
    unfold val_main_v121
    simp only [pointwise]
    rfl
  rw [val_main_v123_apply, val_main_v122_apply, val_main_cst_28_apply, hm]
  simp only [ref_value]
  rfl
theorem val_hi : val_main_v126 (F := Ideal) X W S (ix3 b T j) = kvHi (valTok X W S (valHead j) b T) := by
  have hm : val_main_v124 (F := Ideal) X W S (ix3 b T j)
      = Finset.univ.fold max (Ideal.ofBits .f32 0xFF800000#32) fun e : Fin 128 => val_main_v60 (F := Ideal) X W S (ix4 b T j e) := by
    unfold val_main_v124
    simp only [pointwise]
    rfl
  rw [val_main_v126_apply, val_main_v125_apply, val_main_cst_30_apply, hm]
  simp only [ref_value]
  rfl
theorem val_step : val_main_v131 (F := Ideal) X W S (ix3 b T j) = kvScale (valTok X W S (valHead j) b T) := by
  rw [val_main_v131_apply, val_main_v127_apply, val_main_v130_apply, val_main_v128_apply, val_main_v129_apply,
    val_main_call8_v1_apply, val_main_call8_v0_apply, val_main_cst_31_apply, val_main_cst_32_apply, val_lo, val_hi]
  exact step_form _ _
theorem val_code (e : Fin 128) :
    val_main_v139 (F := Ideal) X W S (ix4 b T j e) = kvCode (valTok X W S (valHead j) b T) e := by
  rw [val_main_v139_apply, val_main_call10_v4_apply, val_main_call10_v3_apply, val_main_c_34_apply, val_main_call10_v2_apply,
    val_main_call10_v1_apply, val_main_call10_v0_apply, val_main_c_33_apply, val_main_v138_apply, val_main_v137_apply,
    val_main_v136_apply, val_main_v135_apply, val_main_v134_apply, val_main_v133_apply, val_main_v132_apply,
    show idx_main_v135 (idx_main_v136 (ix4 b T j e)) = ix3 b T j from
      funext fun a => match a with | ⟨0, _⟩ => rfl | ⟨1, _⟩ => rfl | ⟨2, _⟩ => rfl,
    show idx_main_v132 (idx_main_v133 (ix4 b T j e)) = ix3 b T j from
      funext fun a => match a with | ⟨0, _⟩ => rfl | ⟨1, _⟩ => rfl | ⟨2, _⟩ => rfl,
    val_step, val_lo, ref_value]
  exact kv_form _ _
theorem val_byte (r : Fin 64) :
    val_main_v146 (F := Ideal) X W S (ix4 b T j r) = kvByte (valTok X W S (valHead j) b T) r := by
  rw [val_main_v146_apply, val_main_v145_apply, val_main_v144_apply, val_main_v143_apply, val_main_c_35_apply]
  unfold kvByte
  rw [← byte_form, ← val_code, ← val_code]
  refine congrArg₂ (fun u v => BitVec.setWidth 8 (IntOp.ori u (IntOp.shli ArithUnit.host v 4#32)))
    (congrArg (val_main_v140 (F := Ideal) X W S) (funext fun a => ?_))
    (congrArg (val_main_v140 (F := Ideal) X W S) (funext fun a => ?_))
  · match a with
    | ⟨0, _⟩ => exact Fin.ext (by show 0 + 1 * b.val = b.val; omega)
    | ⟨1, _⟩ => exact Fin.ext (by show 0 + 1 * T.val = T.val; omega)
    | ⟨2, _⟩ => exact Fin.ext (by show 0 + 1 * j.val = j.val; omega)
    | ⟨3, _⟩ => exact Fin.ext (by show 0 + 2 * r.val = r.val * 2; omega)
  · match a with
    | ⟨0, _⟩ => exact Fin.ext (by show 0 + 1 * b.val = b.val; omega)
    | ⟨1, _⟩ => exact Fin.ext (by show 0 + 1 * T.val = T.val; omega)
    | ⟨2, _⟩ => exact Fin.ext (by show 0 + 1 * j.val = j.val; omega)
    | ⟨3, _⟩ => exact Fin.ext (by show 1 + 2 * r.val = r.val * 2 + 1; omega)
end values

section results
variable (X : Vec Ideal S2x2048x3584 .bf16) (W : Vec Ideal S1792x4608 .i8) (S : Vec Ideal S4608 .f32)
  (C Sn : Vec Ideal S2x2048x64 .f32)

/-- The codes of the rows. -/
theorem codes_eq : val_main_v148 (F := Ideal) X = GXC X := by
  funext y
  obtain ⟨b, T, k, rfl⟩ : ∃ (b : Fin 2) (T : Fin 2048) (k : Fin 3584), y = ix3 b T k := ⟨y 0, y 1, y 2, eq_ix3 y⟩
  rw [val_main_v148_apply, val_main_v147_apply, ref_code]
  exact (narrow _ (code_bounds _ _).1 (code_bounds _ _).2).symm
/-- The scales of the rows. -/
theorem scales_eq : val_main_v19 (F := Ideal) X = GXS X := by
  funext y
  obtain ⟨b, T, rfl⟩ : ∃ (b : Fin 2) (T : Fin 2048), y = ix2 b T := ⟨y 0, y 1, eq_ix2 y⟩
  exact ref_scale X b T
/-- The queries. -/
theorem queries_eq (hS : Real1 S) (hC : Real3 C) (hN : Real3 Sn) :
    val_main_v150 (F := Ideal) X W S C Sn = GQ (keyTok X W S C Sn) := by
  funext y
  obtain ⟨b, h, e, T, rfl⟩ : ∃ (b : Fin 2) (h : Fin 28) (e : Fin 128) (T : Fin 2048), y = ix4 b h e T :=
    ⟨y 0, y 1, y 2, y 3, eq_ix4 y⟩
  rw [val_main_v150_apply, val_main_v149_apply]
  refine Eq.trans (congrArg (val_main_v93 (F := Ideal) X W S C Sn) (funext fun a => ?_)) (ref_query X W S C Sn hS hC hN b T h e)
  match a with
  | ⟨0, _⟩ => rfl
  | ⟨1, _⟩ => rfl
  | ⟨2, _⟩ => rfl
  | ⟨3, _⟩ => rfl
/-- The bytes of the keys. -/
theorem keyBytes_eq (hS : Real1 S) (hC : Real3 C) (hN : Real3 Sn) :
    val_main_v151 (F := Ideal) X W S C Sn = GB fun j => keyTok X W S C Sn (keyHead j) := by
  funext y
  obtain ⟨b, j, r, T, rfl⟩ : ∃ (b : Fin 2) (j : Fin 4) (r : Fin 64) (T : Fin 2048), y = ix4 b j r T :=
    ⟨y 0, y 1, y 2, y 3, eq_ix4 y⟩
  rw [val_main_v151_apply]
  refine Eq.trans (congrArg (val_main_v120 (F := Ideal) X W S C Sn) (funext fun a => ?_)) (key_byte X W S C Sn hS hC hN b T j r)
  match a with
  | ⟨0, _⟩ => rfl
  | ⟨1, _⟩ => rfl
  | ⟨2, _⟩ => rfl
  | ⟨3, _⟩ => rfl
/-- The steps of the keys. -/
theorem keySteps_eq (hS : Real1 S) (hC : Real3 C) (hN : Real3 Sn) :
    val_main_v152 (F := Ideal) X W S C Sn = GS fun j => keyTok X W S C Sn (keyHead j) := by
  funext y
  obtain ⟨b, j, T, rfl⟩ : ∃ (b : Fin 2) (j : Fin 4) (T : Fin 2048), y = ix3 b j T := ⟨y 0, y 1, y 2, eq_ix3 y⟩
  rw [val_main_v152_apply]
  refine Eq.trans (congrArg (val_main_v105 (F := Ideal) X W S C Sn) (funext fun a => ?_)) (key_step X W S C Sn hS hC hN b T j)
  match a with
  | ⟨0, _⟩ => rfl
  | ⟨1, _⟩ => rfl
  | ⟨2, _⟩ => rfl
/-- The lower ends of the keys. -/
theorem keyLows_eq (hS : Real1 S) (hC : Real3 C) (hN : Real3 Sn) :
    val_main_v153 (F := Ideal) X W S C Sn = GLow fun j => keyTok X W S C Sn (keyHead j) := by
  funext y
  obtain ⟨b, j, T, rfl⟩ : ∃ (b : Fin 2) (j : Fin 4) (T : Fin 2048), y = ix3 b j T := ⟨y 0, y 1, y 2, eq_ix3 y⟩
  rw [val_main_v153_apply]
  refine Eq.trans (congrArg (val_main_v97 (F := Ideal) X W S C Sn) (funext fun a => ?_)) (key_lo X W S C Sn hS hC hN b T j)
  match a with
  | ⟨0, _⟩ => rfl
  | ⟨1, _⟩ => rfl
  | ⟨2, _⟩ => rfl
/-- The bytes of the values. -/
theorem valueBytes_eq : val_main_v154 (F := Ideal) X W S = GB fun j => valTok X W S (valHead j) := by
  funext y
  obtain ⟨b, j, r, T, rfl⟩ : ∃ (b : Fin 2) (j : Fin 4) (r : Fin 64) (T : Fin 2048), y = ix4 b j r T :=
    ⟨y 0, y 1, y 2, y 3, eq_ix4 y⟩
  rw [val_main_v154_apply]
  refine Eq.trans (congrArg (val_main_v146 (F := Ideal) X W S) (funext fun a => ?_)) (val_byte X W S b T j r)
  match a with
  | ⟨0, _⟩ => rfl
  | ⟨1, _⟩ => rfl
  | ⟨2, _⟩ => rfl
  | ⟨3, _⟩ => rfl
/-- The steps of the values. -/
theorem valueSteps_eq : val_main_v155 (F := Ideal) X W S = GS fun j => valTok X W S (valHead j) := by
  funext y
  obtain ⟨b, j, T, rfl⟩ : ∃ (b : Fin 2) (j : Fin 4) (T : Fin 2048), y = ix3 b j T := ⟨y 0, y 1, y 2, eq_ix3 y⟩
  rw [val_main_v155_apply]
  refine Eq.trans (congrArg (val_main_v131 (F := Ideal) X W S) (funext fun a => ?_)) (val_step X W S b T j)
  match a with
  | ⟨0, _⟩ => rfl
  | ⟨1, _⟩ => rfl
  | ⟨2, _⟩ => rfl
/-- The lower ends of the values. -/
theorem valueLows_eq : val_main_v156 (F := Ideal) X W S = GLow fun j => valTok X W S (valHead j) := by
  funext y
  obtain ⟨b, j, T, rfl⟩ : ∃ (b : Fin 2) (j : Fin 4) (T : Fin 2048), y = ix3 b j T := ⟨y 0, y 1, y 2, eq_ix3 y⟩
  rw [val_main_v156_apply]
  refine Eq.trans (congrArg (val_main_v123 (F := Ideal) X W S) (funext fun a => ?_)) (val_lo X W S b T j)
  match a with
  | ⟨0, _⟩ => rfl
  | ⟨1, _⟩ => rfl
  | ⟨2, _⟩ => rfl
end results

end Cert.QkvIdeal.Hand
end
-- ==== Proof.Qkv.Pre.lean ====
module

public import proofs.«01_k».proof.Pre_qkv_finite
public import Idealize.ShloMosaic.Lib.Affine
public import Idealize.ShloMosaic.Lib.Decide
public import Idealize.ShloMosaic.Lib.Exec

/-!
# The side conditions of the precondition `qkv_finite`
-/

@[expose] public section
namespace Cert.Pre_qkv_finite.Hand
open Cert.Pre_qkv_finite
open Idealize.ShloMosaic

theorem slices_S4608_S4096_0 : S4608.Slices ![0] S4096 := by decide
theorem bcast_S_S4096 : S_.BroadcastsInDim S4096 (![] : Fin 0 → Fin S4096.rank) := by decide
theorem bcast_S_S2x2048x64 : S_.BroadcastsInDim S2x2048x64 (![] : Fin 0 → Fin S2x2048x64.rank) := by decide

/-- The function's facts. -/
instance facts : Cert.Pre_qkv_finite.Facts where
  slices_S4608_S4096_0 := @slices_S4608_S4096_0
  bcast_S_S4096 := @bcast_S_S4096
  bcast_S_S2x2048x64 := @bcast_S_S2x2048x64

end Cert.Pre_qkv_finite.Hand
-- ==== Proof.QkvFrame.Body.lean ====
module

public import proofs.«01_k».proof.Proof.Gen.Qkv.Frame
public import proofs.«01_k».proof.Proof.Gen.Qkv.Skeleton
public import proofs.«01_k».proof.Proof.Gen.Qkv.Loops

/-!
# The projection kernel's body, run once at any float values

The body at the first point (which also unpacks the weights) and at a later point: on whole buffers it
runs to the end, its inputs as they were and the rest at some contents.  This is all the frame needs.
-/

@[expose] public section

set_option maxRecDepth 16384

noncomputable section

namespace Cert.Qkv.Hand

open Cert.Qkv Cert.Qkv.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The frame claim's post from the frame run's -/

set_option maxHeartbeats 1200000 in
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Qkv`, Defs.lean, at any `F`). -/
theorem frame_of_rel (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, k0_cond1, e0]
    word_cmp
   : ∀ t : Fin grid0.N, cond0_0 (grid0.coords t) ↔ t.val % 8 = 0)

/-! ## The kernel body on any staging memrefs: a subtype the run finds -/

/-- Each window's current staging memref at point `t`, spelled as the pipeline passes it (`bodyAt0`), and its wholeness. -/
abbrev ms0_0 (t : Fin cfg0.N) : Memref sig .tc .vmem S2x256x3584 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1792x4608 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S36x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x64x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x64x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x384 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2x256x3584 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2x28x128x256 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S2x4x256x256 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S2x4x128x256 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S2x4x64x256 .i8 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S2x4x256 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S2x4x256 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S2x4x64x256 .i8 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S2x4x256 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S2x4x256 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S2x4x256x128 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S2x4x256x128 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S2x4x256x128 .f32 := win0_19.stage (cfg0.slots t 19)
abbrev hs0_19 (t : Fin cfg0.N) : (ms0_19 t).IsWhole := hstage0_19 ((cfg0.slots t 19).cast nbuf0_19)
/-- The scratch operands: whole scoped buffers of the kernel's own, passed beside the windows. -/
abbrev scM0_0 : Memref sig .tc .vmem S4608x3584 .i8 := Memref.whole cc0_scratch0
abbrev scM0_1 : Memref sig .tc .vmem S4608x128 .f32 := Memref.whole cc0_scratch1
abbrev scM0_2 : Memref sig .tc .vmem S2x256x3584 .bf16 := Memref.whole cc0_scratch2
abbrev scM0_3 : Memref sig .tc .vmem S256x128 .f32 := Memref.whole cc0_scratch3
/-- The scratch `arg21` the kernel carries between points, as a view: what it holds is stated through it. -/
abbrev VS0_0 : View sig .tc .vmem S4608x3584 .i8 := scM0_0.view
/-- The scratch `arg22` the kernel carries between points, as a view: what it holds is stated through it. -/
abbrev VS0_1 : View sig .tc .vmem S4608x128 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

-- (the run's proof term is large: the definition's epilogue — `abstractNestedProofs` — walks it past the default budget)
set_option maxHeartbeats 2340000 in
/-- The body at the first point: from whole buffers, the inputs at their contents and the rest at anything, to the same. -/
theorem kernelRun0_A (c : Dev nD) (i : grid0.Coords) (arg1 : Memref sig .tc .vmem S2x256x3584 .bf16) (harg1 : arg1.IsWhole) (arg2 : Memref sig .tc .vmem S1792x4608 .i8) (harg2 : arg2.IsWhole) (arg3 : Memref sig .tc .vmem S36x128 .f32) (harg3 : arg3.IsWhole) (arg4 : Memref sig .tc .vmem S2x64x256 .f32) (harg4 : arg4.IsWhole) (arg5 : Memref sig .tc .vmem S2x64x256 .f32) (harg5 : arg5.IsWhole) (arg6 : Memref sig .tc .vmem S128x384 .bf16) (harg6 : arg6.IsWhole) (arg7 : Memref sig .tc .vmem S2x256x3584 .i8) (harg7 : arg7.IsWhole) (arg8 : Memref sig .tc .vmem S2x256 .f32) (harg8 : arg8.IsWhole) (arg9 : Memref sig .tc .vmem S2x28x128x256 .bf16) (harg9 : arg9.IsWhole) (arg10 : Memref sig .tc .vmem S2x4x256x256 .bf16) (harg10 : arg10.IsWhole) (arg11 : Memref sig .tc .vmem S2x4x128x256 .bf16) (harg11 : arg11.IsWhole) (arg12 : Memref sig .tc .vmem S2x4x64x256 .i8) (harg12 : arg12.IsWhole) (arg13 : Memref sig .tc .vmem S2x4x256 .f32) (harg13 : arg13.IsWhole) (arg14 : Memref sig .tc .vmem S2x4x256 .f32) (harg14 : arg14.IsWhole) (arg15 : Memref sig .tc .vmem S2x4x64x256 .i8) (harg15 : arg15.IsWhole) (arg16 : Memref sig .tc .vmem S2x4x256 .f32) (harg16 : arg16.IsWhole) (arg17 : Memref sig .tc .vmem S2x4x256 .f32) (harg17 : arg17.IsWhole) (arg18 : Memref sig .tc .vmem S2x4x256x128 .f32) (harg18 : arg18.IsWhole) (arg19 : Memref sig .tc .vmem S2x4x256x128 .f32) (harg19 : arg19.IsWhole) (arg20 : Memref sig .tc .vmem S2x4x256x128 .f32) (harg20 : arg20.IsWhole) (arg21 : Memref sig .tc .vmem S4608x3584 .i8) (harg21 : arg21.IsWhole) (arg22 : Memref sig .tc .vmem S4608x128 .f32) (harg22 : arg22.IsWhole) (arg23 : Memref sig .tc .vmem S2x256x3584 .bf16) (harg23 : arg23.IsWhole) (arg24 : Memref sig .tc .vmem S256x128 .f32) (harg24 : arg24.IsWhole) (hc0 : cond0_0 i)
    (x0 : Vec F S2x256x3584 .bf16) (x1 : Vec F S1792x4608 .i8) (x2 : Vec F S36x128 .f32) (x3 : Vec F S2x64x256 .f32) (x4 : Vec F S2x64x256 .f32) (x5 : Vec F S128x384 .bf16)
    (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)) -∗ K ⟨⟩))
          ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
    simp only [cc0_qkv_eq_skeleton]; unfold cc0_qkv_skel
    simp only [k0_part47_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

-- (the run's proof term is large: the definition's epilogue — `abstractNestedProofs` — walks it past the default budget)
set_option maxHeartbeats 2248000 in
/-- The body at a later point: likewise. -/
theorem kernelRun0_B (c : Dev nD) (i : grid0.Coords) (arg1 : Memref sig .tc .vmem S2x256x3584 .bf16) (harg1 : arg1.IsWhole) (arg2 : Memref sig .tc .vmem S1792x4608 .i8) (harg2 : arg2.IsWhole) (arg3 : Memref sig .tc .vmem S36x128 .f32) (harg3 : arg3.IsWhole) (arg4 : Memref sig .tc .vmem S2x64x256 .f32) (harg4 : arg4.IsWhole) (arg5 : Memref sig .tc .vmem S2x64x256 .f32) (harg5 : arg5.IsWhole) (arg6 : Memref sig .tc .vmem S128x384 .bf16) (harg6 : arg6.IsWhole) (arg7 : Memref sig .tc .vmem S2x256x3584 .i8) (harg7 : arg7.IsWhole) (arg8 : Memref sig .tc .vmem S2x256 .f32) (harg8 : arg8.IsWhole) (arg9 : Memref sig .tc .vmem S2x28x128x256 .bf16) (harg9 : arg9.IsWhole) (arg10 : Memref sig .tc .vmem S2x4x256x256 .bf16) (harg10 : arg10.IsWhole) (arg11 : Memref sig .tc .vmem S2x4x128x256 .bf16) (harg11 : arg11.IsWhole) (arg12 : Memref sig .tc .vmem S2x4x64x256 .i8) (harg12 : arg12.IsWhole) (arg13 : Memref sig .tc .vmem S2x4x256 .f32) (harg13 : arg13.IsWhole) (arg14 : Memref sig .tc .vmem S2x4x256 .f32) (harg14 : arg14.IsWhole) (arg15 : Memref sig .tc .vmem S2x4x64x256 .i8) (harg15 : arg15.IsWhole) (arg16 : Memref sig .tc .vmem S2x4x256 .f32) (harg16 : arg16.IsWhole) (arg17 : Memref sig .tc .vmem S2x4x256 .f32) (harg17 : arg17.IsWhole) (arg18 : Memref sig .tc .vmem S2x4x256x128 .f32) (harg18 : arg18.IsWhole) (arg19 : Memref sig .tc .vmem S2x4x256x128 .f32) (harg19 : arg19.IsWhole) (arg20 : Memref sig .tc .vmem S2x4x256x128 .f32) (harg20 : arg20.IsWhole) (arg21 : Memref sig .tc .vmem S4608x3584 .i8) (harg21 : arg21.IsWhole) (arg22 : Memref sig .tc .vmem S4608x128 .f32) (harg22 : arg22.IsWhole) (arg23 : Memref sig .tc .vmem S2x256x3584 .bf16) (harg23 : arg23.IsWhole) (arg24 : Memref sig .tc .vmem S256x128 .f32) (harg24 : arg24.IsWhole) (hc0 : ¬cond0_0 i)
    (x0 : Vec F S2x256x3584 .bf16) (x1 : Vec F S1792x4608 .i8) (x2 : Vec F S36x128 .f32) (x3 : Vec F S2x64x256 .f32) (x4 : Vec F S2x64x256 .f32) (x5 : Vec F S128x384 .bf16)
    (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)) -∗ K ⟨⟩))
          ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
    simp only [cc0_qkv_eq_skeleton]; unfold cc0_qkv_skel
    simp only [k0_part47_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Qkv.Hand

end
-- ==== Proof.QkvFrame.Frame.lean ====
module

public import proofs.«01_k».proof.Proof.QkvFrame.Body
public import Idealize.ShloMosaic.Lib.Claim

/-!
# The projection kernel's frame

Every run ends, leaves the argument arrays as they were and every semaphore at zero.
-/

@[expose] public section

set_option maxRecDepth 16384

noncomputable section

namespace Cert.Qkv.Hand

open Cert.Qkv Cert.Qkv.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The output windows this certificate FORGETS (6, 7, 8, 9, 10, 11, 12, 13, 14, 15, 16, 17, 18, 19): nothing reads what the kernel leaves in them, so nothing
    of it is named (Lib/Pipeline/Dat.lean `Dat.toRForget`). -/
def forgets0 : Fin 20 → Bool := fun w => w.val == 6 || w.val == 7 || w.val == 8 || w.val == 9 || w.val == 10 || w.val == 11 || w.val == 12 || w.val == 13 || w.val == 14 || w.val == 15 || w.val == 16 || w.val == 17 || w.val == 18 || w.val == 19

/-- The proof data of the one pipeline on core `c`: the arrays as the region finds them (`V`); after the body at
    point `t` each input's buffer at its block and the outputs, FORGOTTEN, at `Dat.unnamed`; the invariant the scratch
    buffers at some contents; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨17, h⟩ => Pipeline.Dat.unnamed (cfg := cfg0) ⟨17, h⟩ t
    | ⟨18, h⟩ => Pipeline.Dat.unnamed (cfg := cfg0) ⟨18, h⟩ t
    | ⟨19, h⟩ => Pipeline.Dat.unnamed (cfg := cfg0) ⟨19, h⟩ t
    | ⟨_ + 20, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d))

set_option maxHeartbeats 19200000 in
/-- The body at any point: the inputs' buffers hold their blocks, and the case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl, show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  by_cases h0 : t.val % 8 = 0
  · iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
    iapply (kernelRun0_A c (grid0.coords t) _ _ _ _ _ _ _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [HS0]; · iexact HS0
    isplitl [HS1]; · iexact HS1
    isplitl [HS2]; · iexact HS2
    isplitl [HS3]; · iexact HS3
    iintro ⟨H0, H1, H2, H3, H4, H5, H6, H7, H8, H9, H10, H11, H12, H13, H14, H15, H16, H17, H18, H19, HS0, HS1, HS2, HS3⟩
    isplitl [HS0 HS1 HS2 HS3 Hg]
    · isplitl [HS0 HS1 HS2 HS3]
      · isplitl [HS0]
        · iexact HS0
        isplitl [HS1]
        · iexact HS1
        isplitl [HS2]
        · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19
  · iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
    iapply (kernelRun0_B c (grid0.coords t) _ _ _ _ _ _ _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [HS0]; · iexact HS0
    isplitl [HS1]; · iexact HS1
    isplitl [HS2]; · iexact HS2
    isplitl [HS3]; · iexact HS3
    iintro ⟨H0, H1, H2, H3, H4, H5, H6, H7, H8, H9, H10, H11, H12, H13, H14, H15, H16, H17, H18, H19, HS0, HS1, HS2, HS3⟩
    isplitl [HS0 HS1 HS2 HS3 Hg]
    · isplitl [HS0 HS1 HS2 HS3]
      · isplitl [HS0]
        · iexact HS0
        isplitl [HS1]
        · iexact HS1
        isplitl [HS2]
        · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 6, 7, 8, 9, 10, 11, 12, 13, 14, 15, 16, 17, 18, 19) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of_rel m ρ (fun c => (dats m 0 c).toRForget forgets0) (A_eq m) (run_main m ρ)

/-- THE FRAME: `Cert.quiescent_Qkv`'s statement (Defs.lean) at any `F` — Proof.lean cites it at `Bits`:
    `theorem Cert.Proof.claim : Cert.Claim := ⟨Cert.Qkv.Gen.facts, fun m ρ _ => Cert.Qkv.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Qkv.Hand

end
-- ==== Proof.Qkv.Claims.lean ====
module

public import proofs.«01_k».proof.Defs
public import proofs.«01_k».proof.Proof.Qkv.Equal
public import proofs.«01_k».proof.Proof.Qkv.Pre
public import proofs.«01_k».proof.Proof.QkvFrame.Frame
public import Idealize.ShloMosaic.Adequacy
public import Idealize.ShloMosaic.Init

/-!
# The claims about the projection kernel

The frames of the kernel and of the reference, and the equality of their results.
-/

@[expose] public section
noncomputable section
namespace Cert.Proof.QkvClaims
open Idealize.ShloMosaic Idealize.SL.Sem Idealize.ShloMosaic.Pointwise
open Cert.QkvIdeal.Hand Cert.QkvReferenceIdeal.Read
open Cert.OutIdeal.Hand (absE)

theorem frame_qkv : Cert.quiescent_Qkv := fun m ρ _ => Cert.Qkv.Hand.frame m ρ
theorem frame_qkv_ideal : Cert.quiescent_QkvIdeal := fun m ρ _ => Cert.QkvIdeal.Hand.frame m ρ
theorem frame_qkv_ideal_pre : Cert.quiescent_QkvIdeal_pre_qkv_finite := fun m ρ _ => Cert.QkvIdeal.Hand.frame m ρ
theorem frame_ref : Cert.quiescent_QkvReferenceIdeal := fun m ρ _ =>
  (θ_run Cert.QkvReferenceIdeal.defs _ _).mono
    (fun r h => ⟨fun c => (h c).2.2.2.2.2.2.2.2.2, sem_eq_zero_of_no_sems (by decide) r.2⟩)
    (Cert.QkvReferenceIdeal.Value.run (F := Ideal) m ρ)
theorem frame_ref_pre : Cert.quiescent_QkvReferenceIdeal_pre_qkv_finite := fun m ρ _ => frame_ref m ρ trivial

/-- A value below infinity in absolute value is a real number. -/
theorem real_of_cmp (a : EReal) (h : Ideal.cmp .olt (absE a) (Ideal.ofBits .f32 0x7F800000#32) = 1#1) : IsReal a := by
  have ht : Ideal.ofBits .f32 0x7F800000#32 = ⊤ := by simp [Ideal.ofBits, Ideal.ieee]
  rw [ht] at h
  induction a using EReal.rec with
  | bot => exact absurd h (by simp [Ideal.cmp, absE])
  | top => exact absurd h (by simp [Ideal.cmp, absE])
  | coe r => exact ⟨r, rfl⟩

/-- The precondition says that the query and key heads' channel scales and the angles are real numbers. -/
theorem real_of_pre (m : (ℓ : Loc Cert.QkvIdeal.nD Cert.QkvIdeal.τ Cert.QkvIdeal.sig) → Buf (Elt Ideal) ℓ)
    (h : Cert.Pre_QkvIdeal_qkv_finite m) (c : Dev Cert.QkvIdeal.nD) :
    Real1 (argS m c) ∧ Real3 (argC m c) ∧ Real3 (argN m c) :=
  ⟨fun o => by
    refine real_of_cmp _ (Eq.trans ?_ (congrFun (h c).1 (ix1 o)))
    refine congrArg (fun t => Ideal.cmp .olt (absE t) (Ideal.ofBits .f32 0x7F800000#32)) (congrArg (argS m c) (funext fun a => ?_))
    exact Fin.ext (by match a with | ⟨0, _⟩ => exact (Nat.zero_add _).symm), fun y => real_of_cmp _ (congrFun (h c).2.1 y),
    fun y => real_of_cmp _ (congrFun (h c).2.2 y)⟩

/-- The kernel's nine results are the reference's. -/
theorem algebraic : Cert.algebraic_QkvIdeal_QkvReferenceIdeal_pre_qkv_finite := by
  intro m ρ m' ρ' hpre hagree
  refine ⟨fun c => GXC (argX m c), fun c => GXS (argX m c), fun c => GQ (Cert.QkvIdeal.Hand.heads m c),
    fun c => GB (Cert.QkvIdeal.Hand.keys m c), fun c => GS (Cert.QkvIdeal.Hand.keys m c),
    fun c => GLow (Cert.QkvIdeal.Hand.keys m c), fun c => GB (Cert.QkvIdeal.Hand.vals m c),
    fun c => GS (Cert.QkvIdeal.Hand.vals m c), fun c => GLow (Cert.QkvIdeal.Hand.vals m c), ?_, ?_⟩
  · refine (θ_run Cert.QkvIdeal.defs _ _).mono (fun _ h c => ?_) (Cert.QkvIdeal.Hand.run m ρ)
    obtain ⟨⟨r0, r1, r2, r3, r4, r5, r6, r7, r8⟩, rest⟩ := h c
    exact ⟨r0, r1, r2, r3, r4, r5, r6, r7, r8, rest⟩
  refine (θ_run Cert.QkvReferenceIdeal.defs _ _).mono (fun _ h c => ?_) (Cert.QkvReferenceIdeal.Value.run (F := Ideal) m' ρ')
  obtain ⟨a0, a1, a2, a3, a4⟩ := hagree c
  have a0 : StableHlo.launchContents m' c (Proc.tc.devRef Cert.QkvReferenceIdeal.main_arg0) = argX m c := a0
  have a1 : StableHlo.launchContents m' c (Proc.tc.devRef Cert.QkvReferenceIdeal.main_arg1) = argW m c := a1
  have a2 : StableHlo.launchContents m' c (Proc.tc.devRef Cert.QkvReferenceIdeal.main_arg2) = argS m c := a2
  have a3 : StableHlo.launchContents m' c (Proc.tc.devRef Cert.QkvReferenceIdeal.main_arg3) = argC m c := a3
  have a4 : StableHlo.launchContents m' c (Proc.tc.devRef Cert.QkvReferenceIdeal.main_arg4) = argN m c := a4
  obtain ⟨r0, r1, r2, r3, r4, r5, r6, r7, r8, rest⟩ := h c
  obtain ⟨hS, hC, hN⟩ := real_of_pre m hpre c
  refine ⟨r0.trans ?_, r1.trans ?_, r2.trans ?_, r3.trans ?_, r4.trans ?_, r5.trans ?_, r6.trans ?_, r7.trans ?_, r8.trans ?_,
    rest⟩
  · rw [val_main_v148_eq, a0]
    exact codes_eq (argX m c)
  · rw [val_main_v19_eq, a0]
    exact scales_eq (argX m c)
  · rw [val_main_v150_eq, a0, a1, a2, a3, a4]
    exact queries_eq _ _ _ _ _ hS hC hN
  · rw [val_main_v151_eq, a0, a1, a2, a3, a4]
    exact keyBytes_eq _ _ _ _ _ hS hC hN
  · rw [val_main_v152_eq, a0, a1, a2, a3, a4]
    exact keySteps_eq _ _ _ _ _ hS hC hN
  · rw [val_main_v153_eq, a0, a1, a2, a3, a4]
    exact keyLows_eq _ _ _ _ _ hS hC hN
  · rw [val_main_v154_eq, a0, a1, a2]
    exact valueBytes_eq _ _ _
  · rw [val_main_v155_eq, a0, a1, a2]
    exact valueSteps_eq _ _ _
  · rw [val_main_v156_eq, a0, a1, a2]
    exact valueLows_eq _ _ _

end Cert.Proof.QkvClaims
end
-- ==== Proof.OutFrame.Body.lean ====
module

public import proofs.«01_k».proof.Proof.Gen.Out.Frame
public import proofs.«01_k».proof.Proof.Gen.Out.Skeleton
public import proofs.«01_k».proof.Proof.Gen.Out.Loops

/-!
# The output kernel's body, run once at any float values

The body at the first point (which also unpacks the weights) and at a later point: on whole buffers it
runs to the end, its inputs as they were and the rest at some contents.  This is all the frame needs.
-/

@[expose] public section

set_option maxRecDepth 16384

noncomputable section

namespace Cert.Out.Hand

open Cert.Out Cert.Out.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Out`, Defs.lean, at any `F`). -/
theorem frame_of_rel (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      ((h c).2 main_arg3 (Pipeline.mem_restRefs_of main_arg3 (by decide) (by decide))).trans (V_main_arg3 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, k0_cond1, e0]
    word_cmp
   : ∀ t : Fin grid0.N, cond0_0 (grid0.coords t) ↔ t.val % 16 = 0)

/-! ## The kernel body on any staging memrefs: a subtype the run finds -/

/-- Each window's current staging memref at point `t`, spelled as the pipeline passes it (`bodyAt0`), and its wholeness. -/
abbrev ms0_0 (t : Fin cfg0.N) : Memref sig .tc .vmem S256x3584 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x3584 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1792x3584 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x3584 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x3584 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x3584 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x256 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S3584x3584 .bf16 := Memref.whole cc0_scratch0
abbrev scM0_1 : Memref sig .tc .vmem S256x3584 .f32 := Memref.whole cc0_scratch1
abbrev scM0_2 : Memref sig .tc .vmem S256x128 .f32 := Memref.whole cc0_scratch2
abbrev scM0_3 : Memref sig .tc .vmem S256x3584 .bf16 := Memref.whole cc0_scratch3
abbrev scM0_4 : Memref sig .tc .vmem S256x128 .f32 := Memref.whole cc0_scratch4

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

-- (the run's proof term is large: checking it walks past the default budget)
set_option maxHeartbeats 1000000 in
/-- The body's triple IN CASE A (`scf.if` 0 taken: points 0): on whole staging memrefs — the inputs' at their contents,
    the FORGOTTEN outputs' (4, 5, 6) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .vmem S256x3584 .f32) (harg1 : arg1.IsWhole) (arg2 : Memref sig .tc .vmem S256x3584 .bf16) (harg2 : arg2.IsWhole) (arg3 : Memref sig .tc .vmem S1792x3584 .i8) (harg3 : arg3.IsWhole) (arg4 : Memref sig .tc .vmem S1x3584 .f32) (harg4 : arg4.IsWhole) (arg5 : Memref sig .tc .vmem S256x3584 .bf16) (harg5 : arg5.IsWhole) (arg6 : Memref sig .tc .vmem S256x3584 .i8) (harg6 : arg6.IsWhole) (arg7 : Memref sig .tc .vmem S1x1x256 .f32) (harg7 : arg7.IsWhole) (arg8 : Memref sig .tc .vmem S3584x3584 .bf16) (harg8 : arg8.IsWhole) (arg9 : Memref sig .tc .vmem S256x3584 .f32) (harg9 : arg9.IsWhole) (arg10 : Memref sig .tc .vmem S256x128 .f32) (harg10 : arg10.IsWhole) (arg11 : Memref sig .tc .vmem S256x3584 .bf16) (harg11 : arg11.IsWhole) (arg12 : Memref sig .tc .vmem S256x128 .f32) (harg12 : arg12.IsWhole) (hc0 : cond0_0 i)
    (x0 : Vec F S256x3584 .f32) (x1 : Vec F S256x3584 .bf16) (x2 : Vec F S1792x3584 .i8) (x3 : Vec F S1x3584 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_out i arg1 harg1 arg2 harg2 arg3 harg3 arg4 harg4 arg5 harg5 arg6 harg6 arg7 harg7 arg8 harg8 arg9 harg9 arg10 harg10 arg11 harg11 arg12 harg12) K := by
    intro E K
    simp only [cc0_out_eq_skeleton]; unfold cc0_out_skel
    simp only [k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

-- (the run's proof term is large: checking it walks past the default budget)
set_option maxHeartbeats 1000000 in
/-- The body's triple IN CASE B (`scf.if` 0 not taken: points 1, 2, … 15: 15 of 16): on whole staging memrefs — the inputs' at their contents,
    the FORGOTTEN outputs' (4, 5, 6) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .vmem S256x3584 .f32) (harg1 : arg1.IsWhole) (arg2 : Memref sig .tc .vmem S256x3584 .bf16) (harg2 : arg2.IsWhole) (arg3 : Memref sig .tc .vmem S1792x3584 .i8) (harg3 : arg3.IsWhole) (arg4 : Memref sig .tc .vmem S1x3584 .f32) (harg4 : arg4.IsWhole) (arg5 : Memref sig .tc .vmem S256x3584 .bf16) (harg5 : arg5.IsWhole) (arg6 : Memref sig .tc .vmem S256x3584 .i8) (harg6 : arg6.IsWhole) (arg7 : Memref sig .tc .vmem S1x1x256 .f32) (harg7 : arg7.IsWhole) (arg8 : Memref sig .tc .vmem S3584x3584 .bf16) (harg8 : arg8.IsWhole) (arg9 : Memref sig .tc .vmem S256x3584 .f32) (harg9 : arg9.IsWhole) (arg10 : Memref sig .tc .vmem S256x128 .f32) (harg10 : arg10.IsWhole) (arg11 : Memref sig .tc .vmem S256x3584 .bf16) (harg11 : arg11.IsWhole) (arg12 : Memref sig .tc .vmem S256x128 .f32) (harg12 : arg12.IsWhole) (hc0 : ¬cond0_0 i)
    (x0 : Vec F S256x3584 .f32) (x1 : Vec F S256x3584 .bf16) (x2 : Vec F S1792x3584 .i8) (x3 : Vec F S1x3584 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_out i arg1 harg1 arg2 harg2 arg3 harg3 arg4 harg4 arg5 harg5 arg6 harg6 arg7 harg7 arg8 harg8 arg9 harg9 arg10 harg10 arg11 harg11 arg12 harg12) K := by
    intro E K
    simp only [cc0_out_eq_skeleton]; unfold cc0_out_skel
    simp only [k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Out.Hand

end
-- ==== Proof.OutFrame.Frame.lean ====
module

public import proofs.«01_k».proof.Proof.OutFrame.Body
public import Idealize.ShloMosaic.Lib.Claim

/-!
# The output kernel's frame

Every run ends, leaves the argument arrays as they were and every semaphore at zero.
-/

@[expose] public section

set_option maxRecDepth 16384

noncomputable section

namespace Cert.Out.Hand

open Cert.Out Cert.Out.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The output windows this certificate FORGETS (4, 5, 6): nothing reads what the kernel leaves in them, so nothing
    of it is named (Lib/Pipeline/Dat.lean `Dat.toRForget`). -/
def forgets0 : Fin 7 → Bool := fun w => w.val == 4 || w.val == 5 || w.val == 6

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d)
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ d, owns (c : Thread nD τ) (ms0_4 t) fullShare d)
    ∗ (∃ d, owns (c : Thread nD τ) (ms0_5 t) fullShare d)
    ∗ (∃ d, owns (c : Thread nD τ) (ms0_6 t) fullShare d))

set_option maxHeartbeats 2400000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  have hN : t.val < 16 := lt_of_lt_of_eq t.isLt (show cfg0.N = 16 from N_0)
  by_cases h0 : t.val % 16 = 0
  · iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ _ _ _ _ _ _ _ _ _ _ ((hcond0_0 t).mpr h0) (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, HS0, HS1, HS2, HS3, HS4⟩
    isplitl [HS0 HS1 HS2 HS3 HS4 Hg]
    · isplitl [HS0 HS1 HS2 HS3 HS4]
      · isplitl [HS0]
        · iexact HS0
        isplitl [HS1]
        · iexact HS1
        isplitl [HS2]
        · iexact HS2
        isplitl [HS3]
        · iexact HS3
        iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ _ _ _ _ _ _ _ _ _ _ (fun h => h0 ((hcond0_0 t).mp h)) (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, HS0, HS1, HS2, HS3, HS4⟩
    isplitl [HS0 HS1 HS2 HS3 HS4 Hg]
    · isplitl [HS0 HS1 HS2 HS3 HS4]
      · isplitl [HS0]
        · iexact HS0
        isplitl [HS1]
        · iexact HS1
        isplitl [HS2]
        · iexact HS2
        isplitl [HS3]
        · iexact HS3
        iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 4, 5, 6) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of_rel m ρ (fun c => (dats m 0 c).toRForget forgets0) (A_eq m) (run_main m ρ)

/-- THE FRAME: `Cert.quiescent_Out`'s statement (Defs.lean) at any `F` — Proof.lean cites it at `Bits`:
    `theorem Cert.Proof.claim : Cert.Claim := ⟨Cert.Out.Gen.facts, fun m ρ _ => Cert.Out.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Out.Hand

end
-- ==== Proof.Out.Claims.lean ====
module

public import proofs.«01_k».proof.Defs
public import proofs.«01_k».proof.Proof.Out.Equal
public import proofs.«01_k».proof.Proof.OutFrame.Frame
public import proofs.«01_k».proof.Proof.Gen.Pre_attn_finite
public import Idealize.ShloMosaic.Adequacy
public import Idealize.ShloMosaic.Init

/-!
# The claims about the output kernel

The frames of the kernel and of the reference, and the equality of their results.
-/

@[expose] public section
noncomputable section
namespace Cert.Proof.OutClaims
open Idealize.ShloMosaic Idealize.SL.Sem Idealize.ShloMosaic.Pointwise
open Cert.OutIdeal.Hand Cert.OutReferenceIdeal.Read

theorem frame_out : Cert.quiescent_Out := fun m ρ _ => Cert.Out.Hand.frame m ρ
theorem frame_out_ideal : Cert.quiescent_OutIdeal := fun m ρ _ => Cert.OutIdeal.Hand.frame m ρ
theorem frame_out_ideal_pre : Cert.quiescent_OutIdeal_pre_attn_finite := fun m ρ _ => Cert.OutIdeal.Hand.frame m ρ
theorem frame_ref : Cert.quiescent_OutReferenceIdeal := fun m ρ _ =>
  (θ_run Cert.OutReferenceIdeal.defs _ _).mono (fun r h => ⟨fun c => (h c).2.2.2, sem_eq_zero_of_no_sems (by decide) r.2⟩)
    (Cert.OutReferenceIdeal.Value.run (F := Ideal) m ρ)
theorem frame_ref_pre : Cert.quiescent_OutReferenceIdeal_pre_attn_finite := fun m ρ _ => frame_ref m ρ trivial

/-- The precondition says that every entry of the first argument is a real number. -/
theorem finite_of_pre (m : (ℓ : Loc Cert.OutIdeal.nD Cert.OutIdeal.τ Cert.OutIdeal.sig) → Buf (Elt Ideal) ℓ)
    (h : Cert.Pre_OutIdeal_attn_finite m) (c : Dev Cert.OutIdeal.nD) : Finite (argA m c) := by
  intro y
  have e := congrFun (h c) y
  have e' : Ideal.cmp .olt (absE (argA m c y)) (Ideal.ofBits .f32 0x7F800000#32) = 1#1 := e
  have ht : Ideal.ofBits .f32 0x7F800000#32 = ⊤ := by simp [Ideal.ofBits, Ideal.ieee]
  rw [ht] at e'
  generalize argA m c y = a at e'
  induction a using EReal.rec with
  | bot => exact absurd e' (by simp [Ideal.cmp, absE])
  | top => exact absurd e' (by simp [Ideal.cmp, absE])
  | coe r => exact ⟨r, rfl⟩

/-- The kernel's three results are the reference's. -/
theorem algebraic : Cert.algebraic_OutIdeal_OutReferenceIdeal_pre_attn_finite := by
  intro m ρ m' ρ' hpre hagree
  refine ⟨fun c => G4 (argA m c) (argX m c) (argW m c) (argS m c), fun c => G5 (argA m c), fun c => G6 (argA m c), ?_, ?_⟩
  · exact (θ_run Cert.OutIdeal.defs _ _).mono
      (fun _ h c => ⟨(h c).1.1, (h c).1.2.1, (h c).1.2.2, (h c).2⟩) (Cert.OutIdeal.Hand.run m ρ)
  refine (θ_run Cert.OutReferenceIdeal.defs _ _).mono (fun _ h c => ?_) (Cert.OutReferenceIdeal.Value.run (F := Ideal) m' ρ')
  obtain ⟨a0, a1, a2, a3⟩ := hagree c
  obtain ⟨r0, r1, r2, rest⟩ := h c
  have hA := finite_of_pre m hpre c
  refine ⟨r0.trans ?_, r1.trans ?_, r2.trans ?_, rest⟩
  · rw [val_main_v108_eq, a0, a1, a2, a3]
    exact hidden_eq (argA m c) hA (argX m c) (argW m c) (argS m c)
  · rw [val_main_v110_eq, a0]
    exact codes_eq (argA m c) hA
  · rw [val_main_v111_eq, a0]
    exact scales_eq (argA m c) hA

end Cert.Proof.OutClaims
end
-- ==== Proof.AttnFrame.Body.lean ====
module

public import proofs.«01_k».proof.Proof.Gen.Attn.Frame
public import proofs.«01_k».proof.Proof.Gen.Attn.Skeleton
public import proofs.«01_k».proof.Proof.Gen.Attn.Loops

/-!
# The attention kernel's body, run once at any float values

On whole buffers the body runs to the end, its inputs as they were and the rest at some contents.  This is
all the frame needs.  Whether a row's sums left their range is computed by the body itself: the run splits
there and goes both ways.
-/

@[expose] public section

set_option maxRecDepth 16384

noncomputable section

namespace Cert.Attn.Hand

open Cert.Attn Cert.Attn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The frame claim's post from the frame run's -/

set_option maxHeartbeats 1200000 in
/-- The frame from a frame run: for any proof data whose arrays are those the region finds, the arguments end as they were. -/
theorem frame_of_rel (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c))⟩) h

/-! ## The buffers -/

/-- Each window's current staging memref at point `t`, as the pipeline passes it. -/
abbrev ms0_0 (t : Fin cfg0.N) : Memref sig .tc .vmem S1x7x128x256 .bf16 := win0_0.stage (cfg0.slots t 0)
abbrev ms0_1 (t : Fin cfg0.N) : Memref sig .tc .vmem S1x1x2048x256 .bf16 := win0_1.stage (cfg0.slots t 1)
abbrev ms0_2 (t : Fin cfg0.N) : Memref sig .tc .vmem S1x1x128x2048 .bf16 := win0_2.stage (cfg0.slots t 2)
abbrev ms0_3 (t : Fin cfg0.N) : Memref sig .tc .vmem S1x1x2048x128 .f32 := win0_3.stage (cfg0.slots t 3)
abbrev ms0_4 (t : Fin cfg0.N) : Memref sig .tc .vmem S1x1x2048x128 .f32 := win0_4.stage (cfg0.slots t 4)
abbrev ms0_5 (t : Fin cfg0.N) : Memref sig .tc .vmem S1x1x2048x128 .f32 := win0_5.stage (cfg0.slots t 5)
abbrev ms0_6 (t : Fin cfg0.N) : Memref sig .tc .vmem S1x256x896 .f32 := win0_6.stage (cfg0.slots t 6)
/-- The scratch operands: whole scoped buffers of the kernel's own, passed beside the windows. -/
abbrev scM0_0 : Memref sig .tc .vmem S7x256x256 .bf16 := Memref.whole cc0_scratch0
abbrev scM0_1 : Memref sig .tc .vmem S7x128x256 .f32 := Memref.whole cc0_scratch1
abbrev scM0_2 : Memref sig .tc .vmem S7x8x256 .f32 := Memref.whole cc0_scratch2
abbrev scM0_3 : Memref sig .tc .vmem S7x8x256 .f32 := Memref.whole cc0_scratch3
abbrev scM0_4 : Memref sig .tc .vmem S7x8x256 .f32 := Memref.whole cc0_scratch4

/-- The invariant between points, with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

/-! ## The body's run -/

section

variable (c : Dev nD) (i : grid0.Coords) (arg3 : Memref sig .tc .vmem S1x7x128x256 .bf16) (harg3 : arg3.IsWhole) (arg4 : Memref sig .tc .vmem S1x1x2048x256 .bf16) (harg4 : arg4.IsWhole) (arg5 : Memref sig .tc .vmem S1x1x128x2048 .bf16) (harg5 : arg5.IsWhole) (arg6 : Memref sig .tc .vmem S1x1x2048x128 .f32) (harg6 : arg6.IsWhole) (arg7 : Memref sig .tc .vmem S1x1x2048x128 .f32) (harg7 : arg7.IsWhole) (arg8 : Memref sig .tc .vmem S1x1x2048x128 .f32) (harg8 : arg8.IsWhole) (arg9 : Memref sig .tc .vmem S1x256x896 .f32) (harg9 : arg9.IsWhole) (arg10 : Memref sig .tc .vmem S7x256x256 .bf16) (harg10 : arg10.IsWhole) (arg11 : Memref sig .tc .vmem S7x128x256 .f32) (harg11 : arg11.IsWhole) (arg12 : Memref sig .tc .vmem S7x8x256 .f32) (harg12 : arg12.IsWhole) (arg13 : Memref sig .tc .vmem S7x8x256 .f32) (harg13 : arg13.IsWhole) (arg14 : Memref sig .tc .vmem S7x8x256 .f32) (harg14 : arg14.IsWhole)

/-- The twelve buffers: the inputs at their contents, the output window and the scratch at some. -/
abbrev Held (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) : sProp 𝕄 :=
  iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)))

set_option maxHeartbeats 4000000 in
/-- The whole body, either way of its branch: to the same buffers, the inputs as they were. -/
theorem run_body (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (E : Set ℕ) :
    Held c arg3 arg4 arg5 arg6 arg7 arg8 arg9 arg10 arg11 arg12 arg13 arg14 X3 X4 X5 X6 X7 X8
      ⊢ wp frame (wpE (defs₀ (F := F)) Variants.none c none) E
        (cc0_attn i arg3 harg3 arg4 harg4 arg5 harg5 arg6 harg6 arg7 harg7 arg8 harg8 arg9 harg9 arg10 harg10 arg11 harg11 arg12 harg12 arg13 harg13 arg14 harg14) (fun _ => Held c arg3 arg4 arg5 arg6 arg7 arg8 arg9 arg10 arg11 arg12 arg13 arg14 X3 X4 X5 X6 X7 X8) := by
  simp only [cc0_attn_eq_skeleton]; unfold cc0_attn_skel
  simp only [k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton]
  iintro ⟨H3, H4, H5, H6, H7, H8, ⟨%f9, H9⟩, ⟨%f10, H10⟩, ⟨%f11, H11⟩, ⟨%f12, H12⟩, ⟨%f13, H13⟩, ⟨%f14, H14⟩⟩
  sl_exec
  split
  all_goals
    simp only [k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton]
    sl_exec
    sl_step
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    iexists _; iexact H14

end

end Cert.Attn.Hand

end
-- ==== Proof.AttnFrame.Frame.lean ====
module

public import proofs.«01_k».proof.Proof.AttnFrame.Body
public import Idealize.ShloMosaic.Lib.Claim

/-!
# The attention kernel's frame

Every run ends, leaves the argument arrays as they were and every semaphore at zero.
-/

@[expose] public section

set_option maxRecDepth 16384

noncomputable section

namespace Cert.Attn.Hand

open Cert.Attn Cert.Attn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The output window's contents are forgotten: nothing reads what the kernel leaves there. -/
def forgets0 : Fin 7 → Bool := fun w => w.val == 6

/-- The proof data of the pipeline on core `c`: each input's buffer at its block after the body, the output forgotten,
    the scratch buffers at some contents between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨_ + 7, h⟩ => absurd h (Nat.not_lt.2 (Nat.le_add_left _ _))
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d))

set_option maxHeartbeats 19200000 in
/-- The body at any point: the inputs' buffers hold their blocks, and the body's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl, show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  unfold owns
  iintro ⟨⟨⟨⟨%e0, %g0, -, HS0⟩, ⟨%e1, %g1, -, HS1⟩, ⟨%e2, %g2, -, HS2⟩, ⟨%e3, %g3, -, HS3⟩, ⟨%e4, %g4, -, HS4⟩⟩, Hg⟩, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, -, H6⟩⟩
  iapply (wp_wand_r Idealize.ShloMosaic.frame (wpE (defs₀ (F := F)) Variants.none (c : Thread nD τ) none) Set.univ)
  isplitl [H0 H1 H2 H3 H4 H5 H6 HS0 HS1 HS2 HS3 HS4]
  · iapply (run_body c (grid0.coords t) _ _ _ _ _ _ _ _ _ _ _ _ _ _ _ _ _ _ _ _ _ _ _ _ f0 f1 f2 f3 f4 f5 Set.univ)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexists _; iexact HS0
    isplitl [HS1]; · iexists _; iexact HS1
    isplitl [HS2]; · iexists _; iexact HS2
    isplitl [HS3]; · iexists _; iexact HS3
    iexists _; iexact HS4
  iintro %_ ⟨H0, H1, H2, H3, H4, H5, ⟨%k6, H6⟩, ⟨%k7, HS0⟩, ⟨%k8, HS1⟩, ⟨%k9, HS2⟩, ⟨%k10, HS3⟩, ⟨%k11, HS4⟩⟩
  isplitl [HS0 HS1 HS2 HS3 HS4 Hg]
  · isplitl [HS0 HS1 HS2 HS3 HS4]
    · isplitl [HS0]
      · iexists _, _; isplitr; swap; · iexact HS0
        ipureintro; rfl
      isplitl [HS1]
      · iexists _, _; isplitr; swap; · iexact HS1
        ipureintro; rfl
      isplitl [HS2]
      · iexists _, _; isplitr; swap; · iexact HS2
        ipureintro; rfl
      isplitl [HS3]
      · iexists _, _; isplitr; swap; · iexact HS3
        ipureintro; rfl
      iexists _, _; isplitr; swap; · iexact HS4
      ipureintro; rfl
    iexact Hg
  isplitl [Ho]; · iexact Ho
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  iexists _, _; isplitr; swap; · iexact H6
  ipureintro; rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN output (window 6) (Lib/Pipeline/Frame.lean `RDat.FramePost` over the proof data with that window
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of_rel m ρ (fun c => (dats m 0 c).toRForget forgets0) (A_eq m) (run_main m ρ)

/-- THE FRAME: `Cert.quiescent_Attn`'s statement (Defs.lean) at any `F` — Proof.lean cites it at `Bits`:
    `theorem Cert.Proof.claim : Cert.Claim := ⟨Cert.Attn.Gen.facts, fun m ρ _ => Cert.Attn.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Attn.Hand

end
-- ==== Proof.AttnFrame.Claims.lean ====
module

public import proofs.«01_k».proof.Defs
public import proofs.«01_k».proof.Proof.AttnFrame.Frame
public import proofs.«01_k».proof.Proof.Gen.AttnIdeal

/-!
# The attention call's claims

Its frame over words, and over the extended reals: no operation was rewritten, so both programs are one text
and the frame, proved at any float values, holds of either.
-/

@[expose] public section

set_option maxRecDepth 65536

namespace AttnClaims

open Idealize.ShloMosaic Idealize.ShloMosaic.TcCoe

/-- The attention call over words: it ends and leaves its arguments as they were. -/
theorem frame_attn : Cert.quiescent_Attn (hAttn := Cert.Attn.Gen.facts) :=
  fun m ρ _ => Cert.Attn.Hand.frame m ρ

/-- The kernels' body tables of the two programs are one. -/
theorem table_eq : @Cert.AttnIdeal.defs₀ Ideal _ Cert.AttnIdeal.Gen.facts = @Cert.Attn.defs₀ Ideal _ Cert.Attn.Gen.facts := by
  unfold Cert.AttnIdeal.defs₀ Cert.Attn.defs₀
  refine congrArg Defs.onTc ?_
  funext l a
  match l, a with
  | 0, (t, s) => rfl

/-- So are their whole body tables. -/
theorem defs_eq : @Cert.AttnIdeal.defs Ideal _ Cert.AttnIdeal.Gen.facts = @Cert.Attn.defs Ideal _ Cert.Attn.Gen.facts :=
  congrArg (Pipeline.defs (@Cert.Attn.pcfgs Ideal Cert.Attn.Gen.facts)) table_eq

/-- The attention call over the extended reals: likewise. -/
theorem frame_attn_ideal : Cert.quiescent_AttnIdeal (hAttnIdeal := Cert.AttnIdeal.Gen.facts) := by
  intro m ρ _
  rw [defs_eq]
  exact Cert.Attn.Hand.frame (F := Ideal) m ρ

end AttnClaims

end
-- ==== Proof.lean ====
module

public import proofs.«01_k».proof.Defs
public import proofs.«01_k».proof.Proof.Gen.Qkv
public import proofs.«01_k».proof.Proof.Gen.Qkv.Skeleton
public import proofs.«01_k».proof.Proof.Gen.Qkv.Loops
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Loops
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvReferenceIdeal
public import proofs.«01_k».proof.Proof.Gen.QkvReferenceIdeal.Run
public import proofs.«01_k».proof.Proof.Gen.QkvReferenceIdeal.Read
public import proofs.«01_k».proof.Proof.Gen.Out
public import proofs.«01_k».proof.Proof.Gen.Out.Skeleton
public import proofs.«01_k».proof.Proof.Gen.Out.Loops
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Loops
public import proofs.«01_k».proof.Proof.Gen.OutIdeal.Launch
public import proofs.«01_k».proof.Proof.Gen.OutIdeal.Points
public import proofs.«01_k».proof.Proof.Gen.OutIdeal.Frame
public import proofs.«01_k».proof.Proof.Gen.OutReferenceIdeal
public import proofs.«01_k».proof.Proof.Gen.OutReferenceIdeal.Run
public import proofs.«01_k».proof.Proof.Gen.OutReferenceIdeal.Read
public import proofs.«01_k».proof.Proof.Gen.Attn
public import proofs.«01_k».proof.Proof.Gen.Attn.Skeleton
public import proofs.«01_k».proof.Proof.Gen.Attn.Loops
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Points
public import proofs.«01_k».proof.Proof.Gen.AttnIdeal.Frame
public import proofs.«01_k».proof.Proof.Gen.Pre_attn_finite
public import proofs.«01_k».proof.Proof.Qkv.Claims
public import proofs.«01_k».proof.Proof.Out.Claims
public import proofs.«01_k».proof.Proof.AttnFrame.Claims
public import Idealize.ShloMosaic.Adequacy
public import Idealize.ShloMosaic.Init

@[expose] public section

noncomputable section

namespace Cert.Proof

open Idealize.ShloMosaic Idealize.SL.Sem Cert.Out

theorem claim : Cert.Claim := ⟨Cert.Qkv.Gen.facts, Cert.QkvIdeal.Gen.facts, Cert.QkvReferenceIdeal.Gen.facts,
  Cert.Out.Gen.facts, Cert.OutIdeal.Gen.facts, Cert.OutReferenceIdeal.Gen.facts,
  Cert.Attn.Gen.facts, Cert.AttnIdeal.Gen.facts,
  Cert.Pre_qkv_finite.Hand.facts, Cert.Pre_attn_finite.Gen.facts,
  QkvClaims.frame_qkv, QkvClaims.frame_qkv_ideal, QkvClaims.frame_qkv_ideal_pre, QkvClaims.frame_ref, QkvClaims.frame_ref_pre,
  OutClaims.frame_out, OutClaims.frame_out_ideal, OutClaims.frame_out_ideal_pre, OutClaims.frame_ref, OutClaims.frame_ref_pre,
  AttnClaims.frame_attn, AttnClaims.frame_attn_ideal,
  trivial, QkvClaims.algebraic, trivial, OutClaims.algebraic, trivial⟩

end Cert.Proof

end
